-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4_2)) (v1 : (c : Dev Cert.Kernel5Ideal.nD) → Buf (Elt Ideal) ((c.tc : Thread Cert.Kernel5Ideal.nD Cert.Kernel5Ideal.τ).loc Cert.Kernel5Ideal.main_v4_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_2) = v0 c
          ∧ r.2.mem ((c.tc : Thread Cert.Kernel5Ideal.nD Cert.Kernel5Ideal.τ).loc Cert.Kernel5Ideal.main_v4_9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_v54) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables : Cert.Pre_tables.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal)
    ∧ quiescent_ReferenceIdeal_pre_tables (hReferenceIdeal := hReferenceIdeal) (hPre_tables := hPre_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_tables := hPre_tables)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_tables.lean ====
abbrev S65536x1024 : Shape := ⟨2, ![65536, 1024]⟩
abbrev S135680 : Shape := ⟨1, ![135680]⟩
abbrev S264 : Shape := ⟨1, ![264]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S135680x1 : Shape := ⟨2, ![135680, 1]⟩
abbrev S135944 : Shape := ⟨1, ![135944]⟩

class Facts : Prop where
  bcast_S_S135680 : S_.BroadcastsInDim S135680 (![] : Fin 0 → Fin S135680.rank)
  bcast_S135680_S135680x1_0 : S135680.BroadcastsInDim S135680x1 (![0] : Fin 1 → Fin S135680x1.rank)
  bcast_S_S264 : S_.BroadcastsInDim S264 (![] : Fin 0 → Fin S264.rank)
  concatenates_S135680_S264_S135944_d0 : Shape.Concatenates [S135680, S264] S135944 0
  scatter_S135680_S135680x1_S135680_n_0_0_1_wf : ScatterDims.WF S135680 S135680x1 S135680 [] [0] [0] 1

variable [Facts]

def scatter_S135680_S135680x1_S135680_n_0_0_1 : ScatterDims S135680 S135680x1 S135680 where
  updateWindowDims := []
  insertedWindowDims := [0]
  scatterDimsToOperandDims := [0]
  indexVectorDim := 1
  wf := scatter_S135680_S135680x1_S135680_n_0_0_1_wf
def fn_part1 {F : FTy → Type} [FloatOps F] (main_arg2 : IVec S135680 32) (main_arg3 : IVec S264 32) (main_v8 : IVec S135680 32) (main_v16 : IVec S135680 1) : IVec S135944 1 :=
  let main_c_6 : IVec S_ 32 := constantI S_ 32 135680#32
  let main_v17 : IVec S135680 32 := broadcastInDim S135680 ![] bcast_S_S135680 main_c_6
  let main_v18 : IVec S135680 1 := cmpi .slt main_arg2 main_v17
  let main_v19 : IVec S135680 1 := andi main_v16 main_v18
  let main_c_7 : IVec S_ 32 := constantI S_ 32 1#32
  let main_v20 : IVec S135680 32 := broadcastInDim S135680 ![] bcast_S_S135680 main_c_7
  let main_v21 : IVec S135680 1 := cmpi .eq main_v8 main_v20
  let main_v22 : IVec S135680 1 := andi main_v19 main_v21
  let main_c_8 : IVec S_ 32 := constantI S_ 32 0#32
  let main_v23 : IVec S264 32 := broadcastInDim S264 ![] bcast_S_S264 main_c_8
  let main_v24 : IVec S264 1 := cmpi .sge main_arg3 main_v23
  let main_c_9 : IVec S_ 32 := constantI S_ 32 8#32
  let main_v25 : IVec S264 32 := broadcastInDim S264 ![] bcast_S_S264 main_c_9
  let main_v26 : IVec S264 1 := cmpi .slt main_arg3 main_v25
  let main_v27 : IVec S264 1 := andi main_v24 main_v26
  let main_v28 : IVec S135944 1 := (fun a b => concatenate S135944 0 [⟨S135680, a⟩, ⟨S264, b⟩] concatenates_S135680_S264_S135944_d0) main_v22 main_v27
  main_v28

def fn {F : FTy → Type} [FloatOps F] (main_arg0 : FVec F S65536x1024 .f32) (main_arg1 : IVec S135680 32) (main_arg2 : IVec S135680 32) (main_arg3 : IVec S264 32) (main_arg4 : FVec F S2x8x1024x3584 .f32) (main_arg5 : FVec F S2x8x1024x3584 .f32) (main_arg6 : FVec F S2x8x3584x1024 .f32) : IVec S135944 1 :=
  let main_c : IVec S_ 32 := constantI S_ 32 0#32
  let main_v0 : IVec S135680 32 := broadcastInDim S135680 ![] bcast_S_S135680 main_c
  let main_c_0 : IVec S_ 32 := constantI S_ 32 1#32
  let main_v1 : IVec S135680 32 := broadcastInDim S135680 ![] bcast_S_S135680 main_c_0
  let main_c_1 : IVec S_ 32 := constantI S_ 32 0#32
  let main_v2 : IVec S135680 32 := broadcastInDim S135680 ![] bcast_S_S135680 main_c_1
  let main_v3 : IVec S135680 1 := cmpi .slt main_arg2 main_v2
  let main_c_2 : IVec S_ 32 := constantI S_ 32 135680#32
  let main_v4 : IVec S135680 32 := broadcastInDim S135680 ![] bcast_S_S135680 main_c_2
  let main_v5 : IVec S135680 32 := addi main_arg2 main_v4
  let main_v6 : IVec S135680 32 := select main_v3 main_v5 main_arg2
  let main_v7 : IVec S135680x1 32 := broadcastInDim S135680x1 ![0] bcast_S135680_S135680x1_0 main_v6
  let main_v8 : IVec S135680 32 := (fun x i u => Host.scatter scatter_S135680_S135680x1_S135680_n_0_0_1 (fun _ b => b) x i u) main_v0 main_v7 main_v1
  let main_c_3 : IVec S_ 32 := constantI S_ 32 0#32
  let main_v9 : IVec S135680 32 := broadcastInDim S135680 ![] bcast_S_S135680 main_c_3
  let main_v10 : IVec S135680 1 := cmpi .sge main_arg1 main_v9
  let main_c_4 : IVec S_ 32 := constantI S_ 32 65536#32
  let main_v11 : IVec S135680 32 := broadcastInDim S135680 ![] bcast_S_S135680 main_c_4
  let main_v12 : IVec S135680 1 := cmpi .slt main_arg1 main_v11
  let main_v13 : IVec S135680 1 := andi main_v10 main_v12
  let main_c_5 : IVec S_ 32 := constantI S_ 32 0#32
  let main_v14 : IVec S135680 32 := broadcastInDim S135680 ![] bcast_S_S135680 main_c_5
  let main_v15 : IVec S135680 1 := cmpi .sge main_arg2 main_v14
  let main_v16 : IVec S135680 1 := andi main_v13 main_v15
  fn_part1 (F := F) main_arg2 main_arg3 main_v8 main_v16
-- ==== Kernel.lean ====
abbrev S65536x1024 : Shape := ⟨2, ![65536, 1024]⟩
abbrev S135680 : Shape := ⟨1, ![135680]⟩
abbrev S264 : Shape := ⟨1, ![264]⟩
abbrev S2x8x1024x3584 : Shape := ⟨4, ![2, 8, 1024, 3584]⟩
abbrev S2x8x3584x1024 : Shape := ⟨4, ![2, 8, 3584, 1024]⟩
abbrev S135680x1024 : Shape := ⟨2, ![135680, 1024]⟩
abbrev S512 : Shape := ⟨1, ![512]⟩
abbrev S1x1x1024x3584 : Shape := ⟨4, ![1, 1, 1024, 3584]⟩
abbrev S1 : Shape := ⟨1, ![1]⟩
abbrev S1x1x3584x1024 : Shape := ⟨4, ![1, 1, 3584, 1024]⟩
abbrev S2x512x1024 : Shape := ⟨3, ![2, 512, 1024]⟩
abbrev S2 : Shape := ⟨1, ![2]⟩
abbrev S_ : Shape := ⟨0, ![]⟩
abbrev S1x1x1024 : Shape := ⟨3, ![1, 1, 1024]⟩
abbrev S1x1024 : Shape := ⟨2, ![1, 1024]⟩
abbrev S1x512x1024 : Shape := ⟨3, ![1, 512, 1024]⟩
abbrev S512x1024 : Shape := ⟨2, ![512, 1024]⟩
abbrev S1x1x1024x1792 : Shape := ⟨4, ![1, 1, 1024, 1792]⟩
abbrev S1024x1792 : Shape := ⟨2, ![1024, 1792]⟩
abbrev S512x1792 : Shape := ⟨2, ![512, 1792]⟩
abbrev S1x1x1792x1024 : Shape := ⟨4, ![1, 1, 1792, 1024]⟩
abbrev S1792x1024 : Shape := ⟨2, ![1792, 1024]⟩

abbrev nBuf : Space → Nat
  | .hbm => 10
  | .vmem => 5
  | .smem => 9
  | _ => 0

abbrev bufTy : (tb : Table) → Fin (tcTables nBuf tb) → BufTy
  | .hbm, ⟨0, _⟩ => ⟨S65536x1024, .f32⟩
  | .hbm, ⟨1, _⟩ => ⟨S135680, .i32⟩
  | .hbm, ⟨2, _⟩ => ⟨S135680, .i32⟩
  | .hbm, ⟨3, _⟩ => ⟨S2x8x1024x3584, .f32⟩
  | .hbm, ⟨4, _⟩ => ⟨S2x8x1024x3584, .f32⟩
  | .hbm, ⟨5, _⟩ => ⟨S2x8x3584x1024, .f32⟩
  | .hbm, ⟨6, _⟩ => ⟨S2x8x1024x3584, .bf16⟩
  | .hbm, ⟨7, _⟩ => ⟨S2x8x1024x3584, .bf16⟩
  | .hbm, ⟨8, _⟩ => ⟨S2x8x3584x1024, .bf16⟩
  | .hbm, ⟨9, _⟩ => ⟨S135680x1024, .f32⟩
  | .local _ .vmem, ⟨0, _⟩ => ⟨S1x1x1024x3584, .bf16⟩
  | .local _ .vmem, ⟨1, _⟩ => ⟨S1x1x1024x3584, .bf16⟩
  | .local _ .vmem, ⟨2, _⟩ => ⟨S1x1x3584x1024, .bf16⟩
  | .local _ .vmem, ⟨3, _⟩ => ⟨S2x512x1024, .f32⟩
  | .local _ .vmem, ⟨4, _⟩ => ⟨S2x512x1024, .f32⟩
  | .local _ .smem, ⟨0, _⟩ => ⟨S264, .i32⟩
  | .local _ .smem, ⟨1, _⟩ => ⟨S512, .i32⟩
  | .local _ .smem, ⟨2, _⟩ => ⟨S512, .i32⟩
  | .local _ .smem, ⟨3, _⟩ => ⟨S512, .i32⟩
  | .local _ .smem, ⟨4, _⟩ => ⟨S512, .i32⟩
  | .local _ .smem, ⟨5, _⟩ => ⟨S512, .i32⟩
  | .local _ .smem, ⟨6, _⟩ => ⟨S512, .i32⟩
  | .local _ .smem, ⟨7, _⟩ => ⟨S512, .i32⟩
  | .local _ .smem, ⟨8, _⟩ => ⟨S512, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg3 : Ref sig .tc := ⟨.smem, 0, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 1, rfl⟩
abbrev cc0_stg0_1 : Ref sig .tc := ⟨.smem, 2, rfl⟩
abbrev cc0_stg1_0 : Ref sig .tc := ⟨.smem, 3, rfl⟩
abbrev cc0_stg1_1 : Ref sig .tc := ⟨.smem, 4, rfl⟩
abbrev cc0_stg2_0 : Ref sig .tc := ⟨.smem, 5, rfl⟩
abbrev cc0_stg2_1 : Ref sig .tc := ⟨.smem, 6, rfl⟩
abbrev cc0_stg3_0 : Ref sig .tc := ⟨.smem, 7, rfl⟩
abbrev cc0_stg3_1 : Ref sig .tc := ⟨.smem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![264], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_61 : BitVec 32 := 0#32
  let c512_i32_62 : BitVec 32 := 512#32
  let v76 : BitVec 32 := Scalar.addi c0_i32_61 c512_i32_62
  let c1_i32_63 : BitVec 32 := 1#32
  ⟨c0_i32_61, v76, c1_i32_63⟩
def k0_off2 (k0_t1 : Fin k0_t1_loop.trips) : Fin 1 → Nat :=
  let c0_i32_61 : BitVec 32 := 0#32
  let c1_i32_63 : BitVec 32 := 1#32
  let arg15 : BitVec 32 := Scf.iv c0_i32_61 c1_i32_63 k0_t1
  let v77 : Index := Scalar.indexCast arg15
  ![v77.toNat]
def k0_off3 (k0_t1 : Fin k0_t1_loop.trips) : Fin 3 → Nat :=
  let c0_i32_65 : BitVec 32 := 0#32
  let c0_i32_61 : BitVec 32 := 0#32
  let c1_i32_63 : BitVec 32 := 1#32
  let arg15 : BitVec 32 := Scf.iv c0_i32_61 c1_i32_63 k0_t1
  let c0_i32_67 : BitVec 32 := 0#32
  ![0, arg15.toNat, 0]
def k0_off4 (v78 : BitVec 32) : Fin 2 → Nat :=
  let c0_i32_68 : BitVec 32 := 0#32
  ![v78.toNat, 0]

def k0_chk1 (i : grid0.Coords) (v78 : BitVec 32) : Prop :=
  (∀ (k0_h1 : k0_cond1 i = 1#1), ∀ a, (k0_off4 v78) a + S1x1024.size a ≤ S65536x1024.size a)
theorem k0_off4_inb : ∀ (i : grid0.Coords) (v78 : BitVec 32) (k0_hw1 : k0_chk1 i v78), ∀ (k0_h1 : k0_cond1 i = 1#1), ∀ a, (k0_off4 v78) a + S1x1024.size a ≤ S65536x1024.size a := fun i v78 k0_hw1 k0_h1 => k0_hw1 k0_h1

@[reducible] def k0_t2_loop : Scf.Loop 32 :=
  let c0_i32_6 : BitVec 32 := 0#32
  let c512_i32 : BitVec 32 := 512#32
  let v14 : BitVec 32 := Scalar.addi c0_i32_6 c512_i32
  let c1_i32_7 : BitVec 32 := 1#32
  ⟨c0_i32_6, v14, c1_i32_7⟩
def k0_off5 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off6 (i : grid0.Coords) (k0_t2 : Fin k0_t2_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_6 : BitVec 32 := 0#32
  let c1_i32_7 : BitVec 32 := 1#32
  let arg15 : BitVec 32 := Scf.iv c0_i32_6 c1_i32_7 k0_t2
  let c0_i32_57 : BitVec 32 := 0#32
  ![v9.toNat, arg15.toNat, 0]
def k0_cond2 (i : grid0.Coords) : BitVec 1 :=
  let arg0 : BitVec 32 := BitVec.ofNat 32 (i 0).val
  let c0_i32_9 : BitVec 32 := 0#32
  let v15 : BitVec 1 := Scalar.cmpi .sgt arg0 c0_i32_9
  let v16 : BitVec 32 := Scalar.extui v15
  let c0_i32_10 : BitVec 32 := 0#32
  let v17 : BitVec 1 := Scalar.cmpi .ne v16 c0_i32_10
  v17

@[reducible] def k0_t3_loop : Scf.Loop 32 :=
  let c0_i32_57 : BitVec 32 := 0#32
  let c512_i32_58 : BitVec 32 := 512#32
  let v72 : BitVec 32 := Scalar.addi c0_i32_57 c512_i32_58
  let c1_i32_59 : BitVec 32 := 1#32
  ⟨c0_i32_57, v72, c1_i32_59⟩
def k0_off7 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off8 (i : grid0.Coords) (k0_t3 : Fin k0_t3_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_57 : BitVec 32 := 0#32
  let c1_i32_59 : BitVec 32 := 1#32
  let arg15 : BitVec 32 := Scf.iv c0_i32_57 c1_i32_59 k0_t3
  let c0_i32_63 : BitVec 32 := 0#32
  ![v9.toNat, arg15.toNat, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v18 : Index := Scalar.indexCast v9
  let c0 : Index := 0#32
  let c0_11 : Index := 0#32
  ![v18.toNat, 0, 0]
@[reducible] def k0_t4_loop : Scf.Loop 32 :=
  let c0_i32_12 : BitVec 32 := 0#32
  let c256_i32 : BitVec 32 := 256#32
  let v22 : BitVec 32 := Scalar.addi c0_i32_12 c256_i32
  let c1_i32_13 : BitVec 32 := 1#32
  ⟨c0_i32_12, v22, c1_i32_13⟩
def k0_off10 (k0_t4 : Fin k0_t4_loop.trips) : Fin 1 → Nat :=
  let c2_i32_57 : BitVec 32 := 2#32
  let c0_i32_12 : BitVec 32 := 0#32
  let c1_i32_13 : BitVec 32 := 1#32
  let arg15 : BitVec 32 := Scf.iv c0_i32_12 c1_i32_13 k0_t4
  let v72 : BitVec 32 := Scalar.muli c2_i32_57 arg15
  let c0_i32_58 : BitVec 32 := 0#32
  let v73 : BitVec 32 := Scalar.addi v72 c0_i32_58
  let v74 : Index := Scalar.indexCast v73
  ![v74.toNat]
def k0_off11 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off12 (i : grid0.Coords) (k0_t4 : Fin k0_t4_loop.trips) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c2_i32_57 : BitVec 32 := 2#32
  let c0_i32_12 : BitVec 32 := 0#32
  let c1_i32_13 : BitVec 32 := 1#32
  let arg15 : BitVec 32 := Scf.iv c0_i32_12 c1_i32_13 k0_t4
  let v72 : BitVec 32 := Scalar.muli c2_i32_57 arg15
  let c0_i32_58 : BitVec 32 := 0#32
  let v73 : BitVec 32 := Scalar.addi v72 c0_i32_58
  let c0_i32_59 : BitVec 32 := 0#32
  ![v10.toNat, v73.toNat, 0]
def k0_off13 (v75 : BitVec 32) : Fin 2 → Nat :=
  let c0_i32_60 : BitVec 32 := 0#32
  ![v75.toNat, 0]

def k0_chk2 (v75 : BitVec 32) : Prop :=
  (∀ a, (k0_off13 v75) a + S1x1024.size a ≤ S65536x1024.size a)
theorem k0_off13_inb : ∀ (v75 : BitVec 32) (k0_hw2 : k0_chk2 v75), ∀ a, (k0_off13 v75) a + S1x1024.size a ≤ S65536x1024.size a := fun v75 k0_hw2 => k0_hw2

def k0_off14 (k0_t4 : Fin k0_t4_loop.trips) : Fin 1 → Nat :=
  let c2_i32_61 : BitVec 32 := 2#32
  let c0_i32_12 : BitVec 32 := 0#32
  let c1_i32_13 : BitVec 32 := 1#32
  let arg15 : BitVec 32 := Scf.iv c0_i32_12 c1_i32_13 k0_t4
  let v81 : BitVec 32 := Scalar.muli c2_i32_61 arg15
  let c1_i32_62 : BitVec 32 := 1#32
  let v82 : BitVec 32 := Scalar.addi v81 c1_i32_62
  let v83 : Index := Scalar.indexCast v82
  ![v83.toNat]
def k0_off15 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off16 (i : grid0.Coords) (k0_t4 : Fin k0_t4_loop.trips) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c2_i32_61 : BitVec 32 := 2#32
  let c0_i32_12 : BitVec 32 := 0#32
  let c1_i32_13 : BitVec 32 := 1#32
  let arg15 : BitVec 32 := Scf.iv c0_i32_12 c1_i32_13 k0_t4
  let v81 : BitVec 32 := Scalar.muli c2_i32_61 arg15
  let c1_i32_62 : BitVec 32 := 1#32
  let v82 : BitVec 32 := Scalar.addi v81 c1_i32_62
  let c0_i32_63 : BitVec 32 := 0#32
  ![v10.toNat, v82.toNat, 0]
def k0_off17 (v84 : BitVec 32) : Fin 2 → Nat :=
  let c0_i32_64 : BitVec 32 := 0#32
  ![v84.toNat, 0]

def k0_chk3 (v84 : BitVec 32) : Prop :=
  (∀ a, (k0_off17 v84) a + S1x1024.size a ≤ S65536x1024.size a)
theorem k0_off17_inb : ∀ (v84 : BitVec 32) (k0_hw3 : k0_chk3 v84), ∀ a, (k0_off17 v84) a + S1x1024.size a ≤ S65536x1024.size a := fun v84 k0_hw3 => k0_hw3

@[reducible] def k0_t5_loop : Scf.Loop 32 :=
  let c0_i32_15 : BitVec 32 := 0#32
  let c256_i32_16 : BitVec 32 := 256#32
  let v23 : BitVec 32 := Scalar.addi c0_i32_15 c256_i32_16
  let c1_i32_17 : BitVec 32 := 1#32
  ⟨c0_i32_15, v23, c1_i32_17⟩
def k0_off18 (k0_t5 : Fin k0_t5_loop.trips) : Fin 1 → Nat :=
  let c2_i32_57 : BitVec 32 := 2#32
  let c0_i32_15 : BitVec 32 := 0#32
  let c1_i32_17 : BitVec 32 := 1#32
  let arg15 : BitVec 32 := Scf.iv c0_i32_15 c1_i32_17 k0_t5
  let v72 : BitVec 32 := Scalar.muli c2_i32_57 arg15
  let c0_i32_58 : BitVec 32 := 0#32
  let v73 : BitVec 32 := Scalar.addi v72 c0_i32_58
  let v74 : Index := Scalar.indexCast v73
  ![v74.toNat]
def k0_off19 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off20 (v75 : BitVec 32) : Fin 2 → Nat :=
  let c0_i32_59 : BitVec 32 := 0#32
  ![v75.toNat, 0]

def k0_chk4 (v75 : BitVec 32) : Prop :=
  (∀ a, (k0_off20 v75) a + S1x1024.size a ≤ S135680x1024.size a)
theorem k0_off20_inb : ∀ (v75 : BitVec 32) (k0_hw4 : k0_chk4 v75), ∀ a, (k0_off20 v75) a + S1x1024.size a ≤ S135680x1024.size a := fun v75 k0_hw4 => k0_hw4

def k0_off21 (i : grid0.Coords) (k0_t5 : Fin k0_t5_loop.trips) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c2_i32_57 : BitVec 32 := 2#32
  let c0_i32_15 : BitVec 32 := 0#32
  let c1_i32_17 : BitVec 32 := 1#32
  let arg15 : BitVec 32 := Scf.iv c0_i32_15 c1_i32_17 k0_t5
  let v72 : BitVec 32 := Scalar.muli c2_i32_57 arg15
  let c0_i32_58 : BitVec 32 := 0#32
  let v73 : BitVec 32 := Scalar.addi v72 c0_i32_58
  let c0_i32_60 : BitVec 32 := 0#32
  ![v10.toNat, v73.toNat, 0]
def k0_off22 (k0_t5 : Fin k0_t5_loop.trips) : Fin 1 → Nat :=
  let c2_i32_61 : BitVec 32 := 2#32
  let c0_i32_15 : BitVec 32 := 0#32
  let c1_i32_17 : BitVec 32 := 1#32
  let arg15 : BitVec 32 := Scf.iv c0_i32_15 c1_i32_17 k0_t5
  let v81 : BitVec 32 := Scalar.muli c2_i32_61 arg15
  let c1_i32_62 : BitVec 32 := 1#32
  let v82 : BitVec 32 := Scalar.addi v81 c1_i32_62
  let v83 : Index := Scalar.indexCast v82
  ![v83.toNat]
def k0_off23 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off24 (v84 : BitVec 32) : Fin 2 → Nat :=
  let c0_i32_63 : BitVec 32 := 0#32
  ![v84.toNat, 0]

def k0_chk5 (v84 : BitVec 32) : Prop :=
  (∀ a, (k0_off24 v84) a + S1x1024.size a ≤ S135680x1024.size a)
theorem k0_off24_inb : ∀ (v84 : BitVec 32) (k0_hw5 : k0_chk5 v84), ∀ a, (k0_off24 v84) a + S1x1024.size a ≤ S135680x1024.size a := fun v84 k0_hw5 => k0_hw5

def k0_off25 (i : grid0.Coords) (k0_t5 : Fin k0_t5_loop.trips) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c2_i32_61 : BitVec 32 := 2#32
  let c0_i32_15 : BitVec 32 := 0#32
  let c1_i32_17 : BitVec 32 := 1#32
  let arg15 : BitVec 32 := Scf.iv c0_i32_15 c1_i32_17 k0_t5
  let v81 : BitVec 32 := Scalar.muli c2_i32_61 arg15
  let c1_i32_62 : BitVec 32 := 1#32
  let v82 : BitVec 32 := Scalar.addi v81 c1_i32_62
  let c0_i32_64 : BitVec 32 := 0#32
  ![v10.toNat, v82.toNat, 0]
def k0_cond3 (i : grid0.Coords) : BitVec 1 :=
  let arg0 : BitVec 32 := BitVec.ofNat 32 (i 0).val
  let c263_i32 : BitVec 32 := 263#32
  let v69 : BitVec 1 := Scalar.cmpi .eq arg0 c263_i32
  let v70 : BitVec 32 := Scalar.extui v69
  let c0_i32_56 : BitVec 32 := 0#32
  let v71 : BitVec 1 := Scalar.cmpi .ne v70 c0_i32_56
  v71

@[reducible] def k0_t6_loop : Scf.Loop 32 :=
  let c0_i32_57 : BitVec 32 := 0#32
  let c512_i32_58 : BitVec 32 := 512#32
  let v72 : BitVec 32 := Scalar.addi c0_i32_57 c512_i32_58
  let c1_i32_59 : BitVec 32 := 1#32
  ⟨c0_i32_57, v72, c1_i32_59⟩
def k0_off26 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off27 (i : grid0.Coords) (k0_t6 : Fin k0_t6_loop.trips) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c0_i32_57 : BitVec 32 := 0#32
  let c1_i32_59 : BitVec 32 := 1#32
  let arg15 : BitVec 32 := Scf.iv c0_i32_57 c1_i32_59 k0_t6
  let c0_i32_73 : BitVec 32 := 0#32
  ![v10.toNat, arg15.toNat, 0]
@[reducible] def k0_t7_loop : Scf.Loop 32 :=
  let c0_i32_61 : BitVec 32 := 0#32
  let c512_i32_62 : BitVec 32 := 512#32
  let v73 : BitVec 32 := Scalar.addi c0_i32_61 c512_i32_62
  let c1_i32_63 : BitVec 32 := 1#32
  ⟨c0_i32_61, v73, c1_i32_63⟩
def k0_off28 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off29 (i : grid0.Coords) (k0_t7 : Fin k0_t7_loop.trips) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c0_i32_61 : BitVec 32 := 0#32
  let c1_i32_63 : BitVec 32 := 1#32
  let arg15 : BitVec 32 := Scf.iv c0_i32_61 c1_i32_63 k0_t7
  let c0_i32_75 : BitVec 32 := 0#32
  ![v10.toNat, arg15.toNat, 0]
@[reducible] def k0_t8_loop : Scf.Loop 32 :=
  let c0_i32_65 : BitVec 32 := 0#32
  let c512_i32_66 : BitVec 32 := 512#32
  let v74 : BitVec 32 := Scalar.addi c0_i32_65 c512_i32_66
  let c1_i32_67 : BitVec 32 := 1#32
  ⟨c0_i32_65, v74, c1_i32_67⟩
def k0_off30 (k0_t8 : Fin k0_t8_loop.trips) : Fin 1 → Nat :=
  let c0_i32_65 : BitVec 32 := 0#32
  let c1_i32_67 : BitVec 32 := 1#32
  let arg15 : BitVec 32 := Scf.iv c0_i32_65 c1_i32_67 k0_t8
  let v76 : Index := Scalar.indexCast arg15
  ![v76.toNat]
def k0_off31 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off32 (v77 : BitVec 32) : Fin 2 → Nat :=
  let c0_i32_73 : BitVec 32 := 0#32
  ![v77.toNat, 0]

def k0_chk6 (i : grid0.Coords) (v77 : BitVec 32) : Prop :=
  (∀ (k0_h3 : k0_cond3 i = 1#1), ∀ a, (k0_off32 v77) a + S1x1024.size a ≤ S135680x1024.size a)
theorem k0_off32_inb : ∀ (i : grid0.Coords) (v77 : BitVec 32) (k0_hw6 : k0_chk6 i v77), ∀ (k0_h3 : k0_cond3 i = 1#1), ∀ a, (k0_off32 v77) a + S1x1024.size a ≤ S135680x1024.size a := fun i v77 k0_hw6 k0_h3 => k0_hw6 k0_h3

def k0_off33 (i : grid0.Coords) (k0_t8 : Fin k0_t8_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_65 : BitVec 32 := 0#32
  let c1_i32_67 : BitVec 32 := 1#32
  let arg15 : BitVec 32 := Scf.iv c0_i32_65 c1_i32_67 k0_t8
  let c0_i32_74 : BitVec 32 := 0#32
  ![v9.toNat, arg15.toNat, 0]
@[reducible] def k0_t9_loop : Scf.Loop 32 :=
  let c0_i32_69 : BitVec 32 := 0#32
  let c512_i32_70 : BitVec 32 := 512#32
  let v75 : BitVec 32 := Scalar.addi c0_i32_69 c512_i32_70
  let c1_i32_71 : BitVec 32 := 1#32
  ⟨c0_i32_69, v75, c1_i32_71⟩
def k0_off34 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off35 (i : grid0.Coords) (k0_t9 : Fin k0_t9_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_69 : BitVec 32 := 0#32
  let c1_i32_71 : BitVec 32 := 1#32
  let arg15 : BitVec 32 := Scf.iv c0_i32_69 c1_i32_71 k0_t9
  let c0_i32_75 : BitVec 32 := 0#32
  ![v9.toNat, arg15.toNat, 0]
def cc0_transform_0 (i : grid0.Coords) : Fin 1 → Nat :=
  let arg0 : BitVec 32 := BitVec.ofNat 32 (i 0).val
  let c0_i32 : BitVec 32 := 0#32
  let v0 : BitVec 32 := Scalar.addi arg0 c0_i32
  let c0_i32_0 : BitVec 32 := 0#32
  ![v0.toNat]

def cc0_transform_1 (i : grid0.Coords) : Fin 1 → Nat :=
  let arg0 : BitVec 32 := BitVec.ofNat 32 (i 0).val
  let c1_i32 : BitVec 32 := 1#32
  let v0 : BitVec 32 := Scalar.addi arg0 c1_i32
  let c0_i32 : BitVec 32 := 0#32
  ![v0.toNat]

def cc0_transform_2 (i : grid0.Coords) : Fin 1 → Nat :=
  let arg0 : BitVec 32 := BitVec.ofNat 32 (i 0).val
  let c0_i32 : BitVec 32 := 0#32
  let v0 : BitVec 32 := Scalar.addi arg0 c0_i32
  let c0_i32_0 : BitVec 32 := 0#32
  ![v0.toNat]

def cc0_transform_3 (i : grid0.Coords) : Fin 1 → Nat :=
  let arg0 : BitVec 32 := BitVec.ofNat 32 (i 0).val
  let c1_i32 : BitVec 32 := 1#32
  let v0 : BitVec 32 := Scalar.addi arg0 c1_i32
  let c0_i32 : BitVec 32 := 0#32
  ![v0.toNat]

def cc0_transform_5 (k0_off1_inb : ∀ i : grid0.Coords, ∀ a, (k0_off1 i) a + S1.size a ≤ S264.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S264.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off1_inb : ∀ i : grid0.Coords, ∀ a, (k0_off1 i) a + S1.size a ≤ S264.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

abbrev stage0_0 : Fin 2 → Memref sig .tc .smem S512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x3584x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceIdeal.lean ====
abbrev S65536x1024 : Shape := ⟨2, ![65536, 1024]⟩
abbrev S135680 : Shape := ⟨1, ![135680]⟩
abbrev S264 : Shape := ⟨1, ![264]⟩
abbrev S2x8x1024x3584 : Shape := ⟨4, ![2, 8, 1024, 3584]⟩
abbrev S2x8x3584x1024 : Shape := ⟨4, ![2, 8, 3584, 1024]⟩
abbrev S135168 : Shape := ⟨1, ![135168]⟩
abbrev S_ : Shape := ⟨0, ![]⟩
abbrev S135168x1 : Shape := ⟨2, ![135168, 1]⟩
abbrev S135168x1024 : Shape := ⟨2, ![135168, 1024]⟩
abbrev S264x1 : Shape := ⟨2, ![264, 1]⟩
abbrev S264x512 : Shape := ⟨2, ![264, 512]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S135168x3584 : Shape := ⟨2, ![135168, 3584]⟩
abbrev S512x1024 : Shape := ⟨2, ![512, 1024]⟩
abbrev S135680x1024 : Shape := ⟨2, ![135680, 1024]⟩
abbrev S135680x1 : Shape := ⟨2, ![135680, 1]⟩

abbrev nBuf : Space → Nat
  | .hbm => 228
  | .vmem => 0
  | .smem => 0
  | _ => 0

abbrev hbmTy0_0 (i : Nat) : BufTy := match i % 128 with
  | 0 => ⟨S65536x1024, .f32⟩
  | 1 => ⟨S135680, .i32⟩
  | 2 => ⟨S135680, .i32⟩
  | 3 => ⟨S264, .i32⟩
  | 4 => ⟨S2x8x1024x3584, .f32⟩
  | 5 => ⟨S2x8x1024x3584, .f32⟩
  | 6 => ⟨S2x8x3584x1024, .f32⟩
  | 7 => ⟨S135168, .i32⟩
  | 8 => ⟨S_, .i32⟩
  | 9 => ⟨S135168, .i32⟩
  | 10 => ⟨S135168, .i1⟩
  | 11 => ⟨S_, .i32⟩
  | 12 => ⟨S135168, .i32⟩
  | 13 => ⟨S135168, .i32⟩
  | 14 => ⟨S135168, .i32⟩
  | 15 => ⟨S135168x1, .i32⟩
  | 16 => ⟨S135168x1024, .f32⟩
  | 17 => ⟨S264x1, .i32⟩
  | 18 => ⟨S264x512, .i32⟩
  | 19 => ⟨S135168x1, .i32⟩
  | 20 => ⟨S_, .f32⟩
  | 21 => ⟨S135168x1024, .f32⟩
  | 22 => ⟨S_, .i32⟩
  | 23 => ⟨S135168x1, .i32⟩
  | 24 => ⟨S135168x1, .i1⟩
  | 25 => ⟨S1x1x1024x3584, .f32⟩
  | 26 => ⟨S1024x3584, .f32⟩
  | 27 => ⟨S1x1x1024x3584, .f32⟩
  | 28 => ⟨S1024x3584, .f32⟩
  | 29 => ⟨S1x1x3584x1024, .f32⟩
  | 30 => ⟨S3584x1024, .f32⟩
  | 31 => ⟨S135168x3584, .f32⟩
  | 32 => ⟨S135168x3584, .f32⟩
  | 33 => ⟨S135168x3584, .f32⟩
  | 34 => ⟨S_, .f32⟩
  | 35 => ⟨S135168x3584, .f32⟩
  | 36 => ⟨S135168x3584, .f32⟩
  | 37 => ⟨S_, .f32⟩
  | 38 => ⟨S135168x3584, .f32⟩
  | 39 => ⟨S135168x3584, .f32⟩
  | 40 => ⟨S135168x3584, .f32⟩
  | 41 => ⟨S135168x3584, .f32⟩
  | 42 => ⟨S135168x3584, .f32⟩
  | 43 => ⟨S135168x1024, .f32⟩
  | 44 => ⟨S135168x1024, .i1⟩
  | 45 => ⟨S135168x1024, .f32⟩
  | 46 => ⟨S_, .i32⟩
  | 47 => ⟨S135168x1, .i32⟩
  | 48 => ⟨S135168x1, .i1⟩
  | 49 => ⟨S1x1x1024x3584, .f32⟩
  | 50 => ⟨S1024x3584, .f32⟩
  | 51 => ⟨S1x1x1024x3584, .f32⟩
  | 52 => ⟨S1024x3584, .f32⟩
  | 53 => ⟨S1x1x3584x1024, .f32⟩
  | 54 => ⟨S3584x1024, .f32⟩
  | 55 => ⟨S135168x3584, .f32⟩
  | 56 => ⟨S135168x3584, .f32⟩
  | 57 => ⟨S135168x3584, .f32⟩
  | 58 => ⟨S_, .f32⟩
  | 59 => ⟨S135168x3584, .f32⟩
  | 60 => ⟨S135168x3584, .f32⟩
  | 61 => ⟨S_, .f32⟩
  | 62 => ⟨S135168x3584, .f32⟩
  | 63 => ⟨S135168x3584, .f32⟩
  | 64 => ⟨S135168x3584, .f32⟩
  | 65 => ⟨S135168x3584, .f32⟩
  | 66 => ⟨S135168x3584, .f32⟩
  | 67 => ⟨S135168x1024, .f32⟩
  | 68 => ⟨S135168x1024, .i1⟩
  | 69 => ⟨S135168x1024, .f32⟩
  | 70 => ⟨S_, .i32⟩
  | 71 => ⟨S135168x1, .i32⟩
  | 72 => ⟨S135168x1, .i1⟩
  | 73 => ⟨S1x1x1024x3584, .f32⟩
  | 74 => ⟨S1024x3584, .f32⟩
  | 75 => ⟨S1x1x1024x3584, .f32⟩
  | 76 => ⟨S1024x3584, .f32⟩
  | 77 => ⟨S1x1x3584x1024, .f32⟩
  | 78 => ⟨S3584x1024, .f32⟩
  | 79 => ⟨S135168x3584, .f32⟩
  | 80 => ⟨S135168x3584, .f32⟩
  | 81 => ⟨S135168x3584, .f32⟩
  | 82 => ⟨S_, .f32⟩
  | 83 => ⟨S135168x3584, .f32⟩
  | 84 => ⟨S135168x3584, .f32⟩
  | 85 => ⟨S_, .f32⟩
  | 86 => ⟨S135168x3584, .f32⟩
  | 87 => ⟨S135168x3584, .f32⟩
  | 88 => ⟨S135168x3584, .f32⟩
  | 89 => ⟨S135168x3584, .f32⟩
  | 90 => ⟨S135168x3584, .f32⟩
  | 91 => ⟨S135168x1024, .f32⟩
  | 92 => ⟨S135168x1024, .i1⟩
  | 93 => ⟨S135168x1024, .f32⟩
  | 94 => ⟨S_, .i32⟩
  | 95 => ⟨S135168x1, .i32⟩
  | 96 => ⟨S135168x1, .i1⟩
  | 97 => ⟨S1x1x1024x3584, .f32⟩
  | 98 => ⟨S1024x3584, .f32⟩
  | 99 => ⟨S1x1x1024x3584, .f32⟩
  | 100 => ⟨S1024x3584, .f32⟩
  | 101 => ⟨S1x1x3584x1024, .f32⟩
  | 102 => ⟨S3584x1024, .f32⟩
  | 103 => ⟨S135168x3584, .f32⟩
  | 104 => ⟨S135168x3584, .f32⟩
  | 105 => ⟨S135168x3584, .f32⟩
  | 106 => ⟨S_, .f32⟩
  | 107 => ⟨S135168x3584, .f32⟩
  | 108 => ⟨S135168x3584, .f32⟩
  | 109 => ⟨S_, .f32⟩
  | 110 => ⟨S135168x3584, .f32⟩
  | 111 => ⟨S135168x3584, .f32⟩
  | 112 => ⟨S135168x3584, .f32⟩
  | 113 => ⟨S135168x3584, .f32⟩
  | 114 => ⟨S135168x3584, .f32⟩
  | 115 => ⟨S135168x1024, .f32⟩
  | 116 => ⟨S135168x1024, .i1⟩
  | 117 => ⟨S135168x1024, .f32⟩
  | 118 => ⟨S_, .i32⟩
  | 119 => ⟨S135168x1, .i32⟩
  | 120 => ⟨S135168x1, .i1⟩
  | 121 => ⟨S1x1x1024x3584, .f32⟩
  | 122 => ⟨S1024x3584, .f32⟩
  | 123 => ⟨S1x1x1024x3584, .f32⟩
  | 124 => ⟨S1024x3584, .f32⟩
  | 125 => ⟨S1x1x3584x1024, .f32⟩
  | 126 => ⟨S3584x1024, .f32⟩
  | 127 => ⟨S135168x3584, .f32⟩
  | _ => ⟨S65536x1024, .f32⟩

abbrev hbmTy0_1 (i : Nat) : BufTy := match i % 128 with
  | 0 => ⟨S135168x3584, .f32⟩
  | 1 => ⟨S135168x3584, .f32⟩
  | 2 => ⟨S_, .f32⟩
  | 3 => ⟨S135168x3584, .f32⟩
  | 4 => ⟨S135168x3584, .f32⟩
  | 5 => ⟨S_, .f32⟩
  | 6 => ⟨S135168x3584, .f32⟩
  | 7 => ⟨S135168x3584, .f32⟩
  | 8 => ⟨S135168x3584, .f32⟩
  | 9 => ⟨S135168x3584, .f32⟩
  | 10 => ⟨S135168x3584, .f32⟩
  | 11 => ⟨S135168x1024, .f32⟩
  | 12 => ⟨S135168x1024, .i1⟩
  | 13 => ⟨S135168x1024, .f32⟩
  | 14 => ⟨S_, .i32⟩
  | 15 => ⟨S135168x1, .i32⟩
  | 16 => ⟨S135168x1, .i1⟩
  | 17 => ⟨S1x1x1024x3584, .f32⟩
  | 18 => ⟨S1024x3584, .f32⟩
  | 19 => ⟨S1x1x1024x3584, .f32⟩
  | 20 => ⟨S1024x3584, .f32⟩
  | 21 => ⟨S1x1x3584x1024, .f32⟩
  | 22 => ⟨S3584x1024, .f32⟩
  | 23 => ⟨S135168x3584, .f32⟩
  | 24 => ⟨S135168x3584, .f32⟩
  | 25 => ⟨S135168x3584, .f32⟩
  | 26 => ⟨S_, .f32⟩
  | 27 => ⟨S135168x3584, .f32⟩
  | 28 => ⟨S135168x3584, .f32⟩
  | 29 => ⟨S_, .f32⟩
  | 30 => ⟨S135168x3584, .f32⟩
  | 31 => ⟨S135168x3584, .f32⟩
  | 32 => ⟨S135168x3584, .f32⟩
  | 33 => ⟨S135168x3584, .f32⟩
  | 34 => ⟨S135168x3584, .f32⟩
  | 35 => ⟨S135168x1024, .f32⟩
  | 36 => ⟨S135168x1024, .i1⟩
  | 37 => ⟨S135168x1024, .f32⟩
  | 38 => ⟨S_, .i32⟩
  | 39 => ⟨S135168x1, .i32⟩
  | 40 => ⟨S135168x1, .i1⟩
  | 41 => ⟨S1x1x1024x3584, .f32⟩
  | 42 => ⟨S1024x3584, .f32⟩
  | 43 => ⟨S1x1x1024x3584, .f32⟩
  | 44 => ⟨S1024x3584, .f32⟩
  | 45 => ⟨S1x1x3584x1024, .f32⟩
  | 46 => ⟨S3584x1024, .f32⟩
  | 47 => ⟨S135168x3584, .f32⟩
  | 48 => ⟨S135168x3584, .f32⟩
  | 49 => ⟨S135168x3584, .f32⟩
  | 50 => ⟨S_, .f32⟩
  | 51 => ⟨S135168x3584, .f32⟩
  | 52 => ⟨S135168x3584, .f32⟩
  | 53 => ⟨S_, .f32⟩
  | 54 => ⟨S135168x3584, .f32⟩
  | 55 => ⟨S135168x3584, .f32⟩
  | 56 => ⟨S135168x3584, .f32⟩
  | 57 => ⟨S135168x3584, .f32⟩
  | 58 => ⟨S135168x3584, .f32⟩
  | 59 => ⟨S135168x1024, .f32⟩
  | 60 => ⟨S135168x1024, .i1⟩
  | 61 => ⟨S135168x1024, .f32⟩
  | 62 => ⟨S_, .i32⟩
  | 63 => ⟨S135168x1, .i32⟩
  | 64 => ⟨S135168x1, .i1⟩
  | 65 => ⟨S1x1x1024x3584, .f32⟩
  | 66 => ⟨S1024x3584, .f32⟩
  | 67 => ⟨S1x1x1024x3584, .f32⟩
  | 68 => ⟨S1024x3584, .f32⟩
  | 69 => ⟨S1x1x3584x1024, .f32⟩
  | 70 => ⟨S3584x1024, .f32⟩
  | 71 => ⟨S135168x3584, .f32⟩
  | 72 => ⟨S135168x3584, .f32⟩
  | 73 => ⟨S135168x3584, .f32⟩
  | 74 => ⟨S_, .f32⟩
  | 75 => ⟨S135168x3584, .f32⟩
  | 76 => ⟨S135168x3584, .f32⟩
  | 77 => ⟨S_, .f32⟩
  | 78 => ⟨S135168x3584, .f32⟩
  | 79 => ⟨S135168x3584, .f32⟩
  | 80 => ⟨S135168x3584, .f32⟩
  | 81 => ⟨S135168x3584, .f32⟩
  | 82 => ⟨S135168x3584, .f32⟩
  | 83 => ⟨S135168x1024, .f32⟩
  | 84 => ⟨S135168x1024, .i1⟩
  | 85 => ⟨S135168x1024, .f32⟩
  | 86 => ⟨S_, .f32⟩
  | 87 => ⟨S512x1024, .f32⟩
  | 88 => ⟨S135680x1024, .f32⟩
  | 89 => ⟨S_, .f32⟩
  | 90 => ⟨S135680x1024, .f32⟩
  | 91 => ⟨S_, .i32⟩
  | 92 => ⟨S135680, .i32⟩
  | 93 => ⟨S135680, .i1⟩
  | 94 => ⟨S_, .i32⟩
  | 95 => ⟨S135680, .i32⟩
  | 96 => ⟨S135680, .i32⟩
  | 97 => ⟨S135680, .i32⟩
  | 98 => ⟨S135680x1, .i32⟩
  | 99 => ⟨S135680x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_v0 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call3_v0 : Ref sig .tc := ⟨.hbm, 68, rfl⟩
abbrev main_v39 : Ref sig .tc := ⟨.hbm, 69, rfl⟩
abbrev main_c_3 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call4_v0 : Ref sig .tc := ⟨.hbm, 80, rfl⟩
abbrev main_call4_v1 : Ref sig .tc := ⟨.hbm, 81, rfl⟩
abbrev main_call4_cst : Ref sig .tc := ⟨.hbm, 82, rfl⟩
abbrev main_call4_v2 : Ref sig .tc := ⟨.hbm, 83, rfl⟩
abbrev main_call4_v3 : Ref sig .tc := ⟨.hbm, 84, rfl⟩
abbrev main_call4_cst_0 : Ref sig .tc := ⟨.hbm, 85, rfl⟩
abbrev main_call4_v4 : Ref sig .tc := ⟨.hbm, 86, rfl⟩
abbrev main_call4_v5 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_call5_v0 : Ref sig .tc := ⟨.hbm, 92, rfl⟩
abbrev main_v53 : Ref sig .tc := ⟨.hbm, 93, rfl⟩
abbrev main_c_4 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_call6_v0 : Ref sig .tc := ⟨.hbm, 104, rfl⟩
abbrev main_call6_v1 : Ref sig .tc := ⟨.hbm, 105, rfl⟩
abbrev main_call6_cst : Ref sig .tc := ⟨.hbm, 106, rfl⟩
abbrev main_call6_v2 : Ref sig .tc := ⟨.hbm, 107, rfl⟩
abbrev main_call6_v3 : Ref sig .tc := ⟨.hbm, 108, rfl⟩
abbrev main_call6_cst_0 : Ref sig .tc := ⟨.hbm, 109, rfl⟩
abbrev main_call6_v4 : Ref sig .tc := ⟨.hbm, 110, rfl⟩
abbrev main_call6_v5 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_call7_v0 : Ref sig .tc := ⟨.hbm, 116, rfl⟩
abbrev main_v67 : Ref sig .tc := ⟨.hbm, 117, rfl⟩
abbrev main_c_5 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_call8_v0 : Ref sig .tc := ⟨.hbm, 128, rfl⟩
abbrev main_call8_v1 : Ref sig .tc := ⟨.hbm, 129, rfl⟩
abbrev main_call8_cst : Ref sig .tc := ⟨.hbm, 130, rfl⟩
abbrev main_call8_v2 : Ref sig .tc := ⟨.hbm, 131, rfl⟩
abbrev main_call8_v3 : Ref sig .tc := ⟨.hbm, 132, rfl⟩
abbrev main_call8_cst_0 : Ref sig .tc := ⟨.hbm, 133, rfl⟩
abbrev main_call8_v4 : Ref sig .tc := ⟨.hbm, 134, rfl⟩
abbrev main_call8_v5 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_call9_v0 : Ref sig .tc := ⟨.hbm, 140, rfl⟩
abbrev main_v81 : Ref sig .tc := ⟨.hbm, 141, rfl⟩
abbrev main_c_6 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_call10_v0 : Ref sig .tc := ⟨.hbm, 152, rfl⟩
abbrev main_call10_v1 : Ref sig .tc := ⟨.hbm, 153, rfl⟩
abbrev main_call10_cst : Ref sig .tc := ⟨.hbm, 154, rfl⟩
abbrev main_call10_v2 : Ref sig .tc := ⟨.hbm, 155, rfl⟩
abbrev main_call10_v3 : Ref sig .tc := ⟨.hbm, 156, rfl⟩
abbrev main_call10_cst_0 : Ref sig .tc := ⟨.hbm, 157, rfl⟩
abbrev main_call10_v4 : Ref sig .tc := ⟨.hbm, 158, rfl⟩
abbrev main_call10_v5 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_call11_v0 : Ref sig .tc := ⟨.hbm, 164, rfl⟩
abbrev main_v95 : Ref sig .tc := ⟨.hbm, 165, rfl⟩
abbrev main_c_7 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_call12_v0 : Ref sig .tc := ⟨.hbm, 176, rfl⟩
abbrev main_call12_v1 : Ref sig .tc := ⟨.hbm, 177, rfl⟩
abbrev main_call12_cst : Ref sig .tc := ⟨.hbm, 178, rfl⟩
abbrev main_call12_v2 : Ref sig .tc := ⟨.hbm, 179, rfl⟩
abbrev main_call12_v3 : Ref sig .tc := ⟨.hbm, 180, rfl⟩
abbrev main_call12_cst_0 : Ref sig .tc := ⟨.hbm, 181, rfl⟩
abbrev main_call12_v4 : Ref sig .tc := ⟨.hbm, 182, rfl⟩
abbrev main_call12_v5 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_call13_v0 : Ref sig .tc := ⟨.hbm, 188, rfl⟩
abbrev main_v109 : Ref sig .tc := ⟨.hbm, 189, rfl⟩
abbrev main_c_8 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_call14_v0 : Ref sig .tc := ⟨.hbm, 200, rfl⟩
abbrev main_call14_v1 : Ref sig .tc := ⟨.hbm, 201, rfl⟩
abbrev main_call14_cst : Ref sig .tc := ⟨.hbm, 202, rfl⟩
abbrev main_call14_v2 : Ref sig .tc := ⟨.hbm, 203, rfl⟩
abbrev main_call14_v3 : Ref sig .tc := ⟨.hbm, 204, rfl⟩
abbrev main_call14_cst_0 : Ref sig .tc := ⟨.hbm, 205, rfl⟩
abbrev main_call14_v4 : Ref sig .tc := ⟨.hbm, 206, rfl⟩
abbrev main_call14_v5 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_call15_v0 : Ref sig .tc := ⟨.hbm, 212, rfl⟩
abbrev main_v123 : Ref sig .tc := ⟨.hbm, 213, rfl⟩
abbrev main_cst_9 : Ref sig .tc := ⟨.hbm, 214, rfl⟩
abbrev main_v124 : Ref sig .tc := ⟨.hbm, 215, rfl⟩
abbrev main_v125 : Ref sig .tc := ⟨.hbm, 216, rfl⟩
abbrev main_cst_10 : Ref sig .tc := ⟨.hbm, 217, rfl⟩
abbrev main_v126 : Ref sig .tc := ⟨.hbm, 218, rfl⟩
abbrev main_c_11 : Ref sig .tc := ⟨.hbm, 219, rfl⟩
abbrev main_v127 : Ref sig .tc := ⟨.hbm, 220, rfl⟩
abbrev main_v128 : Ref sig .tc := ⟨.hbm, 221, rfl⟩
abbrev main_c_12 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩

abbrev nD : Nat := 1
abbrev τ : Topo := Topo.v7x

variable {F : FTy → Type} [FloatOps F]
-- ==== Kernel2.lean ====
abbrev S16x4096x1024 : Shape := ⟨3, ![16, 4096, 1024]⟩
abbrev S2x1024x2816 : Shape := ⟨3, ![2, 1024, 2816]⟩
abbrev S2x2816x1024 : Shape := ⟨3, ![2, 2816, 1024]⟩
abbrev S16x1024 : Shape := ⟨2, ![16, 1024]⟩
abbrev S1024 : Shape := ⟨1, ![1024]⟩
abbrev S16x1x1024 : Shape := ⟨3, ![16, 1, 1024]⟩
abbrev S1x1024 : Shape := ⟨2, ![1, 1024]⟩
abbrev S1x512x1024 : Shape := ⟨3, ![1, 512, 1024]⟩
abbrev S1x1024x2816 : Shape := ⟨3, ![1, 1024, 2816]⟩
abbrev S1x2816x1024 : Shape := ⟨3, ![1, 2816, 1024]⟩
abbrev S1x1x1024 : Shape := ⟨3, ![1, 1, 1024]⟩
abbrev S512x1024 : Shape := ⟨2, ![512, 1024]⟩
abbrev S1024x2816 : Shape := ⟨2, ![1024, 2816]⟩
abbrev S512x2816 : Shape := ⟨2, ![512, 2816]⟩
abbrev S2816x1024 : Shape := ⟨2, ![2816, 1024]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S16x1024, .f32⟩
  | .hbm, ⟨6, _⟩ => ⟨S1024, .f32⟩
  | .hbm, ⟨7, _⟩ => ⟨S16x1024, .f32⟩
  | .hbm, ⟨8, _⟩ => ⟨S16x1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S16x1x1024, .f32⟩
  | .hbm, ⟨13, _⟩ => ⟨S1x1024, .f32⟩
  | .hbm, ⟨14, _⟩ => ⟨S16x1x1024, .f32⟩
  | .hbm, ⟨15, _⟩ => ⟨S16x1x1024, .f32⟩
  | .hbm, ⟨16, _⟩ => ⟨S16x4096x1024, .f32⟩
  | .hbm, ⟨17, _⟩ => ⟨S16x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .bf16⟩
  | .local _ .vmem, ⟨17, _⟩ => ⟨S1x512x1024, .bf16⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S16x4096x1024 : Shape := ⟨3, ![16, 4096, 1024]⟩
abbrev S2x1024x2816 : Shape := ⟨3, ![2, 1024, 2816]⟩
abbrev S2x2816x1024 : Shape := ⟨3, ![2, 2816, 1024]⟩
abbrev S16x1024 : Shape := ⟨2, ![16, 1024]⟩
abbrev S1024 : Shape := ⟨1, ![1024]⟩
abbrev S16x1x1024 : Shape := ⟨3, ![16, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x4096x2816 : Shape := ⟨3, ![16, 4096, 2816]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S16x1024, .f32⟩
  | .hbm, ⟨6, _⟩ => ⟨S1024, .f32⟩
  | .hbm, ⟨7, _⟩ => ⟨S16x1024, .f32⟩
  | .hbm, ⟨8, _⟩ => ⟨S16x1024, .f32⟩
  | .hbm, ⟨9, _⟩ => ⟨S16x1x1024, .f32⟩
  | .hbm, ⟨10, _⟩ => ⟨S16x4096x1024, .f32⟩
  | .hbm, ⟨11, _⟩ => ⟨S1x1024x2816, .f32⟩
  | .hbm, ⟨12, _⟩ => ⟨S1024x2816, .f32⟩
  | .hbm, ⟨13, _⟩ => ⟨S1x1024x2816, .f32⟩
  | .hbm, ⟨14, _⟩ => ⟨S1024x2816, .f32⟩
  | .hbm, ⟨15, _⟩ => ⟨S1x2816x1024, .f32⟩
  | .hbm, ⟨16, _⟩ => ⟨S2816x1024, .f32⟩
  | .hbm, ⟨17, _⟩ => ⟨S16x4096x2816, .f32⟩
  | .hbm, ⟨18, _⟩ => ⟨S16x4096x2816, .f32⟩
  | .hbm, ⟨19, _⟩ => ⟨S16x4096x2816, .f32⟩
  | .hbm, ⟨20, _⟩ => ⟨S_, .f32⟩
  | .hbm, ⟨21, _⟩ => ⟨S16x4096x2816, .f32⟩
  | .hbm, ⟨22, _⟩ => ⟨S16x4096x2816, .f32⟩
  | .hbm, ⟨23, _⟩ => ⟨S_, .f32⟩
  | .hbm, ⟨24, _⟩ => ⟨S16x4096x2816, .f32⟩
  | .hbm, ⟨25, _⟩ => ⟨S16x4096x2816, .f32⟩
  | .hbm, ⟨26, _⟩ => ⟨S16x4096x2816, .f32⟩
  | .hbm, ⟨27, _⟩ => ⟨S16x4096x2816, .f32⟩
  | .hbm, ⟨28, _⟩ => ⟨S16x4096x2816, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S_, .f32⟩
  | .hbm, ⟨38, _⟩ => ⟨S16x4096x1, .f32⟩
  | .hbm, ⟨39, _⟩ => ⟨S16x4096x1, .f32⟩
  | .hbm, ⟨40, _⟩ => ⟨S_, .f32⟩
  | .hbm, ⟨41, _⟩ => ⟨S16x4096x1, .f32⟩
  | .hbm, ⟨42, _⟩ => ⟨S16x4096x1, .f32⟩
  | .hbm, ⟨43, _⟩ => ⟨S16x4096x1, .f32⟩
  | .hbm, ⟨44, _⟩ => ⟨S16x4096x1024, .f32⟩
  | .hbm, ⟨45, _⟩ => ⟨S16x4096x1024, .f32⟩
  | .hbm, ⟨46, _⟩ => ⟨S1x1x1024, .f32⟩
  | .hbm, ⟨47, _⟩ => ⟨S16x4096x1024, .f32⟩
  | .hbm, ⟨48, _⟩ => ⟨S16x4096x1024, .f32⟩
  | .hbm, ⟨49, _⟩ => ⟨S16x1x1024, .f32⟩
  | .hbm, ⟨50, _⟩ => ⟨S_, .f32⟩
  | .hbm, ⟨51, _⟩ => ⟨S16x1x1024, .f32⟩
  | .hbm, ⟨52, _⟩ => ⟨S16x1x1024, .f32⟩
  | .hbm, ⟨53, _⟩ => ⟨S16x4096x1024, .f32⟩
  | .hbm, ⟨54, _⟩ => ⟨S16x4096x1024, .f32⟩
  | .hbm, ⟨55, _⟩ => ⟨S16x1x1024, .f32⟩
  | .hbm, ⟨56, _⟩ => ⟨S16x4096x1024, .f32⟩
  | .hbm, ⟨57, _⟩ => ⟨S16x4096x1024, .f32⟩
  | .hbm, ⟨58, _⟩ => ⟨S16x4096x1024, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel3.lean ====
abbrev S135680x1024 : Shape := ⟨2, ![135680, 1024]⟩
abbrev S65536x128 : Shape := ⟨2, ![65536, 128]⟩
abbrev S16x4096x1024 : Shape := ⟨3, ![16, 4096, 1024]⟩
abbrev S16x1024 : Shape := ⟨2, ![16, 1024]⟩
abbrev S1024 : Shape := ⟨1, ![1024]⟩
abbrev S65536x1024 : Shape := ⟨2, ![65536, 1024]⟩
abbrev S16x1x1024 : Shape := ⟨3, ![16, 1, 1024]⟩
abbrev S1x1024 : Shape := ⟨2, ![1, 1024]⟩
abbrev S512x1024 : Shape := ⟨2, ![512, 1024]⟩
abbrev S512x128 : Shape := ⟨2, ![512, 128]⟩
abbrev S1x1x1024 : Shape := ⟨3, ![1, 1, 1024]⟩
abbrev S512x1 : Shape := ⟨2, ![512, 1]⟩
abbrev S512 : Shape := ⟨1, ![512]⟩

abbrev nBuf : Space → Nat
  | .hbm => 9
  | .vmem => 13
  | .smem => 0
  | _ => 0

abbrev bufTy : (tb : Table) → Fin (tcTables nBuf tb) → BufTy
  | .hbm, ⟨0, _⟩ => ⟨S135680x1024, .f32⟩
  | .hbm, ⟨1, _⟩ => ⟨S65536x128, .f32⟩
  | .hbm, ⟨2, _⟩ => ⟨S16x4096x1024, .f32⟩
  | .hbm, ⟨3, _⟩ => ⟨S16x1024, .f32⟩
  | .hbm, ⟨4, _⟩ => ⟨S1024, .f32⟩
  | .hbm, ⟨5, _⟩ => ⟨S65536x1024, .f32⟩
  | .hbm, ⟨6, _⟩ => ⟨S16x1x1024, .f32⟩
  | .hbm, ⟨7, _⟩ => ⟨S1x1024, .f32⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S135680x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S135680x1024 : Shape := ⟨2, ![135680, 1024]⟩
abbrev S65536x128 : Shape := ⟨2, ![65536, 128]⟩
abbrev S16x4096x1024 : Shape := ⟨3, ![16, 4096, 1024]⟩
abbrev S16x1024 : Shape := ⟨2, ![16, 1024]⟩
abbrev S1024 : Shape := ⟨1, ![1024]⟩
abbrev S65536x1 : Shape := ⟨2, ![65536, 1]⟩
abbrev S65536x1024 : Shape := ⟨2, ![65536, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S135680x1024, .f32⟩
  | .hbm, ⟨1, _⟩ => ⟨S65536x128, .f32⟩
  | .hbm, ⟨2, _⟩ => ⟨S16x4096x1024, .f32⟩
  | .hbm, ⟨3, _⟩ => ⟨S16x1024, .f32⟩
  | .hbm, ⟨4, _⟩ => ⟨S1024, .f32⟩
  | .hbm, ⟨5, _⟩ => ⟨S65536x1, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S16x1x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x1, .f32⟩
  | .hbm, ⟨30, _⟩ => ⟨S16x4096x1024, .f32⟩
  | .hbm, ⟨31, _⟩ => ⟨S16x4096x1024, .f32⟩
  | .hbm, ⟨32, _⟩ => ⟨S1x1x1024, .f32⟩
  | .hbm, ⟨33, _⟩ => ⟨S16x4096x1024, .f32⟩
  | .hbm, ⟨34, _⟩ => ⟨S16x4096x1024, .f32⟩
  | .hbm, ⟨35, _⟩ => ⟨S65536x1024, .f32⟩
  | _, _ => ⟨S135680x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S16x4096x1024 : Shape := ⟨3, ![16, 4096, 1024]⟩
abbrev S1024 : Shape := ⟨1, ![1024]⟩
abbrev S2x1024x2048 : Shape := ⟨3, ![2, 1024, 2048]⟩
abbrev S2048 : Shape := ⟨1, ![2048]⟩
abbrev S16x1024 : Shape := ⟨2, ![16, 1024]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S1 : Shape := ⟨1, ![1]⟩
abbrev S1024x256 : Shape := ⟨2, ![1024, 256]⟩
abbrev S1x128 : Shape := ⟨2, ![1, 128]⟩
abbrev S2 : Shape := ⟨1, ![2]⟩
abbrev S1x1024 : Shape := ⟨2, ![1, 1024]⟩
abbrev S1x2048 : Shape := ⟨2, ![1, 2048]⟩
abbrev S16x1x1024 : Shape := ⟨3, ![16, 1, 1024]⟩
abbrev S16x4096x128 : Shape := ⟨3, ![16, 4096, 128]⟩
abbrev S1x512x1024 : Shape := ⟨3, ![1, 512, 1024]⟩
abbrev S1x1024x2048 : Shape := ⟨3, ![1, 1024, 2048]⟩
abbrev S1x1x1024 : Shape := ⟨3, ![1, 1, 1024]⟩
abbrev S1x512x128 : Shape := ⟨3, ![1, 512, 128]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S512x128 : Shape := ⟨2, ![512, 128]⟩

abbrev nBuf : Space → Nat
  | .hbm => 40
  | .vmem => 24
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .bf16⟩
  | .hbm, ⟨2, _⟩ => ⟨S16x4096x1024, .f32⟩
  | .hbm, ⟨3, _⟩ => ⟨S1024, .f32⟩
  | .hbm, ⟨4, _⟩ => ⟨S2x1024x2048, .f32⟩
  | .hbm, ⟨5, _⟩ => ⟨S2048, .f32⟩
  | .hbm, ⟨6, _⟩ => ⟨S16x1024, .f32⟩
  | .hbm, ⟨7, _⟩ => ⟨S1024, .f32⟩
  | .hbm, ⟨8, _⟩ => ⟨S16x1024, .f32⟩
  | .hbm, ⟨9, _⟩ => ⟨S16x1024, .f32⟩
  | .hbm, ⟨10, _⟩ => ⟨S1024x8, .f32⟩
  | .hbm, ⟨11, _⟩ => ⟨S8, .f32⟩
  | .hbm, ⟨12, _⟩ => ⟨S2x1024x2048, .bf16⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S1, .i32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1024x256, .bf16⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S1x1024, .f32⟩
  | .hbm, ⟨32, _⟩ => ⟨S1x2048, .f32⟩
  | .hbm, ⟨33, _⟩ => ⟨S16x1x1024, .f32⟩
  | .hbm, ⟨34, _⟩ => ⟨S1x1024, .f32⟩
  | .hbm, ⟨35, _⟩ => ⟨S16x1x1024, .f32⟩
  | .hbm, ⟨36, _⟩ => ⟨S16x1x1024, .f32⟩
  | .hbm, ⟨37, _⟩ => ⟨S16x4096x1024, .f32⟩
  | .hbm, ⟨38, _⟩ => ⟨S16x4096x1024, .f32⟩
  | .hbm, ⟨39, _⟩ => ⟨S16x4096x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1024x2048, .bf16⟩
  | .local _ .vmem, ⟨8, _⟩ => ⟨S1x2048, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x256, .bf16⟩
  | .local _ .vmem, ⟨17, _⟩ => ⟨S1x128, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x128, .f32⟩
  | .local _ .vmem, ⟨23, _⟩ => ⟨S1x512x128, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S16x4096x1024 : Shape := ⟨3, ![16, 4096, 1024]⟩
abbrev S1024 : Shape := ⟨1, ![1024]⟩
abbrev S2x1024x2048 : Shape := ⟨3, ![2, 1024, 2048]⟩
abbrev S2048 : Shape := ⟨1, ![2048]⟩
abbrev S16x1024 : Shape := ⟨2, ![16, 1024]⟩
abbrev S1024x8 : Shape := ⟨2, ![1024, 8]⟩
abbrev S8 : Shape := ⟨1, ![8]⟩
abbrev S1x1x1024 : Shape := ⟨3, ![1, 1, 1024]⟩
abbrev S_ : Shape := ⟨0, ![]⟩
abbrev S1x1024x2048 : Shape := ⟨3, ![1, 1024, 2048]⟩
abbrev S1024x2048 : Shape := ⟨2, ![1024, 2048]⟩
abbrev S16x4096x2048 : Shape := ⟨3, ![16, 4096, 2048]⟩
abbrev S1x1x2048 : Shape := ⟨3, ![1, 1, 2048]⟩
abbrev S16x1x1024 : Shape := ⟨3, ![16, 1, 1024]⟩
abbrev S16x4096 : Shape := ⟨2, ![16, 4096]⟩
abbrev S16x4096x1 : Shape := ⟨3, ![16, 4096, 1]⟩

abbrev nBuf : Space → Nat
  | .hbm => 81
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .bf16⟩
  | .hbm, ⟨2, _⟩ => ⟨S16x4096x1024, .f32⟩
  | .hbm, ⟨3, _⟩ => ⟨S1024, .f32⟩
  | .hbm, ⟨4, _⟩ => ⟨S2x1024x2048, .f32⟩
  | .hbm, ⟨5, _⟩ => ⟨S2048, .f32⟩
  | .hbm, ⟨6, _⟩ => ⟨S16x1024, .f32⟩
  | .hbm, ⟨7, _⟩ => ⟨S1024, .f32⟩
  | .hbm, ⟨8, _⟩ => ⟨S16x1024, .f32⟩
  | .hbm, ⟨9, _⟩ => ⟨S16x1024, .f32⟩
  | .hbm, ⟨10, _⟩ => ⟨S1024x8, .f32⟩
  | .hbm, ⟨11, _⟩ => ⟨S8, .f32⟩
  | .hbm, ⟨12, _⟩ => ⟨S16x4096x1024, .f32⟩
  | .hbm, ⟨13, _⟩ => ⟨S16x4096x1024, .f32⟩
  | .hbm, ⟨14, _⟩ => ⟨S1x1x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S_, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S1x1024x2048, .f32⟩
  | .hbm, ⟨36, _⟩ => ⟨S1024x2048, .f32⟩
  | .hbm, ⟨37, _⟩ => ⟨S16x4096x2048, .f32⟩
  | .hbm, ⟨38, _⟩ => ⟨S1x1x2048, .f32⟩
  | .hbm, ⟨39, _⟩ => ⟨S16x4096x2048, .f32⟩
  | .hbm, ⟨40, _⟩ => ⟨S16x4096x2048, .f32⟩
  | .hbm, ⟨41, _⟩ => ⟨S16x4096x1024, .f32⟩
  | .hbm, ⟨42, _⟩ => ⟨S16x4096x1024, .f32⟩
  | .hbm, ⟨43, _⟩ => ⟨S16x1x1024, .f32⟩
  | .hbm, ⟨44, _⟩ => ⟨S16x4096x1024, .f32⟩
  | .hbm, ⟨45, _⟩ => ⟨S16x4096x1024, .f32⟩
  | .hbm, ⟨46, _⟩ => ⟨S_, .f32⟩
  | .hbm, ⟨47, _⟩ => ⟨S16x4096x1024, .f32⟩
  | .hbm, ⟨48, _⟩ => ⟨S16x4096x1024, .f32⟩
  | .hbm, ⟨49, _⟩ => ⟨S_, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S_, .f32⟩
  | .hbm, ⟨58, _⟩ => ⟨S16x4096, .f32⟩
  | .hbm, ⟨59, _⟩ => ⟨S16x4096x1, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S_, .f32⟩
  | .hbm, ⟨64, _⟩ => ⟨S16x4096x1, .f32⟩
  | .hbm, ⟨65, _⟩ => ⟨S16x4096x1, .f32⟩
  | .hbm, ⟨66, _⟩ => ⟨S16x4096x1, .f32⟩
  | .hbm, ⟨67, _⟩ => ⟨S16x4096x1024, .f32⟩
  | .hbm, ⟨68, _⟩ => ⟨S16x4096x1024, .f32⟩
  | .hbm, ⟨69, _⟩ => ⟨S1x1x1024, .f32⟩
  | .hbm, ⟨70, _⟩ => ⟨S16x4096x1024, .f32⟩
  | .hbm, ⟨71, _⟩ => ⟨S16x4096x1024, .f32⟩
  | .hbm, ⟨72, _⟩ => ⟨S16x1x1024, .f32⟩
  | .hbm, ⟨73, _⟩ => ⟨S_, .f32⟩
  | .hbm, ⟨74, _⟩ => ⟨S16x1x1024, .f32⟩
  | .hbm, ⟨75, _⟩ => ⟨S16x1x1024, .f32⟩
  | .hbm, ⟨76, _⟩ => ⟨S16x4096x1024, .f32⟩
  | .hbm, ⟨77, _⟩ => ⟨S16x4096x1024, .f32⟩
  | .hbm, ⟨78, _⟩ => ⟨S16x1x1024, .f32⟩
  | .hbm, ⟨79, _⟩ => ⟨S16x4096x1024, .f32⟩
  | .hbm, ⟨80, _⟩ => ⟨S16x4096x1024, .f32⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel5.lean ====
abbrev S16x4096x1024 : Shape := ⟨3, ![16, 4096, 1024]⟩
abbrev S1024 : Shape := ⟨1, ![1024]⟩
abbrev S16x1024 : Shape := ⟨2, ![16, 1024]⟩
abbrev S2x1024x3072 : Shape := ⟨3, ![2, 1024, 3072]⟩
abbrev S16x4096x128 : Shape := ⟨3, ![16, 4096, 128]⟩
abbrev S3x512 : Shape := ⟨2, ![3, 512]⟩
abbrev S1x1024 : Shape := ⟨2, ![1, 1024]⟩
abbrev S16x1x1024 : Shape := ⟨3, ![16, 1, 1024]⟩
abbrev S16x4096x512 : Shape := ⟨3, ![16, 4096, 512]⟩
abbrev S16x8x4x128x512 : Shape := ⟨5, ![16, 8, 4, 128, 512]⟩
abbrev S16x2x16x128x512 : Shape := ⟨5, ![16, 2, 16, 128, 512]⟩
abbrev S1x512x1024 : Shape := ⟨3, ![1, 512, 1024]⟩
abbrev S1x1x1024 : Shape := ⟨3, ![1, 1, 1024]⟩
abbrev S1x1024x3072 : Shape := ⟨3, ![1, 1024, 3072]⟩
abbrev S1x512x128 : Shape := ⟨3, ![1, 512, 128]⟩
abbrev S1x512x512 : Shape := ⟨3, ![1, 512, 512]⟩
abbrev S1x1x4x128x512 : Shape := ⟨5, ![1, 1, 4, 128, 512]⟩
abbrev S1x1x16x32x512 : Shape := ⟨5, ![1, 1, 16, 32, 512]⟩
abbrev S520x512 : Shape := ⟨2, ![520, 512]⟩
abbrev S3x4x512x128 : Shape := ⟨4, ![3, 4, 512, 128]⟩
abbrev S512x1024 : Shape := ⟨2, ![512, 1024]⟩
abbrev S512 : Shape := ⟨1, ![512]⟩
abbrev S512x1 : Shape := ⟨2, ![512, 1]⟩
abbrev S1024x3072 : Shape := ⟨2, ![1024, 3072]⟩
abbrev S512x3072 : Shape := ⟨2, ![512, 3072]⟩
abbrev S512x128 : Shape := ⟨2, ![512, 128]⟩
abbrev S1x1x512x128 : Shape := ⟨4, ![1, 1, 512, 128]⟩
abbrev S1x1x128x128 : Shape := ⟨4, ![1, 1, 128, 128]⟩
abbrev S128x128 : Shape := ⟨2, ![128, 128]⟩
abbrev S1x1x1x128x128 : Shape := ⟨5, ![1, 1, 1, 128, 128]⟩
abbrev S1x1x32x128 : Shape := ⟨4, ![1, 1, 32, 128]⟩
abbrev S32x128 : Shape := ⟨2, ![32, 128]⟩
abbrev S1x1x1x32x128 : Shape := ⟨5, ![1, 1, 1, 32, 128]⟩
abbrev S512x512 : Shape := ⟨2, ![512, 512]⟩
abbrev S8x512 : Shape := ⟨2, ![8, 512]⟩
abbrev S1x512 : Shape := ⟨2, ![1, 512]⟩

abbrev nBuf : Space → Nat
  | .hbm => 22
  | .vmem => 35
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S2x1024x3072, .f32⟩
  | .hbm, ⟨5, _⟩ => ⟨S16x4096x128, .f32⟩
  | .hbm, ⟨6, _⟩ => ⟨S16x4096x128, .f32⟩
  | .hbm, ⟨7, _⟩ => ⟨S3x512, .f32⟩
  | .hbm, ⟨8, _⟩ => ⟨S2x1024x3072, .bf16⟩
  | .hbm, ⟨9, _⟩ => ⟨S1x1024, .f32⟩
  | .hbm, ⟨10, _⟩ => ⟨S16x1x1024, .f32⟩
  | .hbm, ⟨11, _⟩ => ⟨S16x1x1024, .f32⟩
  | .hbm, ⟨12, _⟩ => ⟨S16x4096x512, .bf16⟩
  | .hbm, ⟨13, _⟩ => ⟨S16x4096x512, .bf16⟩
  | .hbm, ⟨14, _⟩ => ⟨S16x4096x512, .bf16⟩
  | .hbm, ⟨15, _⟩ => ⟨S16x8x4x128x512, .bf16⟩
  | .hbm, ⟨16, _⟩ => ⟨S16x8x4x128x512, .bf16⟩
  | .hbm, ⟨17, _⟩ => ⟨S16x8x4x128x512, .bf16⟩
  | .hbm, ⟨18, _⟩ => ⟨S16x2x16x128x512, .bf16⟩
  | .hbm, ⟨19, _⟩ => ⟨S16x2x16x128x512, .bf16⟩
  | .hbm, ⟨20, _⟩ => ⟨S16x2x16x128x512, .bf16⟩
  | .hbm, ⟨21, _⟩ => ⟨S16x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x3072, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S3x512, .f32⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x1x4x128x512, .bf16⟩
  | .local _ .vmem, ⟨20, _⟩ => ⟨S1x1x4x128x512, .bf16⟩
  | .local _ .vmem, ⟨21, _⟩ => ⟨S1x1x4x128x512, .bf16⟩
  | .local _ .vmem, ⟨22, _⟩ => ⟨S1x1x4x128x512, .bf16⟩
  | .local _ .vmem, ⟨23, _⟩ => ⟨S1x1x4x128x512, .bf16⟩
  | .local _ .vmem, ⟨24, _⟩ => ⟨S1x1x4x128x512, .bf16⟩
  | .local _ .vmem, ⟨25, _⟩ => ⟨S1x1x16x32x512, .bf16⟩
  | .local _ .vmem, ⟨26, _⟩ => ⟨S1x1x16x32x512, .bf16⟩
  | .local _ .vmem, ⟨27, _⟩ => ⟨S1x1x16x32x512, .bf16⟩
  | .local _ .vmem, ⟨28, _⟩ => ⟨S1x1x16x32x512, .bf16⟩
  | .local _ .vmem, ⟨29, _⟩ => ⟨S1x1x16x32x512, .bf16⟩
  | .local _ .vmem, ⟨30, _⟩ => ⟨S1x1x16x32x512, .bf16⟩
  | .local _ .vmem, ⟨31, _⟩ => ⟨S1x512x512, .bf16⟩
  | .local _ .vmem, ⟨32, _⟩ => ⟨S1x512x512, .bf16⟩
  | .local _ .vmem, ⟨33, _⟩ => ⟨S520x512, .f32⟩
  | .local _ .vmem, ⟨34, _⟩ => ⟨S3x4x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev main_v4_8 : Ref sig .tc := ⟨.hbm, 20, rfl⟩
abbrev main_v4_9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![arg0.toNat, v16.toNat, c0_i32_11.toNat, v26.toNat, c0_i32_12.toNat]

def cc0_transform_12 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![arg0.toNat, v16.toNat, c0_i32_11.toNat, v26.toNat, c0_i32_12.toNat]

def cc0_transform_13 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![arg0.toNat, v16.toNat, c0_i32_11.toNat, v26.toNat, c0_i32_12.toNat]

def cc0_transform_14 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, v26.toNat, c0_i32_11.toNat]

def cc0_transform_15 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, v26.toNat, c0_i32_11.toNat]

def cc0_transform_16 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, v26.toNat, c0_i32_11.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x4x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x4x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x4x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x16x32x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x16x32x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x16x32x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference5Ideal.lean ====
abbrev S16x4096x1024 : Shape := ⟨3, ![16, 4096, 1024]⟩
abbrev S1024 : Shape := ⟨1, ![1024]⟩
abbrev S16x1024 : Shape := ⟨2, ![16, 1024]⟩
abbrev S2x1024x3072 : Shape := ⟨3, ![2, 1024, 3072]⟩
abbrev S16x4096x128 : Shape := ⟨3, ![16, 4096, 128]⟩
abbrev S3x512 : Shape := ⟨2, ![3, 512]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S1x1024x3072 : Shape := ⟨3, ![1, 1024, 3072]⟩
abbrev S1024x3072 : Shape := ⟨2, ![1024, 3072]⟩
abbrev S16x4096x3072 : Shape := ⟨3, ![16, 4096, 3072]⟩
abbrev S16x4096x512 : Shape := ⟨3, ![16, 4096, 512]⟩
abbrev S16x4098x512 : Shape := ⟨3, ![16, 4098, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 69
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S2x1024x3072, .f32⟩
  | .hbm, ⟨5, _⟩ => ⟨S16x4096x128, .f32⟩
  | .hbm, ⟨6, _⟩ => ⟨S16x4096x128, .f32⟩
  | .hbm, ⟨7, _⟩ => ⟨S3x512, .f32⟩
  | .hbm, ⟨8, _⟩ => ⟨S16x4096x1024, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1, .f32⟩
  | .hbm, ⟨19, _⟩ => ⟨S16x4096x1024, .f32⟩
  | .hbm, ⟨20, _⟩ => ⟨S16x4096x1024, .f32⟩
  | .hbm, ⟨21, _⟩ => ⟨S1x1x1024, .f32⟩
  | .hbm, ⟨22, _⟩ => ⟨S16x4096x1024, .f32⟩
  | .hbm, ⟨23, _⟩ => ⟨S16x4096x1024, .f32⟩
  | .hbm, ⟨24, _⟩ => ⟨S16x1x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x4096x1024, .f32⟩
  | .hbm, ⟨29, _⟩ => ⟨S16x4096x1024, .f32⟩
  | .hbm, ⟨30, _⟩ => ⟨S16x1x1024, .f32⟩
  | .hbm, ⟨31, _⟩ => ⟨S16x4096x1024, .f32⟩
  | .hbm, ⟨32, _⟩ => ⟨S16x4096x1024, .f32⟩
  | .hbm, ⟨33, _⟩ => ⟨S1x1024x3072, .f32⟩
  | .hbm, ⟨34, _⟩ => ⟨S1024x3072, .f32⟩
  | .hbm, ⟨35, _⟩ => ⟨S16x4096x3072, .f32⟩
  | .hbm, ⟨36, _⟩ => ⟨S16x4096x512, .f32⟩
  | .hbm, ⟨37, _⟩ => ⟨S16x4096x512, .f32⟩
  | .hbm, ⟨38, _⟩ => ⟨S16x4096x512, .f32⟩
  | .hbm, ⟨39, _⟩ => ⟨S16x4096x512, .f32⟩
  | .hbm, ⟨40, _⟩ => ⟨S16x4096x512, .f32⟩
  | .hbm, ⟨41, _⟩ => ⟨S16x4096x512, .f32⟩
  | .hbm, ⟨42, _⟩ => ⟨S16x4096x512, .f32⟩
  | .hbm, ⟨43, _⟩ => ⟨S_, .i32⟩
  | .hbm, ⟨44, _⟩ => ⟨S_, .f32⟩
  | .hbm, ⟨45, _⟩ => ⟨S16x4098x512, .f32⟩
  | .hbm, ⟨46, _⟩ => ⟨S1x512, .f32⟩
  | .hbm, ⟨47, _⟩ => ⟨S512, .f32⟩
  | .hbm, ⟨48, _⟩ => ⟨S16x4096x512, .f32⟩
  | .hbm, ⟨49, _⟩ => ⟨S1x1x512, .f32⟩
  | .hbm, ⟨50, _⟩ => ⟨S16x4096x512, .f32⟩
  | .hbm, ⟨51, _⟩ => ⟨S16x4096x512, .f32⟩
  | .hbm, ⟨52, _⟩ => ⟨S1x512, .f32⟩
  | .hbm, ⟨53, _⟩ => ⟨S512, .f32⟩
  | .hbm, ⟨54, _⟩ => ⟨S16x4096x512, .f32⟩
  | .hbm, ⟨55, _⟩ => ⟨S1x1x512, .f32⟩
  | .hbm, ⟨56, _⟩ => ⟨S16x4096x512, .f32⟩
  | .hbm, ⟨57, _⟩ => ⟨S16x4096x512, .f32⟩
  | .hbm, ⟨58, _⟩ => ⟨S16x4096x512, .f32⟩
  | .hbm, ⟨59, _⟩ => ⟨S1x512, .f32⟩
  | .hbm, ⟨60, _⟩ => ⟨S512, .f32⟩
  | .hbm, ⟨61, _⟩ => ⟨S16x4096x512, .f32⟩
  | .hbm, ⟨62, _⟩ => ⟨S1x1x512, .f32⟩
  | .hbm, ⟨63, _⟩ => ⟨S16x4096x512, .f32⟩
  | .hbm, ⟨64, _⟩ => ⟨S16x4096x512, .f32⟩
  | .hbm, ⟨65, _⟩ => ⟨S16x4096x512, .f32⟩
  | .hbm, ⟨66, _⟩ => ⟨S16x4096x512, .bf16⟩
  | .hbm, ⟨67, _⟩ => ⟨S16x4096x512, .f32⟩
  | .hbm, ⟨68, _⟩ => ⟨S16x4096x512, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Proof.Base.lean ====
/- The experts' call: names used by the run's proof. The slot a grid point works on and the other slot, the four
   semaphores, a row of each array as the body's transfers spell it, and the families of rows that make up the arrays. -/
module

public import proofs.«01_k».proof.Proof.Gen.KernelIdeal.Skeleton
public import proofs.«01_k».proof.Proof.Gen.KernelIdeal.Launch
public import Idealize.ShloMosaic.Lib.Batch
public import Idealize.ShloMosaic.Lib.Ring
public import Idealize.ShloMosaic.Lib.Tactic
public import Idealize.ShloMosaic.Lib.ValueLayout
public import Idealize.ShloMosaic.Lib.Pipeline.FrameBody

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-- The proof's algebra: the pipeline's cells beside the transfers' counters. -/
local notation "𝕄" => MT nD τ sig Unit (Elt F) ℕ (Pipeline.UD sig nD τ) ℕ

/-! ## Slots -/

/-- The number of the grid point. -/
abbrev pt (i : grid0.Coords) : ℕ := (i 0).val

theorem pt_lt (i : grid0.Coords) : pt i < 264 := (i 0).isLt

/-- The grid point of number `n`. -/
def mk (n : Fin 264) : grid0.Coords
  | ⟨0, _⟩ => n
  | ⟨k + 1, h⟩ => absurd h (Nat.not_lt.2 (Nat.le_add_left 1 k))

/-- The slot of point `n`, as a word. -/
theorem slot_word : ∀ n : Fin 264, k0_off5 (mk n) 0 = n.val % 2 := by decide +kernel
/-- The other slot. -/
theorem other_word : ∀ n : Fin 264, k0_off11 (mk n) 0 = 1 - n.val % 2 := by decide +kernel

theorem coords_eq (i : grid0.Coords) : mk (i 0) = i := by
  funext a
  obtain ⟨k, h⟩ := a
  cases k with
  | zero => rfl
  | succ k => exact absurd h (Nat.not_lt.2 (Nat.le_add_left 1 k))

theorem slot_eq (i : grid0.Coords) : k0_off5 i 0 = pt i % 2 := by
  have h := slot_word (i 0); rwa [coords_eq i] at h
theorem other_eq (i : grid0.Coords) : k0_off11 i 0 = 1 - pt i % 2 := by
  have h := other_word (i 0); rwa [coords_eq i] at h

/-- The first point's condition, -/
theorem cond1_word : ∀ n : Fin 264, Iff (k0_cond1 (mk n) = 1#1) (n.val = 0) := by decide +kernel
/-- every later point's, -/
theorem cond2_word : ∀ n : Fin 264, Iff (k0_cond2 (mk n) = 1#1) (0 < n.val) := by decide +kernel
/-- the last point's. -/
theorem cond3_word : ∀ n : Fin 264, Iff (k0_cond3 (mk n) = 1#1) (n.val = 263) := by decide +kernel

theorem cond1_iff (i : grid0.Coords) : Iff (k0_cond1 i = 1#1) (pt i = 0) := by
  have h := cond1_word (i 0); rwa [coords_eq i] at h
theorem cond2_iff (i : grid0.Coords) : Iff (k0_cond2 i = 1#1) (0 < pt i) := by
  have h := cond2_word (i 0); rwa [coords_eq i] at h
theorem cond3_iff (i : grid0.Coords) : Iff (k0_cond3 i = 1#1) (pt i = 263) := by
  have h := cond3_word (i 0); rwa [coords_eq i] at h

theorem iv_toNat (k : ℕ) (h : k < 512) : (Scf.iv 0#32 1#32 k).toNat = k := by
  have h2 := k0_off2_eq ⟨k, h⟩
  exact congrFun h2 0

/-- A one-entry offset from its entry; -/
theorem off1 {o : Fin 1 → ℕ} {a : ℕ} (h : o 0 = a) : o = ![a] := by
  funext x; rw [Subsingleton.elim x 0]; exact h
/-- and a three-entry one. -/
theorem off3 {o : Fin 3 → ℕ} {a b d : ℕ} (h0 : o 0 = a) (h1 : o 1 = b) (h2 : o 2 = d) : o = ![a, b, d] := by
  funext x; fin_cases x
  · exact h0
  · exact h1
  · exact h2

theorem off5_eq (i : grid0.Coords) : k0_off5 i = ![pt i % 2] := off1 (slot_eq i)
theorem off6_eq (i : grid0.Coords) (k : Fin k0_t2_loop.trips) : k0_off6 i k = ![pt i % 2, k.val, 0] :=
  off3 (slot_eq i) (iv_toNat k.val k.isLt) rfl
theorem off7_eq (i : grid0.Coords) : k0_off7 i = ![pt i % 2] := off1 (slot_eq i)
theorem off9_eq (i : grid0.Coords) : k0_off9 i = ![pt i % 2, 0, 0] := off3 (slot_eq i) rfl rfl
theorem off11_eq (i : grid0.Coords) : k0_off11 i = ![1 - pt i % 2] := off1 (other_eq i)
theorem off12_eq (i : grid0.Coords) (k : Fin k0_t4_loop.trips) : k0_off12 i k = ![1 - pt i % 2, 2 * k.val, 0] :=
  off3 (other_eq i) (congrFun (k0_off10_eq k) 0) rfl
theorem off15_eq (i : grid0.Coords) : k0_off15 i = ![1 - pt i % 2] := off1 (other_eq i)
theorem off16_eq (i : grid0.Coords) (k : Fin k0_t4_loop.trips) : k0_off16 i k = ![1 - pt i % 2, 2 * k.val + 1, 0] :=
  off3 (other_eq i) (congrFun (k0_off14_eq k) 0) rfl
theorem off19_eq (i : grid0.Coords) : k0_off19 i = ![1 - pt i % 2] := off1 (other_eq i)
theorem off21_eq (i : grid0.Coords) (k : Fin k0_t5_loop.trips) : k0_off21 i k = ![1 - pt i % 2, 2 * k.val, 0] :=
  off3 (other_eq i) (congrFun (k0_off18_eq k) 0) rfl
theorem off23_eq (i : grid0.Coords) : k0_off23 i = ![1 - pt i % 2] := off1 (other_eq i)
theorem off25_eq (i : grid0.Coords) (k : Fin k0_t5_loop.trips) : k0_off25 i k = ![1 - pt i % 2, 2 * k.val + 1, 0] :=
  off3 (other_eq i) (congrFun (k0_off22_eq k) 0) rfl
theorem off26_eq (i : grid0.Coords) : k0_off26 i = ![1 - pt i % 2] := off1 (other_eq i)
theorem off28_eq (i : grid0.Coords) : k0_off28 i = ![1 - pt i % 2] := off1 (other_eq i)
theorem off31_eq (i : grid0.Coords) : k0_off31 i = ![pt i % 2] := off1 (slot_eq i)
theorem off33_eq (i : grid0.Coords) (k : Fin k0_t8_loop.trips) : k0_off33 i k = ![pt i % 2, k.val, 0] :=
  off3 (slot_eq i) (iv_toNat k.val k.isLt) rfl
theorem off34_eq (i : grid0.Coords) : k0_off34 i = ![pt i % 2] := off1 (slot_eq i)

/-! ## Semaphores -/

/-- The semaphore the gathers into slot `s` complete on, -/
def gsem (s : Fin 2) : DmaSem sig := ⟨11 + s.val, by have := s.isLt; show 11 + s.val < 15; omega⟩
/-- and the one the scatters out of slot `s` complete on. -/
def ssem (s : Fin 2) : DmaSem sig := ⟨13 + s.val, by have := s.isLt; show 13 + s.val < 15; omega⟩

theorem gsem_eq (s : Fin 2) {o : Fin 1 → ℕ} (e : o = ![s.val]) (h : ∀ a, o a + S1.size a ≤ S2.size a) :
    ((cc0_scratch2.slice (Rect.unit (s := S2) o S1.size h)).squeeze S_ squeezes_S1_S_).sem = gsem s := by
  subst e; revert h; revert s; decide +kernel
theorem ssem_eq (s : Fin 2) {o : Fin 1 → ℕ} (e : o = ![s.val]) (h : ∀ a, o a + S1.size a ≤ S2.size a) :
    ((cc0_scratch3.slice (Rect.unit (s := S2) o S1.size h)).squeeze S_ squeezes_S1_S_).sem = ssem s := by
  subst e; revert h; revert s; decide +kernel

/-! ## Rows -/

/-- Row `r` of slot `s` lies in a two-slot buffer, -/
theorem inbB (s r : ℕ) (hs : s < 2) (hr : r < 512) : ∀ a, (![s, r, 0] : Fin 3 → ℕ) a + S1x1x1024.size a ≤ S2x512x1024.size a := by
  intro a; fin_cases a
  · show s + 1 ≤ 2; omega
  · show r + 1 ≤ 512; omega
  · show 0 + 1024 ≤ 1024; omega
/-- row `n` in the token array, -/
theorem inbH (n : ℕ) (h : n < 65536) : ∀ a, (![n, 0] : Fin 2 → ℕ) a + S1x1024.size a ≤ S65536x1024.size a := by
  intro a; fin_cases a
  · show n + 1 ≤ 65536; omega
  · show 0 + 1024 ≤ 1024; omega
/-- row `n` in the result. -/
theorem inbY (n : ℕ) (h : n < 135680) : ∀ a, (![n, 0] : Fin 2 → ℕ) a + S1x1024.size a ≤ S135680x1024.size a := by
  intro a; fin_cases a
  · show n + 1 ≤ 135680; omega
  · show 0 + 1024 ≤ 1024; omega

/-- The elements of row `r` of slot `s` of a two-slot buffer, -/
def bset (s r : ℕ) : Finset S2x512x1024.Idx := Finset.univ.filter fun y => And ((y 0).val = s) ((y 1).val = r)
/-- of row `n` of the token array, -/
def hset (n : ℕ) : Finset S65536x1024.Idx := Finset.univ.filter fun y => (y 0).val = n
/-- of row `n` of the result. -/
def yset (n : ℕ) : Finset S135680x1024.Idx := Finset.univ.filter fun y => (y 0).val = n

theorem mem_bset {s r : ℕ} {y : S2x512x1024.Idx} : Iff (y ∈ bset s r) (And ((y 0).val = s) ((y 1).val = r)) := by simp [bset]
theorem mem_hset {n : ℕ} {y : S65536x1024.Idx} : Iff (y ∈ hset n) ((y 0).val = n) := by simp [hset]
theorem mem_yset {n : ℕ} {y : S135680x1024.Idx} : Iff (y ∈ yset n) ((y 0).val = n) := by simp [yset]

/-- A row of the gathered rows' buffer as a transfer names it, -/
abbrev rowG (o : Fin 3 → ℕ) (h : ∀ a, o a + S1x1x1024.size a ≤ S2x512x1024.size a) : Memref sig .tc .vmem S1x1024 .f32 :=
  ((Memref.whole cc0_scratch0 : Memref sig .tc .vmem S2x512x1024 .f32).slice (Rect.unit (s := S2x512x1024) o S1x1x1024.size h) (fun _ => rfl)).squeeze S1x1024 squeezes_S1x1x1024_S1x1024
/-- of the results' buffer, -/
abbrev rowR (o : Fin 3 → ℕ) (h : ∀ a, o a + S1x1x1024.size a ≤ S2x512x1024.size a) : Memref sig .tc .vmem S1x1024 .f32 :=
  ((Memref.whole cc0_scratch1 : Memref sig .tc .vmem S2x512x1024 .f32).slice (Rect.unit (s := S2x512x1024) o S1x1x1024.size h) (fun _ => rfl)).squeeze S1x1024 squeezes_S1x1x1024_S1x1024
/-- of the token array, -/
abbrev rowH (o : Fin 2 → ℕ) (h : ∀ a, o a + S1x1024.size a ≤ S65536x1024.size a) : Memref sig .tc .hbm S1x1024 .f32 :=
  (Memref.whole main_arg0 : Memref sig .tc .hbm S65536x1024 .f32).slice (Rect.unit (s := S65536x1024) o S1x1024.size h) (fun _ => rfl)
/-- of the result. -/
abbrev rowY (o : Fin 2 → ℕ) (h : ∀ a, o a + S1x1024.size a ≤ S135680x1024.size a) : Memref sig .tc .hbm S1x1024 .f32 :=
  (Memref.whole main_v3 : Memref sig .tc .hbm S135680x1024 .f32).slice (Rect.unit (s := S135680x1024) o S1x1024.size h) (fun _ => rfl)

theorem rect_b {s r : ℕ} (h : ∀ a, (![s, r, 0] : Fin 3 → ℕ) a + S1x1x1024.size a ≤ S2x512x1024.size a) :
    (Rect.unit (s := S2x512x1024) ![s, r, 0] S1x1x1024.size h).set = bset s r := by
  ext y
  rw [Rect.mem_set_unit, mem_bset]
  have h2 : (y 2).val < 1024 := (y 2).isLt
  constructor
  · intro H; have a0 : s ≤ (y 0).val ∧ (y 0).val < s + 1 := H 0; have a1 : r ≤ (y 1).val ∧ (y 1).val < r + 1 := H 1; omega
  · intro H a; fin_cases a
    · show s ≤ (y 0).val ∧ (y 0).val < s + 1; omega
    · show r ≤ (y 1).val ∧ (y 1).val < r + 1; omega
    · show 0 ≤ (y 2).val ∧ (y 2).val < 0 + 1024; omega

theorem set_g {s r : ℕ} (h) : (rowG ![s, r, 0] h).view.set = bset s r :=
  ((View.set_reshape _ _).trans (View.set_slice_whole _ _)).trans (rect_b h)
theorem set_r {s r : ℕ} (h) : (rowR ![s, r, 0] h).view.set = bset s r :=
  ((View.set_reshape _ _).trans (View.set_slice_whole _ _)).trans (rect_b h)
theorem set_h {n : ℕ} (h) : (rowH ![n, 0] h).view.set = hset n := by
  refine (View.set_slice_whole _ _).trans ?_
  ext y
  rw [Rect.mem_set_unit, mem_hset]
  have h2 : (y 1).val < 1024 := (y 1).isLt
  constructor
  · intro H; have a0 : n ≤ (y 0).val ∧ (y 0).val < n + 1 := H 0; omega
  · intro H a; fin_cases a
    · show n ≤ (y 0).val ∧ (y 0).val < n + 1; omega
    · show 0 ≤ (y 1).val ∧ (y 1).val < 0 + 1024; omega
theorem set_y {n : ℕ} (h) : (rowY ![n, 0] h).view.set = yset n := by
  refine (View.set_slice_whole _ _).trans ?_
  ext y
  rw [Rect.mem_set_unit, mem_yset]
  have h2 : (y 1).val < 1024 := (y 1).isLt
  constructor
  · intro H; have a0 : n ≤ (y 0).val ∧ (y 0).val < n + 1 := H 0; omega
  · intro H a; fin_cases a
    · show n ≤ (y 0).val ∧ (y 0).val < n + 1; omega
    · show 0 ≤ (y 1).val ∧ (y 1).val < 0 + 1024; omega

/-! ## Where a row's entries lie -/

theorem emb_g {s r : ℕ} (h) (hs : s < 2) (hr : r < 512) (l : Fin 1024) :
    (rowG ![s, r, 0] h).view.emb (ix2 (0 : Fin 1) l) = (ix3 ⟨s, hs⟩ ⟨r, hr⟩ l : S2x512x1024.Idx) := by
  show (Rect.unit (s := S2x512x1024) ![s, r, 0] S1x1x1024.size h).emb (Shape.reshapeEquiv squeezes_S1x1x1024_S1x1024.numel_eq (ix2 (0 : Fin 1) l)) = _
  rw [reshapeEquiv_ix2_1ab]
  funext a
  fin_cases a
  · exact Fin.ext (show s + 1 * 0 = s by omega)
  · exact Fin.ext (show r + 1 * 0 = r by omega)
  · exact Fin.ext (show 0 + 1 * l.val = l.val by omega)
theorem emb_r {s r : ℕ} (h) (hs : s < 2) (hr : r < 512) (l : Fin 1024) :
    (rowR ![s, r, 0] h).view.emb (ix2 (0 : Fin 1) l) = (ix3 ⟨s, hs⟩ ⟨r, hr⟩ l : S2x512x1024.Idx) := emb_g h hs hr l
theorem emb_h {n : ℕ} (h) (hn : n < 65536) (l : Fin 1024) :
    (rowH ![n, 0] h).view.emb (ix2 (0 : Fin 1) l) = (ix2 ⟨n, hn⟩ l : S65536x1024.Idx) := by
  funext a
  fin_cases a
  · exact Fin.ext (show n + 1 * 0 = n by omega)
  · exact Fin.ext (show 0 + 1 * l.val = l.val by omega)
theorem emb_y {n : ℕ} (h) (hn : n < 135680) (l : Fin 1024) :
    (rowY ![n, 0] h).view.emb (ix2 (0 : Fin 1) l) = (ix2 ⟨n, hn⟩ l : S135680x1024.Idx) := by
  funext a
  fin_cases a
  · exact Fin.ext (show n + 1 * 0 = n by omega)
  · exact Fin.ext (show 0 + 1 * l.val = l.val by omega)

/-- A gathered row: what the transfer leaves in row `r` of slot `s` is row `n` of the token array. -/
theorem gather_write {s r n : ℕ} (hb) (hh) (hs : s < 2) (hr : r < 512) (hn : n < 65536)
    (f g : S2x512x1024.Idx → Elt F .f32) (h0 : S65536x1024.Idx → Elt F .f32)
    (hg : ∀ l, g (ix3 ⟨s, hs⟩ ⟨r, hr⟩ l) = h0 (ix2 ⟨n, hn⟩ l)) :
    ∀ y ∈ bset s r, (rowG ![s, r, 0] hb).view.write (Elt F) f (ReadAs.same.apply ((rowH ![n, 0] hh).view.read (Elt F) h0)) Finset.univ y = g y := by
  intro y hy
  obtain ⟨e0, e1⟩ := mem_bset.1 hy
  obtain ⟨l, e⟩ : ∃ l : Fin 1024, y = ix3 ⟨s, hs⟩ ⟨r, hr⟩ l := ⟨y 2, by
    funext a; fin_cases a
    · exact Fin.ext e0
    · exact Fin.ext e1
    · rfl⟩
  subst e
  refine (congrArg _ (emb_g hb hs hr l).symm).trans ((View.write_emb_of_mem _ _ (Finset.mem_univ _)).trans ?_)
  exact (congrArg h0 (emb_h hh hn l)).trans (hg l).symm

/-- A scattered row: what the transfer leaves in row `n` of the result is row `r` of slot `s`. -/
theorem scatter_write {s r n : ℕ} (hb) (hh) (hs : s < 2) (hr : r < 512) (hn : n < 135680)
    (f g : S135680x1024.Idx → Elt F .f32) (h0 : S2x512x1024.Idx → Elt F .f32)
    (hg : ∀ l, g (ix2 ⟨n, hn⟩ l) = h0 (ix3 ⟨s, hs⟩ ⟨r, hr⟩ l)) :
    ∀ y ∈ yset n, (rowY ![n, 0] hh).view.write (Elt F) f (ReadAs.same.apply ((rowR ![s, r, 0] hb).view.read (Elt F) h0)) Finset.univ y = g y := by
  intro y hy
  have e0 := mem_yset.1 hy
  obtain ⟨l, e⟩ : ∃ l : Fin 1024, y = ix2 ⟨n, hn⟩ l := ⟨y 1, by
    funext a; fin_cases a
    · exact Fin.ext e0
    · rfl⟩
  subst e
  refine (congrArg _ (emb_y hh hn l).symm).trans ((View.write_emb_of_mem _ _ (Finset.mem_univ _)).trans ?_)
  exact (congrArg h0 (emb_r hb hs hr l)).trans (hg l).symm

end Cert.Experts

end
-- ==== Proof.Loops.lean ====
/- The experts' call: what a transfer of one row takes and hands back, and the counted loops that issue and drain a
   tile's 512 transfers. -/
module

public import proofs.«01_k».proof.Proof.Base

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- A two-slot buffer's contents, the token array's and the result's. -/
abbrev BufB (F : FTy → Type) : Type := S2x512x1024.Idx → Elt F .f32
abbrev BufH (F : FTy → Type) : Type := S65536x1024.Idx → Elt F .f32
abbrev BufY (F : FTy → Type) : Type := S135680x1024.Idx → Elt F .f32

/-- The gathered rows of tile `t`, in either slot: row `r` is the token row the table names. -/
def gathered (h0 : BufH F) (σ : ℕ → ℕ) (hσ : ∀ n, σ n < 65536) (t : ℕ) : BufB F :=
  fun y => h0 (ix2 ⟨σ (t * 512 + (y 1).val), hσ _⟩ (y 2))

section Family

variable (c : Dev nD)

/-- Elements of the gathered rows' buffer, of the results' buffer, of the token array and of the result. -/
abbrev ptG (I : Finset S2x512x1024.Idx) (f : BufB F) : sProp 𝕄 := ((c : Thread nD τ).loc cc0_scratch0) ↦[I]{fullShare} f
abbrev ptR (I : Finset S2x512x1024.Idx) (f : BufB F) : sProp 𝕄 := ((c : Thread nD τ).loc cc0_scratch1) ↦[I]{fullShare} f
abbrev ptH (I : Finset S65536x1024.Idx) (q : PosShare TreeShare) (f : BufH F) : sProp 𝕄 := ((c : Thread nD τ).loc main_arg0) ↦[I]{q} f
abbrev ptY (I : Finset S135680x1024.Idx) (f : BufY F) : sProp 𝕄 := ((c : Thread nD τ).loc main_v3) ↦[I]{fullShare} f

/-- The share of the token array transfer `j` of a tile reads by. -/
abbrev tok (j : ℕ) : PosShare TreeShare := Transfers.shareTokN fullShare j

/-- What a tile's gathers take: row `j` of the slot and the token row by its share; -/
def gTake (h0 : BufH F) (σ : ℕ → ℕ) (s : Fin 2) (t : ℕ) (f : BufB F) (j : Fin 512) : sProp 𝕄 :=
  iprop(ptG c (bset s.val j.val) f ∗ ptH c (hset (σ (t * 512 + j.val))) (tok j.val) h0)
/-- what they hand back: the same with the row gathered. -/
def gGive (h0 : BufH F) (σ : ℕ → ℕ) (hσ : ∀ n, σ n < 65536) (s : Fin 2) (t : ℕ) (j : Fin 512) : sProp 𝕄 :=
  iprop(ptG c (bset s.val j.val) (gathered h0 σ hσ t) ∗ ptH c (hset (σ (t * 512 + j.val))) (tok j.val) h0)
/-- What a block's scatters take: the result's row and row `j` of the slot; -/
def sTake (y0 : BufY F) (δ : ℕ → ℕ) (s : Fin 2) (q : ℕ) (g : BufB F) (j : Fin 512) : sProp 𝕄 :=
  iprop(ptY c (yset (δ (q * 512 + j.val))) y0 ∗ ptR c (bset s.val j.val) g)

instance gGive_storable (h0 : BufH F) (σ : ℕ → ℕ) (hσ : ∀ n, σ n < 65536) (s : Fin 2) (t : ℕ) (j : Fin 512) :
    BI.Storable (upEmb : UEmb _ 𝕄) (gGive c h0 σ hσ s t j) := by unfold gGive; infer_instance
instance sTake_storable (y0 : BufY F) (δ : ℕ → ℕ) (s : Fin 2) (q : ℕ) (g : BufB F) (j : Fin 512) :
    BI.Storable (upEmb : UEmb _ 𝕄) (sTake c y0 δ s q g j) := by unfold sTake; infer_instance

/-- One row's credit. -/
abbrev NN : ℕ := (rowY ![0, 0] inb_S135680x1024_S1x1024_0_0).view.dmaCredit

/-- A tile's gathers on their semaphore, `j` issued and `u` consumed; -/
abbrev gBatch (h0 : BufH F) (σ : ℕ → ℕ) (hσ : ∀ n, σ n < 65536) (s : Fin 2) (t j u : ℕ) : sProp 𝕄 :=
  Transfers.Batch (countersEmb (U := Pipeline.UD sig nD τ)) (c : Thread nD τ) (.dma (gsem s)) () NN (gGive c h0 σ hσ s t) j u
/-- a block's scatters on theirs. -/
abbrev sBatch (Y : BufY F) (δ : ℕ → ℕ) (s : Fin 2) (q : ℕ) (g : BufB F) (j u : ℕ) : sProp 𝕄 :=
  Transfers.Batch (countersEmb (U := Pipeline.UD sig nD τ)) (c : Thread nD τ) (.dma (ssem s)) () NN (sTake c Y δ s q g) j u

end Family

variable {c : Dev nD} {𝒱 : Variants}

/-- ONE GATHER: row `j` of the slot and its token row go in, the batch counts one more. -/
theorem gather_one {α : Type} (h0 : BufH F) (σ : ℕ → ℕ) (hσ : ∀ n, σ n < 65536) (s : Fin 2) (t : ℕ) (f : BufB F) (j : ℕ) (hj : j < 512)
    {o3 : Fin 3 → ℕ} (e3 : o3 = ![s.val, j, 0]) (h3) {o2 : Fin 2 → ℕ} (e2 : o2 = ![σ (t * 512 + j), 0]) (h2)
    {sm : DmaSem sig} (es : sm = gsem s) {hs hd ht}
    {k : PUnit → Prog (TpuEff nD τ sig (Elt F) Λ₀ .tc) α} {Q : α → sProp 𝕄} :
    iprop(gTake c h0 σ s t f ⟨j, hj⟩ ∗ gBatch c h0 σ hσ s t j 0)
      ⊢ iprop((gBatch c h0 σ hσ s t (j + 1) 0 -∗ wp frame (wpE defs₀ 𝒱 (c : Thread nD τ) none) Set.univ (k ⟨⟩) Q)
          -∗ wp frame (wpE defs₀ 𝒱 (c : Thread nD τ) none) Set.univ (Prog.lift (.enqueueDma (rowH o2 h2) (.here (rowG o3 h3)) (.dma sm) hs hd ht) >>= k) Q) := by
  subst e3 e2 es
  unfold gTake
  iintro ⟨⟨Hd, Hs⟩, HB⟩ Hk
  iapply (Transfers.wp_dmaBatch (countersEmb (U := Pipeline.UD sig nD τ)) 𝒱 (c : Thread nD τ) none (src := rowH _ h2) (dst := rowG _ h3)
    (Sd := bset s.val j) (fd := f) (fs := h0) (q := tok j) (D := gGive c h0 σ hσ s t) () NN rfl (subset_of_eq (set_g h3)) hj (Nat.zero_le _) ?_) $$ [Hd Hs HB]
  · unfold gGive
    refine BIClass.sep_mono (Entails.of_eq (pointsTo_congr (gather_write (n := σ (t * 512 + j)) h3 h2 s.isLt hj (hσ _) f _ h0 fun l => rfl))) ?_
    rw [set_h h2]
  · isplitl [Hs]
    · rw [set_h h2]; iexact Hs
    isplitl [Hd] <;> iassumption
  iexact Hk

/-- ONE SCATTER: row `j` of the slot goes to the result's row the table names. -/
theorem scatter_one {α : Type} (y0 Y : BufY F) (δ : ℕ → ℕ) (hδ : ∀ n, δ n < 135680) (s : Fin 2) (q : ℕ) (g : BufB F) (j : ℕ) (hj : j < 512)
    (hY : ∀ l : Fin 1024, Y (ix2 ⟨δ (q * 512 + j), hδ _⟩ l) = g (ix3 s ⟨j, hj⟩ l))
    {o3 : Fin 3 → ℕ} (e3 : o3 = ![s.val, j, 0]) (h3) {o2 : Fin 2 → ℕ} (e2 : o2 = ![δ (q * 512 + j), 0]) (h2)
    {sm : DmaSem sig} (es : sm = ssem s) {hs hd ht}
    {k : PUnit → Prog (TpuEff nD τ sig (Elt F) Λ₀ .tc) α} {Q : α → sProp 𝕄} :
    iprop(sTake c y0 δ s q g ⟨j, hj⟩ ∗ sBatch c Y δ s q g j 0)
      ⊢ iprop((sBatch c Y δ s q g (j + 1) 0 -∗ wp frame (wpE defs₀ 𝒱 (c : Thread nD τ) none) Set.univ (k ⟨⟩) Q)
          -∗ wp frame (wpE defs₀ 𝒱 (c : Thread nD τ) none) Set.univ (Prog.lift (.enqueueDma (rowR o3 h3) (.here (rowY o2 h2)) (.dma sm) hs hd ht) >>= k) Q) := by
  subst e3 e2 es
  iintro ⟨HT, HB⟩ Hk
  unfold sTake
  icases HT with ⟨Hd, Hs⟩
  iapply (Transfers.wp_dmaBatch (countersEmb (U := Pipeline.UD sig nD τ)) 𝒱 (c : Thread nD τ) none (src := rowR _ h3) (dst := rowY _ h2)
    (Sd := yset (δ (q * 512 + j))) (fd := y0) (fs := g) (q := fullShare) (D := sTake c Y δ s q g) () NN rfl (subset_of_eq (set_y h2)) hj (Nat.zero_le _) ?_) $$ [Hd Hs HB]
  · unfold sTake
    refine BIClass.sep_mono (Entails.of_eq (pointsTo_congr (scatter_write (n := δ (q * 512 + j)) h3 h2 s.isLt hj (hδ _) y0 Y g hY))) ?_
    rw [set_r h3]
  · isplitl [Hs]
    · rw [set_r h3]; iexact Hs
    isplitl [Hd] <;> iassumption
  iexact Hk

/-- A word of a staged table, loaded. -/
theorem word_load {α : Type} (m : Memref sig .tc .smem S512 .i32) (W : S512.Idx → BitVec 32) (j : ℕ) (hj : j < 512)
    {o : Fin 1 → ℕ} (e : o = ![j]) (h)
    {k : BitVec 32 → Prog (TpuEff nD τ sig (Elt F) Λ₀ .tc) α} {Q : α → sProp 𝕄} :
    (owns (c : Thread nD τ) m fullShare W : sProp 𝕄)
      ⊢ iprop((owns (c : Thread nD τ) m fullShare W -∗ wp frame (wpE defs₀ 𝒱 (c : Thread nD τ) none) Set.univ (k (W (ix1 ⟨j, hj⟩))) Q)
          -∗ wp frame (wpE defs₀ 𝒱 (c : Thread nD τ) none) Set.univ (smemLoad m (Rect.unit (s := S512) o S1.size h) numel1_S1 rfl >>= k) Q) := by
  subst e
  show _ ⊢ iprop(_ -∗ wp frame (wpE defs₀ 𝒱 (c : Thread nD τ) none) Set.univ (smemLoadElt m (Rect.unit (s := S512) ![j] S1.size h)
    (View.loads_smem_one rfl numel1_S1) (Shape.Idx.first (numel1_S1.symm ▸ Nat.one_pos)) k) Q)
  unfold owns
  iintro ⟨%f, %hf, H⟩ Hk
  have hx : (m.access (Rect.unit (s := S512) ![j] S1.size h)).read (Elt F) f (Shape.Idx.first (numel1_S1.symm ▸ Nat.one_pos)) = W (ix1 ⟨j, hj⟩) := by
    rw [← hf]
    refine (congrArg (m.view.read (Elt F) f) (?_ : (Rect.unit (s := S512) ![j] S1.size h).emb _ = ix1 ⟨j, hj⟩))
    funext a; rw [Subsingleton.elim a 0]
    exact Fin.ext (show j + 1 * ((Shape.Idx.first (s := S1) _) 0).val = j by
      have : ((Shape.Idx.first (s := S1) (numel1_S1.symm ▸ Nat.one_pos)) 0).val < 1 := Fin.isLt _
      omega)
  iapply (wp_smemLoadElt 𝒱 (c : Thread nD τ) none Set.univ (m := m) (r := Rect.unit (s := S512) ![j] S1.size h)
    (View.set_slice_subset m.view (Rect.unit (s := S512) ![j] S1.size h))) $$ H
  iintro H
  simp only [hx]
  iapply Hk
  iexists f
  isplitr; · ipureintro; exact hf
  iexact H

/-- A check that holds. -/
theorem check {α : Type} {C : Prop} {d : Decidable C} (h : C)
    {k : PLift C → Prog (TpuEff nD τ sig (Elt F) Λ₀ .tc) α} {Q : α → sProp 𝕄} :
    wp frame (wpE defs₀ 𝒱 (c : Thread nD τ) none) Set.univ (k ⟨h⟩) Q
      ⊢ (wp frame (wpE defs₀ 𝒱 (c : Thread nD τ) none) Set.univ (Prog.lift (.assume C d) >>= k) Q : sProp 𝕄) :=
  wp_assume 𝒱 (c : Thread nD τ) none Set.univ h

/-- Before trip `k` of a loop that issues a tile's gathers, `w` to a trip: `w * k` issued, the rows from there on in hand, the
    tile's piece of the table staged. -/
def gInv (c : Dev nD) (m : Memref sig .tc .smem S512 .i32) (W : S512.Idx → BitVec 32) (h0 : BufH F) (σ : ℕ → ℕ) (hσ : ∀ n, σ n < 65536)
    (s : Fin 2) (t : ℕ) (f : BufB F) (n : ℕ) : sProp 𝕄 :=
  iprop(owns (c : Thread nD τ) m fullShare W ∗ bigSep (Ring.rangeSet 512 n 512) (gTake c h0 σ s t f) ∗ gBatch c h0 σ hσ s t n 0)

/-- The same of a block's scatters. -/
def sInv (c : Dev nD) (m : Memref sig .tc .smem S512 .i32) (W : S512.Idx → BitVec 32) (y0 Y : BufY F) (δ : ℕ → ℕ)
    (s : Fin 2) (q : ℕ) (g : BufB F) (n : ℕ) : sProp 𝕄 :=
  iprop(owns (c : Thread nD τ) m fullShare W ∗ bigSep (Ring.rangeSet 512 n 512) (sTake c y0 δ s q g) ∗ sBatch c Y δ s q g n 0)

/-- A checked row of the token array, of the result. -/
theorem inbH' {v : BitVec 32} (h : v.toNat < 65536) : ∀ a, (![v.toNat, 0] : Fin 2 → ℕ) a + S1x1024.size a ≤ S65536x1024.size a := inbH _ h
theorem inbY' {v : BitVec 32} (h : v.toNat < 135680) : ∀ a, (![v.toNat, 0] : Fin 2 → ℕ) a + S1x1024.size a ≤ S135680x1024.size a := inbY _ h

/-- Before trip `n` of a loop that awaits 512 transfers: before the last the batch with `n` rows' credit taken, after it the
    semaphore at zero and everything handed back. -/
def dInv (c : Dev nD) (sm : DmaSem sig) (D : Fin 512 → sProp 𝕄) (n : ℕ) : sProp 𝕄 :=
  iprop((∃ W, owes (c : Thread nD τ) 0 W)
    ∗ (if n < 512 then Transfers.Batch (countersEmb (U := Pipeline.UD sig nD τ)) (c : Thread nD τ) (.dma sm) () NN D 512 (n * NN)
       else iprop(semVal ((c : Thread nD τ), SemLoc.dma sm) 0 ∗ bigSep Finset.univ D)))

/-- A row's credit is positive. -/
theorem NN_pos : 0 < NN := View.dmaCredit_pos _ (by decide)

theorem credit_g (o : Fin 3 → ℕ) (h) : (rowG o h).view.dmaCredit = NN := rfl
theorem credit_y (o : Fin 2 → ℕ) (h) : (rowY o h).view.dmaCredit = NN := rfl

/-- ONE WAIT. -/
theorem wait_one {α : Type} {sp sp' : Space} {sh sh' : Shape} {e e' : EltTy} (sm : DmaSem sig) (D : Fin 512 → sProp 𝕄) (n : ℕ) (hn : n < 512)
    {sm' : DmaSem sig} (es : sm' = sm) {src : Memref sig .tc sp' sh' e'} {dst : Memref sig .tc sp sh e} (hN : dst.view.dmaCredit = NN) {hs hd}
    {k : PUnit → Prog (TpuEff nD τ sig (Elt F) Λ₀ .tc) α} {Q : α → sProp 𝕄} :
    dInv c sm D n
      ⊢ iprop((dInv c sm D (n + 1) -∗ wp frame (wpE defs₀ 𝒱 (c : Thread nD τ) none) Set.univ (k ⟨⟩) Q)
          -∗ wp frame (wpE defs₀ 𝒱 (c : Thread nD τ) none) Set.univ (Prog.lift (.waitDma2 sm' src dst hs hd) >>= k) Q) := by
  subst es
  unfold dInv
  rw [if_pos hn]
  have hp := NN_pos
  rcases Nat.lt_or_ge (n + 1) 512 with h1 | h1
  · rw [if_pos h1]
    have hu : n * NN + NN < NN * 512 := by
      have : (n + 1) * NN < 512 * NN := Nat.mul_lt_mul_of_pos_right h1 hp
      rw [Nat.add_mul, Nat.one_mul] at this; rw [Nat.mul_comm NN]; exact this
    iintro ⟨⟨%W, HO⟩, HB⟩ Hk
    iapply (Transfers.wp_waitBatch (countersEmb (U := Pipeline.UD sig nD τ)) 𝒱 (c : Thread nD τ) none (srcw := src) (dstw := dst) () hN hu) $$ [HO HB]
    · isplitl [HB] <;> iassumption
    iintro ⟨HB, HO⟩
    iapply Hk
    isplitl [HO]; · iexists _; iexact HO
    rw [Nat.add_mul, Nat.one_mul]; iexact HB
  · rw [if_neg (Nat.not_lt.mpr h1)]
    have hu : n * NN + NN = NN * 512 := by
      have : n + 1 = 512 := by omega
      rw [Nat.mul_comm NN, ← this, Nat.add_mul, Nat.one_mul]
    iintro ⟨⟨%W, HO⟩, HB⟩ Hk
    iapply (Transfers.wp_waitBatchLast (countersEmb (U := Pipeline.UD sig nD τ)) 𝒱 (c : Thread nD τ) none (srcw := src) (dstw := dst) () hN hp hu) $$ [HO HB]
    · isplitl [HB] <;> iassumption
    iintro ⟨HD, HS, HO⟩
    iapply Hk
    isplitl [HO]; · iexists _; iexact HO
    isplitl [HS] <;> iassumption

section Steps

variable (i : grid0.Coords) (m2 m3 m4 m5 : Memref sig .tc .smem S512 .i32) (hm2 : m2.IsWhole) (hm3 : m3.IsWhole) (hm4 : m4.IsWhole) (hm5 : m5.IsWhole)
  (m7 m8 : Memref sig .tc .vmem S1x1x1024x3584 .bf16) (hm7 : m7.IsWhole) (hm8 : m8.IsWhole) (m9 : Memref sig .tc .vmem S1x1x3584x1024 .bf16) (hm9 : m9.IsWhole)
  (W : S512.Idx → BitVec 32) (h0 : BufH F) (σ : ℕ → ℕ) (hσ : ∀ n, σ n < 65536) (y0 Y : BufY F) (δ : ℕ → ℕ) (hδ : ∀ n, δ n < 135680)
  (s : Fin 2) (t : ℕ) (f : BufB F)

/-- The first point's own gathers, one to a trip. -/
theorem t1_step (hW : ∀ j : Fin 512, (W (ix1 j)).toNat = σ (t * 512 + j.val)) (hs : s.val = 0) (h1 : k0_cond1 i = 1#1) (k : Fin k0_t1_loop.trips) (acc : Unit) :
    gInv c m2 W h0 σ hσ s t f k.val ⊢ wp frame (wpE defs₀ 𝒱 (c : Thread nD τ) none) Set.univ
      (k0_t1_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h1 k acc)
      (fun _ => gInv c m2 W h0 σ hσ s t f (k.val + 1)) := by
  have hk : k.val < 512 := k.isLt
  have hw := hW ⟨k.val, hk⟩
  have hlt : (W (ix1 ⟨k.val, hk⟩)).toNat < 65536 := by rw [hw]; exact hσ _
  unfold gInv
  rw [Ring.bigSep_rangeSet_head hk hk]
  iintro ⟨HW, ⟨HT, Hr⟩, HB⟩
  dsimp only [k0_t1_body]
  iapply (word_load m2 W k.val hk (k0_off2_eq k) _) $$ HW
  iintro HW
  iapply (check (fun _ => inbH' hlt))
  iapply (gather_one h0 σ hσ s t f k.val hk (by rw [hs]; exact k0_off3_eq k) _ (by rw [← hw]; rfl) _ (gsem_eq s (by rw [hs]) _)) $$ [HT HB]
  · isplitl [HT] <;> iassumption
  iintro HB
  rw [wp_pure]
  isplitl [HW]; · iexact HW
  isplitl [Hr]; · iexact Hr
  iexact HB

theorem twice {k : ℕ} : 2 * (k + 1) = 2 * k + 1 + 1 := by omega

/-- The next tile's gathers, two to a trip. -/
theorem t4_step (hW : ∀ j : Fin 512, (W (ix1 j)).toNat = σ (t * 512 + j.val)) (hs : s.val = 1 - pt i % 2) (k : Fin k0_t4_loop.trips) (acc : Unit) :
    gInv c m3 W h0 σ hσ s t f (2 * k.val) ⊢ wp frame (wpE defs₀ 𝒱 (c : Thread nD τ) none) Set.univ
      (k0_t4_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 k acc)
      (fun _ => gInv c m3 W h0 σ hσ s t f (2 * (k.val + 1))) := by
  have hk : k.val < 256 := k.isLt
  have hk0 : 2 * k.val < 512 := by omega
  have hk1 : 2 * k.val + 1 < 512 := by omega
  have hw0 := hW ⟨2 * k.val, hk0⟩
  have hw1 := hW ⟨2 * k.val + 1, hk1⟩
  have hlt0 : (W (ix1 ⟨2 * k.val, hk0⟩)).toNat < 65536 := by rw [hw0]; exact hσ _
  have hlt1 : (W (ix1 ⟨2 * k.val + 1, hk1⟩)).toNat < 65536 := by rw [hw1]; exact hσ _
  unfold gInv
  rw [twice, Ring.bigSep_rangeSet_head hk0 hk0, Ring.bigSep_rangeSet_head hk1 hk1]
  iintro ⟨HW, ⟨HT, HT1, Hr⟩, HB⟩
  dsimp only [k0_t4_body]
  iapply (word_load m3 W (2 * k.val) hk0 (k0_off10_eq k) _) $$ HW
  iintro HW
  iapply (check (inbH' hlt0))
  iapply (gather_one h0 σ hσ s t f (2 * k.val) hk0 (by rw [hs]; exact off12_eq i k) _ (by rw [← hw0]; rfl) _ (gsem_eq s (by rw [hs]; exact off11_eq i) _)) $$ [HT HB]
  · isplitl [HT] <;> iassumption
  iintro HB
  iapply (word_load m3 W (2 * k.val + 1) hk1 (k0_off14_eq k) _) $$ HW
  iintro HW
  iapply (check (inbH' hlt1))
  iapply (gather_one h0 σ hσ s t f (2 * k.val + 1) hk1 (by rw [hs]; exact off16_eq i k) _ (by rw [← hw1]; rfl) _ (gsem_eq s (by rw [hs]; exact off15_eq i) _)) $$ [HT1 HB]
  · isplitl [HT1] <;> iassumption
  iintro HB
  rw [wp_pure]
  isplitl [HW]; · iexact HW
  isplitl [Hr]; · iexact Hr
  iexact HB

/-- The previous block's scatters, two to a trip. -/
theorem t5_step (hW : ∀ j : Fin 512, (W (ix1 j)).toNat = δ (t * 512 + j.val)) (hs : s.val = 1 - pt i % 2)
    (hY : ∀ (j : Fin 512) (l : Fin 1024), Y (ix2 ⟨δ (t * 512 + j.val), hδ _⟩ l) = f (ix3 s j l)) (k : Fin k0_t5_loop.trips) (acc : Unit) :
    sInv c m4 W y0 Y δ s t f (2 * k.val) ⊢ wp frame (wpE defs₀ 𝒱 (c : Thread nD τ) none) Set.univ
      (k0_t5_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 k acc)
      (fun _ => sInv c m4 W y0 Y δ s t f (2 * (k.val + 1))) := by
  have hk : k.val < 256 := k.isLt
  have hk0 : 2 * k.val < 512 := by omega
  have hk1 : 2 * k.val + 1 < 512 := by omega
  have hw0 := hW ⟨2 * k.val, hk0⟩
  have hw1 := hW ⟨2 * k.val + 1, hk1⟩
  have hlt0 : (W (ix1 ⟨2 * k.val, hk0⟩)).toNat < 135680 := by rw [hw0]; exact hδ _
  have hlt1 : (W (ix1 ⟨2 * k.val + 1, hk1⟩)).toNat < 135680 := by rw [hw1]; exact hδ _
  unfold sInv
  rw [twice, Ring.bigSep_rangeSet_head hk0 hk0, Ring.bigSep_rangeSet_head hk1 hk1]
  iintro ⟨HW, ⟨HT, HT1, Hr⟩, HB⟩
  dsimp only [k0_t5_body]
  iapply (word_load m4 W (2 * k.val) hk0 (k0_off18_eq k) _) $$ HW
  iintro HW
  iapply (check (inbY' hlt0))
  iapply (scatter_one y0 Y δ hδ s t f (2 * k.val) hk0 (hY ⟨_, hk0⟩) (by rw [hs]; exact off21_eq i k) _ (by rw [← hw0]; rfl) _ (ssem_eq s (by rw [hs]; exact off19_eq i) _)) $$ [HT HB]
  · isplitl [HT] <;> iassumption
  iintro HB
  iapply (word_load m4 W (2 * k.val + 1) hk1 (k0_off22_eq k) _) $$ HW
  iintro HW
  iapply (check (inbY' hlt1))
  iapply (scatter_one y0 Y δ hδ s t f (2 * k.val + 1) hk1 (hY ⟨_, hk1⟩) (by rw [hs]; exact off25_eq i k) _ (by rw [← hw1]; rfl) _ (ssem_eq s (by rw [hs]; exact off23_eq i) _)) $$ [HT1 HB]
  · isplitl [HT1] <;> iassumption
  iintro HB
  rw [wp_pure]
  isplitl [HW]; · iexact HW
  isplitl [Hr]; · iexact Hr
  iexact HB

/-- The last point's own scatters, one to a trip. -/
theorem t8_step (hW : ∀ j : Fin 512, (W (ix1 j)).toNat = δ (t * 512 + j.val)) (hs : s.val = pt i % 2) (h3 : k0_cond3 i = 1#1)
    (hY : ∀ (j : Fin 512) (l : Fin 1024), Y (ix2 ⟨δ (t * 512 + j.val), hδ _⟩ l) = f (ix3 s j l)) (k : Fin k0_t8_loop.trips) (acc : Unit) :
    sInv c m5 W y0 Y δ s t f k.val ⊢ wp frame (wpE defs₀ 𝒱 (c : Thread nD τ) none) Set.univ
      (k0_t8_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h3 k acc)
      (fun _ => sInv c m5 W y0 Y δ s t f (k.val + 1)) := by
  have hk : k.val < 512 := k.isLt
  have hw := hW ⟨k.val, hk⟩
  have hlt : (W (ix1 ⟨k.val, hk⟩)).toNat < 135680 := by rw [hw]; exact hδ _
  unfold sInv
  rw [Ring.bigSep_rangeSet_head hk hk]
  iintro ⟨HW, ⟨HT, Hr⟩, HB⟩
  dsimp only [k0_t8_body]
  iapply (word_load m5 W k.val hk (k0_off30_eq k) _) $$ HW
  iintro HW
  iapply (check (fun _ => inbY' hlt))
  iapply (scatter_one y0 Y δ hδ s t f k.val hk (hY ⟨_, hk⟩) (by rw [hs]; exact off33_eq i k) _ (by rw [← hw]; rfl) _ (ssem_eq s (by rw [hs]; exact off31_eq i) _)) $$ [HT HB]
  · isplitl [HT] <;> iassumption
  iintro HB
  rw [wp_pure]
  isplitl [HW]; · iexact HW
  isplitl [Hr]; · iexact Hr
  iexact HB

/-- The tile's gathers awaited. -/
theorem t2_step (D : Fin 512 → sProp 𝕄) (hs : s.val = pt i % 2) (k : Fin k0_t2_loop.trips) (acc : Unit) :
    dInv c (gsem s) D k.val ⊢ wp frame (wpE defs₀ 𝒱 (c : Thread nD τ) none) Set.univ
      (k0_t2_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 k acc)
      (fun _ => dInv c (gsem s) D (k.val + 1)) := by
  iintro H
  dsimp only [k0_t2_body]
  iapply (wait_one (gsem s) D k.val k.isLt (gsem_eq s (by rw [hs]; exact off5_eq i) _) (credit_g _ _)) $$ H
  iintro H
  rw [wp_pure]
  iexact H

/-- The scatters of the block before the previous one awaited. -/
theorem t3_step (D : Fin 512 → sProp 𝕄) (hs : s.val = pt i % 2) (h2 : k0_cond2 i = 1#1) (k : Fin k0_t3_loop.trips) (acc : Unit) :
    dInv c (ssem s) D k.val ⊢ wp frame (wpE defs₀ 𝒱 (c : Thread nD τ) none) Set.univ
      (k0_t3_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h2 k acc)
      (fun _ => dInv c (ssem s) D (k.val + 1)) := by
  iintro H
  dsimp only [k0_t3_body]
  iapply (wait_one (ssem s) D k.val k.isLt (ssem_eq s (by rw [hs]; exact off7_eq i) _) (credit_y _ _)) $$ H
  iintro H
  rw [wp_pure]
  iexact H

/-- The last point awaits the gathers it issued, -/
theorem t6_step (D : Fin 512 → sProp 𝕄) (hs : s.val = 1 - pt i % 2) (h3 : k0_cond3 i = 1#1) (k : Fin k0_t6_loop.trips) (acc : Unit) :
    dInv c (gsem s) D k.val ⊢ wp frame (wpE defs₀ 𝒱 (c : Thread nD τ) none) Set.univ
      (k0_t6_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h3 k acc)
      (fun _ => dInv c (gsem s) D (k.val + 1)) := by
  iintro H
  dsimp only [k0_t6_body]
  iapply (wait_one (gsem s) D k.val k.isLt (gsem_eq s (by rw [hs]; exact off26_eq i) _) (credit_g _ _)) $$ H
  iintro H
  rw [wp_pure]
  iexact H

/-- the scatters it issued, -/
theorem t7_step (D : Fin 512 → sProp 𝕄) (hs : s.val = 1 - pt i % 2) (h3 : k0_cond3 i = 1#1) (k : Fin k0_t7_loop.trips) (acc : Unit) :
    dInv c (ssem s) D k.val ⊢ wp frame (wpE defs₀ 𝒱 (c : Thread nD τ) none) Set.univ
      (k0_t7_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h3 k acc)
      (fun _ => dInv c (ssem s) D (k.val + 1)) := by
  iintro H
  dsimp only [k0_t7_body]
  iapply (wait_one (ssem s) D k.val k.isLt (ssem_eq s (by rw [hs]; exact off28_eq i) _) (credit_y _ _)) $$ H
  iintro H
  rw [wp_pure]
  iexact H

/-- and its own block's. -/
theorem t9_step (D : Fin 512 → sProp 𝕄) (hs : s.val = pt i % 2) (h3 : k0_cond3 i = 1#1) (k : Fin k0_t9_loop.trips) (acc : Unit) :
    dInv c (ssem s) D k.val ⊢ wp frame (wpE defs₀ 𝒱 (c : Thread nD τ) none) Set.univ
      (k0_t9_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h3 k acc)
      (fun _ => dInv c (ssem s) D (k.val + 1)) := by
  iintro H
  dsimp only [k0_t9_body]
  iapply (wait_one (ssem s) D k.val k.isLt (ssem_eq s (by rw [hs]; exact off34_eq i) _) (credit_y _ _)) $$ H
  iintro H
  rw [wp_pure]
  iexact H

end Steps

end Cert.Experts

end
-- ==== Proof.State.lean ====
/- The experts' call: what the run holds between grid points — a tile's gathers and a block's scatters in flight — and how
   it is taken apart and put together. -/
module

public import proofs.«01_k».proof.Proof.Loops

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## Slots by number -/

/-- The slot point `n` works on, -/
def sl (n : ℕ) : Fin 2 := ⟨n % 2, by omega⟩
/-- and the other. -/
def ot (n : ℕ) : Fin 2 := ⟨1 - n % 2, by omega⟩

theorem sl_succ (n : ℕ) : sl (n + 1) = ot n := Fin.ext (show (n + 1) % 2 = 1 - n % 2 by omega)
theorem ot_succ (n : ℕ) : ot (n + 1) = sl n := Fin.ext (show 1 - (n + 1) % 2 = n % 2 by omega)

/-- What one launch of the call works on: the token array, the tables, the result before and after, and the blocks of rows the
    result is made of — the zeros first, then the tiles' results. -/
structure Work (F : FTy → Type) [FloatOps F] where
  h0 : BufH F
  σ : ℕ → ℕ
  hσ : ∀ n, σ n < 65536
  δ : ℕ → ℕ
  hδ : ∀ n, δ n < 135680
  hinj : ∀ a b, a < 135680 → b < 135680 → δ a = δ b → a = b
  y0 : BufY F
  Y : BufY F
  blk : ℕ → BufB F
  hY : ∀ q, q < 265 → ∀ (s : Fin 2) (j : Fin 512) (l : Fin 1024), Y (ix2 ⟨δ (q * 512 + j.val), hδ _⟩ l) = blk q (ix3 s j l)

/-! ## Elements by slot and by row -/

/-- The elements of slot `s`. -/
def half (s : Fin 2) : Finset S2x512x1024.Idx := Finset.univ.filter fun y => (y 0).val = s.val

theorem mem_half {s : Fin 2} {y : S2x512x1024.Idx} : Iff (y ∈ half s) ((y 0).val = s.val) := by simp [half]

theorem half_rows (s : Fin 2) : half s = (Finset.univ : Finset (Fin 512)).biUnion fun j => bset s.val j.val := by
  ext y
  simp only [Finset.mem_biUnion, Finset.mem_univ, true_and, mem_half, mem_bset]
  exact ⟨fun h => ⟨y 1, h, rfl⟩, fun ⟨_, h, _⟩ => h⟩

theorem rows_disjoint (s : ℕ) (j j' : Fin 512) (h : j ≠ j') : Disjoint (bset s j.val) (bset s j'.val) := by
  rw [Finset.disjoint_left]; intro y hy hy'
  rw [mem_bset] at hy hy'
  exact h (Fin.ext (hy.2.symm.trans hy'.2))

theorem halves (n : ℕ) : half (sl n) ∪ half (ot n) = Finset.univ := by
  ext y
  have h0 : (y 0).val < 2 := (y 0).isLt
  simp only [Finset.mem_union, Finset.mem_univ, iff_true, mem_half]
  show (y 0).val = n % 2 ∨ (y 0).val = 1 - n % 2
  omega

theorem halves_disjoint (n : ℕ) : Disjoint (half (sl n)) (half (ot n)) := by
  rw [Finset.disjoint_left]; intro y hy hy'
  rw [mem_half] at hy hy'
  have : n % 2 = 1 - n % 2 := hy.symm.trans hy'
  omega

variable (c : Dev nD)

theorem ptG_rows (s : Fin 2) (f : BufB F) : (ptG c (half s) f : sProp 𝕄) = bigSep Finset.univ fun j : Fin 512 => ptG c (bset s.val j.val) f := by
  rw [half_rows]
  exact pointsTo_biUnion _ _ fun j _ j' _ h => rows_disjoint s.val j j' h
theorem ptR_rows (s : Fin 2) (f : BufB F) : (ptR c (half s) f : sProp 𝕄) = bigSep Finset.univ fun j : Fin 512 => ptR c (bset s.val j.val) f := by
  rw [half_rows]
  exact pointsTo_biUnion _ _ fun j _ j' _ h => rows_disjoint s.val j j' h

theorem ptG_halves (n : ℕ) (f : BufB F) : (ptG c Finset.univ f : sProp 𝕄) ⊢ iprop(ptG c (half (sl n)) f ∗ ptG c (half (ot n)) f) := by
  rw [← halves n]; exact (pointsTo_union (halves_disjoint n)).1
theorem ptR_halves (n : ℕ) (f : BufB F) : (ptR c Finset.univ f : sProp 𝕄) ⊢ iprop(ptR c (half (sl n)) f ∗ ptR c (half (ot n)) f) := by
  rw [← halves n]; exact (pointsTo_union (halves_disjoint n)).1
theorem ptG_whole (n : ℕ) (f g : BufB F) : iprop(ptG c (half (sl n)) f ∗ ptG c (half (ot n)) g) ⊢ (iprop(∃ k, ptG c Finset.univ k) : sProp 𝕄) := by
  iintro H
  ihave H' := (pointsTo_join (halves_disjoint n)) $$ H
  rw [halves n]
  iexists _; iexact H'
theorem ptR_whole (n : ℕ) (f g : BufB F) : iprop(ptR c (half (sl n)) f ∗ ptR c (half (ot n)) g) ⊢ (iprop(∃ k, ptR c Finset.univ k) : sProp 𝕄) := by
  iintro H
  ihave H' := (pointsTo_join (halves_disjoint n)) $$ H
  rw [halves n]
  iexists _; iexact H'

/-! ## The result's rows, by the table -/

/-- The result's rows the table names from `a` to `b`, at contents `Z`. -/
def rows (δ : ℕ → ℕ) (Z : BufY F) (a b : ℕ) : sProp 𝕄 := bigSep (Ring.rangeSet 135680 a b) fun r => ptY c (yset (δ r.val)) Z

theorem rows_all (d : Work F) (Z : BufY F) : (ptY c Finset.univ Z : sProp 𝕄) = rows c d.δ Z 0 135680 := by
  have hi : Function.Injective fun r : Fin 135680 => (⟨d.δ r.val, d.hδ _⟩ : Fin 135680) := fun a b h =>
    Fin.ext (d.hinj _ _ a.isLt b.isLt (congrArg Fin.val h))
  have hs := Finite.injective_iff_surjective.1 hi
  have hc : (Finset.univ : Finset (Fin 135680)).biUnion (fun r => yset (d.δ r.val)) = Finset.univ := by
    ext y
    simp only [Finset.mem_biUnion, Finset.mem_univ, true_and, iff_true]
    obtain ⟨r, hr⟩ := hs (y 0)
    exact ⟨r, mem_yset.2 (congrArg Fin.val hr).symm⟩
  have hd : ∀ a ∈ (Finset.univ : Finset (Fin 135680)), ∀ b ∈ (Finset.univ : Finset (Fin 135680)), a ≠ b → Disjoint (yset (d.δ a.val)) (yset (d.δ b.val)) := by
    intro a _ b _ h
    rw [Finset.disjoint_left]; intro y hy hy'
    rw [mem_yset] at hy hy'
    exact h (Fin.ext (d.hinj _ _ a.isLt b.isLt (hy.symm.trans hy')))
  unfold rows
  rw [Ring.rangeSet_univ]
  exact (congrArg (fun I => (ptY c I Z : sProp 𝕄)) hc.symm).trans (pointsTo_biUnion _ _ hd)

theorem rows_split (δ : ℕ → ℕ) (Z : BufY F) {a b e : ℕ} (h1 : a ≤ b) (h2 : b ≤ e) :
    (rows c δ Z a e : sProp 𝕄) = iprop(rows c δ Z a b ∗ rows c δ Z b e) := Ring.bigSep_rangeSet_split h1 h2

theorem rows_empty (δ : ℕ → ℕ) (Z : BufY F) {a b : ℕ} (h : b ≤ a) : (rows c δ Z a b : sProp 𝕄) = iprop(emp) := Ring.bigSep_rangeSet_empty h

/-- One block's rows are the rows its 512 scatters write. -/
theorem rows_block (δ : ℕ → ℕ) (Z : BufY F) (q : ℕ) (h : q < 265) :
    (rows c δ Z (q * 512) ((q + 1) * 512) : sProp 𝕄) = bigSep Finset.univ fun j : Fin 512 => ptY c (yset (δ (q * 512 + j.val))) Z := by
  unfold rows
  rw [Ring.bigSep_rangeSet_eq_range (by omega) (fun k => ptY c (yset (δ (q * 512 + k))) Z) (fun k _ => rfl), ← Ring.rangeSet_univ (NB := 512),
    Ring.bigSep_rangeSet_eq_range (Nat.le_refl _) (fun k => ptY c (yset (δ (q * 512 + k))) Z) (fun k _ => by simp only [Nat.zero_add])]
  rw [show (q + 1) * 512 - q * 512 = 512 - 0 by omega]

/-! ## A tile's gathers -/

variable (d : Work F)

/-- What is left of the token array while tile `t`'s gathers read it. -/
def hRest (t : ℕ) : sProp 𝕄 :=
  iprop(ptH c Finset.univ (Transfers.shareDrop fullShare 512) d.h0
    ∗ bigSep Finset.univ fun j : Fin 512 => ptH c (Finset.univ \ hset (d.σ (t * 512 + j.val))) (tok j.val) d.h0)

/-- The token rows tile `t`'s gathers read, each by its share. -/
def hRows (t : ℕ) : sProp 𝕄 := bigSep Finset.univ fun j : Fin 512 => ptH c (hset (d.σ (t * 512 + j.val))) (tok j.val) d.h0

theorem h_tok (n j : ℕ) : iprop(ptH c (hset n) (tok j) d.h0 ∗ ptH c (Finset.univ \ hset n) (tok j) d.h0) = (ptH c Finset.univ (tok j) d.h0 : sProp 𝕄) :=
  Idealize.SL.BI.Entails.antisymm (pointsTo_split_subset (Finset.subset_univ _)).2 (pointsTo_split_subset (Finset.subset_univ _)).1

theorem h_rows (t : ℕ) : iprop(hRows c d t ∗ bigSep Finset.univ fun j : Fin 512 => ptH c (Finset.univ \ hset (d.σ (t * 512 + j.val))) (tok j.val) d.h0)
    = (bigSep Finset.univ fun j : Fin 512 => ptH c Finset.univ (tok j.val) d.h0 : sProp 𝕄) := by
  unfold hRows
  refine (BI.bigSep_sep _ _ _).symm.trans (BI.bigSep_congr fun j _ => ?_)
  exact h_tok c d _ _

/-- The token array whole is what tile `t`'s gathers read and the rest, -/
theorem h_split (t : ℕ) : (ptH c Finset.univ fullShare d.h0 : sProp 𝕄) ⊢ iprop(hRest c d t ∗ hRows c d t) := by
  refine (Transfers.pointsTo_toks_split fullShare 512).trans ?_
  unfold hRest
  have e := Entails.of_eq (h_rows c d t).symm
  iintro ⟨Hd, Ht⟩
  ihave H := e $$ Ht
  icases H with ⟨Ha, Hb⟩
  isplitl [Hd Hb]
  · isplitl [Hd] <;> iassumption
  iexact Ha
/-- and back. -/
theorem h_join (t : ℕ) : iprop(hRest c d t ∗ hRows c d t) ⊢ (ptH c Finset.univ fullShare d.h0 : sProp 𝕄) := by
  refine BIBase.Entails.trans ?_ (Transfers.pointsTo_toks_join fullShare 512)
  unfold hRest
  have e := Entails.of_eq (h_rows c d t)
  iintro ⟨⟨Hd, Hb⟩, Ha⟩
  isplitl [Hd]; · iexact Hd
  iapply e
  isplitl [Ha] <;> iassumption

/-- The slot's rows and the token rows are what the gathers take; -/
theorem g_take (s : Fin 2) (t : ℕ) (f : BufB F) :
    iprop(ptG c (half s) f ∗ hRows c d t) ⊢ (bigSep (Ring.rangeSet 512 0 512) (gTake c d.h0 d.σ s t f) : sProp 𝕄) := by
  rw [Ring.rangeSet_univ, ptG_rows]
  unfold hRows gTake
  exact Entails.of_eq (BI.bigSep_sep _ _ _).symm
/-- what they hand back is the slot gathered and the token rows. -/
theorem g_give (s : Fin 2) (t : ℕ) :
    (bigSep Finset.univ (gGive c d.h0 d.σ d.hσ s t) : sProp 𝕄) ⊢ iprop(ptG c (half s) (gathered d.h0 d.σ d.hσ t) ∗ hRows c d t) := by
  rw [ptG_rows]
  unfold hRows gGive
  exact Entails.of_eq (BI.bigSep_sep _ _ _)

/-- The result's rows and the slot's are what a block's scatters take; -/
theorem s_take (s : Fin 2) (q : ℕ) (hq : q < 265) (g : BufB F) :
    iprop(rows c d.δ d.y0 (q * 512) ((q + 1) * 512) ∗ ptR c (half s) g) ⊢ (bigSep (Ring.rangeSet 512 0 512) (sTake c d.y0 d.δ s q g) : sProp 𝕄) := by
  rw [Ring.rangeSet_univ, ptR_rows, rows_block c d.δ d.y0 q hq]
  unfold sTake
  exact Entails.of_eq (BI.bigSep_sep _ _ _).symm
/-- what they hand back is the rows written and the slot. -/
theorem s_give (s : Fin 2) (q : ℕ) (hq : q < 265) (g : BufB F) :
    (bigSep Finset.univ (sTake c d.Y d.δ s q g) : sProp 𝕄) ⊢ iprop(rows c d.δ d.Y (q * 512) ((q + 1) * 512) ∗ ptR c (half s) g) := by
  rw [ptR_rows, rows_block c d.δ d.Y q hq]
  unfold sTake
  exact Entails.of_eq (BI.bigSep_sep _ _ _)

/-! ## Between grid points -/

/-- A semaphore at zero. -/
abbrev idle (sm : DmaSem sig) : sProp 𝕄 := semVal ((c : Thread nD τ), SemLoc.dma sm) 0

/-- Tile `n`'s gathers all in flight into its slot, the other slot free. -/
def flyG (n : ℕ) : sProp 𝕄 :=
  iprop(gBatch c d.h0 d.σ d.hσ (sl n) n 512 0 ∗ hRest c d n ∗ (∃ f, ptG c (half (ot n)) f) ∗ idle c (gsem (ot n)))
/-- No gather in flight, tile `n`'s rows in its slot. -/
def landG (n : ℕ) : sProp 𝕄 :=
  iprop(ptG c (half (sl n)) (gathered d.h0 d.σ d.hσ n) ∗ ptH c Finset.univ fullShare d.h0 ∗ idle c (gsem (sl n))
    ∗ (∃ f, ptG c (half (ot n)) f) ∗ idle c (gsem (ot n)))
/-- The scatters of the block before block `n` in flight out of slot `n`, block `n` waiting in the other slot. -/
def flyS (n : ℕ) : sProp 𝕄 :=
  iprop(sBatch c d.Y d.δ (sl (n + 1)) n (d.blk n) 512 0 ∗ ptR c (half (ot (n + 1))) (d.blk (n + 1)) ∗ idle c (ssem (ot (n + 1)))
    ∗ rows c d.δ d.Y 0 (n * 512) ∗ rows c d.δ d.y0 ((n + 1) * 512) 135680)
/-- No scatter in flight: blocks before `n` written, block `n` waiting in the other slot. -/
def landS (n : ℕ) : sProp 𝕄 :=
  iprop((∃ g, ptR c (half (sl n)) g) ∗ idle c (ssem (sl n)) ∗ ptR c (half (ot n)) (d.blk n) ∗ idle c (ssem (ot n))
    ∗ rows c d.δ d.Y 0 (n * 512) ∗ rows c d.δ d.y0 (n * 512) 135680)
/-- Nothing in flight, both buffers free, the result at contents `Z`. -/
def rest (Z : BufY F) : sProp 𝕄 :=
  iprop((∃ f, ptG c Finset.univ f) ∗ (∃ g, ptR c Finset.univ g) ∗ (idle c (gsem 0) ∗ idle c (gsem 1) ∗ idle c (ssem 0) ∗ idle c (ssem 1))
    ∗ ptH c Finset.univ fullShare d.h0 ∗ ptY c Finset.univ Z)

/-- Before point `n`: nothing in flight before the first and after the last, in between tile `n`'s gathers and block `n - 1`'s
    scatters. -/
def inv : ℕ → sProp 𝕄
  | 0 => rest c d d.y0
  | n + 1 => if n + 1 = 264 then rest c d d.Y else iprop(flyG c d (n + 1) ∗ flyS c d n)

end Cert.Experts

end
-- ==== Proof.Body.lean ====
/- The experts' call: one grid point's run. -/
module

public import proofs.«01_k».proof.Proof.State

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## One tile's result -/

/-- The first and the second half of the hidden columns of a gate or up block; -/
def colsA (w : S1x1x1024x3584.Idx → Elt F .bf16) : S1x1x1024x1792.Idx → Elt F .bf16 :=
  fun x => w ((Rect.unit (s := S1x1x1024x3584) ![0, 0, 0, 0] S1x1x1024x1792.size inb_S1x1x1024x3584_S1x1x1024x1792_0_0_0_0).emb x)
def colsB (w : S1x1x1024x3584.Idx → Elt F .bf16) : S1x1x1024x1792.Idx → Elt F .bf16 :=
  fun x => w ((Rect.unit (s := S1x1x1024x3584) ![0, 0, 0, 1792] S1x1x1024x1792.size inb_S1x1x1024x3584_S1x1x1024x1792_0_0_0_1792).emb x)
/-- of the hidden rows of a down block. -/
def rowsA (w : S1x1x3584x1024.Idx → Elt F .bf16) : S1x1x1792x1024.Idx → Elt F .bf16 :=
  fun x => w ((Rect.unit (s := S1x1x3584x1024) ![0, 0, 0, 0] S1x1x1792x1024.size inb_S1x1x3584x1024_S1x1x1792x1024_0_0_0_0).emb x)
def rowsB (w : S1x1x3584x1024.Idx → Elt F .bf16) : S1x1x1792x1024.Idx → Elt F .bf16 :=
  fun x => w ((Rect.unit (s := S1x1x3584x1024) ![0, 0, 1792, 0] S1x1x1792x1024.size inb_S1x1x3584x1024_S1x1x1792x1024_0_0_1792_0).emb x)

/-- A tile's result from its rows and its expert's three blocks. -/
def tileOut (X : S1x512x1024.Idx → Elt F .f32) (wg wu : S1x1x1024x3584.Idx → Elt F .bf16) (wd : S1x1x3584x1024.Idx → Elt F .bf16) :
    S1x512x1024.Idx → Elt F .f32 :=
  k0_pay1 (k0_pay5 (k0_pay3 X) (k0_pay4 (F := F)) (colsA wg) (colsA wu) (rowsA wd)) (k0_pay6 (k0_pay3 X) (colsB wg)) (k0_pay7 (k0_pay3 X) (colsB wu))
    (k0_pay8 (k0_pay3 X) (colsB wg)) (k0_pay9 (F := F)) (rowsB wd)

/-- One slot of a two-slot buffer's contents. -/
def slotOf (f : BufB F) (s : Fin 2) : S1x512x1024.Idx → Elt F .f32 := fun x => f (ix3 s (x 1) (x 2))

variable {c : Dev nD} {𝒱 : Variants}

/-- A load of a window held by what it reads as. -/
theorem win_load {α : Type} {cs : CoreSpace} {sh : Shape} {e : EltTy} (m : Memref sig .tc cs sh e) (X : sh.Idx → Elt F e) (r : Rect sh) (Z : r.shape.Idx → Elt F e) (hZ : (fun x => X (r.emb x)) = Z) {hl}
    {k : (r.shape.Idx → Elt F e) → Prog (TpuEff nD τ sig (Elt F) Λ₀ .tc) α} {Q : α → sProp 𝕄} :
    (owns (c : Thread nD τ) m fullShare X : sProp 𝕄)
      ⊢ iprop((owns (c : Thread nD τ) m fullShare X -∗ wp frame (wpE defs₀ 𝒱 (c : Thread nD τ) none) Set.univ (k Z) Q)
          -∗ wp frame (wpE defs₀ 𝒱 (c : Thread nD τ) none) Set.univ (Prog.lift (.load m r.toLoadRect hl) >>= k) Q) := by
  show _ ⊢ iprop(_ -∗ wp frame (wpE defs₀ 𝒱 (c : Thread nD τ) none) Set.univ (.op (.load m r.toLoadRect hl) k) Q)
  unfold owns
  iintro ⟨%f, %hf, H⟩ Hk
  have hx : (m.access r).read (Elt F) f = Z := by rw [← hZ, ← hf]; rfl
  iapply (wp_load_rect 𝒱 (c : Thread nD τ) none Set.univ (m := m) (r := r) (View.set_slice_subset m.view r)) $$ H
  iintro H
  rw [hx]
  iapply Hk
  iexists f
  isplitr; · ipureintro; exact hf
  iexact H

/-- A load of a buffer of which the elements `S` are held, -/
theorem buf_load {α : Type} {cs : CoreSpace} {sh : Shape} {e : EltTy} (m : Memref sig .tc cs sh e) (r : Rect sh) {S : Finset (Idx ((m.access r).loc (c : Thread nD τ)))}
    (hS : (m.access r).set ⊆ S) {f : Buf (Elt F) ((m.access r).loc (c : Thread nD τ))} {hl}
    {k : (r.shape.Idx → Elt F e) → Prog (TpuEff nD τ sig (Elt F) Λ₀ .tc) α} {Q : α → sProp 𝕄} :
    ((m.access r).loc (c : Thread nD τ) ↦[S]{fullShare} f : sProp 𝕄)
      ⊢ iprop((((m.access r).loc (c : Thread nD τ) ↦[S]{fullShare} f) -∗ wp frame (wpE defs₀ 𝒱 (c : Thread nD τ) none) Set.univ (k ((m.access r).read (Elt F) f)) Q)
          -∗ wp frame (wpE defs₀ 𝒱 (c : Thread nD τ) none) Set.univ (Prog.lift (.load m r.toLoadRect hl) >>= k) Q) :=
  wp_load_rect 𝒱 (c : Thread nD τ) none Set.univ hS

/-- a store to it. -/
theorem buf_store {α : Type} {cs : CoreSpace} {sh : Shape} {e : EltTy} (m : Memref sig .tc cs sh e) (r : Rect sh) {w : r.shape.Idx → Elt F e}
    {S : Finset (Idx ((m.access r).loc (c : Thread nD τ)))}
    (hS : (m.access r).setOn Finset.univ ⊆ S) {f : Buf (Elt F) ((m.access r).loc (c : Thread nD τ))} {hx hm}
    {k : PUnit → Prog (TpuEff nD τ sig (Elt F) Λ₀ .tc) α} {Q : α → sProp 𝕄} :
    ((m.access r).loc (c : Thread nD τ) ↦[S]{fullShare} f : sProp 𝕄)
      ⊢ iprop((((m.access r).loc (c : Thread nD τ) ↦[S]{fullShare} ((m.access r).write (Elt F) f w Finset.univ))
            -∗ wp frame (wpE defs₀ 𝒱 (c : Thread nD τ) none) Set.univ (k ⟨⟩) Q)
          -∗ wp frame (wpE defs₀ 𝒱 (c : Thread nD τ) none) Set.univ (Prog.lift (.store m r w Finset.univ hx hm) >>= k) Q) :=
  wp_store 𝒱 (c : Thread nD τ) none Set.univ hS

/-! ## A slot loaded and stored -/

attribute [local irreducible] rows

/-- No row of the table, nothing held. -/
theorem rows_nil (c : Dev nD) (δ : ℕ → ℕ) (Z : BufY F) (a b : ℕ) (h : b ≤ a) : (iprop(emp) : sProp 𝕄) ⊢ rows c δ Z a b :=
  Entails.of_eq (rows_empty c δ Z h).symm

/-- Before the first scatter every row holds the launch's contents. -/
theorem rows_start (c : Dev nD) (d : Work F) (a : ℕ) (ha : a = 0) : (ptY c Finset.univ d.y0 : sProp 𝕄) ⊢ iprop(rows c d.δ d.Y 0 a ∗ rows c d.δ d.y0 a 135680) := by
  subst ha
  refine (Entails.of_eq (rows_all c d d.y0)).trans ?_
  iintro H
  isplitr
  · iapply rows_nil c d.δ d.Y 0 0 (Nat.le_refl 0)
    iempintro
  iexact H

theorem slot_emb (s : Fin 2) {o : Fin 3 → ℕ} (e : o = ![s.val, 0, 0]) (h) (x : S1x512x1024.Idx) :
    (Rect.unit (s := S2x512x1024) o S1x512x1024.size h).emb x = (ix3 s (x 1) (x 2) : S2x512x1024.Idx) := by
  subst e
  have h0 : (x 0).val < 1 := (x 0).isLt
  funext a
  fin_cases a
  · exact Fin.ext (show s.val + 1 * (x 0).val = s.val by omega)
  · exact Fin.ext (show 0 + 1 * (x 1).val = (x 1).val by omega)
  · exact Fin.ext (show 0 + 1 * (x 2).val = (x 2).val by omega)

theorem slot_set (s : Fin 2) {o : Fin 3 → ℕ} (e : o = ![s.val, 0, 0]) (h) : (Rect.unit (s := S2x512x1024) o S1x512x1024.size h).set ⊆ half s := by
  subst e
  intro y hy
  rw [Rect.mem_set_unit] at hy
  have a0 : s.val ≤ (y 0).val ∧ (y 0).val < s.val + 1 := hy 0
  rw [mem_half]; omega

theorem load_g (s : Fin 2) (f : BufB F) {o : Fin 3 → ℕ} (e : o = ![s.val, 0, 0]) (h) {hl} {β : Type}
    {kk : (S1x512x1024.Idx → Elt F .f32) → Prog (TpuEff nD τ sig (Elt F) Λ₀ .tc) β} {Q : β → sProp 𝕄} :
    (ptG c (half s) f : sProp 𝕄) ⊢ iprop((ptG c (half s) f -∗ wp frame (wpE defs₀ 𝒱 (c : Thread nD τ) none) Set.univ (kk (slotOf f s)) Q)
      -∗ wp frame (wpE defs₀ 𝒱 (c : Thread nD τ) none) Set.univ (Prog.lift (.load (Memref.whole cc0_scratch0) (Rect.unit (s := S2x512x1024) o S1x512x1024.size h).toLoadRect hl) >>= kk) Q) := by
  have ef : slotOf f s = ((Memref.whole cc0_scratch0).access (Rect.unit (s := S2x512x1024) o S1x512x1024.size h)).read (Elt F) f := by
    funext x
    exact congrArg f (slot_emb s e h x).symm
  rw [ef]
  exact buf_load (Memref.whole cc0_scratch0) (Rect.unit (s := S2x512x1024) o S1x512x1024.size h) ((View.set_slice_whole _ _).trans_subset (slot_set s e h))

theorem load_r (s : Fin 2) (f : BufB F) {o : Fin 3 → ℕ} (e : o = ![s.val, 0, 0]) (h) {hl} {β : Type}
    {kk : (S1x512x1024.Idx → Elt F .f32) → Prog (TpuEff nD τ sig (Elt F) Λ₀ .tc) β} {Q : β → sProp 𝕄} :
    (ptR c (half s) f : sProp 𝕄) ⊢ iprop((ptR c (half s) f -∗ wp frame (wpE defs₀ 𝒱 (c : Thread nD τ) none) Set.univ (kk (slotOf f s)) Q)
      -∗ wp frame (wpE defs₀ 𝒱 (c : Thread nD τ) none) Set.univ (Prog.lift (.load (Memref.whole cc0_scratch1) (Rect.unit (s := S2x512x1024) o S1x512x1024.size h).toLoadRect hl) >>= kk) Q) := by
  have ef : slotOf f s = ((Memref.whole cc0_scratch1).access (Rect.unit (s := S2x512x1024) o S1x512x1024.size h)).read (Elt F) f := by
    funext x
    exact congrArg f (slot_emb s e h x).symm
  rw [ef]
  exact buf_load (Memref.whole cc0_scratch1) (Rect.unit (s := S2x512x1024) o S1x512x1024.size h) ((View.set_slice_whole _ _).trans_subset (slot_set s e h))

theorem store_r (s : Fin 2) (f g : BufB F) {o : Fin 3 → ℕ} (e : o = ![s.val, 0, 0]) (h) (w : S1x512x1024.Idx → Elt F .f32)
    (hw : ∀ (j : Fin 512) (l : Fin 1024), g (ix3 s j l) = w (ix3 (0 : Fin 1) j l)) {hx hm} {β : Type}
    {kk : Unit → Prog (TpuEff nD τ sig (Elt F) Λ₀ .tc) β} {Q : β → sProp 𝕄} :
    (ptR c (half s) f : sProp 𝕄) ⊢ iprop((ptR c (half s) g -∗ wp frame (wpE defs₀ 𝒱 (c : Thread nD τ) none) Set.univ (kk ⟨⟩) Q)
      -∗ wp frame (wpE defs₀ 𝒱 (c : Thread nD τ) none) Set.univ (Prog.lift (.store (Memref.whole cc0_scratch1) (Rect.unit (s := S2x512x1024) o S1x512x1024.size h) w Finset.univ hx hm) >>= kk) Q) := by
  have eg : (ptR c (half s) (((Memref.whole cc0_scratch1).access (Rect.unit (s := S2x512x1024) o S1x512x1024.size h)).write (Elt F) f w Finset.univ) : sProp 𝕄)
      = ptR c (half s) g := by
    refine pointsTo_congr fun y hy => ?_
    obtain ⟨j, l, rfl⟩ : ∃ (j : Fin 512) (l : Fin 1024), y = ix3 s j l := ⟨y 1, y 2, by
      funext a; fin_cases a
      · exact Fin.ext (mem_half.1 hy)
      · rfl
      · rfl⟩
    refine Eq.trans ?_ (hw j l).symm
    exact (congrArg (((Memref.whole cc0_scratch1).access (Rect.unit (s := S2x512x1024) o S1x512x1024.size h)).write (Elt F) f w Finset.univ)
      (slot_emb s e h (ix3 (0 : Fin 1) j l)).symm).trans (View.write_emb_of_mem _ _ (Finset.mem_univ _))
  rw [← eg]
  exact buf_store (Memref.whole cc0_scratch1) (Rect.unit (s := S2x512x1024) o S1x512x1024.size h)
    ((View.setOn_univ _).trans_subset ((View.set_slice_whole _ _).trans_subset (slot_set s e h)))

section Run

variable (d : Work F) (i : grid0.Coords) (m2 m3 m4 m5 : Memref sig .tc .smem S512 .i32) (hm2 : m2.IsWhole) (hm3 : m3.IsWhole) (hm4 : m4.IsWhole) (hm5 : m5.IsWhole)
  (m7 m8 : Memref sig .tc .vmem S1x1x1024x3584 .bf16) (hm7 : m7.IsWhole) (hm8 : m8.IsWhole) (m9 : Memref sig .tc .vmem S1x1x3584x1024 .bf16) (hm9 : m9.IsWhole)
  (W2 W3 W4 W5 : S512.Idx → BitVec 32) (wg wu : S1x1x1024x3584.Idx → Elt F .bf16) (wd : S1x1x3584x1024.Idx → Elt F .bf16)

/-! ## Issuing and awaiting a tile's gathers and a block's scatters -/

/-- The program of a grid point, what a core waits for not counted. -/
abbrev owed (c : Dev nD) : sProp 𝕄 := iprop(∃ W, owes (c : Thread nD τ) 0 W)

omit i m2 m3 m4 m5 hm2 hm3 hm4 hm5 m7 m8 hm7 hm8 m9 hm9 in
theorem open_g (n : ℕ) : iprop((∃ f, ptG c (half (sl n)) f) ∗ ptH c Finset.univ fullShare d.h0 ∗ idle c (gsem (sl n)))
    ⊢ (iprop(|={Set.univ}=> ∃ f, bigSep (Ring.rangeSet 512 0 512) (gTake c d.h0 d.σ (sl n) n f) ∗ gBatch c d.h0 d.σ d.hσ (sl n) n 0 0 ∗ hRest c d n) : sProp 𝕄) := by
  iintro ⟨⟨%f, Hf⟩, Hh, Hs⟩
  imod (Transfers.batch_alloc' (Lvl := ℕ) (countersEmb (U := Pipeline.UD sig nD τ)) (c : Thread nD τ) () NN (gGive c d.h0 d.σ d.hσ (sl n) n)
    (sm := .dma (gsem (sl n))) (E := Set.univ)) $$ Hs with HB
  imodintro
  ihave Hx := h_split c d n $$ Hh
  icases Hx with ⟨Hr, Hh⟩
  iexists f
  isplitl [Hf Hh]
  · iapply g_take c d (sl n) n f
    isplitl [Hf] <;> iassumption
  isplitl [HB]; · iexact HB
  iexact Hr

omit i m2 m3 m4 m5 hm2 hm3 hm4 hm5 m7 m8 hm7 hm8 m9 hm9 in
theorem close_g (n : ℕ) : iprop(dInv c (gsem (sl n)) (gGive c d.h0 d.σ d.hσ (sl n) n) 512 ∗ hRest c d n ∗ (∃ f, ptG c (half (ot n)) f) ∗ idle c (gsem (ot n)))
    ⊢ (iprop(owed c ∗ landG c d n) : sProp 𝕄) := by
  unfold dInv landG
  rw [if_neg (Nat.lt_irrefl _)]
  iintro ⟨⟨HW, Hs, HD⟩, Hr, Ho, Hi⟩
  ihave Hx := g_give c d (sl n) n $$ HD
  icases Hx with ⟨Hg, Hh⟩
  isplitl [HW]; · iexact HW
  isplitl [Hg]; · iexact Hg
  isplitl [Hh Hr]
  · iapply h_join c d n
    isplitl [Hr] <;> iassumption
  isplitl [Hs]; · iexact Hs
  isplitl [Ho] <;> iassumption

omit i m2 m3 m4 m5 hm2 hm3 hm4 hm5 m7 m8 hm7 hm8 m9 hm9 in
theorem drain_g (n : ℕ) : iprop(owed c ∗ flyG c d n)
    ⊢ (iprop(dInv c (gsem (sl n)) (gGive c d.h0 d.σ d.hσ (sl n) n) 0 ∗ hRest c d n ∗ (∃ f, ptG c (half (ot n)) f) ∗ idle c (gsem (ot n))) : sProp 𝕄) := by
  unfold dInv flyG gBatch
  rw [if_pos (by decide), Nat.zero_mul]
  iintro ⟨HW, HB, Hr, Ho, Hi⟩
  isplitl [HW HB]
  · isplitl [HW] <;> iassumption
  isplitl [Hr]; · iexact Hr
  isplitl [Ho] <;> iassumption

omit i m2 m3 m4 m5 hm2 hm3 hm4 hm5 m7 m8 hm7 hm8 m9 hm9 in
theorem drain_s (n : ℕ) : iprop(owed c ∗ flyS c d n)
    ⊢ (iprop(dInv c (ssem (sl (n + 1))) (sTake c d.Y d.δ (sl (n + 1)) n (d.blk n)) 0 ∗ ptR c (half (ot (n + 1))) (d.blk (n + 1)) ∗ idle c (ssem (ot (n + 1)))
    ∗ rows c d.δ d.Y 0 (n * 512) ∗ rows c d.δ d.y0 ((n + 1) * 512) 135680) : sProp 𝕄) := by
  unfold dInv flyS sBatch
  rw [if_pos (by decide), Nat.zero_mul]
  iintro ⟨HW, HB, Hr⟩
  isplitl [HW HB]
  · isplitl [HW] <;> iassumption
  iexact Hr

omit i m2 m3 m4 m5 hm2 hm3 hm4 hm5 m7 m8 hm7 hm8 m9 hm9 in
theorem close_s (n : ℕ) (hn : n < 265) : iprop(dInv c (ssem (sl (n + 1))) (sTake c d.Y d.δ (sl (n + 1)) n (d.blk n)) 512 ∗ ptR c (half (ot (n + 1))) (d.blk (n + 1)) ∗ idle c (ssem (ot (n + 1)))
    ∗ rows c d.δ d.Y 0 (n * 512) ∗ rows c d.δ d.y0 ((n + 1) * 512) 135680)
    ⊢ (iprop(owed c ∗ landS c d (n + 1)) : sProp 𝕄) := by
  unfold dInv landS
  rw [if_neg (Nat.lt_irrefl _), rows_split c d.δ d.Y (Nat.zero_le (n * 512)) (show n * 512 ≤ (n + 1) * 512 by omega)]
  iintro ⟨⟨HW, Hs, HD⟩, Hb, Hi, H0, H1⟩
  ihave Hx := s_give c d (sl (n + 1)) n hn (d.blk n) $$ HD
  icases Hx with ⟨Hy, Hg⟩
  isplitl [HW]; · iexact HW
  isplitl [Hg]; · iexists _; iexact Hg
  isplitl [Hs]; · iexact Hs
  isplitl [Hb]; · iexact Hb
  isplitl [Hi]; · iexact Hi
  isplitl [H0 Hy]
  · isplitl [H0] <;> iassumption
  iexact H1

omit i m2 m3 m4 m5 hm2 hm3 hm4 hm5 m7 m8 hm7 hm8 m9 hm9 in
theorem open_s (n : ℕ) (hn : n < 265) : iprop(rows c d.δ d.y0 (n * 512) 135680 ∗ ptR c (half (ot n)) (d.blk n) ∗ idle c (ssem (ot n)))
    ⊢ (iprop(|={Set.univ}=> (bigSep (Ring.rangeSet 512 0 512) (sTake c d.y0 d.δ (ot n) n (d.blk n)) ∗ sBatch c d.Y d.δ (ot n) n (d.blk n) 0 0
      ∗ rows c d.δ d.y0 ((n + 1) * 512) 135680)) : sProp 𝕄) := by
  rw [rows_split c d.δ d.y0 (show n * 512 ≤ (n + 1) * 512 by omega) (show (n + 1) * 512 ≤ 135680 by omega)]
  iintro ⟨⟨Hy, Hr⟩, Hb, Hs⟩
  imod (Transfers.batch_alloc' (Lvl := ℕ) (countersEmb (U := Pipeline.UD sig nD τ)) (c : Thread nD τ) () NN (sTake c d.Y d.δ (ot n) n (d.blk n))
    (sm := .dma (ssem (ot n))) (E := Set.univ)) $$ Hs with HB
  imodintro
  isplitl [Hy Hb]
  · iapply s_take c d (ot n) n hn (d.blk n)
    isplitl [Hy] <;> iassumption
  isplitl [HB] <;> iassumption

/-! ## The parts of a point -/

/-- Awaiting tile `n`'s gathers, before its product; -/
theorem await2 (n : ℕ) (hn : n = pt i) {β : Type} {kk : Unit → Prog (TpuEff nD τ sig (Elt F) Λ₀ .tc) β} {Q : β → sProp 𝕄} :
    iprop(owed c ∗ flyG c d n) ⊢ iprop((owed c ∗ landG c d n -∗ wp frame (wpE defs₀ 𝒱 (c : Thread nD τ) none) Set.univ (kk ⟨⟩) Q)
      -∗ wp frame (wpE defs₀ 𝒱 (c : Thread nD τ) none) Set.univ (Scf.Loop.for k0_t2_loop k0_t2_ok () (k0_t2_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3) >>= kk) Q) := by
  iintro H Hk
  have hs : (sl n).val = pt i % 2 := by subst hn; rfl
  ihave Hx := drain_g d n $$ H
  icases Hx with ⟨HD, Hr⟩
  have X := fun k acc => t2_step (𝒱 := 𝒱) (c := c) i m2 m3 m4 m5 hm2 hm3 hm4 hm5 m7 m8 hm7 hm8 m9 hm9 (sl n) (gGive c d.h0 d.σ d.hσ (sl n) n) hs k acc
  iapply (Scf.wp_for_bind _ _ _ _ _ _ _ _ _ (fun k _ => dInv c (gsem (sl n)) (gGive c d.h0 d.σ d.hσ (sl n) n) k) X) $$ HD
  iintro %_ HD
  rw [show Scf.trips k0_t2_loop.lb k0_t2_loop.ub k0_t2_loop.st = 512 from rfl]
  iapply Hk
  iapply close_g d n
  isplitl [HD] <;> iassumption

/-- awaiting the block before it. -/
theorem await3 (n : ℕ) (hn : n + 1 = pt i) (h2 : k0_cond2 i = 1#1) {β : Type} {kk : Unit → Prog (TpuEff nD τ sig (Elt F) Λ₀ .tc) β} {Q : β → sProp 𝕄} :
    iprop(owed c ∗ flyS c d n) ⊢ iprop((owed c ∗ landS c d (n + 1) -∗ wp frame (wpE defs₀ 𝒱 (c : Thread nD τ) none) Set.univ (kk ⟨⟩) Q)
      -∗ wp frame (wpE defs₀ 𝒱 (c : Thread nD τ) none) Set.univ (Scf.Loop.for k0_t3_loop (k0_t3_ok i h2) () (k0_t3_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h2) >>= kk) Q) := by
  iintro H Hk
  have hs : (sl (n + 1)).val = pt i % 2 := by rw [← hn]; rfl
  ihave Hx := drain_s d n $$ H
  icases Hx with ⟨HD, Hr⟩
  iapply (Scf.wp_for_bind _ _ _ _ _ _ _ _ _ (fun k _ => dInv c (ssem (sl (n + 1))) (sTake c d.Y d.δ (sl (n + 1)) n (d.blk n)) k)
    (fun k acc => t3_step i m2 m3 m4 m5 hm2 hm3 hm4 hm5 m7 m8 hm7 hm8 m9 hm9 (sl (n + 1)) (sTake c d.Y d.δ (sl (n + 1)) n (d.blk n)) hs h2 k acc)) $$ HD
  iintro %_ HD
  rw [show Scf.trips k0_t3_loop.lb k0_t3_loop.ub k0_t3_loop.st = 512 from rfl]
  iapply Hk
  have hlt := pt_lt i
  iapply close_s d n (by omega)
  isplitl [HD] <;> iassumption

/-- Issuing the next tile's gathers, -/
theorem issue4 (n : ℕ) (hn : n = pt i) (hW : ∀ j : Fin 512, (W3 (ix1 j)).toNat = d.σ ((n + 1) * 512 + j.val))
    {β : Type} {kk : Unit → Prog (TpuEff nD τ sig (Elt F) Λ₀ .tc) β} {Q : β → sProp 𝕄} :
    iprop(owns (c : Thread nD τ) m3 fullShare W3 ∗ landG c d n) ⊢ iprop((owns (c : Thread nD τ) m3 fullShare W3 ∗ flyG c d (n + 1) -∗ wp frame (wpE defs₀ 𝒱 (c : Thread nD τ) none) Set.univ (kk ⟨⟩) Q)
      -∗ wp frame (wpE defs₀ 𝒱 (c : Thread nD τ) none) Set.univ (Scf.Loop.for k0_t4_loop k0_t4_ok () (k0_t4_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3) >>= kk) Q) := by
  have hs : (sl (n + 1)).val = 1 - pt i % 2 := by rw [sl_succ]; subst hn; rfl
  unfold landG
  rw [← sl_succ, ← ot_succ]
  iintro ⟨HW, Hg, Hh, Hs, Ho, Hi⟩ Hk
  imod (open_g d (n + 1)) $$ [Ho Hh Hi] with ⟨%f, HT, HB, Hr⟩
  · isplitl [Ho]; · iexact Ho
    isplitl [Hh] <;> iassumption
  iapply (Scf.wp_for_bind _ _ _ _ _ _ _ _ _ (fun k _ => gInv c m3 W3 d.h0 d.σ d.hσ (sl (n + 1)) (n + 1) f (2 * k))
    (fun k acc => t4_step i m2 m3 m4 m5 hm2 hm3 hm4 hm5 m7 m8 hm7 hm8 m9 hm9 W3 d.h0 d.σ d.hσ (sl (n + 1)) (n + 1) f hW hs k acc)) $$ [HW HT HB]
  · unfold gInv
    isplitl [HW]; · iexact HW
    isplitl [HT] <;> iassumption
  iintro %_ HI
  iapply Hk
  rw [show Scf.trips k0_t4_loop.lb k0_t4_loop.ub k0_t4_loop.st = 256 from rfl]
  unfold gInv flyG
  icases HI with ⟨HW, -, HB⟩
  isplitl [HW]; · iexact HW
  isplitl [HB]; · iexact HB
  isplitl [Hr]; · iexact Hr
  isplitl [Hg]; · iexists _; iexact Hg
  iexact Hs

/-- What a point holds of its buffer of results and of the result itself while block `n`'s scatters fly and block `n + 1` is
    made. -/
def midS (n : ℕ) : sProp 𝕄 :=
  iprop(sBatch c d.Y d.δ (ot n) n (d.blk n) 512 0 ∗ (∃ g, ptR c (half (sl n)) g) ∗ idle c (ssem (sl n))
    ∗ rows c d.δ d.Y 0 (n * 512) ∗ rows c d.δ d.y0 ((n + 1) * 512) 135680)

/-- the waiting block's scatters. -/
theorem issue5 (n : ℕ) (hn : n = pt i) (hW : ∀ j : Fin 512, (W4 (ix1 j)).toNat = d.δ (n * 512 + j.val))
    {β : Type} {kk : Unit → Prog (TpuEff nD τ sig (Elt F) Λ₀ .tc) β} {Q : β → sProp 𝕄} :
    iprop(owns (c : Thread nD τ) m4 fullShare W4 ∗ landS c d n) ⊢ iprop((owns (c : Thread nD τ) m4 fullShare W4 ∗ midS (c := c) d n -∗ wp frame (wpE defs₀ 𝒱 (c : Thread nD τ) none) Set.univ (kk ⟨⟩) Q)
      -∗ wp frame (wpE defs₀ 𝒱 (c : Thread nD τ) none) Set.univ (Scf.Loop.for k0_t5_loop k0_t5_ok () (k0_t5_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3) >>= kk) Q) := by
  have hlt := pt_lt i
  have hq : n < 265 := by omega
  have hs : (ot n).val = 1 - pt i % 2 := by subst hn; rfl
  unfold landS
  iintro ⟨HW, Hg, Hs, Hb, Hi, HY, Hy⟩ Hk
  imod (open_s d n hq) $$ [Hb Hi Hy] with ⟨HT, HB, Hr⟩
  · isplitl [Hy]; · iexact Hy
    isplitl [Hb] <;> iassumption
  iapply (Scf.wp_for_bind _ _ _ _ _ _ _ _ _ (fun k _ => sInv c m4 W4 d.y0 d.Y d.δ (ot n) n (d.blk n) (2 * k))
    (fun k acc => t5_step i m2 m3 m4 m5 hm2 hm3 hm4 hm5 m7 m8 hm7 hm8 m9 hm9 W4 d.y0 d.Y d.δ d.hδ (ot n) n (d.blk n) hW hs (d.hY n hq (ot n)) k acc)) $$ [HW HT HB]
  · unfold sInv
    isplitl [HW]; · iexact HW
    isplitl [HT] <;> iassumption
  iintro %_ HI
  iapply Hk
  rw [show Scf.trips k0_t5_loop.lb k0_t5_loop.ub k0_t5_loop.st = 256 from rfl]
  unfold sInv midS
  icases HI with ⟨HW, -, HB⟩
  isplitl [HW]; · iexact HW
  isplitl [HB]; · iexact HB
  isplitl [Hg]; · iexact Hg
  isplitl [Hs]; · iexact Hs
  isplitl [HY] <;> iassumption

/-- The first point's start: the zero block written, its own tile's gathers issued. -/
theorem start1 (h0 : 0 = pt i) (h1 : k0_cond1 i = 1#1) (hW : ∀ j : Fin 512, (W2 (ix1 j)).toNat = d.σ (0 * 512 + j.val))
    (hb : d.blk 0 = k0_pay2 (F := F)) {hl hx hm} {β : Type} {kk : Unit → Prog (TpuEff nD τ sig (Elt F) Λ₀ .tc) β} {Q : β → sProp 𝕄} :
    iprop(owns (c : Thread nD τ) m2 fullShare W2 ∗ rest c d d.y0) ⊢ iprop((owns (c : Thread nD τ) m2 fullShare W2 ∗ flyG c d 0 ∗ landS c d 0 -∗ wp frame (wpE defs₀ 𝒱 (c : Thread nD τ) none) Set.univ (kk ⟨⟩) Q)
      -∗ wp frame (wpE defs₀ 𝒱 (c : Thread nD τ) none) Set.univ (Prog.lift (.load (Memref.whole cc0_scratch1) (Rect.unit ![0, 0, 0] S2x512x1024.size inb_S2x512x1024_S2x512x1024_0_0_0).toLoadRect hl) >>= fun _ =>
        Prog.lift (.store (Memref.whole cc0_scratch1) (Rect.unit ![0, 0, 0] S2x512x1024.size inb_S2x512x1024_S2x512x1024_0_0_0) (k0_pay2 (F := F)) Finset.univ hx hm) >>= fun _ =>
        Scf.Loop.for k0_t1_loop (k0_t1_ok i h1) () (k0_t1_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h1) >>= kk) Q) := by
  have hs : (sl 0).val = 0 := rfl
  unfold rest
  iintro ⟨HW, ⟨%f, Hf⟩, ⟨%g, Hg⟩, ⟨Hg0, Hg1, Hs0, Hs1⟩, Hh, Hy⟩ Hk
  iapply (buf_load (Memref.whole cc0_scratch1) (Rect.unit ![0, 0, 0] S2x512x1024.size inb_S2x512x1024_S2x512x1024_0_0_0) (Finset.subset_univ _)) $$ Hg
  iintro Hg
  iapply (buf_store (Memref.whole cc0_scratch1) (Rect.unit ![0, 0, 0] S2x512x1024.size inb_S2x512x1024_S2x512x1024_0_0_0) (Finset.subset_univ _)) $$ Hg
  iintro Hg
  have ew : ((Memref.whole cc0_scratch1).access (Rect.unit ![0, 0, 0] S2x512x1024.size inb_S2x512x1024_S2x512x1024_0_0_0)).write (Elt F) g (k0_pay2 (F := F)) Finset.univ
      = d.blk 0 := by
    rw [hb]
    funext y
    have ey : (Rect.unit (s := S2x512x1024) ![0, 0, 0] S2x512x1024.size inb_S2x512x1024_S2x512x1024_0_0_0).emb y = y := by
      funext a; refine Fin.ext ?_
      show (![0, 0, 0] : Fin 3 → ℕ) a + 1 * (y a).val = (y a).val
      fin_cases a <;> simp
    exact (congrArg _ ey.symm).trans (View.write_emb_of_mem _ _ (Finset.mem_univ y))
  rw [ew]
  ihave Hx := ptG_halves c 0 f $$ Hf
  icases Hx with ⟨Hfa, Hfb⟩
  ihave Hx := ptR_halves c 0 (d.blk 0) $$ Hg
  icases Hx with ⟨Hga, Hgb⟩
  imod (open_g d 0) $$ [Hfa Hh Hg0] with ⟨%f, HT, HB, Hr⟩
  · isplitl [Hfa]; · iexists _; iexact Hfa
    isplitl [Hh]; · iexact Hh
    iexact Hg0
  iapply (Scf.wp_for_bind _ _ _ _ _ _ _ _ _ (fun k _ => gInv c m2 W2 d.h0 d.σ d.hσ (sl 0) 0 f k)
    (fun k acc => t1_step i m2 m3 m4 m5 hm2 hm3 hm4 hm5 m7 m8 hm7 hm8 m9 hm9 W2 d.h0 d.σ d.hσ (sl 0) 0 f hW hs h1 k acc)) $$ [HW HT HB]
  · unfold gInv
    isplitl [HW]; · iexact HW
    isplitl [HT] <;> iassumption
  iintro %_ HI
  iapply Hk
  rw [show Scf.trips k0_t1_loop.lb k0_t1_loop.ub k0_t1_loop.st = 512 from rfl]
  unfold gInv flyG landS
  icases HI with ⟨HW, -, HB⟩
  ihave Hx := (rows_start c d (0 * 512) (Nat.zero_mul 512)) $$ Hy
  icases Hx with ⟨HY, Hy⟩
  isplitl [HW]; · iexact HW
  isplitl [HB Hr Hfb Hg1]
  · isplitl [HB]; · iexact HB
    isplitl [Hr]; · iexact Hr
    isplitl [Hfb]; · iexists _; iexact Hfb
    iexact Hg1
  isplitl [Hga]; · iexists _; iexact Hga
  isplitl [Hs0]; · iexact Hs0
  isplitl [Hgb]; · iexact Hgb
  isplitl [Hs1]; · iexact Hs1
  isplitl [HY]; · iexact HY
  iexact Hy

omit i m2 m3 m4 m5 hm2 hm3 hm4 hm5 m7 m8 hm7 hm8 m9 hm9 in
theorem inv_zero (c : Dev nD) : (inv c d 0 : sProp 𝕄) = rest c d d.y0 := rfl
omit i m2 m3 m4 m5 hm2 hm3 hm4 hm5 m7 m8 hm7 hm8 m9 hm9 in
theorem inv_mid (c : Dev nD) (n : ℕ) (h : n + 1 ≠ 264) : (inv c d (n + 1) : sProp 𝕄) = iprop(flyG c d (n + 1) ∗ flyS c d n) := if_neg h
omit i m2 m3 m4 m5 hm2 hm3 hm4 hm5 m7 m8 hm7 hm8 m9 hm9 in
theorem inv_last (c : Dev nD) : (inv c d (263 + 1) : sProp 𝕄) = rest c d d.Y := by unfold inv; exact if_pos rfl

/-- What part 1 of a point ends with. -/
def half1 (n : ℕ) : sProp 𝕄 :=
  iprop(owns (c : Thread nD τ) m2 fullShare W2 ∗ owns (c : Thread nD τ) m3 fullShare W3 ∗ owns (c : Thread nD τ) m4 fullShare W4 ∗ owed c
    ∗ flyG c d (n + 1) ∗ midS (c := c) d n)

/-- From the tile's rows landed and the slot awaited to the next tile's gathers and the waiting block's scatters issued. -/
theorem tail1 (n : ℕ) (hn : n = pt i) (hW3 : ∀ j : Fin 512, (W3 (ix1 j)).toNat = d.σ ((n + 1) * 512 + j.val))
    (hW4 : ∀ j : Fin 512, (W4 (ix1 j)).toNat = d.δ (n * 512 + j.val)) (a b : BitVec 32) {hl}
    {Q : (Σ' (_ : BitVec 32) (_ : BitVec 32) (_ : FVec F S512x1024 .bf16), FVec F S512x1024 .f32) → sProp 𝕄} :
    iprop((owns (c : Thread nD τ) m2 fullShare W2 ∗ owns (c : Thread nD τ) m3 fullShare W3 ∗ owns (c : Thread nD τ) m4 fullShare W4) ∗ owed c ∗ landG c d n ∗ landS c d n)
      ⊢ iprop((half1 (c := c) d m2 m3 m4 W2 W3 W4 n -∗ Q ⟨a, b, k0_pay3 (slotOf (gathered d.h0 d.σ d.hσ n) (sl n)), k0_pay4 (F := F)⟩)
        -∗ wp frame (wpE defs₀ 𝒱 (c : Thread nD τ) none) Set.univ (Prog.lift (.load (Memref.whole cc0_scratch0) (Rect.unit (s := S2x512x1024) (k0_off9 i) S1x512x1024.size (k0_off9_inb i)).toLoadRect hl) >>= fun v19 =>
          Scf.Loop.for k0_t4_loop k0_t4_ok () (k0_t4_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3) >>= fun _ =>
          Scf.Loop.for k0_t5_loop k0_t5_ok () (k0_t5_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3) >>= fun _ =>
          pure ⟨a, b, k0_pay3 v19, k0_pay4 (F := F)⟩) Q) := by
  have ho : k0_off9 i = ![(sl n).val, 0, 0] := by rw [off9_eq, ← hn]; rfl
  unfold landG half1
  iintro ⟨⟨H2, H3, H4⟩, HO, ⟨Hg, Hh⟩, HS⟩ Hk
  iapply (load_g (sl n) (gathered d.h0 d.σ d.hσ n) ho (k0_off9_inb i)) $$ Hg
  iintro Hg
  iapply (issue4 d i m2 m3 m4 m5 hm2 hm3 hm4 hm5 m7 m8 hm7 hm8 m9 hm9 W3 n hn hW3) $$ [H3 Hg Hh]
  · unfold landG
    isplitl [H3]; · iexact H3
    isplitl [Hg] <;> iassumption
  iintro ⟨H3, HG⟩
  iapply (issue5 d i m2 m3 m4 m5 hm2 hm3 hm4 hm5 m7 m8 hm7 hm8 m9 hm9 W4 n hn hW4) $$ [H4 HS]
  · isplitl [H4] <;> iassumption
  iintro ⟨H4, HS⟩
  rw [wp_pure]
  imodintro
  iapply Hk
  isplitl [H2]; · iexact H2
  isplitl [H3]; · iexact H3
  isplitl [H4]; · iexact H4
  isplitl [HO]; · iexact HO
  isplitl [HG] <;> iassumption

/-- PART 1 of a point. -/
theorem part1_run (n : ℕ) (hn : n = pt i) (hW2 : n = 0 → ∀ j : Fin 512, (W2 (ix1 j)).toNat = d.σ (0 * 512 + j.val))
    (hW3 : ∀ j : Fin 512, (W3 (ix1 j)).toNat = d.σ ((n + 1) * 512 + j.val))
    (hW4 : ∀ j : Fin 512, (W4 (ix1 j)).toNat = d.δ (n * 512 + j.val)) (hb : d.blk 0 = k0_pay2 (F := F))
    {Q : (Σ' (_ : BitVec 32) (_ : BitVec 32) (_ : FVec F S512x1024 .bf16), FVec F S512x1024 .f32) → sProp 𝕄} :
    iprop((owns (c : Thread nD τ) m2 fullShare W2 ∗ owns (c : Thread nD τ) m3 fullShare W3 ∗ owns (c : Thread nD τ) m4 fullShare W4) ∗ owed c ∗ inv c d n)
      ⊢ iprop((∀ a b, half1 (c := c) d m2 m3 m4 W2 W3 W4 n -∗ Q ⟨a, b, k0_pay3 (slotOf (gathered d.h0 d.σ d.hσ n) (sl n)), k0_pay4 (F := F)⟩)
        -∗ wp frame (wpE defs₀ 𝒱 (c : Thread nD τ) none) Set.univ (k0_part1 (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3) Q) := by
  have hlt := pt_lt i
  rw [k0_part1_eq_skeleton]
  unfold k0_part1_skel
  dsimp only
  rcases n with _ | n
  · have h1 : k0_cond1 i = 1#1 := (cond1_iff i).2 hn.symm
    have h2 : ¬ k0_cond2 i = 1#1 := fun h => by have := (cond2_iff i).1 h; omega
    rw [dif_pos h1, dif_neg h2]
    rw [inv_zero d c]
    iintro ⟨⟨H2, H3, H4⟩, HO, HI⟩ Hk
    iapply (start1 d i m2 m3 m4 m5 hm2 hm3 hm4 hm5 m7 m8 hm7 hm8 m9 hm9 W2 hn h1 (hW2 rfl) hb) $$ [H2 HI]
    · isplitl [H2] <;> iassumption
    iintro ⟨H2, HG, HS⟩
    iapply (await2 d i m2 m3 m4 m5 hm2 hm3 hm4 hm5 m7 m8 hm7 hm8 m9 hm9 0 hn) $$ [HO HG]
    · isplitl [HO] <;> iassumption
    iintro ⟨HO, HG⟩
    iapply (tail1 d i m2 m3 m4 m5 hm2 hm3 hm4 hm5 m7 m8 hm7 hm8 m9 hm9 W2 W3 W4 0 hn hW3 hW4) $$ [H2 H3 H4 HO HG HS]
    · isplitl [H2 H3 H4]
      · isplitl [H2]; · iexact H2
        isplitl [H3] <;> iassumption
      isplitl [HO]; · iexact HO
      isplitl [HG] <;> iassumption
    iapply Hk
  · have h1 : ¬ k0_cond1 i = 1#1 := fun h => by have := (cond1_iff i).1 h; omega
    have h2 : k0_cond2 i = 1#1 := (cond2_iff i).2 (by omega)
    rw [dif_neg h1, dif_pos h2]
    rw [inv_mid d c n (by omega)]
    iintro ⟨⟨H2, H3, H4⟩, HO, HG, HS⟩ Hk
    iapply (await2 d i m2 m3 m4 m5 hm2 hm3 hm4 hm5 m7 m8 hm7 hm8 m9 hm9 (n + 1) hn) $$ [HO HG]
    · isplitl [HO] <;> iassumption
    iintro ⟨HO, HG⟩
    iapply (await3 d i m2 m3 m4 m5 hm2 hm3 hm4 hm5 m7 m8 hm7 hm8 m9 hm9 n hn h2) $$ [HO HS]
    · isplitl [HO] <;> iassumption
    iintro ⟨HO, HS⟩
    iapply (tail1 d i m2 m3 m4 m5 hm2 hm3 hm4 hm5 m7 m8 hm7 hm8 m9 hm9 W2 W3 W4 (n + 1) hn hW3 hW4) $$ [H2 H3 H4 HO HG HS]
    · isplitl [H2 H3 H4]
      · isplitl [H2]; · iexact H2
        isplitl [H3] <;> iassumption
      isplitl [HO]; · iexact HO
      isplitl [HG] <;> iassumption
    iapply Hk

/-- The expert's three blocks, held. -/
def blocks (c : Dev nD) : sProp 𝕄 :=
  iprop(owns (c : Thread nD τ) m7 fullShare wg ∗ owns (c : Thread nD τ) m8 fullShare wu ∗ owns (c : Thread nD τ) m9 fullShare wd)

/-- PART 2 of a point. -/
theorem part2_run (x : FVec F S512x1024 .bf16) (z : FVec F S512x1024 .f32)
    {Q : (Σ' (_ : FVec F S512x1024 .f32) (_ : FVec F S512x1792 .f32) (_ : FVec F S512x1792 .f32) (_ : FVec F S512x1792 .f32), FVec F S512x1792 .f32) → sProp 𝕄} :
    blocks m7 m8 m9 wg wu wd c
      ⊢ iprop((blocks m7 m8 m9 wg wu wd c -∗ Q ⟨k0_pay5 x z (colsA wg) (colsA wu) (rowsA wd), k0_pay6 x (colsB wg), k0_pay7 x (colsB wu), k0_pay8 x (colsB wg), k0_pay9 (F := F)⟩)
        -∗ wp frame (wpE defs₀ 𝒱 (c : Thread nD τ) none) Set.univ (k0_part2 (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 x z) Q) := by
  rw [k0_part2_eq_skeleton]
  unfold k0_part2_skel blocks
  iintro ⟨H7, H8, H9⟩ Hk
  iapply (win_load m7 wg _ (colsA wg) rfl) $$ H7
  iintro H7
  iapply (win_load m8 wu _ (colsA wu) rfl) $$ H8
  iintro H8
  iapply (win_load m9 wd _ (rowsA wd) rfl) $$ H9
  iintro H9
  iapply (win_load m7 wg _ (colsB wg) rfl) $$ H7
  iintro H7
  iapply (win_load m8 wu _ (colsB wu) rfl) $$ H8
  iintro H8
  rw [wp_pure]
  imodintro
  iapply Hk
  isplitl [H7]; · iexact H7
  isplitl [H8] <;> iassumption

/-- The last point's end: everything awaited, the last block scattered and awaited. -/
theorem finish (hn : 263 = pt i) (h3 : k0_cond3 i = 1#1) (hW : ∀ j : Fin 512, (W5 (ix1 j)).toNat = d.δ (264 * 512 + j.val))
    {β : Type} {kk : Unit → Prog (TpuEff nD τ sig (Elt F) Λ₀ .tc) β} {Q : β → sProp 𝕄} :
    iprop(owns (c : Thread nD τ) m5 fullShare W5 ∗ owed c ∗ flyG c d 264 ∗ flyS c d 263)
      ⊢ iprop((owns (c : Thread nD τ) m5 fullShare W5 ∗ owed c ∗ rest c d d.Y -∗ wp frame (wpE defs₀ 𝒱 (c : Thread nD τ) none) Set.univ (kk ⟨⟩) Q)
        -∗ wp frame (wpE defs₀ 𝒱 (c : Thread nD τ) none) Set.univ (Scf.Loop.for k0_t6_loop (k0_t6_ok i h3) () (k0_t6_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h3) >>= fun _ =>
          Scf.Loop.for k0_t7_loop (k0_t7_ok i h3) () (k0_t7_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h3) >>= fun _ =>
          Scf.Loop.for k0_t8_loop (k0_t8_ok i h3) () (k0_t8_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h3) >>= fun _ =>
          Scf.Loop.for k0_t9_loop (k0_t9_ok i h3) () (k0_t9_body (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3 h3) >>= kk) Q) := by
  have hs : (sl 264).val = 1 - pt i % 2 := by rw [← hn]; rfl
  have ho : (ot 264).val = pt i % 2 := by rw [← hn]; rfl
  iintro ⟨H5, HO, HG, HS⟩ Hk
  ihave Hx := drain_g d 264 $$ [HO HG]
  · isplitl [HO] <;> iassumption
  icases Hx with ⟨HD, Hr⟩
  have X6 := fun k acc => t6_step (𝒱 := 𝒱) (c := c) i m2 m3 m4 m5 hm2 hm3 hm4 hm5 m7 m8 hm7 hm8 m9 hm9 (sl 264) (gGive c d.h0 d.σ d.hσ (sl 264) 264) hs h3 k acc
  iapply (Scf.wp_for_bind _ _ _ _ _ _ _ _ _ (fun k _ => dInv c (gsem (sl 264)) (gGive c d.h0 d.σ d.hσ (sl 264) 264) k) X6) $$ HD
  iintro %_ HD
  rw [show Scf.trips k0_t6_loop.lb k0_t6_loop.ub k0_t6_loop.st = 512 from rfl]
  ihave Hx := close_g d 264 $$ [HD Hr]
  · isplitl [HD] <;> iassumption
  icases Hx with ⟨HO, HG⟩
  ihave Hx := drain_s d 263 $$ [HO HS]
  · isplitl [HO] <;> iassumption
  icases Hx with ⟨HD, Hr⟩
  have X7 := fun k acc => t7_step (𝒱 := 𝒱) (c := c) i m2 m3 m4 m5 hm2 hm3 hm4 hm5 m7 m8 hm7 hm8 m9 hm9 (sl 264) (sTake c d.Y d.δ (sl 264) 263 (d.blk 263)) hs h3 k acc
  iapply (Scf.wp_for_bind _ _ _ _ _ _ _ _ _ (fun k _ => dInv c (ssem (sl 264)) (sTake c d.Y d.δ (sl 264) 263 (d.blk 263)) k) X7) $$ HD
  iintro %_ HD
  rw [show Scf.trips k0_t7_loop.lb k0_t7_loop.ub k0_t7_loop.st = 512 from rfl]
  ihave Hx := close_s d 263 (by omega) $$ [HD Hr]
  · isplitl [HD] <;> iassumption
  icases Hx with ⟨HO, HS⟩
  unfold landS
  icases HS with ⟨⟨%g, Hg⟩, Hs, Hb, Hi, HY, Hy⟩
  imod (open_s d 264 (by omega)) $$ [Hb Hi Hy] with ⟨HT, HB, Hr⟩
  · isplitl [Hy]; · iexact Hy
    isplitl [Hb] <;> iassumption
  have X8 := fun k acc => t8_step (𝒱 := 𝒱) (c := c) i m2 m3 m4 m5 hm2 hm3 hm4 hm5 m7 m8 hm7 hm8 m9 hm9 W5 d.y0 d.Y d.δ d.hδ (ot 264) 264 (d.blk 264) hW ho h3 (d.hY 264 (by omega) (ot 264)) k acc
  iapply (Scf.wp_for_bind _ _ _ _ _ _ _ _ _ (fun k _ => sInv c m5 W5 d.y0 d.Y d.δ (ot 264) 264 (d.blk 264) k) X8) $$ [H5 HT HB]
  · unfold sInv
    isplitl [H5]; · iexact H5
    isplitl [HT] <;> iassumption
  iintro %_ HI
  rw [show Scf.trips k0_t8_loop.lb k0_t8_loop.ub k0_t8_loop.st = 512 from rfl]
  unfold sInv sBatch
  icases HI with ⟨H5, -, HB⟩
  have X9 := fun k acc => t9_step (𝒱 := 𝒱) (c := c) i m2 m3 m4 m5 hm2 hm3 hm4 hm5 m7 m8 hm7 hm8 m9 hm9 (ot 264) (sTake c d.Y d.δ (ot 264) 264 (d.blk 264)) ho h3 k acc
  iapply (Scf.wp_for_bind _ _ _ _ _ _ _ _ _ (fun k _ => dInv c (ssem (ot 264)) (sTake c d.Y d.δ (ot 264) 264 (d.blk 264)) k) X9) $$ [HO HB]
  · unfold dInv
    rw [if_pos (by decide), Nat.zero_mul]
    isplitl [HO] <;> iassumption
  iintro %_ HD
  rw [show Scf.trips k0_t9_loop.lb k0_t9_loop.ub k0_t9_loop.st = 512 from rfl]
  unfold dInv landG
  rw [if_neg (Nat.lt_irrefl _)]
  icases HD with ⟨HO, Hi, HD⟩
  ihave Hx := s_give c d (ot 264) 264 (by omega) (d.blk 264) $$ HD
  icases Hx with ⟨HY1, Hb⟩
  icases HG with ⟨Hga, Hh, Hgs, ⟨%f, Hgb⟩, Hgi⟩
  have e1 : iprop(rows c d.δ d.Y 0 (264 * 512) ∗ rows c d.δ d.Y (264 * 512) ((264 + 1) * 512)) ⊢ (ptY c Finset.univ d.Y : sProp 𝕄) := by
    rw [rows_all c d d.Y, rows_split c d.δ d.Y (show 0 ≤ 264 * 512 by omega) (show 264 * 512 ≤ 135680 by omega)]
  iapply Hk
  unfold rest
  isplitl [H5]; · iexact H5
  isplitl [HO]; · iexact HO
  isplitl [Hga Hgb]
  · iapply ptG_whole c 264
    isplitl [Hga] <;> iassumption
  isplitl [Hg Hb]
  · iapply ptR_whole c 264
    isplitl [Hg] <;> iassumption
  isplitl [Hgs Hgi Hs Hi]
  · isplitl [Hgs]; · iexact Hgs
    isplitl [Hgi]; · iexact Hgi
    isplitl [Hs]; · iexact Hs
    iexact Hi
  isplitl [Hh]; · iexact Hh
  iapply e1
  isplitl [HY] <;> iassumption

/-- ONE POINT. -/
theorem point_run (n : ℕ) (hn : n = pt i) (hW2 : n = 0 → ∀ j : Fin 512, (W2 (ix1 j)).toNat = d.σ (0 * 512 + j.val))
    (hW3 : ∀ j : Fin 512, (W3 (ix1 j)).toNat = d.σ ((n + 1) * 512 + j.val))
    (hW4 : ∀ j : Fin 512, (W4 (ix1 j)).toNat = d.δ (n * 512 + j.val)) (hW5 : n = 263 → ∀ j : Fin 512, (W5 (ix1 j)).toNat = d.δ (264 * 512 + j.val))
    (hb : d.blk 0 = k0_pay2 (F := F))
    (hblk : ∀ (j : Fin 512) (l : Fin 1024), d.blk (n + 1) (ix3 (sl n) j l) = tileOut (slotOf (gathered d.h0 d.σ d.hσ n) (sl n)) wg wu wd (ix3 (0 : Fin 1) j l))
    {Q : PUnit → sProp 𝕄} :
    iprop(((owns (c : Thread nD τ) m2 fullShare W2 ∗ owns (c : Thread nD τ) m3 fullShare W3 ∗ owns (c : Thread nD τ) m4 fullShare W4)
        ∗ owns (c : Thread nD τ) m5 fullShare W5 ∗ blocks m7 m8 m9 wg wu wd c) ∗ owed c ∗ inv c d n)
      ⊢ iprop((((owns (c : Thread nD τ) m2 fullShare W2 ∗ owns (c : Thread nD τ) m3 fullShare W3 ∗ owns (c : Thread nD τ) m4 fullShare W4)
          ∗ owns (c : Thread nD τ) m5 fullShare W5 ∗ blocks m7 m8 m9 wg wu wd c) ∗ owed c ∗ inv c d (n + 1) -∗ Q ⟨⟩)
        -∗ wp frame (wpE defs₀ 𝒱 (c : Thread nD τ) none) Set.univ (cc0_moe_experts (F := F) i (Memref.whole main_arg3) (Memref.isWhole_whole _) m2 hm2 m3 hm3 m4 hm4 m5 hm5 (Memref.whole main_arg0) (Memref.isWhole_whole _) m7 hm7 m8 hm8 m9 hm9
        (Memref.whole main_v3) (Memref.isWhole_whole _) (Memref.whole cc0_scratch0) (Memref.isWhole_whole _) (Memref.whole cc0_scratch1) (Memref.isWhole_whole _) cc0_scratch2 cc0_scratch3) Q) := by
  have hlt := pt_lt i
  have ho : k0_off9 i = ![(sl n).val, 0, 0] := by rw [off9_eq, ← hn]; rfl
  rw [cc0_moe_experts_eq_skeleton]
  unfold cc0_moe_experts_skel
  iintro ⟨⟨H234, H5, HB⟩, HO, HI⟩ Hk
  rw [wp_bind]
  iapply (part1_run d i m2 m3 m4 m5 hm2 hm3 hm4 hm5 m7 m8 hm7 hm8 m9 hm9 W2 W3 W4 n hn hW2 hW3 hW4 hb) $$ [H234 HO HI]
  · isplitl [H234]; · iexact H234
    isplitl [HO] <;> iassumption
  iintro %a %b HH
  unfold half1 midS
  icases HH with ⟨H2, H3, H4, HO, HG, HSB, ⟨%g, Hg⟩, Hs, HY, Hy⟩
  dsimp only
  rw [wp_bind]
  iapply (part2_run i m2 m3 m4 m5 hm2 hm3 hm4 hm5 m7 m8 hm7 hm8 m9 hm9 wg wu wd _ _) $$ HB
  iintro HB
  dsimp only
  unfold blocks
  icases HB with ⟨H7, H8, H9⟩
  iapply (win_load m9 wd _ (rowsB wd) rfl) $$ H9
  iintro H9
  iapply (load_r (sl n) g ho (k0_off9_inb i)) $$ Hg
  iintro Hg
  iapply (store_r (sl n) g (d.blk (n + 1)) ho (k0_off9_inb i) _ hblk) $$ Hg
  iintro Hg
  have eS : iprop(sBatch c d.Y d.δ (ot n) n (d.blk n) 512 0 ∗ ptR c (half (sl n)) (d.blk (n + 1)) ∗ idle c (ssem (sl n))
      ∗ rows c d.δ d.Y 0 (n * 512) ∗ rows c d.δ d.y0 ((n + 1) * 512) 135680) ⊢ (flyS c d n : sProp 𝕄) := by
    unfold flyS; rw [sl_succ, ot_succ]
  ihave HS := eS $$ [HSB Hg Hs HY Hy]
  · isplitl [HSB]; · iexact HSB
    isplitl [Hg]; · iexact Hg
    isplitl [Hs]; · iexact Hs
    isplitl [HY] <;> iassumption
  by_cases h : n = 263
  · subst h
    have h3 : k0_cond3 i = 1#1 := (cond3_iff i).2 hn.symm
    rw [dif_pos h3]
    iapply (finish d i m2 m3 m4 m5 hm2 hm3 hm4 hm5 m7 m8 hm7 hm8 m9 hm9 W5 hn h3 (hW5 rfl)) $$ [H5 HO HG HS]
    · isplitl [H5]; · iexact H5
      isplitl [HO]; · iexact HO
      isplitl [HG] <;> iassumption
    iintro ⟨H5, HO, HR⟩
    rw [wp_pure]
    imodintro
    iapply Hk
    rw [inv_last d c]
    isplitl [H2 H3 H4 H5 H7 H8 H9]
    · isplitl [H2 H3 H4]
      · isplitl [H2]; · iexact H2
        isplitl [H3] <;> iassumption
      isplitl [H5]; · iexact H5
      isplitl [H7]; · iexact H7
      isplitl [H8] <;> iassumption
    isplitl [HO] <;> iassumption
  · have h3 : ¬ k0_cond3 i = 1#1 := fun h' => h (hn.trans ((cond3_iff i).1 h'))
    rw [dif_neg h3]
    rw [wp_pure]
    imodintro
    iapply Hk
    rw [inv_mid d c n (by omega)]
    isplitl [H2 H3 H4 H5 H7 H8 H9]
    · isplitl [H2 H3 H4]
      · isplitl [H2]; · iexact H2
        isplitl [H3] <;> iassumption
      isplitl [H5]; · iexact H5
      isplitl [H7]; · iexact H7
      isplitl [H8] <;> iassumption
    isplitl [HO]; · iexact HO
    isplitl [HG] <;> iassumption

end Run

end Cert.Experts

end
-- ==== Proof.Tables.lean ====
/- The experts' call: what one launch works on — the tables' words, the weights' blocks and the result they name — and the
   launch's proof data. -/
module

public import proofs.«01_k».proof.Proof.Body
public import proofs.«01_k».proof.Proof.Gen.KernelIdeal.Launch
public import Idealize.ShloMosaic.Lib.Pipeline.Regions
public import Idealize.ShloMosaic.Lib.Pipeline.RegionsLoop
public import Idealize.ShloMosaic.Lib.Pipeline.FrameBody
public import Idealize.ShloMosaic.Lib.Routing.OpsPair

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The tables -/

/-- What the call asks of its tables: every gathered row is a token's, every scattered row is the result's and named once, and
    every tile's expert is one of the eight. -/
structure Tables (src dst : S135680.Idx → BitVec 32) (te : S264.Idx → BitVec 32) : Prop where
  src_lt : ∀ x, (src x).toNat < 65536
  dst_lt : ∀ x, (dst x).toNat < 135680
  dst_inj : ∀ x y, dst x = dst y → x = y
  te_lt : ∀ x, (te x).toNat < 8

/-- A row table's word at a number (zero past the end). -/
def rowAt (w : S135680.Idx → BitVec 32) (n : ℕ) : ℕ := if h : n < 135680 then (w (ix1 ⟨n, h⟩)).toNat else 0

theorem rowAt_eq (w : S135680.Idx → BitVec 32) {n : ℕ} (h : n < 135680) : rowAt w n = (w (ix1 ⟨n, h⟩)).toNat := dif_pos h

theorem rowAt_lt (w : S135680.Idx → BitVec 32) {B : ℕ} (hB : 0 < B) (h : ∀ x, (w x).toNat < B) (n : ℕ) : rowAt w n < B := by
  unfold rowAt; split
  · exact h _
  · exact hB

theorem rowAt_inj (w : S135680.Idx → BitVec 32) (h : ∀ x y, w x = w y → x = y) {a b : ℕ} (ha : a < 135680) (hb : b < 135680)
    (e : rowAt w a = rowAt w b) : a = b := by
  rw [rowAt_eq w ha, rowAt_eq w hb] at e
  have := congrFun (h _ _ (BitVec.eq_of_toNat_eq e)) 0
  exact congrArg Fin.val this

/-- A tile's expert (zero past the last tile). -/
def expert (te : S264.Idx → BitVec 32) (n : ℕ) : ℕ := if h : n < 264 then (te (ix1 ⟨n, h⟩)).toNat else 0

theorem expert_eq (te : S264.Idx → BitVec 32) {n : ℕ} (h : n < 264) : expert te n = (te (ix1 ⟨n, h⟩)).toNat := dif_pos h

theorem expert_lt (te : S264.Idx → BitVec 32) (h : ∀ x, (te x).toNat < 8) (n : ℕ) : expert te n < 8 := by
  unfold expert; split
  · exact h _
  · exact Nat.zero_lt_succ _

/-! ## The result -/

/-- Expert `e`'s gate or up block, -/
def wideBlock (w : S2x8x1024x3584.Idx → Elt F .bf16) (e : Fin 8) : S1x1x1024x3584.Idx → Elt F .bf16 := fun y => w (ix4 (0 : Fin 2) e (y 2) (y 3))
/-- and its down block. -/
def tallBlock (w : S2x8x3584x1024.Idx → Elt F .bf16) (e : Fin 8) : S1x1x3584x1024.Idx → Elt F .bf16 := fun y => w (ix4 (0 : Fin 2) e (y 2) (y 3))

section Result

variable (h0 : BufH F) (src dst : S135680.Idx → BitVec 32) (te : S264.Idx → BitVec 32)
  (wg wu : S2x8x1024x3584.Idx → Elt F .bf16) (wd : S2x8x3584x1024.Idx → Elt F .bf16) (hT : Tables src dst te) (y0 : BufY F)

/-- The blocks of rows the result is made of: the zeros, then each tile's. -/
def blkOf : ℕ → BufB F
  | 0 => k0_pay2 (F := F)
  | n + 1 => fun y => tileOut (slotOf (gathered h0 (rowAt src) (rowAt_lt src (by norm_num) hT.src_lt) n) (sl n))
      (wideBlock wg ⟨expert te n, expert_lt te hT.te_lt n⟩) (wideBlock wu ⟨expert te n, expert_lt te hT.te_lt n⟩)
      (tallBlock wd ⟨expert te n, expert_lt te hT.te_lt n⟩) (ix3 (0 : Fin 1) (y 1) (y 2))

theorem blkOf_slot (q : ℕ) (s s' : Fin 2) (j : Fin 512) (l : Fin 1024) :
    blkOf h0 src dst te wg wu wd hT q (ix3 s j l) = blkOf h0 src dst te wg wu wd hT q (ix3 s' j l) := by
  cases q <;> rfl

open Classical in
/-- The result: row `dst[r]` is row `r` of the blocks (and a row no table names, of which there is none, is what it was). -/
def result : BufY F := fun y =>
  if h : ∃ r : Fin 135680, rowAt dst r.val = (y 0).val then
    blkOf h0 src dst te wg wu wd hT (h.choose.val / 512) (ix3 (0 : Fin 2) ⟨h.choose.val % 512, Nat.mod_lt _ (by norm_num)⟩ (y 1))
  else y0 y

theorem result_row (q : ℕ) (hq : q < 265) (s : Fin 2) (j : Fin 512) (l : Fin 1024) :
    result h0 src dst te wg wu wd hT y0 (ix2 ⟨rowAt dst (q * 512 + j.val), rowAt_lt dst (by norm_num) hT.dst_lt _⟩ l)
      = blkOf h0 src dst te wg wu wd hT q (ix3 s j l) := by
  have hj : j.val < 512 := j.isLt
  have hr : q * 512 + j.val < 135680 := by omega
  unfold result
  have hex : ∃ r : Fin 135680, rowAt dst r.val = rowAt dst (q * 512 + j.val) := ⟨⟨q * 512 + j.val, hr⟩, rfl⟩
  rw [dif_pos hex]
  have hc : hex.choose.val = q * 512 + j.val := rowAt_inj dst hT.dst_inj hex.choose.isLt hr hex.choose_spec
  have e1 : hex.choose.val / 512 = q := by rw [hc]; omega
  have e2 : (⟨hex.choose.val % 512, Nat.mod_lt _ (by norm_num)⟩ : Fin 512) = j := Fin.ext (by show hex.choose.val % 512 = _; rw [hc]; omega)
  refine Eq.trans ?_ (blkOf_slot h0 src dst te wg wu wd hT q 0 s j l)
  show blkOf h0 src dst te wg wu wd hT (hex.choose.val / 512) (ix3 (0 : Fin 2) ⟨hex.choose.val % 512, _⟩ l) = _
  rw [e1, e2]

/-- The launch's work. -/
def workOf : Work F where
  h0 := h0
  σ := rowAt src
  hσ := rowAt_lt src (by norm_num) hT.src_lt
  δ := rowAt dst
  hδ := rowAt_lt dst (by norm_num) hT.dst_lt
  hinj _ _ ha hb e := rowAt_inj dst hT.dst_inj ha hb e
  y0 := y0
  Y := result h0 src dst te wg wu wd hT y0
  blk := blkOf h0 src dst te wg wu wd hT
  hY := result_row h0 src dst te wg wu wd hT y0

end Result

/-! ## The prefetched table -/

theorem numel1 : S1.numel = 1 := numel1_S1

theorem off1_eq (i : grid0.Coords) : k0_off1 i = ![pt i] := by
  have h := pt_lt i
  funext a
  fin_cases a
  show (BitVec.ofNat 32 (i 0).val).toNat = _
  rw [BitVec.toNat_ofNat]
  exact Nat.mod_eq_of_lt (lt_trans h (by norm_num))

/-- The index maps' read of the table at a point: that tile's word. -/
theorem table_at (pf : pre0.Contents (Elt F)) (i : grid0.Coords) (h : ∀ a, k0_off1 i a + S1.size a ≤ S264.size a) :
    pf.at 0 (Rect.unit (s := S264) (k0_off1 i) S1.size h) numel1_S1 = (pf 0 : S264.Idx → BitVec 32) (ix1 ⟨pt i, pt_lt i⟩) := by
  refine congrArg (pf 0) (funext fun a => ?_)
  fin_cases a
  have h0 : ((Shape.Idx.first (s := S1) (numel1_S1.symm ▸ Nat.one_pos)) 0).val < 1 := (Shape.Idx.first _ 0).isLt
  have h1 : k0_off1 i 0 = pt i := congrFun (off1_eq i) 0
  have h2 : ∀ z : ℕ, z < 1 → k0_off1 i 0 + 1 * z = pt i := fun z hz => by omega
  exact Fin.ext (h2 _ h0)

theorem wide_map (pf : pre0.Contents (Elt F)) (i : grid0.Coords) :
    cc0_transform_5 k0_off1_inb numel1_S1 pf i = ![0, ((pf 0 : S264.Idx → BitVec 32) (ix1 ⟨pt i, pt_lt i⟩)).toNat, 0, 0] := by
  rw [← table_at pf i (k0_off1_inb i)]; rfl
theorem wide_map' (pf : pre0.Contents (Elt F)) (i : grid0.Coords) :
    cc0_transform_6 k0_off1_inb numel1_S1 pf i = ![0, ((pf 0 : S264.Idx → BitVec 32) (ix1 ⟨pt i, pt_lt i⟩)).toNat, 0, 0] := by
  rw [← table_at pf i (k0_off1_inb i)]; rfl
theorem tall_map (pf : pre0.Contents (Elt F)) (i : grid0.Coords) :
    cc0_transform_7 k0_off1_inb numel1_S1 pf i = ![0, ((pf 0 : S264.Idx → BitVec 32) (ix1 ⟨pt i, pt_lt i⟩)).toNat, 0, 0] := by
  rw [← table_at pf i (k0_off1_inb i)]; rfl

theorem wide_inb (e : ℕ) (he : e < 8) : ∀ a, ((![0, e, 0, 0] : Fin 4 → ℕ) a + 1) * S1x1x1024x3584.size a ≤ S2x8x1024x3584.size a := by
  intro a; fin_cases a
  · show (0 + 1) * 1 ≤ 2; omega
  · show (e + 1) * 1 ≤ 8; omega
  · show (0 + 1) * 1024 ≤ 1024; omega
  · show (0 + 1) * 3584 ≤ 3584; omega
theorem tall_inb (e : ℕ) (he : e < 8) : ∀ a, ((![0, e, 0, 0] : Fin 4 → ℕ) a + 1) * S1x1x3584x1024.size a ≤ S2x8x3584x1024.size a := by
  intro a; fin_cases a
  · show (0 + 1) * 1 ≤ 2; omega
  · show (e + 1) * 1 ≤ 8; omega
  · show (0 + 1) * 3584 ≤ 3584; omega
  · show (0 + 1) * 1024 ≤ 1024; omega

theorem wide_words (e : ℕ) (h) : (Rect.block (s := S2x8x1024x3584) S1x1x1024x3584.size ![0, e, 0, 0] h).WholeWords (EltTy.packing .bf16) :=
  by
  have h2 : 2 ≤ S2x8x1024x3584.rank := by decide
  have hr : S2x8x1024x3584.rowAx h2 = (2 : Fin 4) := rfl
  refine .inr ⟨h2, rfl, ?_, ?_⟩
  · rw [hr]; exact Nat.zero_mul 1024
  · rw [hr]; rfl
theorem tall_words (e : ℕ) (h) : (Rect.block (s := S2x8x3584x1024) S1x1x3584x1024.size ![0, e, 0, 0] h).WholeWords (EltTy.packing .bf16) :=
  by
  have h2 : 2 ≤ S2x8x3584x1024.rank := by decide
  have hr : S2x8x3584x1024.rowAx h2 = (2 : Fin 4) := rfl
  refine .inr ⟨h2, rfl, ?_, ?_⟩
  · rw [hr]; exact Nat.zero_mul 3584
  · rw [hr]; rfl

/-- A table of experts is admissible. -/
theorem ok_of_lt (pf : pre0.Contents (Elt F)) (h : ∀ x : S264.Idx, ((pf 0 : S264.Idx → BitVec 32) x).toNat < 8) : ok0 pf := by
  unfold ok0
  refine ⟨fun i => ?_, fun i => ?_, fun i => ?_⟩
  · rw [wide_map]; exact ⟨wide_inb _ (h _), .inr (wide_words _ _)⟩
  · rw [wide_map']; exact ⟨wide_inb _ (h _), .inr (wide_words _ _)⟩
  · rw [tall_map]; exact ⟨tall_inb _ (h _), .inr (tall_words _ _)⟩

end Cert.Experts

end
-- ==== Proof.Windows.lean ====
/- The experts' call: what the pipeline's windows hold at a grid point — the tables' words of the point's two tiles and the
   blocks of the tile's expert. -/
module

public import proofs.«01_k».proof.Proof.Tables

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## Points -/

theorem coords_pt (t : Fin grid0.N) : pt (grid0.coords t) = t.val := by
  have hs : grid0.stride 0 = 1 := by decide
  have ht : t.val < 264 := lt_of_lt_of_eq t.isLt N_0
  show t.val / grid0.stride 0 % 264 = t.val
  rw [hs, Nat.div_one, Nat.mod_eq_of_lt ht]

theorem word_of (n k : ℕ) (hn : n < 264) (hk : k ≤ 1) : (BitVec.ofNat 32 n + BitVec.ofNat 32 k).toNat = n + k := by
  rw [BitVec.toNat_add, BitVec.toNat_ofNat, BitVec.toNat_ofNat]
  omega

theorem map0 (i : grid0.Coords) : cc0_transform_0 i = ![pt i] := by
  funext a; fin_cases a; exact word_of (pt i) 0 (pt_lt i) (by omega)
theorem map1 (i : grid0.Coords) : cc0_transform_1 i = ![pt i + 1] := by
  funext a; fin_cases a; exact word_of (pt i) 1 (pt_lt i) (by omega)
theorem map2 (i : grid0.Coords) : cc0_transform_2 i = ![pt i] := by
  funext a; fin_cases a; exact word_of (pt i) 0 (pt_lt i) (by omega)
theorem map3 (i : grid0.Coords) : cc0_transform_3 i = ![pt i + 1] := by
  funext a; fin_cases a; exact word_of (pt i) 1 (pt_lt i) (by omega)

/-! ## The windows' blocks -/

variable (a : (pcfg0 (F := F)).Adm) (t : Fin (cfg0 a).N) (c : Dev nD)

/-- What window `w` holds at point `t` when its array holds `A`. -/
def staged (w : Fin 7) (A : Buf (Elt F) (((cfg0 a).win w).arr.view.loc (c : Thread nD τ))) :
    ((cfg0 a).win w).block.Idx → Elt F ((cfg0 a).win w).elt :=
  ((cfg0 a).win w).fill ((cfg0 a).grid.coords t) (fun _ => Classical.arbitrary _) ((((cfg0 a).win w).blk t).view.read (Elt F) A)

theorem word_pos (n j : ℕ) (hn : n ≤ 264) (hj : j < 512) : n * 512 + j < 135680 := by omega

theorem staged0 (A : S135680.Idx → BitVec 32) (j : Fin 512) (n : ℕ) (hn : n = t.val) (hN : n < 264) :
    (staged a t c 0 A : S512.Idx → BitVec 32) (ix1 j) = A (ix1 ⟨n * 512 + j.val, word_pos n j.val (by omega) j.isLt⟩) := by
  have hc := coords_pt t
  have hm := congrFun (map0 (grid0.coords t)) 0
  have hx : ∀ z : ℕ, z = pt (grid0.coords t) → z * 512 + 1 * j.val = n * 512 + j.val := fun z hz => by rw [hz, hc, ← hn, one_mul]
  refine congrArg A (funext fun b => ?_)
  fin_cases b
  exact Fin.ext (hx _ hm)

theorem staged1 (A : S135680.Idx → BitVec 32) (j : Fin 512) (n : ℕ) (hn : n = t.val) (hN : n < 264) :
    (staged a t c 1 A : S512.Idx → BitVec 32) (ix1 j) = A (ix1 ⟨(n + 1) * 512 + j.val, word_pos (n + 1) j.val (by omega) j.isLt⟩) := by
  have hc := coords_pt t
  have hm := congrFun (map1 (grid0.coords t)) 0
  have hx : ∀ z : ℕ, z = pt (grid0.coords t) + 1 → z * 512 + 1 * j.val = (n + 1) * 512 + j.val := fun z hz => by rw [hz, hc, ← hn, one_mul]
  refine congrArg A (funext fun b => ?_)
  fin_cases b
  exact Fin.ext (hx _ hm)

theorem staged2 (A : S135680.Idx → BitVec 32) (j : Fin 512) (n : ℕ) (hn : n = t.val) (hN : n < 264) :
    (staged a t c 2 A : S512.Idx → BitVec 32) (ix1 j) = A (ix1 ⟨n * 512 + j.val, word_pos n j.val (by omega) j.isLt⟩) := by
  have hc := coords_pt t
  have hm := congrFun (map2 (grid0.coords t)) 0
  have hx : ∀ z : ℕ, z = pt (grid0.coords t) → z * 512 + 1 * j.val = n * 512 + j.val := fun z hz => by rw [hz, hc, ← hn, one_mul]
  refine congrArg A (funext fun b => ?_)
  fin_cases b
  exact Fin.ext (hx _ hm)

theorem staged3 (A : S135680.Idx → BitVec 32) (j : Fin 512) (n : ℕ) (hn : n = t.val) (hN : n < 264) :
    (staged a t c 3 A : S512.Idx → BitVec 32) (ix1 j) = A (ix1 ⟨(n + 1) * 512 + j.val, word_pos (n + 1) j.val (by omega) j.isLt⟩) := by
  have hc := coords_pt t
  have hm := congrFun (map3 (grid0.coords t)) 0
  have hx : ∀ z : ℕ, z = pt (grid0.coords t) + 1 → z * 512 + 1 * j.val = (n + 1) * 512 + j.val := fun z hz => by rw [hz, hc, ← hn, one_mul]
  refine congrArg A (funext fun b => ?_)
  fin_cases b
  exact Fin.ext (hx _ hm)

/-- A block of an expert's, at block index `f`: where its words lie in the stack. -/
theorem wide_at (f : Fin 4 → ℕ) (e : Fin 8) (hf : f = ![0, e.val, 0, 0]) (A : S2x8x1024x3584.Idx → Elt F .bf16)
    (y : S1x1x1024x3584.Idx) (x : S2x8x1024x3584.Idx) (hx : ∀ b, (x b).val = f b * S1x1x1024x3584.size b + 1 * (y b).val) :
    A x = wideBlock A e y := by
  subst hf
  refine congrArg A (funext fun b => Fin.ext ?_)
  have h0 : (y 0).val < 1 := (y 0).isLt
  have h1 : (y 1).val < 1 := (y 1).isLt
  rw [hx b]
  fin_cases b
  · show 0 * 1 + 1 * (y 0).val = 0; omega
  · show e.val * 1 + 1 * (y 1).val = e.val; omega
  · show 0 * 1024 + 1 * (y 2).val = (y 2).val; omega
  · show 0 * 3584 + 1 * (y 3).val = (y 3).val; omega
theorem tall_at (f : Fin 4 → ℕ) (e : Fin 8) (hf : f = ![0, e.val, 0, 0]) (A : S2x8x3584x1024.Idx → Elt F .bf16)
    (y : S1x1x3584x1024.Idx) (x : S2x8x3584x1024.Idx) (hx : ∀ b, (x b).val = f b * S1x1x3584x1024.size b + 1 * (y b).val) :
    A x = tallBlock A e y := by
  subst hf
  refine congrArg A (funext fun b => Fin.ext ?_)
  have h0 : (y 0).val < 1 := (y 0).isLt
  have h1 : (y 1).val < 1 := (y 1).isLt
  rw [hx b]
  fin_cases b
  · show 0 * 1 + 1 * (y 0).val = 0; omega
  · show e.val * 1 + 1 * (y 1).val = e.val; omega
  · show 0 * 3584 + 1 * (y 2).val = (y 2).val; omega
  · show 0 * 1024 + 1 * (y 3).val = (y 3).val; omega

/-- The tile's expert by the table: the block index it gives. -/
theorem expert_map (pf : pre0.Contents (Elt F)) (n : ℕ) (hn : n = t.val) :
    (![0, ((pf 0 : S264.Idx → BitVec 32) (ix1 ⟨pt (grid0.coords t), pt_lt _⟩)).toNat, 0, 0] : Fin 4 → ℕ) = ![0, expert (pf 0) n, 0, 0] := by
  have hc := coords_pt t
  have hN : n < 264 := lt_of_lt_of_eq (hn ▸ t.isLt) N_0
  have hp : (⟨pt (grid0.coords t), pt_lt _⟩ : Fin 264) = ⟨n, hN⟩ := Fin.ext (hc.trans hn.symm)
  rw [hp, expert_eq (pf 0) hN]

theorem staged4 (A : S2x8x1024x3584.Idx → Elt F .bf16) (n : ℕ) (hn : n = t.val) (he : expert (a.1 0) n < 8) :
    (staged a t c 4 A : S1x1x1024x3584.Idx → Elt F .bf16) = wideBlock A ⟨expert (a.1 0) n, he⟩ :=
  funext fun y => wide_at _ _ ((wide_map a.1 (grid0.coords t)).trans (expert_map a t a.1 n hn)) A y _ fun b => rfl
theorem staged5 (A : S2x8x1024x3584.Idx → Elt F .bf16) (n : ℕ) (hn : n = t.val) (he : expert (a.1 0) n < 8) :
    (staged a t c 5 A : S1x1x1024x3584.Idx → Elt F .bf16) = wideBlock A ⟨expert (a.1 0) n, he⟩ :=
  funext fun y => wide_at _ _ ((wide_map' a.1 (grid0.coords t)).trans (expert_map a t a.1 n hn)) A y _ fun b => rfl
theorem staged6 (A : S2x8x3584x1024.Idx → Elt F .bf16) (n : ℕ) (hn : n = t.val) (he : expert (a.1 0) n < 8) :
    (staged a t c 6 A : S1x1x3584x1024.Idx → Elt F .bf16) = tallBlock A ⟨expert (a.1 0) n, he⟩ :=
  funext fun y => tall_at _ _ ((tall_map a.1 (grid0.coords t)).trans (expert_map a t a.1 n hn)) A y _ fun b => rfl

end Cert.Experts

end
-- ==== Proof.Launch.lean ====
/- The experts' call: its launch. @main rounds the weights and runs the call; from any memory whose tables are tables, every
   execution ends with the arguments as they were and the result at what the blocks name. -/
module

public import proofs.«01_k».proof.Proof.Windows

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- The pipeline library's algebra is the left component. -/
abbrev EP : Emb (UR sig nD τ) (MT nD τ sig Unit (Elt F) ℕ (Pipeline.UD sig nD τ) ℕ) := embL

variable (m : (ℓ : Loc nD τ sig) → Buf (Elt F) ℓ) (ρ : Dev nD → PrngReg)

/-! ## Before the call -/

/-- A core's buffers at launch, -/
abbrev V₀ (c : Dev nD) : Valuation τ sig (Elt F) := fun b => (s₀ m ρ).mem ((c : Dev nD), b)
/-- and with the weights rounded. -/
abbrev V (c : Dev nD) (b : Ref sig .tc) : Buf (Elt F) ((c : Thread nD τ).loc b) := StableHlo.after hostOps0 (V₀ m ρ c) b

theorem not_written (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;> simp only [StableHlo.unary_writes, Finset.mem_singleton] <;> exact StableHlo.devRef_ne_of_ne ‹_›

/-- What the rounding leaves as it was. -/
theorem V_kept (c : Dev nD) (b : Ref sig .tc) (hb : b ≠ main_v0 ∧ b ≠ main_v1 ∧ b ≠ main_v2) : V m ρ c b = m ((c : Thread nD τ).loc b) :=
  StableHlo.after_of_forall_not_mem (b := Proc.devRef .tc b) hostOps0 (V₀ m ρ c) (not_written b hb)

/-- The unscoped buffers, as the host's. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The proof data -/

/-- The tables a core's memory holds are tables. -/
abbrev TablesAt (c : Dev nD) : Prop := Tables (m ((c : Thread nD τ).loc main_arg1)) (m ((c : Thread nD τ).loc main_arg2)) (m ((c : Thread nD τ).loc main_arg3))

variable (hT : ∀ c, TablesAt m c)

/-- The tiles' experts, as the call prefetches them. -/
def tab : pre0.Contents (Elt F) := fun k => V m ρ 0 (pre0.ref k)

include hT in
theorem tab_ok : ok0 (tab m ρ) := ok_of_lt (tab m ρ) fun x => by
  have h := V_kept m ρ 0 main_arg3 (by decide)
  show ((V m ρ 0 main_arg3 : S264.Idx → BitVec 32) x).toNat < 8
  rw [h]
  exact (hT 0).te_lt x

def adm0 : (pcfg0 (F := F)).Adm := ⟨tab m ρ, tab_ok m ρ hT⟩
abbrev adm : (p : Fin 1) → (pcfgs (F := F) p).Adm := fun _ => adm0 m ρ hT

/-- The core's work. -/
def work (c : Dev nD) : Work F :=
  workOf (V m ρ c main_arg0) (m ((c : Thread nD τ).loc main_arg1)) (m ((c : Thread nD τ).loc main_arg2)) (m ((c : Thread nD τ).loc main_arg3))
    (V m ρ c main_v0) (V m ρ c main_v1) (V m ρ c main_v2) (hT c) (V m ρ c main_v3)

def dats (_ : Fin 1) (c : Dev nD) : Dat τ (Elt F) Unit ℕ (Pipeline.UD sig nD τ) ℕ (cfg0 (adm0 m ρ hT)) c where
  A w := V m ρ c (Pipeline.arrRef spec0 w)
  after w t := staged (adm0 m ρ hT) t c w (V m ρ c (Pipeline.arrRef spec0 w))
  Φ n := iprop(inv c (work m ρ hT c) n.val ∗ Pipeline.prefHeld pre0 c (fun _ => fullShare) (tab m ρ))
  q w := Pipeline.shareOf spec0 w
  owed _ := 0

theorem A_eq (c : Dev nD) (w : Fin 7) : (dats m ρ hT 0 c).A w = V m ρ c (Pipeline.arrRef spec0 w) := by
  dsimp only [dats]

theorem after_eq (c : Dev nD) (w : Fin 7) (t) : (dats m ρ hT 0 c).after w t = staged (adm0 m ρ hT) t c w (V m ρ c (Pipeline.arrRef spec0 w)) := by
  dsimp only [dats]

theorem Φ_eq (c : Dev nD) (n) : (dats m ρ hT 0 c).Φ n = iprop(inv c (work m ρ hT c) n.val ∗ Pipeline.prefHeld pre0 c (fun _ => fullShare) (tab m ρ)) := by
  dsimp only [dats]

abbrev 𝒱₀ : Variants := Variants.none

theorem clip0 (a : (pcfg0 (F := F)).Adm) : ∀ (w : Fin 7) (i : (cfg0 a).grid.Coords) (b), ((cfg0 a).win w).clip i b = none := by
  intro w i b; fin_cases w <;> rfl

theorem clip0_eq (a : (pcfg0 (F := F)).Adm) (w : Fin 7) (i i' : (cfg0 a).grid.Coords) : ((cfg0 a).win w).clip i = ((cfg0 a).win w).clip i' :=
  funext fun b => (clip0 a w i b).trans (clip0 a w i' b).symm

theorem input0 (a : (pcfg0 (F := F)).Adm) : ∀ w : Fin 7, ((cfg0 a).win w).isOut = false := by
  intro w; fin_cases w <;> rfl

theorem idle0 (a : (pcfg0 (F := F)).Adm) : ∀ (w : Fin 7) (i), (cfg0 a).idle w i = false := fun _ _ => rfl

/-- Every window holds its array's block when the body runs. -/
theorem before_in (c : Dev nD) (w : Fin 7) (t) (d) :
    (dats m ρ hT 0 c).before w t d = staged (adm0 m ρ hT) t c w (V m ρ c (Pipeline.arrRef spec0 w)) := by
  refine ((dats m ρ hT 0 c).before_in_eq_fetched w (input0 _ w) (idle0 _ w) (fun t t' _ => clip0_eq _ w _ _)
    (fun t => ?_) t d).trans ?_
  · rw [after_eq]
    unfold staged Dat.blockOf
    rw [Window.cut_fill, A_eq]
  · unfold Dat.fetched staged Dat.blockOf
    rw [A_eq]
    exact Pipeline.fill_of_clip_none (cfg := cfg0 (adm0 m ρ hT)) w _ (fun b => clip0 (adm0 m ρ hT) w _ b) _ _ _

/-! ## One point, as the pipeline calls it -/

theorem src_word (c : Dev nD) (k : ℕ) (hk : k < 135680) : ((V m ρ c main_arg1 : S135680.Idx → BitVec 32) (ix1 ⟨k, hk⟩)).toNat = (work m ρ hT c).σ k := by
  have h := V_kept m ρ c main_arg1 (by decide)
  refine Eq.trans ?_ (rowAt_eq _ hk).symm
  rw [h]
theorem dst_word (c : Dev nD) (k : ℕ) (hk : k < 135680) : ((V m ρ c main_arg2 : S135680.Idx → BitVec 32) (ix1 ⟨k, hk⟩)).toNat = (work m ρ hT c).δ k := by
  have h := V_kept m ρ c main_arg2 (by decide)
  refine Eq.trans ?_ (rowAt_eq _ hk).symm
  rw [h]

theorem tab_eq (c : Dev nD) : (tab m ρ 0 : S264.Idx → BitVec 32) = m ((c : Thread nD τ).loc main_arg3) := by
  obtain rfl : c = 0 := Subsingleton.elim _ _
  exact V_kept m ρ 0 main_arg3 (by decide)

theorem body_obligation (c : Dev nD) : BodyObligation (dats m ρ hT 0 c) (defs₀ (F := F)) 𝒱₀ () Set.univ := fun t => by
  have hN : t.val < 264 := lt_of_lt_of_eq t.isLt N_0
  have he : expert ((adm0 m ρ hT).1 0) t.val < 8 := expert_lt _ (fun x => by
    show (((tab m ρ 0 : S264.Idx → BitVec 32)) x).toNat < 8
    rw [tab_eq m ρ c]; exact (hT c).te_lt x) _
  have hte : (⟨expert ((adm0 m ρ hT).1 0) t.val, he⟩ : Fin 8) = ⟨expert (m ((c : Thread nD τ).loc main_arg3)) t.val, expert_lt _ (hT c).te_lt _⟩ :=
    Fin.ext (congrArg (fun z : S264.Idx → BitVec 32 => expert z t.val) (tab_eq m ρ c))
  rw [bigSep_W0, bigSep_W0, Φ_eq, Φ_eq]
  unfold Dat.owesAt Pipeline.owesWithin
  rw [show (dats m ρ hT 0 c).owed t.castSucc = 0 from rfl, show (dats m ρ hT 0 c).owed t.succ = 0 from rfl]
  have e4 := staged4 (adm0 m ρ hT) t c (V m ρ c main_v0) t.val rfl he
  have e5 := staged5 (adm0 m ρ hT) t c (V m ρ c main_v1) t.val rfl he
  have e6 := staged6 (adm0 m ρ hT) t c (V m ρ c main_v2) t.val rfl he
  rw [hte] at e4 e5 e6
  have hrun := fun Q => point_run (F := F) (c := c) (𝒱 := 𝒱₀) (d := work m ρ hT c) (i := grid0.coords t)
    (m2 := spec0_0.stage ((cfg0 (adm0 m ρ hT)).slots t 0)) (hm2 := hstage0_0 _)
    (m3 := spec0_1.stage ((cfg0 (adm0 m ρ hT)).slots t 1)) (hm3 := hstage0_1 _)
    (m4 := spec0_2.stage ((cfg0 (adm0 m ρ hT)).slots t 2)) (hm4 := hstage0_2 _)
    (m5 := spec0_3.stage ((cfg0 (adm0 m ρ hT)).slots t 3)) (hm5 := hstage0_3 _)
    (m7 := spec0_4.stage ((cfg0 (adm0 m ρ hT)).slots t 4)) (hm7 := hstage0_4 _)
    (m8 := spec0_5.stage ((cfg0 (adm0 m ρ hT)).slots t 5)) (hm8 := hstage0_5 _)
    (m9 := spec0_6.stage ((cfg0 (adm0 m ρ hT)).slots t 6)) (hm9 := hstage0_6 _)
    (W2 := staged (adm0 m ρ hT) t c 0 (V m ρ c main_arg1)) (W3 := staged (adm0 m ρ hT) t c 1 (V m ρ c main_arg1))
    (W4 := staged (adm0 m ρ hT) t c 2 (V m ρ c main_arg2)) (W5 := staged (adm0 m ρ hT) t c 3 (V m ρ c main_arg2))
    (wg := staged (adm0 m ρ hT) t c 4 (V m ρ c main_v0)) (wu := staged (adm0 m ρ hT) t c 5 (V m ρ c main_v1)) (wd := staged (adm0 m ρ hT) t c 6 (V m ρ c main_v2))
    t.val (coords_pt t).symm
    (fun h0 j => by rw [staged0 _ t c _ j t.val rfl hN, src_word m ρ hT c, h0])
    (fun j => by rw [staged1 _ t c _ j t.val rfl hN, src_word m ρ hT c])
    (fun j => by rw [staged2 _ t c _ j t.val rfl hN, dst_word m ρ hT c])
    (fun h0 j => by rw [staged3 _ t c _ j t.val rfl hN, dst_word m ρ hT c, h0])
    rfl (fun j l => by rw [e4, e5, e6]; rfl) (Q := Q)
  iintro ⟨⟨HI, Hp⟩, ⟨%W, %hW, HO⟩, ⟨%d0, H0⟩, ⟨%d1, H1⟩, ⟨%d2, H2⟩, ⟨%d3, H3⟩, ⟨%d4, H4⟩, ⟨%d5, H5⟩, ⟨%d6, H6⟩⟩
  rw [before_in m ρ hT c 0 t, before_in m ρ hT c 1 t, before_in m ρ hT c 2 t, before_in m ρ hT c 3 t, before_in m ρ hT c 4 t, before_in m ρ hT c 5 t,
    before_in m ρ hT c 6 t]
  iapply (hrun _) $$ [H0 H1 H2 H3 H4 H5 H6 HO HI]
  · unfold blocks
    isplitl [H0 H1 H2 H3 H4 H5 H6]
    · isplitl [H0 H1 H2]
      · isplitl [H0]; · iexact H0
        isplitl [H1]; · iexact H1
        iexact H2
      isplitl [H3]; · iexact H3
      isplitl [H4]; · iexact H4
      isplitl [H5]; · iexact H5
      iexact H6
    isplitl [HO]
    · iexists W; iexact HO
    iexact HI
  unfold blocks
  iintro ⟨⟨⟨H0, H1, H2⟩, H3, H4, H5, H6⟩, ⟨%W', HO⟩, HI⟩
  isplitl [HI Hp]
  · isplitl [HI]; · iexact HI
    iexact Hp
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iexact H6

/-! ## The region -/

/-- The call's own semaphores: the gathers' and the scatters', one per slot. -/
abbrev osem : Fin 4 → SemLoc sig := ![.dma (gsem 0), .dma (gsem 1), .dma (ssem 0), .dma (ssem 1)]

theorem ownSemFacts : Pipeline.OwnSemFacts spec0 osem := by decide

theorem ownSems0_eq (c : Dev nD) :
    (Pipeline.ownSems0 (Ix := Unit) (Name := ℕ) (U := Pipeline.UD sig nD τ) (Lvl := ℕ) (Val := Elt F) (τ := τ) osem c : sProp 𝕄)
      = iprop(idle c (gsem 0) ∗ idle c (gsem 1) ∗ idle c (ssem 0) ∗ idle c (ssem 1)) :=
  Pipeline.ownSems0_eq_of_list c osem [0, 1, 2, 3] (by decide) (by decide)

abbrev L : GSem nD τ sig → Finset Unit := fun _ => ∅
abbrev lv : GSem nD τ sig → Unit → ℕ := fun _ _ => 0

/-- The host operations over the unscoped buffers. -/
def seg0 : Pipeline.HostSeg (Name := ℕ) (U := Pipeline.UD sig nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) owed

/-- The buffers at the end: the result at its blocks, the rest as the call found it. -/
def Vend (c : Dev nD) : (b : Ref sig .tc) → Buf (Elt F) ((c : Thread nD τ).loc b) := Function.update (V m ρ c) main_v3 (work m ρ hT c).Y

theorem Vend_v3 (c : Dev nD) : Vend m ρ hT c main_v3 = (work m ρ hT c).Y := Function.update_self _ _ _
theorem Vend_of_ne (c : Dev nD) (b : Ref sig .tc) (hb : b ≠ main_v3) : Vend m ρ hT c b = V m ρ c b := Function.update_of_ne hb _ _

theorem arrRef_ne : ∀ w : Fin 7, Pipeline.arrRef spec0 w ≠ main_v3 := by decide

set_option backward.isDefEq.respectTransparency.types false in
def reg0 : Pipeline.RegionSeg (pcfgs (F := F)) (adm m ρ hT) (dats m ρ hT) () defs₀ 𝒱₀ L lv 0 where
  win := winFacts₀0
  block_pos := block_pos0
  stage_whole := stage_whole0
  K := Fin 4
  osem := osem
  ho := ownSemFacts
  hbody c := (body_obligation m ρ hT c).loose
  hwaits := Pipeline.hwaits_of_owed_zero _ _ _ _ L lv 0 fun _ _ => rfl
  pre c := iprop(StableHlo.held (c : Thread nD τ) ucRefs (StableHlo.after hostOps0 (V₀ m ρ c)) ∗ owed c)
  post c := iprop(unscopedBufs c (Vend m ρ hT c) ∗ owed c)
  X c := iprop((((c : Thread nD τ).loc main_arg0) ↦{fullShare} V m ρ c main_arg0) ∗ (((c : Thread nD τ).loc main_v3) ↦{fullShare} V m ρ c main_v3)
    ∗ (idle c (gsem 0) ∗ idle c (gsem 1) ∗ idle c (ssem 0) ∗ idle c (ssem 1)))
  Y c := iprop((((c : Thread nD τ).loc main_arg0) ↦{fullShare} V m ρ c main_arg0) ∗ (((c : Thread nD τ).loc main_v3) ↦{fullShare} (work m ρ hT c).Y)
    ∗ Pipeline.prefHeld pre0 c (fun _ => fullShare) (tab m ρ))
  Z c := iprop((((c : Thread nD τ).loc main_arg4) ↦{fullShare} V m ρ c main_arg4) ∗ (((c : Thread nD τ).loc main_arg5) ↦{fullShare} V m ρ c main_arg5)
    ∗ (((c : Thread nD τ).loc main_arg6) ↦{fullShare} V m ρ c main_arg6))
  hentry c := by
    rw [show StableHlo.held (c : Thread nD τ) ucRefs (StableHlo.after hostOps0 (V₀ m ρ c)) = unscopedBufs c (V m ρ c) from (unscopedBufs_held c _).symm,
      ownSems0_eq]
    have hsplit := (Pipeline.arrays_of_unscopedBufs_shared (pcfgs (F := F)) (adm m ρ hT) (dats m ρ hT) (p := 0) winFacts₀0 sharedIn0 arr_whole0 c
      (fun _ _ => rfl) (V m ρ c) (A_eq m ρ hT c)).trans (BIClass.sep_mono .rfl (Entails.of_eq ((Pipeline.unscopedRest_split preFacts0 c (V m ρ c)).trans
        (congrArg (fun z => iprop(Pipeline.prefHeld pre0 c (fun _ => fullShare) (fun k => V m ρ c (pre0.ref k)) ∗ z)) (unscopedRestP0_eq c (V m ρ c))))))
    have htab : (fun k => V m ρ c (pre0.ref k)) = tab m ρ := by
      obtain rfl : c = 0 := Subsingleton.elim _ _
      rfl
    rw [htab] at hsplit
    iintro ⟨⟨Hub, HO⟩, Hos, -⟩
    ihave H := hsplit $$ Hub
    icases H with ⟨Ha, Hp, H0, H4, H5, H6, H3⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [H0 H3 Hos]
    · isplitl [H0]; · iexact H0
      isplitl [H3]; · iexact H3
      iexact Hos
    isplitl [H4]; · iexact H4
    isplitl [H5]; · iexact H5
    iexact H6
  hin c := by
    rw [Φ_eq, scopedRest0_eq]
    rw [show (((0 : Fin ((cfg0 (adm0 m ρ hT)).N + 1))).val) = 0 from rfl, inv_zero]
    unfold rest
    iintro ⟨⟨H0, H3, Hos⟩, Hp, Hf, Hg⟩
    isplitr [Hp]
    · isplitl [Hf]; · iexact Hf
      isplitl [Hg]; · iexact Hg
      isplitl [Hos]; · iexact Hos
      isplitl [H0]; · iexact H0
      iexact H3
    iexact Hp
  hout c := by
    rw [ownSems0_eq, Φ_eq, scopedRest0_eq]
    rw [show ((Fin.last (cfg0 (adm0 m ρ hT)).N).val) = 263 + 1 from N_0, inv_last]
    unfold rest
    iintro ⟨⟨Hf, Hg, Hos, H0, H3⟩, Hp⟩
    isplitl [H0 H3 Hp]
    · isplitl [H0]; · iexact H0
      isplitl [H3]; · iexact H3
      iexact Hp
    isplitl [Hos]; · iexact Hos
    isplitl [Hf]; · iexact Hf
    iexact Hg
  hexit c := by
    have htab : (fun k => Vend m ρ hT c (pre0.ref k)) = tab m ρ := by
      obtain rfl : c = 0 := Subsingleton.elim _ _
      funext k
      obtain rfl : k = 0 := Subsingleton.elim _ _
      exact Vend_of_ne m ρ hT 0 main_arg3 (by decide)
    have hjoin := Pipeline.unscopedBufs_of_arrays_shared (pcfgs (F := F)) (adm m ρ hT) (p := 0) winFacts₀0 sharedIn0 arr_whole0 c (dats m ρ hT)
      (fun _ _ => rfl) (Vend m ρ hT c) (Vend m ρ hT c) ((dats m ρ hT 0 c).arrAt · (cfg0 (adm0 m ρ hT)).N)
      (fun w => ((dats m ρ hT 0 c).arrAt_in w (input0 _ w) _).trans ((A_eq m ρ hT c w).trans (Vend_of_ne m ρ hT c _ (arrRef_ne w)).symm)) (fun _ _ => rfl)
    have hrest := (Pipeline.unscopedRest_split (Ix := Unit) (Name := ℕ) (U := Pipeline.UD sig nD τ) (Lvl := ℕ) (τ := τ) preFacts0 c (Vend m ρ hT c)).trans
        (congrArg (fun z => iprop(Pipeline.prefHeld pre0 c (fun _ => fullShare) (fun k => Vend m ρ hT c (pre0.ref k)) ∗ z)) (unscopedRestP0_eq c (Vend m ρ hT c)))
    rw [htab, Vend_v3, Vend_of_ne m ρ hT c main_arg0 (by decide), Vend_of_ne m ρ hT c main_arg4 (by decide), Vend_of_ne m ρ hT c main_arg5 (by decide),
      Vend_of_ne m ρ hT c main_arg6 (by decide)] at hrest
    have hjoin' := (BIClass.sep_mono .rfl (Entails.of_eq hrest.symm)).trans hjoin
    iintro ⟨Ha, HO, ⟨H0, H3, Hp⟩, H4, H5, H6⟩
    imodintro
    isplitr [HO]
    · iapply hjoin'
      isplitl [Ha]; · iexact Ha
      isplitl [Hp]; · iexact Hp
      isplitl [H0]; · iexact H0
      isplitl [H4]; · iexact H4
      isplitl [H5]; · iexact H5
      isplitl [H6]; · iexact H6
      iexact H3
    · unfold Pipeline.Dat.owesAt Pipeline.owesWithin
      icases HO with ⟨%W, -, HO⟩; iexists W; iexact HO

/-! ## The run -/

abbrev segs : List (Pipeline.Seg (pcfgs (F := F)) (adm m ρ hT) (dats m ρ hT) () defs₀ 𝒱₀ L lv) := [.host (seg0 m ρ), .region (reg0 m ρ hT)]

def u₀ : Pipeline.UD sig nD τ :=
  (initOf (Pipeline.cells (Pipeline.pin (pcfgs (F := F)) (adm m ρ hT)) (Gen.cellOf_inj (adm m ρ hT)))
    (Pipeline.launchToks (Pipeline.pin (pcfgs (F := F)) (adm m ρ hT)) (Gen.cellOf_inj (adm m ρ hT))), 1)

set_option backward.isDefEq.respectTransparency.types false in
/-- At any float values, from any memory whose tables are tables and zero counters: every weakly fair execution of @main ends, nothing
    faulting, with every unscoped buffer at the end's contents and every counter at zero. -/
theorem run_main : θ_run defs (onTc (τ := τ) (main (F := F))) (s₀ m ρ)
    (fun r => (∀ c : Dev nD, ∀ b : Ref sig .tc, ¬ b.isScoped → r.2.mem ((c : Thread nD τ).loc b) = Vend m ρ hT c b) ∧ r.2.sem = fun _ => 0) :=
  Pipeline.θ_run_regions_kit_sems (pcfgs (F := F)) (adm m ρ hT) (dats m ρ hT) () (Gen.cellOf_inj (adm m ρ hT)) EP defs₀ 𝒱₀ L lv m ρ main (segs m ρ hT)
    (fun c Q => by rw [main_segs (adm m ρ hT) (dats m ρ hT) () 𝒱₀ L lv (seg0 m ρ) (reg0 m ρ hT) rfl c])
    (by simp only [Pipeline.Seg.pipes_host, Pipeline.Seg.pipes_region, Pipeline.Seg.pipes_nil]; decide) (O₀ := 0) (hL := fun _ _ => rfl) (G := fun _ => iprop(emp)) (u₀ := u₀ m ρ hT)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ owed c)) (Tₙ := fun c => unscopedBufs c (Vend m ρ hT c))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => ∀ b : Ref sig .tc, ¬ b.isScoped → s.mem ((c : Thread nD τ).loc b) = Vend m ρ hT c b)
    (hfin := fun c s' => by
      unfold unscopedBufs
      iintro H
      ihave Hr := (pointsTo_read_all _ (fun b : Ref sig .tc => ((c : Thread nD τ).loc b)) (Vend m ρ hT c) s') $$ H
      icases Hr with ⟨%ha, HSI⟩
      imodintro
      isplitr
      · ipureintro; exact fun b hb => ha b (Finset.mem_filter.mpr ⟨Finset.mem_univ _, hb⟩)
      iexact HSI)
    (hQ := fun _ h hz => ⟨h, funext fun g => hz g (.inr (by revert g; decide))⟩)

end Cert.Experts

end
-- ==== Proof.Facts.lean ====
/- The side conditions the reference and the tables' condition state, shown to hold. -/
module

public import proofs.«01_k».proof.ReferenceIdeal
public import proofs.«01_k».proof.Pre_tables

@[expose] public section

set_option maxRecDepth 100000

namespace Cert.Experts

open Idealize.ShloMosaic

/-- The reference's, -/
instance refFacts₀ : Cert.ReferenceIdeal.Facts₀ where
  slices_S135680_S135168_0 := by decide
  bcast_S_S135168 := by decide
  bcast_S135168_S135168x1_0 := by decide
  bcast_S264_S264x1_0 := by decide
  bcast_S264x1_S264x512_0_1 := by decide
  shapeCasts_S264x512_S135168x1 := by decide
  bcast_S_S135168x1024 := by decide
  bcast_S_S135168x1 := by decide
  slices_S2x8x1024x3584_S1x1x1024x3584_0_0_0_0 := by decide
  shapeCasts_S1x1x1024x3584_S1024x3584 := by decide
  slices_S2x8x3584x1024_S1x1x3584x1024_0_0_0_0 := by decide
  shapeCasts_S1x1x3584x1024_S3584x1024 := by decide
  bcast_S_S135168x3584 := by decide
  bcast_S135168x1_S135168x1024_0_1 := by decide
  slices_S2x8x1024x3584_S1x1x1024x3584_0_1_0_0 := by decide
  slices_S2x8x3584x1024_S1x1x3584x1024_0_1_0_0 := by decide
  slices_S2x8x1024x3584_S1x1x1024x3584_0_2_0_0 := by decide
  slices_S2x8x3584x1024_S1x1x3584x1024_0_2_0_0 := by decide
  slices_S2x8x1024x3584_S1x1x1024x3584_0_3_0_0 := by decide
  slices_S2x8x3584x1024_S1x1x3584x1024_0_3_0_0 := by decide
  slices_S2x8x1024x3584_S1x1x1024x3584_0_4_0_0 := by decide
  slices_S2x8x3584x1024_S1x1x3584x1024_0_4_0_0 := by decide
  slices_S2x8x1024x3584_S1x1x1024x3584_0_5_0_0 := by decide
  slices_S2x8x3584x1024_S1x1x3584x1024_0_5_0_0 := by decide
  slices_S2x8x1024x3584_S1x1x1024x3584_0_6_0_0 := by decide
  slices_S2x8x3584x1024_S1x1x3584x1024_0_6_0_0 := by decide
  slices_S2x8x1024x3584_S1x1x1024x3584_0_7_0_0 := by decide
  slices_S2x8x3584x1024_S1x1x3584x1024_0_7_0_0 := by decide
  bcast_S_S512x1024 := by decide
  concatenates_S512x1024_S135168x1024_S135680x1024_d0 := by decide
  bcast_S_S135680x1024 := by decide
  bcast_S_S135680 := by decide
  bcast_S135680_S135680x1_0 := by decide
  gather_S65536x1024_S135168x1_S135168x1024_1_0_n_n_0_1_11024_wf := by decide
  dot_S135168x1024_S1024x3584_S135168x3584_1_0_0_1_n_n_wf := by decide
  dot_S135168x3584_S3584x1024_S135168x1024_1_0_0_1_n_n_wf := by decide
  scatter_S135680x1024_S135680x1_S135680x1024_1_0_0_1_wf := by decide

instance refFacts : Cert.ReferenceIdeal.Facts where

/-- and the condition's. -/
instance tablesFacts : Cert.Pre_tables.Facts where
  bcast_S_S135680 := by decide
  bcast_S135680_S135680x1_0 := by decide
  bcast_S_S264 := by decide
  concatenates_S135680_S264_S135944_d0 := by decide
  scatter_S135680_S135680x1_S135680_n_0_0_1_wf := by decide

end Cert.Experts
-- ==== Proof.Decode.lean ====
/- What the condition on the tables says: decoded from the printed predicate. -/
module

public import proofs.«01_k».proof.Proof.Facts
public import proofs.«01_k».proof.Proof.Tables
public import Idealize.ShloMosaic.Lib.Routing.OpsSet
public import Idealize.ShloMosaic.Lib.Pipeline.Value
public import Idealize.ShloMosaic.Lib.WordCmp

@[expose] public section

namespace Cert.Experts

open Idealize.ShloMosaic Idealize.ShloMosaic.Routing Idealize.ShloMosaic.ValueIdx

variable {F : FTy → Type} [FloatOps F]

/-- A word between two signed bounds, both small. -/
theorem word_range (x : BitVec 32) (n : ℕ) (hn : n < 2 ^ 31) (h0 : BitVec.sle 0#32 x = true) (h1 : BitVec.slt x (BitVec.ofNat 32 n) = true) :
    x.toNat < n := by
  simp only [BitVec.sle, BitVec.slt, decide_eq_true_eq, BitVec.toInt, BitVec.toNat_ofNat] at h0 h1
  have := x.isLt
  rw [Nat.mod_eq_of_lt (by omega)] at h1
  split at h0 <;> split at h1 <;> simp at h0 h1 <;> omega

/-- Words that are no negatives pass the wrap of negatives unchanged. -/
theorem wrapped {s : Shape} (x : IVec s 32) (hb : Cert.Pre_tables.S_.BroadcastsInDim s (![] : Fin 0 → Fin s.rank)) (a : IVec s 32)
    (h : ∀ i, (x i).toNat < 2 ^ 31) : select (cmpi .slt x (broadcastInDim s ![] hb (constantI Cert.Pre_tables.S_ 32 0#32))) a x = x :=
  funext fun i => wrap_of_lt (x i) (a i) (h i)

/-- A column of words, at a row. -/
theorem column {α : Type} {n : ℕ} (x : (shape1 n).Idx → α) (hb : (shape1 n).BroadcastsInDim (shape2 n 1) (![0] : Fin 1 → Fin (shape2 n 1).rank))
    (i : Fin n) : broadcastInDim (shape2 n 1) ![0] hb x (ix2 i 0) = x (ix1 i) := by
  unfold broadcastInDim
  refine congrArg x ((eq_ix1 _).trans (congrArg ix1 (Fin.ext ?_)))
  by_cases hn : n = 1
  · subst hn
    have := i.isLt
    simp
  · rw [dif_neg (show ¬ (shape1 n).size 0 = 1 from hn)]
    rfl

/-- A place of a table of rows that every scatter reaches is named by a row. -/
theorem named_of_one (dst : IVec (shape1 135680) 32) (d : ScatterDims (shape1 135680) (shape2 135680 1) (shape1 135680))
    (hiw : d.insertedWindowDims = [0]) (hsd : d.scatterDimsToOperandDims = [0]) (hivd : d.indexVectorDim = 1)
    (idx : IVec (shape2 135680 1) 32) (hidx : ∀ i : Fin 135680, idx (ix2 i 0) = dst (ix1 i)) (x0 upd : IVec (shape1 135680) 32)
    (h0 : ∀ x, x0 x = 0#32) (h1 : ∀ x, upd x = 1#32) (hlt : ∀ x, (dst x).toNat < 135680) (x : Fin 135680)
    (h : Host.scatter d (fun _ b => b) x0 idx upd (ix1 x) = 1#32) : ∃ i : Fin 135680, (dst (ix1 i)).toNat = x.val := by
  by_contra hno
  have := (scatter_set_signed d hiw hsd hivd x0 idx upd x 1#32 (fun i _ => h1 _)).2 (fun i hi => hno ⟨i, by
    rw [hidx, BitVec.toInt_eq_toNat_of_lt (by have := hlt (ix1 i); omega)] at hi; exact_mod_cast hi⟩)
  rw [this, h0] at h
  exact absurd h (by decide)

/-- What the condition says of a row, and of a tile. -/
theorem tables_of_pre (h2 : FVec F Cert.Pre_tables.S65536x1024 .f32) (src dst : IVec Cert.Pre_tables.S135680 32) (te : IVec Cert.Pre_tables.S264 32)
    (g u : FVec F Cert.Pre_tables.S2x8x1024x3584 .f32) (d : FVec F Cert.Pre_tables.S2x8x3584x1024 .f32)
    (h : Cert.Pre_tables.fn (F := F) h2 src dst te g u d = fun _ => 1#1) : Tables src dst te := by
  unfold Cert.Pre_tables.fn Cert.Pre_tables.fn_part1 at h
  dsimp only at h
  generalize hsc : Host.scatter Cert.Pre_tables.scatter_S135680_S135680x1_S135680_n_0_0_1 _ _ _ _ = sc at h
  have hrow := fun x : Fin 135680 => (concatenate_pair_apply_left (t := Cert.Pre_tables.S135944) (s₁ := Cert.Pre_tables.S135680) (s₂ := Cert.Pre_tables.S264)
    0 _ _ Cert.Pre_tables.Facts.concatenates_S135680_S264_S135944_d0 (ix1 ⟨x.val, lt_trans x.isLt (by norm_num)⟩) rfl (ix1 x)
    (by intro b; fin_cases b; rfl)).symm.trans (congrFun h _)
  have htile := fun x : Fin 264 => (concatenate_pair_apply_right (t := Cert.Pre_tables.S135944) (s₁ := Cert.Pre_tables.S135680) (s₂ := Cert.Pre_tables.S264)
    0 _ _ Cert.Pre_tables.Facts.concatenates_S135680_S264_S135944_d0 (ix1 ⟨x.val + 135680, by have := x.isLt; omega⟩) rfl rfl (ix1 x)
    (by intro b hb; exfalso; apply hb; fin_cases b; rfl) rfl).symm.trans (congrFun h _)
  simp only [andi, cmpi, broadcastInDim, constantI, IntOp.cmpi, WordCmp.andi_ofBool, WordCmp.ofBool_eq_one_iff, Bool.and_eq_true] at hrow htile
  have hs : ∀ x, (src x).toNat < 65536 := fun x => by
    rw [eq_ix1 x]
    exact word_range _ 65536 (by norm_num) (hrow (x 0)).1.1.1.1 (hrow (x 0)).1.1.1.2
  have hd : ∀ x, (dst x).toNat < 135680 := fun x => by
    rw [eq_ix1 x]
    exact word_range _ 135680 (by norm_num) (hrow (x 0)).1.1.2 (hrow (x 0)).1.2
  have hsur : Function.Surjective (fun i : Fin 135680 => (⟨(dst (ix1 i)).toNat, hd _⟩ : Fin 135680)) := fun x => by
    have hx := (hrow x).2
    rw [beq_iff_eq] at hx
    subst hsc
    obtain ⟨i, hi⟩ := named_of_one dst _ rfl rfl rfl _ (fun i => (column _ _ i).trans
      (congrFun (wrapped dst _ _ fun y => (hd y).trans (by norm_num)) _)) _ _ (fun _ => rfl) (fun _ => rfl) hd x hx
    exact ⟨i, Fin.ext hi⟩
  have hinj := Finite.injective_iff_surjective.2 hsur
  refine ⟨hs, hd, fun x y hxy => ?_, fun x => ?_⟩
  · rw [eq_ix1 x, eq_ix1 y] at hxy ⊢
    exact congrArg ix1 (hinj (Fin.ext (congrArg BitVec.toNat hxy)))
  · rw [eq_ix1 x]
    exact word_range _ 8 (by norm_num) (htile (x 0)).1 (htile (x 0)).2

end Cert.Experts
-- ==== Proof.Frames.lean ====
/- The kernel's frames: both programs' from the one run. -/
module

public import proofs.«01_k».proof.Defs
public import proofs.«01_k».proof.Proof.Gen.Kernel
public import proofs.«01_k».proof.Proof.Launch
public import proofs.«01_k».proof.Proof.Decode

@[expose] public section

namespace Cert.Experts

open Cert.KernelIdeal Cert.KernelIdeal.Gen
open Idealize.SL.Sem Idealize.ShloMosaic Idealize.ShloMosaic.TcCoe

variable {F : FTy → Type} [FloatOps F]

/-- The launch's condition on the tables, from the claims'. -/
theorem tablesAt (m : (ℓ : Loc nD τ sig) → Buf (Elt F) ℓ)
    (h : ∀ c : Dev nD, Cert.Pre_tables.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : ∀ c, TablesAt m c :=
  fun c => tables_of_pre _ _ _ _ _ _ _ (h c)

/-- An argument's contents at the end are those it had. -/
theorem Vend_arg (m : (ℓ : Loc nD τ sig) → Buf (Elt F) ℓ) (ρ : Dev nD → PrngReg) (hT : ∀ c, TablesAt m c) (c : Dev nD) (b : Ref sig .tc)
    (hb : b ≠ main_v3) (hb' : b ≠ main_v0 ∧ b ≠ main_v1 ∧ b ≠ main_v2) : Vend m ρ hT c b = m ((c : Thread nD τ).loc b) :=
  (Vend_of_ne m ρ hT c b hb).trans (V_kept m ρ c b hb')

/-- What a frame says of a final state: the arguments are as they were. -/
theorem args_kept (m : (ℓ : Loc nD τ sig) → Buf (Elt F) ℓ) (ρ : Dev nD → PrngReg) (hT : ∀ c, TablesAt m c) (r : PUnit × MemSt nD τ sig (Elt F))
    (h : ∀ c : Dev nD, ∀ b : Ref sig .tc, ¬ b.isScoped → r.2.mem ((c : Thread nD τ).loc b) = Vend m ρ hT c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have k : ∀ b : Ref sig .tc, ¬ b.isScoped → b ≠ main_v3 → (b ≠ main_v0 ∧ b ≠ main_v1 ∧ b ≠ main_v2) →
      r.2.mem ((c.tc : Thread nD τ).loc b) = m ((c.tc : Thread nD τ).loc b) := fun b h0 h1 h2 => (h c b h0).trans (Vend_arg m ρ hT c b h1 h2)
  exact ⟨k _ (by decide) (by decide) (by decide), k _ (by decide) (by decide) (by decide), k _ (by decide) (by decide) (by decide),
    k _ (by decide) (by decide) (by decide), k _ (by decide) (by decide) (by decide), k _ (by decide) (by decide) (by decide),
    k _ (by decide) (by decide) (by decide)⟩

theorem frame_kernelIdeal : Cert.quiescent_KernelIdeal := fun m ρ hp =>
  (θ_run Cert.KernelIdeal.defs _ _).mono (fun r h => ⟨args_kept m ρ (tablesAt m hp) r h.1, h.2⟩) (run_main (F := Ideal) m ρ (tablesAt m hp))

/-- The two programs' kernel bodies are one text. -/
theorem bodies_same : @Cert.Kernel.defs₀ Bits _ _ = @Cert.KernelIdeal.defs₀ Bits _ _ := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l x
  match l, x with
  | 0, (t, s) => rfl

theorem defs_same : @Cert.Kernel.defs Bits _ _ = @Cert.KernelIdeal.defs Bits _ _ :=
  congrArg (Pipeline.defs (Cert.Kernel.pcfgs (F := Bits))) bodies_same

/-- And so are their @mains. -/
theorem mains_same : @Cert.Kernel.main Bits _ _ = @Cert.KernelIdeal.main Bits _ _ := rfl

theorem frame_kernel : Cert.quiescent_Kernel := by
  intro m ρ hp
  have hT := tablesAt (F := Bits) m hp
  have h : θ_run (defs (F := Bits)) (onTc (τ := τ) (main (F := Bits))) (s₀ m ρ) _ :=
    (θ_run defs _ _).mono (fun r h => And.intro (fun c => args_kept (F := Bits) m ρ hT r h.1 c) h.2) (run_main (F := Bits) m ρ hT)
  rw [← mains_same, ← defs_same] at h
  exact h

end Cert.Experts
-- ==== Proof.RefRun.lean ====
/- The reference's run: its operations as one list, and what its buffers hold when they have run. -/
module

public import proofs.«01_k».proof.Proof.Facts
public import Idealize.ShloMosaic.Lib.Claim
public import Idealize.ShloMosaic.Lib.Quiescent

@[expose] public section

set_option maxRecDepth 100000

noncomputable section

namespace Cert.Experts.Ref

open Idealize.SL.Sem Idealize.ShloMosaic Idealize.ShloMosaic.StableHlo
open Cert.ReferenceIdeal Cert.ReferenceIdeal.Facts₀ Cert.ReferenceIdeal.Facts

variable {F : FTy → Type} [FloatOps F]

/-- The gate's activation, line by line. -/
def siluOps (arg0 : TRef sig ⟨S135168x3584, .f32⟩) (φ : fn_silu.Bufs) : List (HloOp τ sig (Elt F)) :=
  [TRef.unary arg0 φ.v0 Host.negf,
    TRef.unary φ.v0 φ.v1 Host.exp,
    TRef.nullary φ.cst (constant S_ .f32 0x3F800000#32),
    TRef.unary φ.cst φ.v2 (broadcastInDim S135168x3584 ![] bcast_S_S135168x3584),
    TRef.binary φ.v2 φ.v1 φ.v3 addf,
    TRef.nullary φ.cst_0 (constant S_ .f32 0x3F800000#32),
    TRef.unary φ.cst_0 φ.v4 (broadcastInDim S135168x3584 ![] bcast_S_S135168x3584),
    TRef.binary φ.v4 φ.v3 φ.v5 Host.divf,
    TRef.binary arg0 φ.v5 φ.v6 mulf]

/-- The choice of an expert's rows, line by line. -/
def whereOps (arg0 : TRef sig ⟨S135168x1, .i1⟩) (arg1 arg2 : TRef sig ⟨S135168x1024, .f32⟩) (φ : fn_where.Bufs) : List (HloOp τ sig (Elt F)) :=
  [TRef.unary arg0 φ.v0 (broadcastInDim S135168x1024 ![0, 1] bcast_S135168x1_S135168x1024_0_1),
    TRef.ternary φ.v0 arg1 arg2 φ.v1 select]

/-- The gathered rows and each row's expert. -/
def opsIn : List (HloOp τ sig (Elt F)) :=
    [StableHlo.unary main_arg1 main_v0 ((extractStridedSlice S135168 ![0] · slices_S135680_S135168_0) : (⟨S135680, .i32⟩ : BufTy).Contents (Elt F) → (⟨S135168, .i32⟩ : BufTy).Contents (Elt F)),
    StableHlo.nullary main_c (constantI S_ 32 0#32),
    StableHlo.unary main_c main_v1 (broadcastInDim S135168 ![] bcast_S_S135168 : (⟨S_, .i32⟩ : BufTy).Contents (Elt F) → (⟨S135168, .i32⟩ : BufTy).Contents (Elt F)),
    StableHlo.binary main_v0 main_v1 main_v2 (cmpi .slt : (⟨S135168, .i32⟩ : BufTy).Contents (Elt F) → (⟨S135168, .i32⟩ : BufTy).Contents (Elt F) → (⟨S135168, .i1⟩ : BufTy).Contents (Elt F)),
    StableHlo.nullary main_c_0 (constantI S_ 32 65536#32),
    StableHlo.unary main_c_0 main_v3 (broadcastInDim S135168 ![] bcast_S_S135168 : (⟨S_, .i32⟩ : BufTy).Contents (Elt F) → (⟨S135168, .i32⟩ : BufTy).Contents (Elt F)),
    StableHlo.binary main_v0 main_v3 main_v4 (addi : (⟨S135168, .i32⟩ : BufTy).Contents (Elt F) → (⟨S135168, .i32⟩ : BufTy).Contents (Elt F) → (⟨S135168, .i32⟩ : BufTy).Contents (Elt F)),
    StableHlo.ternary main_v2 main_v4 main_v0 main_v5 (select : (⟨S135168, .i1⟩ : BufTy).Contents (Elt F) → (⟨S135168, .i32⟩ : BufTy).Contents (Elt F) → (⟨S135168, .i32⟩ : BufTy).Contents (Elt F) → (⟨S135168, .i32⟩ : BufTy).Contents (Elt F)),
    StableHlo.unary main_v5 main_v6 (broadcastInDim S135168x1 ![0] bcast_S135168_S135168x1_0 : (⟨S135168, .i32⟩ : BufTy).Contents (Elt F) → (⟨S135168x1, .i32⟩ : BufTy).Contents (Elt F)),
    StableHlo.binary main_arg0 main_v6 main_v7 ((fun x i => Host.gather gather_S65536x1024_S135168x1_S135168x1024_1_0_n_n_0_1_11024 x i) : (⟨S65536x1024, .f32⟩ : BufTy).Contents (Elt F) → (⟨S135168x1, .i32⟩ : BufTy).Contents (Elt F) → (⟨S135168x1024, .f32⟩ : BufTy).Contents (Elt F)),
    StableHlo.unary main_arg3 main_v8 (broadcastInDim S264x1 ![0] bcast_S264_S264x1_0 : (⟨S264, .i32⟩ : BufTy).Contents (Elt F) → (⟨S264x1, .i32⟩ : BufTy).Contents (Elt F)),
    StableHlo.unary main_v8 main_v9 (broadcastInDim S264x512 ![0, 1] bcast_S264x1_S264x512_0_1 : (⟨S264x1, .i32⟩ : BufTy).Contents (Elt F) → (⟨S264x512, .i32⟩ : BufTy).Contents (Elt F)),
    StableHlo.reshape main_v9 main_v10 (rfl : (.i32 : EltTy) = .i32) shapeCasts_S264x512_S135168x1,
    StableHlo.nullary main_cst (constant S_ .f32 0x00000000#32),
    StableHlo.unary main_cst main_v11 (broadcastInDim S135168x1024 ![] bcast_S_S135168x1024 : (⟨S_, .f32⟩ : BufTy).Contents (Elt F) → (⟨S135168x1024, .f32⟩ : BufTy).Contents (Elt F))]

/-- Expert 0. -/
def ops0 : List (HloOp τ sig (Elt F)) :=
    [StableHlo.nullary main_c_1 (constantI S_ 32 0#32),
    StableHlo.unary main_c_1 main_v12 (broadcastInDim S135168x1 ![] bcast_S_S135168x1 : (⟨S_, .i32⟩ : BufTy).Contents (Elt F) → (⟨S135168x1, .i32⟩ : BufTy).Contents (Elt F)),
    StableHlo.binary main_v10 main_v12 main_v13 (cmpi .eq : (⟨S135168x1, .i32⟩ : BufTy).Contents (Elt F) → (⟨S135168x1, .i32⟩ : BufTy).Contents (Elt F) → (⟨S135168x1, .i1⟩ : BufTy).Contents (Elt F)),
    StableHlo.unary main_arg4 main_v14 ((extractStridedSlice S1x1x1024x3584 ![0, 0, 0, 0] · slices_S2x8x1024x3584_S1x1x1024x3584_0_0_0_0) : (⟨S2x8x1024x3584, .f32⟩ : BufTy).Contents (Elt F) → (⟨S1x1x1024x3584, .f32⟩ : BufTy).Contents (Elt F)),
    StableHlo.reshape main_v14 main_v15 (rfl : (.f32 : EltTy) = .f32) shapeCasts_S1x1x1024x3584_S1024x3584,
    StableHlo.unary main_arg5 main_v16 ((extractStridedSlice S1x1x1024x3584 ![0, 0, 0, 0] · slices_S2x8x1024x3584_S1x1x1024x3584_0_0_0_0) : (⟨S2x8x1024x3584, .f32⟩ : BufTy).Contents (Elt F) → (⟨S1x1x1024x3584, .f32⟩ : BufTy).Contents (Elt F)),
    StableHlo.reshape main_v16 main_v17 (rfl : (.f32 : EltTy) = .f32) shapeCasts_S1x1x1024x3584_S1024x3584,
    StableHlo.unary main_arg6 main_v18 ((extractStridedSlice S1x1x3584x1024 ![0, 0, 0, 0] · slices_S2x8x3584x1024_S1x1x3584x1024_0_0_0_0) : (⟨S2x8x3584x1024, .f32⟩ : BufTy).Contents (Elt F) → (⟨S1x1x3584x1024, .f32⟩ : BufTy).Contents (Elt F)),
    StableHlo.reshape main_v18 main_v19 (rfl : (.f32 : EltTy) = .f32) shapeCasts_S1x1x3584x1024_S3584x1024,
    StableHlo.binary main_v7 main_v15 main_v20 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F))]
    ++ siluOps (.of main_v20) main_call0
    ++ [StableHlo.binary main_v7 main_v17 main_v22 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F)),
    StableHlo.binary main_v21 main_v22 main_v23 (mulf : (⟨S135168x3584, .f32⟩ : BufTy).Contents (Elt F) → (⟨S135168x3584, .f32⟩ : BufTy).Contents (Elt F) → (⟨S135168x3584, .f32⟩ : BufTy).Contents (Elt F)),
    StableHlo.binary main_v23 main_v19 main_v24 ((fun l r => Host.dotGeneral dot_S135168x3584_S3584x1024_S135168x1024_1_0_0_1_n_n none l r) : (⟨S135168x3584, .f32⟩ : BufTy).Contents (Elt F) → (⟨S3584x1024, .f32⟩ : BufTy).Contents (Elt F) → (⟨S135168x1024, .f32⟩ : BufTy).Contents (Elt F))]
    ++ whereOps (.of main_v13) (.of main_v24) (.of main_v11) main_call1

/-- Expert 1. -/
def ops1 : List (HloOp τ sig (Elt F)) :=
    [StableHlo.nullary main_c_2 (constantI S_ 32 1#32),
    StableHlo.unary main_c_2 main_v26 (broadcastInDim S135168x1 ![] bcast_S_S135168x1 : (⟨S_, .i32⟩ : BufTy).Contents (Elt F) → (⟨S135168x1, .i32⟩ : BufTy).Contents (Elt F)),
    StableHlo.binary main_v10 main_v26 main_v27 (cmpi .eq : (⟨S135168x1, .i32⟩ : BufTy).Contents (Elt F) → (⟨S135168x1, .i32⟩ : BufTy).Contents (Elt F) → (⟨S135168x1, .i1⟩ : BufTy).Contents (Elt F)),
    StableHlo.unary main_arg4 main_v28 ((extractStridedSlice S1x1x1024x3584 ![0, 1, 0, 0] · slices_S2x8x1024x3584_S1x1x1024x3584_0_1_0_0) : (⟨S2x8x1024x3584, .f32⟩ : BufTy).Contents (Elt F) → (⟨S1x1x1024x3584, .f32⟩ : BufTy).Contents (Elt F)),
    StableHlo.reshape main_v28 main_v29 (rfl : (.f32 : EltTy) = .f32) shapeCasts_S1x1x1024x3584_S1024x3584,
    StableHlo.unary main_arg5 main_v30 ((extractStridedSlice S1x1x1024x3584 ![0, 1, 0, 0] · slices_S2x8x1024x3584_S1x1x1024x3584_0_1_0_0) : (⟨S2x8x1024x3584, .f32⟩ : BufTy).Contents (Elt F) → (⟨S1x1x1024x3584, .f32⟩ : BufTy).Contents (Elt F)),
    StableHlo.reshape main_v30 main_v31 (rfl : (.f32 : EltTy) = .f32) shapeCasts_S1x1x1024x3584_S1024x3584,
    StableHlo.unary main_arg6 main_v32 ((extractStridedSlice S1x1x3584x1024 ![0, 1, 0, 0] · slices_S2x8x3584x1024_S1x1x3584x1024_0_1_0_0) : (⟨S2x8x3584x1024, .f32⟩ : BufTy).Contents (Elt F) → (⟨S1x1x3584x1024, .f32⟩ : BufTy).Contents (Elt F)),
    StableHlo.reshape main_v32 main_v33 (rfl : (.f32 : EltTy) = .f32) shapeCasts_S1x1x3584x1024_S3584x1024,
    StableHlo.binary main_v7 main_v29 main_v34 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F))]
    ++ siluOps (.of main_v34) main_call2
    ++ [StableHlo.binary main_v7 main_v31 main_v36 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F)),
    StableHlo.binary main_v35 main_v36 main_v37 (mulf : (⟨S135168x3584, .f32⟩ : BufTy).Contents (Elt F) → (⟨S135168x3584, .f32⟩ : BufTy).Contents (Elt F) → (⟨S135168x3584, .f32⟩ : BufTy).Contents (Elt F)),
    StableHlo.binary main_v37 main_v33 main_v38 ((fun l r => Host.dotGeneral dot_S135168x3584_S3584x1024_S135168x1024_1_0_0_1_n_n none l r) : (⟨S135168x3584, .f32⟩ : BufTy).Contents (Elt F) → (⟨S3584x1024, .f32⟩ : BufTy).Contents (Elt F) → (⟨S135168x1024, .f32⟩ : BufTy).Contents (Elt F))]
    ++ whereOps (.of main_v27) (.of main_v38) (.of main_v25) main_call3

/-- Expert 2. -/
def ops2 : List (HloOp τ sig (Elt F)) :=
    [StableHlo.nullary main_c_3 (constantI S_ 32 2#32),
    StableHlo.unary main_c_3 main_v40 (broadcastInDim S135168x1 ![] bcast_S_S135168x1 : (⟨S_, .i32⟩ : BufTy).Contents (Elt F) → (⟨S135168x1, .i32⟩ : BufTy).Contents (Elt F)),
    StableHlo.binary main_v10 main_v40 main_v41 (cmpi .eq : (⟨S135168x1, .i32⟩ : BufTy).Contents (Elt F) → (⟨S135168x1, .i32⟩ : BufTy).Contents (Elt F) → (⟨S135168x1, .i1⟩ : BufTy).Contents (Elt F)),
    StableHlo.unary main_arg4 main_v42 ((extractStridedSlice S1x1x1024x3584 ![0, 2, 0, 0] · slices_S2x8x1024x3584_S1x1x1024x3584_0_2_0_0) : (⟨S2x8x1024x3584, .f32⟩ : BufTy).Contents (Elt F) → (⟨S1x1x1024x3584, .f32⟩ : BufTy).Contents (Elt F)),
    StableHlo.reshape main_v42 main_v43 (rfl : (.f32 : EltTy) = .f32) shapeCasts_S1x1x1024x3584_S1024x3584,
    StableHlo.unary main_arg5 main_v44 ((extractStridedSlice S1x1x1024x3584 ![0, 2, 0, 0] · slices_S2x8x1024x3584_S1x1x1024x3584_0_2_0_0) : (⟨S2x8x1024x3584, .f32⟩ : BufTy).Contents (Elt F) → (⟨S1x1x1024x3584, .f32⟩ : BufTy).Contents (Elt F)),
    StableHlo.reshape main_v44 main_v45 (rfl : (.f32 : EltTy) = .f32) shapeCasts_S1x1x1024x3584_S1024x3584,
    StableHlo.unary main_arg6 main_v46 ((extractStridedSlice S1x1x3584x1024 ![0, 2, 0, 0] · slices_S2x8x3584x1024_S1x1x3584x1024_0_2_0_0) : (⟨S2x8x3584x1024, .f32⟩ : BufTy).Contents (Elt F) → (⟨S1x1x3584x1024, .f32⟩ : BufTy).Contents (Elt F)),
    StableHlo.reshape main_v46 main_v47 (rfl : (.f32 : EltTy) = .f32) shapeCasts_S1x1x3584x1024_S3584x1024,
    StableHlo.binary main_v7 main_v43 main_v48 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F))]
    ++ siluOps (.of main_v48) main_call4
    ++ [StableHlo.binary main_v7 main_v45 main_v50 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F)),
    StableHlo.binary main_v49 main_v50 main_v51 (mulf : (⟨S135168x3584, .f32⟩ : BufTy).Contents (Elt F) → (⟨S135168x3584, .f32⟩ : BufTy).Contents (Elt F) → (⟨S135168x3584, .f32⟩ : BufTy).Contents (Elt F)),
    StableHlo.binary main_v51 main_v47 main_v52 ((fun l r => Host.dotGeneral dot_S135168x3584_S3584x1024_S135168x1024_1_0_0_1_n_n none l r) : (⟨S135168x3584, .f32⟩ : BufTy).Contents (Elt F) → (⟨S3584x1024, .f32⟩ : BufTy).Contents (Elt F) → (⟨S135168x1024, .f32⟩ : BufTy).Contents (Elt F))]
    ++ whereOps (.of main_v41) (.of main_v52) (.of main_v39) main_call5

/-- Expert 3. -/
def ops3 : List (HloOp τ sig (Elt F)) :=
    [StableHlo.nullary main_c_4 (constantI S_ 32 3#32),
    StableHlo.unary main_c_4 main_v54 (broadcastInDim S135168x1 ![] bcast_S_S135168x1 : (⟨S_, .i32⟩ : BufTy).Contents (Elt F) → (⟨S135168x1, .i32⟩ : BufTy).Contents (Elt F)),
    StableHlo.binary main_v10 main_v54 main_v55 (cmpi .eq : (⟨S135168x1, .i32⟩ : BufTy).Contents (Elt F) → (⟨S135168x1, .i32⟩ : BufTy).Contents (Elt F) → (⟨S135168x1, .i1⟩ : BufTy).Contents (Elt F)),
    StableHlo.unary main_arg4 main_v56 ((extractStridedSlice S1x1x1024x3584 ![0, 3, 0, 0] · slices_S2x8x1024x3584_S1x1x1024x3584_0_3_0_0) : (⟨S2x8x1024x3584, .f32⟩ : BufTy).Contents (Elt F) → (⟨S1x1x1024x3584, .f32⟩ : BufTy).Contents (Elt F)),
    StableHlo.reshape main_v56 main_v57 (rfl : (.f32 : EltTy) = .f32) shapeCasts_S1x1x1024x3584_S1024x3584,
    StableHlo.unary main_arg5 main_v58 ((extractStridedSlice S1x1x1024x3584 ![0, 3, 0, 0] · slices_S2x8x1024x3584_S1x1x1024x3584_0_3_0_0) : (⟨S2x8x1024x3584, .f32⟩ : BufTy).Contents (Elt F) → (⟨S1x1x1024x3584, .f32⟩ : BufTy).Contents (Elt F)),
    StableHlo.reshape main_v58 main_v59 (rfl : (.f32 : EltTy) = .f32) shapeCasts_S1x1x1024x3584_S1024x3584,
    StableHlo.unary main_arg6 main_v60 ((extractStridedSlice S1x1x3584x1024 ![0, 3, 0, 0] · slices_S2x8x3584x1024_S1x1x3584x1024_0_3_0_0) : (⟨S2x8x3584x1024, .f32⟩ : BufTy).Contents (Elt F) → (⟨S1x1x3584x1024, .f32⟩ : BufTy).Contents (Elt F)),
    StableHlo.reshape main_v60 main_v61 (rfl : (.f32 : EltTy) = .f32) shapeCasts_S1x1x3584x1024_S3584x1024,
    StableHlo.binary main_v7 main_v57 main_v62 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F))]
    ++ siluOps (.of main_v62) main_call6
    ++ [StableHlo.binary main_v7 main_v59 main_v64 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F)),
    StableHlo.binary main_v63 main_v64 main_v65 (mulf : (⟨S135168x3584, .f32⟩ : BufTy).Contents (Elt F) → (⟨S135168x3584, .f32⟩ : BufTy).Contents (Elt F) → (⟨S135168x3584, .f32⟩ : BufTy).Contents (Elt F)),
    StableHlo.binary main_v65 main_v61 main_v66 ((fun l r => Host.dotGeneral dot_S135168x3584_S3584x1024_S135168x1024_1_0_0_1_n_n none l r) : (⟨S135168x3584, .f32⟩ : BufTy).Contents (Elt F) → (⟨S3584x1024, .f32⟩ : BufTy).Contents (Elt F) → (⟨S135168x1024, .f32⟩ : BufTy).Contents (Elt F))]
    ++ whereOps (.of main_v55) (.of main_v66) (.of main_v53) main_call7

/-- Expert 4. -/
def ops4 : List (HloOp τ sig (Elt F)) :=
    [StableHlo.nullary main_c_5 (constantI S_ 32 4#32),
    StableHlo.unary main_c_5 main_v68 (broadcastInDim S135168x1 ![] bcast_S_S135168x1 : (⟨S_, .i32⟩ : BufTy).Contents (Elt F) → (⟨S135168x1, .i32⟩ : BufTy).Contents (Elt F)),
    StableHlo.binary main_v10 main_v68 main_v69 (cmpi .eq : (⟨S135168x1, .i32⟩ : BufTy).Contents (Elt F) → (⟨S135168x1, .i32⟩ : BufTy).Contents (Elt F) → (⟨S135168x1, .i1⟩ : BufTy).Contents (Elt F)),
    StableHlo.unary main_arg4 main_v70 ((extractStridedSlice S1x1x1024x3584 ![0, 4, 0, 0] · slices_S2x8x1024x3584_S1x1x1024x3584_0_4_0_0) : (⟨S2x8x1024x3584, .f32⟩ : BufTy).Contents (Elt F) → (⟨S1x1x1024x3584, .f32⟩ : BufTy).Contents (Elt F)),
    StableHlo.reshape main_v70 main_v71 (rfl : (.f32 : EltTy) = .f32) shapeCasts_S1x1x1024x3584_S1024x3584,
    StableHlo.unary main_arg5 main_v72 ((extractStridedSlice S1x1x1024x3584 ![0, 4, 0, 0] · slices_S2x8x1024x3584_S1x1x1024x3584_0_4_0_0) : (⟨S2x8x1024x3584, .f32⟩ : BufTy).Contents (Elt F) → (⟨S1x1x1024x3584, .f32⟩ : BufTy).Contents (Elt F)),
    StableHlo.reshape main_v72 main_v73 (rfl : (.f32 : EltTy) = .f32) shapeCasts_S1x1x1024x3584_S1024x3584,
    StableHlo.unary main_arg6 main_v74 ((extractStridedSlice S1x1x3584x1024 ![0, 4, 0, 0] · slices_S2x8x3584x1024_S1x1x3584x1024_0_4_0_0) : (⟨S2x8x3584x1024, .f32⟩ : BufTy).Contents (Elt F) → (⟨S1x1x3584x1024, .f32⟩ : BufTy).Contents (Elt F)),
    StableHlo.reshape main_v74 main_v75 (rfl : (.f32 : EltTy) = .f32) shapeCasts_S1x1x3584x1024_S3584x1024,
    StableHlo.binary main_v7 main_v71 main_v76 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F))]
    ++ siluOps (.of main_v76) main_call8
    ++ [StableHlo.binary main_v7 main_v73 main_v78 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F)),
    StableHlo.binary main_v77 main_v78 main_v79 (mulf : (⟨S135168x3584, .f32⟩ : BufTy).Contents (Elt F) → (⟨S135168x3584, .f32⟩ : BufTy).Contents (Elt F) → (⟨S135168x3584, .f32⟩ : BufTy).Contents (Elt F)),
    StableHlo.binary main_v79 main_v75 main_v80 ((fun l r => Host.dotGeneral dot_S135168x3584_S3584x1024_S135168x1024_1_0_0_1_n_n none l r) : (⟨S135168x3584, .f32⟩ : BufTy).Contents (Elt F) → (⟨S3584x1024, .f32⟩ : BufTy).Contents (Elt F) → (⟨S135168x1024, .f32⟩ : BufTy).Contents (Elt F))]
    ++ whereOps (.of main_v69) (.of main_v80) (.of main_v67) main_call9

/-- Expert 5. -/
def ops5 : List (HloOp τ sig (Elt F)) :=
    [StableHlo.nullary main_c_6 (constantI S_ 32 5#32),
    StableHlo.unary main_c_6 main_v82 (broadcastInDim S135168x1 ![] bcast_S_S135168x1 : (⟨S_, .i32⟩ : BufTy).Contents (Elt F) → (⟨S135168x1, .i32⟩ : BufTy).Contents (Elt F)),
    StableHlo.binary main_v10 main_v82 main_v83 (cmpi .eq : (⟨S135168x1, .i32⟩ : BufTy).Contents (Elt F) → (⟨S135168x1, .i32⟩ : BufTy).Contents (Elt F) → (⟨S135168x1, .i1⟩ : BufTy).Contents (Elt F)),
    StableHlo.unary main_arg4 main_v84 ((extractStridedSlice S1x1x1024x3584 ![0, 5, 0, 0] · slices_S2x8x1024x3584_S1x1x1024x3584_0_5_0_0) : (⟨S2x8x1024x3584, .f32⟩ : BufTy).Contents (Elt F) → (⟨S1x1x1024x3584, .f32⟩ : BufTy).Contents (Elt F)),
    StableHlo.reshape main_v84 main_v85 (rfl : (.f32 : EltTy) = .f32) shapeCasts_S1x1x1024x3584_S1024x3584,
    StableHlo.unary main_arg5 main_v86 ((extractStridedSlice S1x1x1024x3584 ![0, 5, 0, 0] · slices_S2x8x1024x3584_S1x1x1024x3584_0_5_0_0) : (⟨S2x8x1024x3584, .f32⟩ : BufTy).Contents (Elt F) → (⟨S1x1x1024x3584, .f32⟩ : BufTy).Contents (Elt F)),
    StableHlo.reshape main_v86 main_v87 (rfl : (.f32 : EltTy) = .f32) shapeCasts_S1x1x1024x3584_S1024x3584,
    StableHlo.unary main_arg6 main_v88 ((extractStridedSlice S1x1x3584x1024 ![0, 5, 0, 0] · slices_S2x8x3584x1024_S1x1x3584x1024_0_5_0_0) : (⟨S2x8x3584x1024, .f32⟩ : BufTy).Contents (Elt F) → (⟨S1x1x3584x1024, .f32⟩ : BufTy).Contents (Elt F)),
    StableHlo.reshape main_v88 main_v89 (rfl : (.f32 : EltTy) = .f32) shapeCasts_S1x1x3584x1024_S3584x1024,
    StableHlo.binary main_v7 main_v85 main_v90 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F))]
    ++ siluOps (.of main_v90) main_call10
    ++ [StableHlo.binary main_v7 main_v87 main_v92 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F)),
    StableHlo.binary main_v91 main_v92 main_v93 (mulf : (⟨S135168x3584, .f32⟩ : BufTy).Contents (Elt F) → (⟨S135168x3584, .f32⟩ : BufTy).Contents (Elt F) → (⟨S135168x3584, .f32⟩ : BufTy).Contents (Elt F)),
    StableHlo.binary main_v93 main_v89 main_v94 ((fun l r => Host.dotGeneral dot_S135168x3584_S3584x1024_S135168x1024_1_0_0_1_n_n none l r) : (⟨S135168x3584, .f32⟩ : BufTy).Contents (Elt F) → (⟨S3584x1024, .f32⟩ : BufTy).Contents (Elt F) → (⟨S135168x1024, .f32⟩ : BufTy).Contents (Elt F))]
    ++ whereOps (.of main_v83) (.of main_v94) (.of main_v81) main_call11

/-- Expert 6. -/
def ops6 : List (HloOp τ sig (Elt F)) :=
    [StableHlo.nullary main_c_7 (constantI S_ 32 6#32),
    StableHlo.unary main_c_7 main_v96 (broadcastInDim S135168x1 ![] bcast_S_S135168x1 : (⟨S_, .i32⟩ : BufTy).Contents (Elt F) → (⟨S135168x1, .i32⟩ : BufTy).Contents (Elt F)),
    StableHlo.binary main_v10 main_v96 main_v97 (cmpi .eq : (⟨S135168x1, .i32⟩ : BufTy).Contents (Elt F) → (⟨S135168x1, .i32⟩ : BufTy).Contents (Elt F) → (⟨S135168x1, .i1⟩ : BufTy).Contents (Elt F)),
    StableHlo.unary main_arg4 main_v98 ((extractStridedSlice S1x1x1024x3584 ![0, 6, 0, 0] · slices_S2x8x1024x3584_S1x1x1024x3584_0_6_0_0) : (⟨S2x8x1024x3584, .f32⟩ : BufTy).Contents (Elt F) → (⟨S1x1x1024x3584, .f32⟩ : BufTy).Contents (Elt F)),
    StableHlo.reshape main_v98 main_v99 (rfl : (.f32 : EltTy) = .f32) shapeCasts_S1x1x1024x3584_S1024x3584,
    StableHlo.unary main_arg5 main_v100 ((extractStridedSlice S1x1x1024x3584 ![0, 6, 0, 0] · slices_S2x8x1024x3584_S1x1x1024x3584_0_6_0_0) : (⟨S2x8x1024x3584, .f32⟩ : BufTy).Contents (Elt F) → (⟨S1x1x1024x3584, .f32⟩ : BufTy).Contents (Elt F)),
    StableHlo.reshape main_v100 main_v101 (rfl : (.f32 : EltTy) = .f32) shapeCasts_S1x1x1024x3584_S1024x3584,
    StableHlo.unary main_arg6 main_v102 ((extractStridedSlice S1x1x3584x1024 ![0, 6, 0, 0] · slices_S2x8x3584x1024_S1x1x3584x1024_0_6_0_0) : (⟨S2x8x3584x1024, .f32⟩ : BufTy).Contents (Elt F) → (⟨S1x1x3584x1024, .f32⟩ : BufTy).Contents (Elt F)),
    StableHlo.reshape main_v102 main_v103 (rfl : (.f32 : EltTy) = .f32) shapeCasts_S1x1x3584x1024_S3584x1024,
    StableHlo.binary main_v7 main_v99 main_v104 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F))]
    ++ siluOps (.of main_v104) main_call12
    ++ [StableHlo.binary main_v7 main_v101 main_v106 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F)),
    StableHlo.binary main_v105 main_v106 main_v107 (mulf : (⟨S135168x3584, .f32⟩ : BufTy).Contents (Elt F) → (⟨S135168x3584, .f32⟩ : BufTy).Contents (Elt F) → (⟨S135168x3584, .f32⟩ : BufTy).Contents (Elt F)),
    StableHlo.binary main_v107 main_v103 main_v108 ((fun l r => Host.dotGeneral dot_S135168x3584_S3584x1024_S135168x1024_1_0_0_1_n_n none l r) : (⟨S135168x3584, .f32⟩ : BufTy).Contents (Elt F) → (⟨S3584x1024, .f32⟩ : BufTy).Contents (Elt F) → (⟨S135168x1024, .f32⟩ : BufTy).Contents (Elt F))]
    ++ whereOps (.of main_v97) (.of main_v108) (.of main_v95) main_call13

/-- Expert 7. -/
def ops7 : List (HloOp τ sig (Elt F)) :=
    [StableHlo.nullary main_c_8 (constantI S_ 32 7#32),
    StableHlo.unary main_c_8 main_v110 (broadcastInDim S135168x1 ![] bcast_S_S135168x1 : (⟨S_, .i32⟩ : BufTy).Contents (Elt F) → (⟨S135168x1, .i32⟩ : BufTy).Contents (Elt F)),
    StableHlo.binary main_v10 main_v110 main_v111 (cmpi .eq : (⟨S135168x1, .i32⟩ : BufTy).Contents (Elt F) → (⟨S135168x1, .i32⟩ : BufTy).Contents (Elt F) → (⟨S135168x1, .i1⟩ : BufTy).Contents (Elt F)),
    StableHlo.unary main_arg4 main_v112 ((extractStridedSlice S1x1x1024x3584 ![0, 7, 0, 0] · slices_S2x8x1024x3584_S1x1x1024x3584_0_7_0_0) : (⟨S2x8x1024x3584, .f32⟩ : BufTy).Contents (Elt F) → (⟨S1x1x1024x3584, .f32⟩ : BufTy).Contents (Elt F)),
    StableHlo.reshape main_v112 main_v113 (rfl : (.f32 : EltTy) = .f32) shapeCasts_S1x1x1024x3584_S1024x3584,
    StableHlo.unary main_arg5 main_v114 ((extractStridedSlice S1x1x1024x3584 ![0, 7, 0, 0] · slices_S2x8x1024x3584_S1x1x1024x3584_0_7_0_0) : (⟨S2x8x1024x3584, .f32⟩ : BufTy).Contents (Elt F) → (⟨S1x1x1024x3584, .f32⟩ : BufTy).Contents (Elt F)),
    StableHlo.reshape main_v114 main_v115 (rfl : (.f32 : EltTy) = .f32) shapeCasts_S1x1x1024x3584_S1024x3584,
    StableHlo.unary main_arg6 main_v116 ((extractStridedSlice S1x1x3584x1024 ![0, 7, 0, 0] · slices_S2x8x3584x1024_S1x1x3584x1024_0_7_0_0) : (⟨S2x8x3584x1024, .f32⟩ : BufTy).Contents (Elt F) → (⟨S1x1x3584x1024, .f32⟩ : BufTy).Contents (Elt F)),
    StableHlo.reshape main_v116 main_v117 (rfl : (.f32 : EltTy) = .f32) shapeCasts_S1x1x3584x1024_S3584x1024,
    StableHlo.binary main_v7 main_v113 main_v118 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F))]
    ++ siluOps (.of main_v118) main_call14
    ++ [StableHlo.binary main_v7 main_v115 main_v120 ((fun l r => Host.dotGeneral dot_S135168x1024_S1024x3584_S135168x3584_1_0_0_1_n_n none l r) : (⟨S135168x1024, .f32⟩ : BufTy).Contents (Elt F) → (⟨S1024x3584, .f32⟩ : BufTy).Contents (Elt F) → (⟨S135168x3584, .f32⟩ : BufTy).Contents (Elt F)),
    StableHlo.binary main_v119 main_v120 main_v121 (mulf : (⟨S135168x3584, .f32⟩ : BufTy).Contents (Elt F) → (⟨S135168x3584, .f32⟩ : BufTy).Contents (Elt F) → (⟨S135168x3584, .f32⟩ : BufTy).Contents (Elt F)),
    StableHlo.binary main_v121 main_v117 main_v122 ((fun l r => Host.dotGeneral dot_S135168x3584_S3584x1024_S135168x1024_1_0_0_1_n_n none l r) : (⟨S135168x3584, .f32⟩ : BufTy).Contents (Elt F) → (⟨S3584x1024, .f32⟩ : BufTy).Contents (Elt F) → (⟨S135168x1024, .f32⟩ : BufTy).Contents (Elt F))]
    ++ whereOps (.of main_v111) (.of main_v122) (.of main_v109) main_call15

/-- The rows put where their table says. -/
def opsOut : List (HloOp τ sig (Elt F)) :=
    [StableHlo.nullary main_cst_9 (constant S_ .f32 0x00000000#32),
    StableHlo.unary main_cst_9 main_v124 (broadcastInDim S512x1024 ![] bcast_S_S512x1024 : (⟨S_, .f32⟩ : BufTy).Contents (Elt F) → (⟨S512x1024, .f32⟩ : BufTy).Contents (Elt F)),
    StableHlo.binary main_v124 main_v123 main_v125 ((fun a b => concatenate S135680x1024 0 [⟨S512x1024, a⟩, ⟨S135168x1024, b⟩] concatenates_S512x1024_S135168x1024_S135680x1024_d0) : (⟨S512x1024, .f32⟩ : BufTy).Contents (Elt F) → (⟨S135168x1024, .f32⟩ : BufTy).Contents (Elt F) → (⟨S135680x1024, .f32⟩ : BufTy).Contents (Elt F)),
    StableHlo.nullary main_cst_10 (constant S_ .f32 0x00000000#32),
    StableHlo.unary main_cst_10 main_v126 (broadcastInDim S135680x1024 ![] bcast_S_S135680x1024 : (⟨S_, .f32⟩ : BufTy).Contents (Elt F) → (⟨S135680x1024, .f32⟩ : BufTy).Contents (Elt F)),
    StableHlo.nullary main_c_11 (constantI S_ 32 0#32),
    StableHlo.unary main_c_11 main_v127 (broadcastInDim S135680 ![] bcast_S_S135680 : (⟨S_, .i32⟩ : BufTy).Contents (Elt F) → (⟨S135680, .i32⟩ : BufTy).Contents (Elt F)),
    StableHlo.binary main_arg2 main_v127 main_v128 (cmpi .slt : (⟨S135680, .i32⟩ : BufTy).Contents (Elt F) → (⟨S135680, .i32⟩ : BufTy).Contents (Elt F) → (⟨S135680, .i1⟩ : BufTy).Contents (Elt F)),
    StableHlo.nullary main_c_12 (constantI S_ 32 135680#32),
    StableHlo.unary main_c_12 main_v129 (broadcastInDim S135680 ![] bcast_S_S135680 : (⟨S_, .i32⟩ : BufTy).Contents (Elt F) → (⟨S135680, .i32⟩ : BufTy).Contents (Elt F)),
    StableHlo.binary main_arg2 main_v129 main_v130 (addi : (⟨S135680, .i32⟩ : BufTy).Contents (Elt F) → (⟨S135680, .i32⟩ : BufTy).Contents (Elt F) → (⟨S135680, .i32⟩ : BufTy).Contents (Elt F)),
    StableHlo.ternary main_v128 main_v130 main_arg2 main_v131 (select : (⟨S135680, .i1⟩ : BufTy).Contents (Elt F) → (⟨S135680, .i32⟩ : BufTy).Contents (Elt F) → (⟨S135680, .i32⟩ : BufTy).Contents (Elt F) → (⟨S135680, .i32⟩ : BufTy).Contents (Elt F)),
    StableHlo.unary main_v131 main_v132 (broadcastInDim S135680x1 ![0] bcast_S135680_S135680x1_0 : (⟨S135680, .i32⟩ : BufTy).Contents (Elt F) → (⟨S135680x1, .i32⟩ : BufTy).Contents (Elt F)),
    StableHlo.ternary main_v126 main_v132 main_v125 main_v133 ((fun x i u => Host.scatter scatter_S135680x1024_S135680x1_S135680x1024_1_0_0_1 (fun _ b => b) x i u) : (⟨S135680x1024, .f32⟩ : BufTy).Contents (Elt F) → (⟨S135680x1, .i32⟩ : BufTy).Contents (Elt F) → (⟨S135680x1024, .f32⟩ : BufTy).Contents (Elt F) → (⟨S135680x1024, .f32⟩ : BufTy).Contents (Elt F))]

/-- The whole reference. -/
def ops : List (HloOp τ sig (Elt F)) :=
  opsIn ++ (ops0 ++ (ops1 ++ (ops2 ++ (ops3 ++ (ops4 ++ (ops5 ++ (ops6 ++ (ops7 ++ opsOut))))))))

theorem main_eq (d : Dev nD) : main (F := F) d = seq ops := rfl

/-- A step's contents: `silu`, as it is printed. -/
def silu (x : FVec F S135168x3584 .f32) : FVec F S135168x3584 .f32 :=
  mulf x (Host.divf (broadcastInDim S135168x3584 ![] bcast_S_S135168x3584 (constant S_ .f32 0x3F800000#32))
    (addf (broadcastInDim S135168x3584 ![] bcast_S_S135168x3584 (constant S_ .f32 0x3F800000#32)) (Host.exp (Host.negf x))))

/-- One expert's rows, of all the gathered rows. -/
def rowsOf (x : FVec F S135168x1024 .f32) (wg wu : FVec F S1x1x1024x3584 .f32) (wd : FVec F S1x1x3584x1024 .f32) : FVec F S135168x1024 .f32 :=
  Host.dotGeneral dot_S135168x3584_S3584x1024_S135168x1024_1_0_0_1_n_n none
    (mulf (silu (Host.dotGeneral dot_S135168x1024_S1024x3584_S135168x3584_1_0_0_1_n_n none x (shapeCast S1024x3584 wg shapeCasts_S1x1x1024x3584_S1024x3584)))
      (Host.dotGeneral dot_S135168x1024_S1024x3584_S135168x3584_1_0_0_1_n_n none x (shapeCast S1024x3584 wu shapeCasts_S1x1x1024x3584_S1024x3584)))
    (shapeCast S3584x1024 wd shapeCasts_S1x1x3584x1024_S3584x1024)

/-- The rows of expert `k` where the row's expert is `k`, and what was there elsewhere. -/
def pick (te : IVec S135168x1 32) (k : BitVec 32) (x y : FVec F S135168x1024 .f32) : FVec F S135168x1024 .f32 :=
  select (broadcastInDim S135168x1024 ![0, 1] bcast_S135168x1_S135168x1024_0_1
    (cmpi .eq te (broadcastInDim S135168x1 ![] bcast_S_S135168x1 (constantI S_ 32 k)))) x y

theorem ops0_out (V : Valuation τ sig (Elt F)) : after ops0 V (Proc.devRef .tc main_v25)
    = pick (V (Proc.devRef .tc main_v10)) 0#32
        (rowsOf (V (Proc.devRef .tc main_v7)) (extractStridedSlice S1x1x1024x3584 ![0, 0, 0, 0] (V (Proc.devRef .tc main_arg4)) slices_S2x8x1024x3584_S1x1x1024x3584_0_0_0_0)
          (extractStridedSlice S1x1x1024x3584 ![0, 0, 0, 0] (V (Proc.devRef .tc main_arg5)) slices_S2x8x1024x3584_S1x1x1024x3584_0_0_0_0)
          (extractStridedSlice S1x1x3584x1024 ![0, 0, 0, 0] (V (Proc.devRef .tc main_arg6)) slices_S2x8x3584x1024_S1x1x3584x1024_0_0_0_0))
        (V (Proc.devRef .tc main_v11)) := by
  simp only [ops0, siluOps, whereOps, List.cons_append, List.nil_append]
  after_results_simp
  rfl

theorem ops1_out (V : Valuation τ sig (Elt F)) : after ops1 V (Proc.devRef .tc main_v39)
    = pick (V (Proc.devRef .tc main_v10)) 1#32
        (rowsOf (V (Proc.devRef .tc main_v7)) (extractStridedSlice S1x1x1024x3584 ![0, 1, 0, 0] (V (Proc.devRef .tc main_arg4)) slices_S2x8x1024x3584_S1x1x1024x3584_0_1_0_0)
          (extractStridedSlice S1x1x1024x3584 ![0, 1, 0, 0] (V (Proc.devRef .tc main_arg5)) slices_S2x8x1024x3584_S1x1x1024x3584_0_1_0_0)
          (extractStridedSlice S1x1x3584x1024 ![0, 1, 0, 0] (V (Proc.devRef .tc main_arg6)) slices_S2x8x3584x1024_S1x1x3584x1024_0_1_0_0))
        (V (Proc.devRef .tc main_v25)) := by
  simp only [ops1, siluOps, whereOps, List.cons_append, List.nil_append]
  after_results_simp
  rfl

theorem ops2_out (V : Valuation τ sig (Elt F)) : after ops2 V (Proc.devRef .tc main_v53)
    = pick (V (Proc.devRef .tc main_v10)) 2#32
        (rowsOf (V (Proc.devRef .tc main_v7)) (extractStridedSlice S1x1x1024x3584 ![0, 2, 0, 0] (V (Proc.devRef .tc main_arg4)) slices_S2x8x1024x3584_S1x1x1024x3584_0_2_0_0)
          (extractStridedSlice S1x1x1024x3584 ![0, 2, 0, 0] (V (Proc.devRef .tc main_arg5)) slices_S2x8x1024x3584_S1x1x1024x3584_0_2_0_0)
          (extractStridedSlice S1x1x3584x1024 ![0, 2, 0, 0] (V (Proc.devRef .tc main_arg6)) slices_S2x8x3584x1024_S1x1x3584x1024_0_2_0_0))
        (V (Proc.devRef .tc main_v39)) := by
  simp only [ops2, siluOps, whereOps, List.cons_append, List.nil_append]
  after_results_simp
  rfl

theorem ops3_out (V : Valuation τ sig (Elt F)) : after ops3 V (Proc.devRef .tc main_v67)
    = pick (V (Proc.devRef .tc main_v10)) 3#32
        (rowsOf (V (Proc.devRef .tc main_v7)) (extractStridedSlice S1x1x1024x3584 ![0, 3, 0, 0] (V (Proc.devRef .tc main_arg4)) slices_S2x8x1024x3584_S1x1x1024x3584_0_3_0_0)
          (extractStridedSlice S1x1x1024x3584 ![0, 3, 0, 0] (V (Proc.devRef .tc main_arg5)) slices_S2x8x1024x3584_S1x1x1024x3584_0_3_0_0)
          (extractStridedSlice S1x1x3584x1024 ![0, 3, 0, 0] (V (Proc.devRef .tc main_arg6)) slices_S2x8x3584x1024_S1x1x3584x1024_0_3_0_0))
        (V (Proc.devRef .tc main_v53)) := by
  simp only [ops3, siluOps, whereOps, List.cons_append, List.nil_append]
  after_results_simp
  rfl

theorem ops4_out (V : Valuation τ sig (Elt F)) : after ops4 V (Proc.devRef .tc main_v81)
    = pick (V (Proc.devRef .tc main_v10)) 4#32
        (rowsOf (V (Proc.devRef .tc main_v7)) (extractStridedSlice S1x1x1024x3584 ![0, 4, 0, 0] (V (Proc.devRef .tc main_arg4)) slices_S2x8x1024x3584_S1x1x1024x3584_0_4_0_0)
          (extractStridedSlice S1x1x1024x3584 ![0, 4, 0, 0] (V (Proc.devRef .tc main_arg5)) slices_S2x8x1024x3584_S1x1x1024x3584_0_4_0_0)
          (extractStridedSlice S1x1x3584x1024 ![0, 4, 0, 0] (V (Proc.devRef .tc main_arg6)) slices_S2x8x3584x1024_S1x1x3584x1024_0_4_0_0))
        (V (Proc.devRef .tc main_v67)) := by
  simp only [ops4, siluOps, whereOps, List.cons_append, List.nil_append]
  after_results_simp
  rfl

theorem ops5_out (V : Valuation τ sig (Elt F)) : after ops5 V (Proc.devRef .tc main_v95)
    = pick (V (Proc.devRef .tc main_v10)) 5#32
        (rowsOf (V (Proc.devRef .tc main_v7)) (extractStridedSlice S1x1x1024x3584 ![0, 5, 0, 0] (V (Proc.devRef .tc main_arg4)) slices_S2x8x1024x3584_S1x1x1024x3584_0_5_0_0)
          (extractStridedSlice S1x1x1024x3584 ![0, 5, 0, 0] (V (Proc.devRef .tc main_arg5)) slices_S2x8x1024x3584_S1x1x1024x3584_0_5_0_0)
          (extractStridedSlice S1x1x3584x1024 ![0, 5, 0, 0] (V (Proc.devRef .tc main_arg6)) slices_S2x8x3584x1024_S1x1x3584x1024_0_5_0_0))
        (V (Proc.devRef .tc main_v81)) := by
  simp only [ops5, siluOps, whereOps, List.cons_append, List.nil_append]
  after_results_simp
  rfl

theorem ops6_out (V : Valuation τ sig (Elt F)) : after ops6 V (Proc.devRef .tc main_v109)
    = pick (V (Proc.devRef .tc main_v10)) 6#32
        (rowsOf (V (Proc.devRef .tc main_v7)) (extractStridedSlice S1x1x1024x3584 ![0, 6, 0, 0] (V (Proc.devRef .tc main_arg4)) slices_S2x8x1024x3584_S1x1x1024x3584_0_6_0_0)
          (extractStridedSlice S1x1x1024x3584 ![0, 6, 0, 0] (V (Proc.devRef .tc main_arg5)) slices_S2x8x1024x3584_S1x1x1024x3584_0_6_0_0)
          (extractStridedSlice S1x1x3584x1024 ![0, 6, 0, 0] (V (Proc.devRef .tc main_arg6)) slices_S2x8x3584x1024_S1x1x3584x1024_0_6_0_0))
        (V (Proc.devRef .tc main_v95)) := by
  simp only [ops6, siluOps, whereOps, List.cons_append, List.nil_append]
  after_results_simp
  rfl

theorem ops7_out (V : Valuation τ sig (Elt F)) : after ops7 V (Proc.devRef .tc main_v123)
    = pick (V (Proc.devRef .tc main_v10)) 7#32
        (rowsOf (V (Proc.devRef .tc main_v7)) (extractStridedSlice S1x1x1024x3584 ![0, 7, 0, 0] (V (Proc.devRef .tc main_arg4)) slices_S2x8x1024x3584_S1x1x1024x3584_0_7_0_0)
          (extractStridedSlice S1x1x1024x3584 ![0, 7, 0, 0] (V (Proc.devRef .tc main_arg5)) slices_S2x8x1024x3584_S1x1x1024x3584_0_7_0_0)
          (extractStridedSlice S1x1x3584x1024 ![0, 7, 0, 0] (V (Proc.devRef .tc main_arg6)) slices_S2x8x3584x1024_S1x1x3584x1024_0_7_0_0))
        (V (Proc.devRef .tc main_v109)) := by
  simp only [ops7, siluOps, whereOps, List.cons_append, List.nil_append]
  after_results_simp
  rfl

theorem opsIn_kept (V : Valuation τ sig (Elt F)) (r : Ref sig .tc) (hr : r ∉ ([main_v0, main_c, main_v1, main_v2, main_c_0, main_v3, main_v4, main_v5, main_v6, main_v7, main_v8, main_v9, main_v10, main_cst, main_v11] : List (Ref sig .tc))) :
    after opsIn V (Proc.devRef .tc r) = V (Proc.devRef .tc r) :=
  after_of_writes_sub _ V (forall_writes_sub_of_map rfl) hr

theorem ops0_kept (V : Valuation τ sig (Elt F)) (r : Ref sig .tc) (hr : r ∉ ([main_c_1, main_v12, main_v13, main_v14, main_v15, main_v16, main_v17, main_v18, main_v19, main_v20, main_call0_v0, main_call0_v1, main_call0_cst, main_call0_v2, main_call0_v3, main_call0_cst_0, main_call0_v4, main_call0_v5, main_v21, main_v22, main_v23, main_v24, main_call1_v0, main_v25] : List (Ref sig .tc))) :
    after ops0 V (Proc.devRef .tc r) = V (Proc.devRef .tc r) :=
  after_of_writes_sub _ V (forall_writes_sub_of_map rfl) hr

theorem ops1_kept (V : Valuation τ sig (Elt F)) (r : Ref sig .tc) (hr : r ∉ ([main_c_2, main_v26, main_v27, main_v28, main_v29, main_v30, main_v31, main_v32, main_v33, main_v34, main_call2_v0, main_call2_v1, main_call2_cst, main_call2_v2, main_call2_v3, main_call2_cst_0, main_call2_v4, main_call2_v5, main_v35, main_v36, main_v37, main_v38, main_call3_v0, main_v39] : List (Ref sig .tc))) :
    after ops1 V (Proc.devRef .tc r) = V (Proc.devRef .tc r) :=
  after_of_writes_sub _ V (forall_writes_sub_of_map rfl) hr

theorem ops2_kept (V : Valuation τ sig (Elt F)) (r : Ref sig .tc) (hr : r ∉ ([main_c_3, main_v40, main_v41, main_v42, main_v43, main_v44, main_v45, main_v46, main_v47, main_v48, main_call4_v0, main_call4_v1, main_call4_cst, main_call4_v2, main_call4_v3, main_call4_cst_0, main_call4_v4, main_call4_v5, main_v49, main_v50, main_v51, main_v52, main_call5_v0, main_v53] : List (Ref sig .tc))) :
    after ops2 V (Proc.devRef .tc r) = V (Proc.devRef .tc r) :=
  after_of_writes_sub _ V (forall_writes_sub_of_map rfl) hr

theorem ops3_kept (V : Valuation τ sig (Elt F)) (r : Ref sig .tc) (hr : r ∉ ([main_c_4, main_v54, main_v55, main_v56, main_v57, main_v58, main_v59, main_v60, main_v61, main_v62, main_call6_v0, main_call6_v1, main_call6_cst, main_call6_v2, main_call6_v3, main_call6_cst_0, main_call6_v4, main_call6_v5, main_v63, main_v64, main_v65, main_v66, main_call7_v0, main_v67] : List (Ref sig .tc))) :
    after ops3 V (Proc.devRef .tc r) = V (Proc.devRef .tc r) :=
  after_of_writes_sub _ V (forall_writes_sub_of_map rfl) hr

theorem ops4_kept (V : Valuation τ sig (Elt F)) (r : Ref sig .tc) (hr : r ∉ ([main_c_5, main_v68, main_v69, main_v70, main_v71, main_v72, main_v73, main_v74, main_v75, main_v76, main_call8_v0, main_call8_v1, main_call8_cst, main_call8_v2, main_call8_v3, main_call8_cst_0, main_call8_v4, main_call8_v5, main_v77, main_v78, main_v79, main_v80, main_call9_v0, main_v81] : List (Ref sig .tc))) :
    after ops4 V (Proc.devRef .tc r) = V (Proc.devRef .tc r) :=
  after_of_writes_sub _ V (forall_writes_sub_of_map rfl) hr

theorem ops5_kept (V : Valuation τ sig (Elt F)) (r : Ref sig .tc) (hr : r ∉ ([main_c_6, main_v82, main_v83, main_v84, main_v85, main_v86, main_v87, main_v88, main_v89, main_v90, main_call10_v0, main_call10_v1, main_call10_cst, main_call10_v2, main_call10_v3, main_call10_cst_0, main_call10_v4, main_call10_v5, main_v91, main_v92, main_v93, main_v94, main_call11_v0, main_v95] : List (Ref sig .tc))) :
    after ops5 V (Proc.devRef .tc r) = V (Proc.devRef .tc r) :=
  after_of_writes_sub _ V (forall_writes_sub_of_map rfl) hr

theorem ops6_kept (V : Valuation τ sig (Elt F)) (r : Ref sig .tc) (hr : r ∉ ([main_c_7, main_v96, main_v97, main_v98, main_v99, main_v100, main_v101, main_v102, main_v103, main_v104, main_call12_v0, main_call12_v1, main_call12_cst, main_call12_v2, main_call12_v3, main_call12_cst_0, main_call12_v4, main_call12_v5, main_v105, main_v106, main_v107, main_v108, main_call13_v0, main_v109] : List (Ref sig .tc))) :
    after ops6 V (Proc.devRef .tc r) = V (Proc.devRef .tc r) :=
  after_of_writes_sub _ V (forall_writes_sub_of_map rfl) hr

theorem ops7_kept (V : Valuation τ sig (Elt F)) (r : Ref sig .tc) (hr : r ∉ ([main_c_8, main_v110, main_v111, main_v112, main_v113, main_v114, main_v115, main_v116, main_v117, main_v118, main_call14_v0, main_call14_v1, main_call14_cst, main_call14_v2, main_call14_v3, main_call14_cst_0, main_call14_v4, main_call14_v5, main_v119, main_v120, main_v121, main_v122, main_call15_v0, main_v123] : List (Ref sig .tc))) :
    after ops7 V (Proc.devRef .tc r) = V (Proc.devRef .tc r) :=
  after_of_writes_sub _ V (forall_writes_sub_of_map rfl) hr

theorem opsOut_kept (V : Valuation τ sig (Elt F)) (r : Ref sig .tc) (hr : r ∉ ([main_cst_9, main_v124, main_v125, main_cst_10, main_v126, main_c_11, main_v127, main_v128, main_c_12, main_v129, main_v130, main_v131, main_v132, main_v133] : List (Ref sig .tc))) :
    after opsOut V (Proc.devRef .tc r) = V (Proc.devRef .tc r) :=
  after_of_writes_sub _ V (forall_writes_sub_of_map rfl) hr

/-- The rows' places in the table of sources, negatives counted from the end. -/
def srcIdx (src : IVec S135680 32) : IVec S135168x1 32 :=
  broadcastInDim S135168x1 ![0] bcast_S135168_S135168x1_0
    (select (cmpi .slt (extractStridedSlice S135168 ![0] src slices_S135680_S135168_0) (broadcastInDim S135168 ![] bcast_S_S135168 (constantI S_ 32 0#32)))
      (addi (extractStridedSlice S135168 ![0] src slices_S135680_S135168_0) (broadcastInDim S135168 ![] bcast_S_S135168 (constantI S_ 32 65536#32)))
      (extractStridedSlice S135168 ![0] src slices_S135680_S135168_0))

theorem opsIn_x (V : Valuation τ sig (Elt F)) : after opsIn V (Proc.devRef .tc main_v7)
    = Host.gather gather_S65536x1024_S135168x1_S135168x1024_1_0_n_n_0_1_11024 (V (Proc.devRef .tc main_arg0)) (srcIdx (V (Proc.devRef .tc main_arg1))) := by
  simp only [opsIn]
  after_results_simp
  rfl

theorem opsIn_te (V : Valuation τ sig (Elt F)) : after opsIn V (Proc.devRef .tc main_v10)
    = shapeCast S135168x1 (broadcastInDim S264x512 ![0, 1] bcast_S264x1_S264x512_0_1 (broadcastInDim S264x1 ![0] bcast_S264_S264x1_0
        (V (Proc.devRef .tc main_arg3)))) shapeCasts_S264x512_S135168x1 := by
  simp only [opsIn]
  after_results_simp
  rfl

theorem opsIn_zero (V : Valuation τ sig (Elt F)) : after opsIn V (Proc.devRef .tc main_v11)
    = broadcastInDim S135168x1024 ![] bcast_S_S135168x1024 (constant S_ .f32 0x00000000#32 : FVec F S_ .f32) := by
  simp only [opsIn]
  after_results_simp

/-- The rows put where the table `dst` says, after a tile of zeros. -/
def placed (dst : IVec S135680 32) (y : FVec F S135168x1024 .f32) : FVec F S135680x1024 .f32 :=
  Host.scatter scatter_S135680x1024_S135680x1_S135680x1024_1_0_0_1 (fun _ b => b)
    (broadcastInDim S135680x1024 ![] bcast_S_S135680x1024 (constant S_ .f32 0x00000000#32 : FVec F S_ .f32))
    (broadcastInDim S135680x1 ![0] bcast_S135680_S135680x1_0
      (select (cmpi .slt dst (broadcastInDim S135680 ![] bcast_S_S135680 (constantI S_ 32 0#32)))
        (addi dst (broadcastInDim S135680 ![] bcast_S_S135680 (constantI S_ 32 135680#32))) dst))
    (concatenate S135680x1024 0 [⟨S512x1024, broadcastInDim S512x1024 ![] bcast_S_S512x1024 (constant S_ .f32 0x00000000#32 : FVec F S_ .f32)⟩,
      ⟨S135168x1024, y⟩] concatenates_S512x1024_S135168x1024_S135680x1024_d0)

theorem opsOut_out (V : Valuation τ sig (Elt F)) : after opsOut V (Proc.devRef .tc main_v133)
    = placed (V (Proc.devRef .tc main_arg2)) (V (Proc.devRef .tc main_v123)) := by
  simp only [opsOut]
  after_results_simp
  rfl

/-- The reference runs: every buffer ends at the operations' fold over what it held. -/
theorem run (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = after ops (launchContents m d) (Proc.devRef .tc b))
        ∧ r.2.sem = fun _ => 0 :=
  (θ_run defs _ _).mono (fun r h => ⟨h, sem_eq_zero_of_no_sems (by decide) r.2⟩)
    (run_seq (by decide) (by decide) defs main (fun _ => ops) main_eq
      (fun _ => by simp [ops, opsIn, ops0, ops1, ops2, ops3, ops4, ops5, ops6, ops7, opsOut, siluOps, whereOps]) m ρ
      (fun _ => List.forall_iff_forall_mem.1 (forall_fresh_of_map rfl)))

theorem after_app (l₁ l₂ : List (HloOp τ sig (Elt F))) (V : Valuation τ sig (Elt F)) : after (l₁ ++ l₂) V = after l₂ (after l₁ V) := by
  induction l₁ generalizing V with
  | nil => rfl
  | cons a l ih => exact ih _

/-- No operation writes an argument. -/
theorem ops_args (V : Valuation τ sig (Elt F)) (r : Ref sig .tc)
    (hr : r ∈ ([main_arg0, main_arg1, main_arg2, main_arg3, main_arg4, main_arg5, main_arg6] : List (Ref sig .tc))) :
    after ops V (Proc.devRef .tc r) = V (Proc.devRef .tc r) := by
  have hd : ∀ W : List (Ref sig .tc), (∀ x ∈ ([main_arg0, main_arg1, main_arg2, main_arg3, main_arg4, main_arg5, main_arg6] : List (Ref sig .tc)), x ∉ W) → r ∉ W :=
    fun W h => h r hr
  simp only [ops, after_app]
  rw [opsOut_kept _ _ (hd _ (by decide)), ops7_kept _ _ (hd _ (by decide)), ops6_kept _ _ (hd _ (by decide)), ops5_kept _ _ (hd _ (by decide)),
    ops4_kept _ _ (hd _ (by decide)), ops3_kept _ _ (hd _ (by decide)), ops2_kept _ _ (hd _ (by decide)), ops1_kept _ _ (hd _ (by decide)),
    ops0_kept _ _ (hd _ (by decide)), opsIn_kept _ _ (hd _ (by decide))]

end Cert.Experts.Ref
-- ==== Proof.RefFrame.lean ====
/- The reference's frames. -/
module

public import proofs.«01_k».proof.Defs
public import proofs.«01_k».proof.Proof.RefRun

@[expose] public section

namespace Cert.Experts

open Idealize.SL.Sem Idealize.ShloMosaic

theorem frame_reference : Cert.quiescent_ReferenceIdeal := fun m ρ _ =>
  (θ_run Cert.ReferenceIdeal.defs _ _).mono (fun r h => ⟨fun c =>
    ⟨(h.1 c _).trans (Ref.ops_args _ _ (by decide)), (h.1 c _).trans (Ref.ops_args _ _ (by decide)), (h.1 c _).trans (Ref.ops_args _ _ (by decide)),
      (h.1 c _).trans (Ref.ops_args _ _ (by decide)), (h.1 c _).trans (Ref.ops_args _ _ (by decide)), (h.1 c _).trans (Ref.ops_args _ _ (by decide)),
      (h.1 c _).trans (Ref.ops_args _ _ (by decide))⟩, h.2⟩) (Ref.run m ρ)

theorem frame_reference_tables : Cert.quiescent_ReferenceIdeal_pre_tables := fun m ρ _ => frame_reference m ρ trivial

end Cert.Experts
-- ==== Proof.Spec.lean ====
/- The experts' feed-forward of one row, over the extended reals; and what the two programs' products and casts are at an entry. -/
module

public import Idealize.ShloMosaic.PureOps.Ideal
public import Idealize.ShloMosaic.PureOps.Ideal.Laws
public import Idealize.ShloMosaic.Lib.Pointwise.Contract
public import Idealize.ShloMosaic.Lib.Pipeline.Value
public import Idealize.ShloMosaic.Lib.Routing.OpsSet

@[expose] public section

noncomputable section

namespace Cert.Experts

open Idealize.ShloMosaic hiding ix1 ix2 ix3 ix4
open Idealize.ShloMosaic.Routing Idealize.ShloMosaic.ValueIdx

/-- The activation: `g / (1 + exp (-g))`, as a product. -/
def act (g : EReal) : EReal :=
  g * Ideal.div (Ideal.ofBits .f32 0x3F800000#32) (Ideal.ofBits .f32 0x3F800000#32 + Ideal.exp (-g))

/-- One hidden unit of a row: the gate's activation times the up product. -/
def unitOf (x g u : Fin 1024 → EReal) : EReal := act (∑ i, x i * g i) * ∑ i, x i * u i

/-- One row's feed-forward by an expert. -/
def rowFF (x : Fin 1024 → EReal) (g u : Fin 1024 → Fin 3584 → EReal) (d : Fin 3584 → Fin 1024 → EReal) (l : Fin 1024) : EReal :=
  ∑ k : Fin 3584, unitOf x (fun i => g i k) (fun i => u i k) * d k l

/-- The hidden units of the first half, and of the second. -/
def lo (k : Fin 1792) : Fin 3584 := ⟨k.val, by omega⟩
def hi (k : Fin 1792) : Fin 3584 := ⟨1792 + k.val, by omega⟩

/-- A sum over the hidden units, by halves. -/
theorem sum_halves (f : Fin 3584 → EReal) : ∑ k, f k = ∑ k, f (lo k) + ∑ k, f (hi k) :=
  Fin.sum_univ_add (a := 1792) (b := 1792) f

theorem plain_lhs (M K N : ℕ) (i : Fin M) (j : Fin N) (k : Fin K) :
    (DotDims.plain M K N).lhsIdx (ix2 i j) ((DotDims.plain M K N).contrIdx₁ (a := (1 : Fin 2)) rfl rfl k) = ix2 i k := by
  funext a; fin_cases a <;> rfl

theorem plain_rhs (M K N : ℕ) (i : Fin M) (j : Fin N) (k : Fin K) :
    (DotDims.plain M K N).rhsIdx (ix2 i j) ((DotDims.plain M K N).contrIdx₁ (a := (1 : Fin 2)) rfl rfl k) = ix2 k j := by
  funext a; fin_cases a <;> rfl

theorem sum_plain {M K N : ℕ} (l : (shape2 M K).Idx → EReal) (r : (shape2 K N).Idx → EReal) (i : Fin M) (j : Fin N) :
    ∑ k, l ((DotDims.plain M K N).lhsIdx (ix2 i j) k) * r ((DotDims.plain M K N).rhsIdx (ix2 i j) k) = ∑ k : Fin K, l (ix2 i k) * r (ix2 k j) :=
  ((DotDims.plain M K N).sum_contr₁ (a := (1 : Fin 2)) rfl (K := K) rfl _).trans
    (Finset.sum_congr rfl fun k _ => congrArg₂ (· * ·) (congrArg l (plain_lhs M K N i j k)) (congrArg r (plain_rhs M K N i j k)))

/-- A product at an entry, -/
theorem matmul_plain {φ₁ φ₂ : FTy} {M K N : ℕ} (l : FVec Ideal (shape2 M K) φ₁) (r : FVec Ideal (shape2 K N) φ₂) (acc : FVec Ideal (shape2 M N) .f32)
    (p : Option ContractPrecision) (i : Fin M) (j : Fin N) :
    FloatOps.matmul (F := Ideal) (DotDims.plain M K N) p l r acc (ix2 i j) = acc (ix2 i j) + ∑ k : Fin K, l (ix2 i k) * r (ix2 k j) := by
  rw [Ideal.matmul_apply]
  exact congrArg _ (sum_plain l r i j)

/-- and the host's. -/
theorem dotGeneral_plain {φ₁ φ₂ : FTy} {M K N : ℕ} (l : FVec Ideal (shape2 M K) φ₁) (r : FVec Ideal (shape2 K N) φ₂)
    (p : Option ContractPrecision) (s : HostSchedule) (i : Fin M) (j : Fin N) :
    FloatOps.dotGeneral (F := Ideal) (DotDims.plain M K N) p s l r (ix2 i j) = ∑ k : Fin K, l (ix2 i k) * r (ix2 k j) := by
  rw [Ideal.dotGeneral_apply]
  exact sum_plain l r i j

/-- A block without its two unit axes, at an entry. -/
theorem cast_block {α : Type} {A B : ℕ} (w : (⟨4, ![1, 1, A, B]⟩ : Shape).Idx → α) (h : (⟨4, ![1, 1, A, B]⟩ : Shape).ShapeCasts (shape2 A B)) (i : Fin A) (j : Fin B) :
    shapeCast (shape2 A B) w h (ix2 i j) = w (ix4 (0 : Fin 1) (0 : Fin 1) i j) := by
  refine shapeCast_apply _ _ _ _ ?_
  rw [Shape.rowMajor_val_four, Shape.rowMajor_val_two]
  show (((0 * 1 + 0) * A + i.val) * B + j.val) = i.val * B + j.val
  simp

/-- A tile without its unit axis, -/
theorem cast_tile {α : Type} {A B : ℕ} (w : (⟨3, ![1, A, B]⟩ : Shape).Idx → α) (h : (⟨3, ![1, A, B]⟩ : Shape).ShapeCasts (shape2 A B)) (i : Fin A) (j : Fin B) :
    shapeCast (shape2 A B) w h (ix2 i j) = w (ix3 (0 : Fin 1) i j) := by
  refine shapeCast_apply _ _ _ _ ?_
  rw [Shape.rowMajor_val_three, Shape.rowMajor_val_two]
  show ((0 * A + i.val) * B + j.val) = i.val * B + j.val
  simp

/-- and with it. -/
theorem tile_cast {α : Type} {A B : ℕ} (w : (shape2 A B).Idx → α) (h : (shape2 A B).ShapeCasts ⟨3, ![1, A, B]⟩) (i : Fin A) (j : Fin B) :
    shapeCast ⟨3, ![1, A, B]⟩ w h (ix3 (0 : Fin 1) i j) = w (ix2 i j) := by
  refine shapeCast_apply _ _ _ _ ?_
  rw [Shape.rowMajor_val_three, Shape.rowMajor_val_two]
  show i.val * B + j.val = ((0 * A + i.val) * B + j.val)
  simp

end Cert.Experts

end
-- ==== Proof.KerValue.lean ====
/- The kernel's tile at an entry, over the extended reals. -/
module

public import proofs.«01_k».proof.Proof.Spec
public import proofs.«01_k».proof.Proof.Launch

@[expose] public section

noncomputable section

namespace Cert.Experts

open Cert.KernelIdeal Cert.KernelIdeal.Gen
open Idealize.ShloMosaic hiding ix1 ix2 ix3 ix4
open Idealize.ShloMosaic.TcCoe Idealize.ShloMosaic.ValueIdx Idealize.ShloMosaic.Routing

/-- A product of a tile's rows with half a gate or up block, as it is printed. -/
def wide (x : FVec Ideal S512x1024 .bf16) (w : S1x1x1024x1792.Idx → EReal) : S512x1792.Idx → EReal :=
  FloatOps.matmul (F := Ideal) (φ₁ := .bf16) (φ₂ := .bf16) (DotDims.plain 512 1024 1792) none x (shapeCast S1024x1792 w shapeCasts_S1x1x1024x1792_S1024x1792) (constant S512x1792 .f32 0x00000000#32)

theorem wide_apply (x : FVec Ideal S512x1024 .bf16) (w : S1x1x1024x1792.Idx → EReal) (j : Fin 512) (k : Fin 1792) :
    wide x w (ix2 j k) = ∑ i : Fin 1024, x (ix2 j i) * w (ix4 (0 : Fin 1) (0 : Fin 1) i k) := by
  refine (matmul_plain (φ₁ := .bf16) (φ₂ := .bf16) x (shapeCast S1024x1792 w shapeCasts_S1x1x1024x1792_S1024x1792) (constant S512x1792 .f32 0x00000000#32) none j k).trans ?_
  have h0 : (constant (F := Ideal) S512x1792 .f32 0x00000000#32) (ix2 j k) = (0 : EReal) := Ideal.ofBits_zero_f32
  rw [h0, zero_add]
  exact Finset.sum_congr rfl fun i _ => congrArg _ (cast_block w _ i k)

/-- Half the hidden units of a tile, as they are printed. -/
def units (x : FVec Ideal S512x1024 .bf16) (g u : S1x1x1024x1792.Idx → EReal) : S512x1792.Idx → EReal := fun y =>
  (wide x g y * Ideal.div (Ideal.ofBits .f32 0x3F800000#32)
    (Ideal.ofBits .f32 0x3F800000#32 + Ideal.exp (Ideal.ofBits .f32 0x00000000#32 - wide x g y))) * wide x u y

theorem units_apply (x : FVec Ideal S512x1024 .bf16) (g u : S1x1x1024x1792.Idx → EReal) (j : Fin 512) (k : Fin 1792) :
    units x g u (ix2 j k) = unitOf (fun i => x (ix2 j i)) (fun i => g (ix4 (0 : Fin 1) (0 : Fin 1) i k)) (fun i => u (ix4 (0 : Fin 1) (0 : Fin 1) i k)) := by
  unfold units unitOf act
  rw [wide_apply, wide_apply, Ideal.ofBits_zero_f32, zero_sub]

/-- A product of half the hidden units with half a down block, as it is printed. -/
def tall (z : S512x1792.Idx → EReal) (w : S1x1x1792x1024.Idx → EReal) : S512x1024.Idx → EReal :=
  FloatOps.matmul (F := Ideal) (φ₁ := .bf16) (φ₂ := .bf16) (DotDims.plain 512 1792 1024) none z (shapeCast S1792x1024 w shapeCasts_S1x1x1792x1024_S1792x1024) (constant S512x1024 .f32 0x00000000#32)

theorem tall_apply (z : S512x1792.Idx → EReal) (w : S1x1x1792x1024.Idx → EReal) (j : Fin 512) (l : Fin 1024) :
    tall z w (ix2 j l) = ∑ k : Fin 1792, z (ix2 j k) * w (ix4 (0 : Fin 1) (0 : Fin 1) k l) := by
  refine (matmul_plain (φ₁ := .bf16) (φ₂ := .bf16) z (shapeCast S1792x1024 w shapeCasts_S1x1x1792x1024_S1792x1024) (constant S512x1024 .f32 0x00000000#32) none j l).trans ?_
  have h0 : (constant (F := Ideal) S512x1024 .f32 0x00000000#32) (ix2 j l) = (0 : EReal) := Ideal.ofBits_zero_f32
  rw [h0, zero_add]
  exact Finset.sum_congr rfl fun i _ => congrArg _ (cast_block w _ i l)

/-- The tile's rows, cast. -/
def rowsIn (X : S1x512x1024.Idx → EReal) : FVec Ideal S512x1024 .bf16 := shapeCast S512x1024 X shapeCasts_S1x512x1024_S512x1024

theorem tileOut_eq (X : S1x512x1024.Idx → EReal) (g u : S1x1x1024x3584.Idx → EReal) (d : S1x1x3584x1024.Idx → EReal) :
    tileOut (F := Ideal) X g u d = shapeCast S1x512x1024 (fun y => Ideal.ofBits .f32 0x00000000#32
        + tall (units (rowsIn X) (colsA (F := Ideal) g) (colsA (F := Ideal) u)) (rowsA (F := Ideal) d) y
        + tall (units (rowsIn X) (colsB (F := Ideal) g) (colsB (F := Ideal) u)) (rowsB (F := Ideal) d) y) shapeCasts_S512x1024_S1x512x1024 := rfl

theorem colsA_apply (w : S1x1x1024x3584.Idx → EReal) (i : Fin 1024) (k : Fin 1792) :
    colsA (F := Ideal) w (ix4 (0 : Fin 1) (0 : Fin 1) i k) = w (ix4 (0 : Fin 1) (0 : Fin 1) i (lo k)) := by
  refine congrArg w (funext fun a => Fin.ext ?_)
  match a with
  | ⟨0, _⟩ => rfl
  | ⟨1, _⟩ => rfl
  | ⟨2, _⟩ => show 0 + 1 * i.val = i.val; omega
  | ⟨3, _⟩ => show 0 + 1 * k.val = k.val; omega
theorem colsB_apply (w : S1x1x1024x3584.Idx → EReal) (i : Fin 1024) (k : Fin 1792) :
    colsB (F := Ideal) w (ix4 (0 : Fin 1) (0 : Fin 1) i k) = w (ix4 (0 : Fin 1) (0 : Fin 1) i (hi k)) := by
  refine congrArg w (funext fun a => Fin.ext ?_)
  match a with
  | ⟨0, _⟩ => rfl
  | ⟨1, _⟩ => rfl
  | ⟨2, _⟩ => show 0 + 1 * i.val = i.val; omega
  | ⟨3, _⟩ => show 1792 + 1 * k.val = 1792 + k.val; omega
theorem rowsA_apply (w : S1x1x3584x1024.Idx → EReal) (k : Fin 1792) (l : Fin 1024) :
    rowsA (F := Ideal) w (ix4 (0 : Fin 1) (0 : Fin 1) k l) = w (ix4 (0 : Fin 1) (0 : Fin 1) (lo k) l) := by
  refine congrArg w (funext fun a => Fin.ext ?_)
  match a with
  | ⟨0, _⟩ => rfl
  | ⟨1, _⟩ => rfl
  | ⟨2, _⟩ => show 0 + 1 * k.val = k.val; omega
  | ⟨3, _⟩ => show 0 + 1 * l.val = l.val; omega
theorem rowsB_apply (w : S1x1x3584x1024.Idx → EReal) (k : Fin 1792) (l : Fin 1024) :
    rowsB (F := Ideal) w (ix4 (0 : Fin 1) (0 : Fin 1) k l) = w (ix4 (0 : Fin 1) (0 : Fin 1) (hi k) l) := by
  refine congrArg w (funext fun a => Fin.ext ?_)
  match a with
  | ⟨0, _⟩ => rfl
  | ⟨1, _⟩ => rfl
  | ⟨2, _⟩ => show 1792 + 1 * k.val = 1792 + k.val; omega
  | ⟨3, _⟩ => show 0 + 1 * l.val = l.val; omega

/-- A tile's entry is its row's feed-forward. -/
theorem tileOut_apply (X : S1x512x1024.Idx → EReal) (g u : S1x1x1024x3584.Idx → EReal) (d : S1x1x3584x1024.Idx → EReal) (j : Fin 512) (l : Fin 1024) :
    tileOut (F := Ideal) X g u d (ix3 (0 : Fin 1) j l) = rowFF (fun i => X (ix3 (0 : Fin 1) j i))
      (fun i k => g (ix4 (0 : Fin 1) (0 : Fin 1) i k)) (fun i k => u (ix4 (0 : Fin 1) (0 : Fin 1) i k)) (fun k l => d (ix4 (0 : Fin 1) (0 : Fin 1) k l)) l := by
  have hx : ∀ i, rowsIn X (ix2 j i) = X (ix3 (0 : Fin 1) j i) := fun i => cast_tile X _ j i
  rw [tileOut_eq]
  refine (tile_cast _ shapeCasts_S512x1024_S1x512x1024 j l).trans ?_
  unfold rowFF
  rw [sum_halves, Ideal.ofBits_zero_f32, zero_add, tall_apply, tall_apply]
  simp only [units_apply, colsA_apply, colsB_apply, rowsA_apply, rowsB_apply, hx]

variable (m : (ℓ : Idealize.ShloMosaic.Loc nD τ sig) → Buf (Elt Ideal) ℓ) (ρ : Dev nD → PrngReg)

/-- The weights the launch is given are the call's. -/
theorem V_gate (c : Dev nD) : (V m ρ c main_v0 : S2x8x1024x3584.Idx → EReal) = m ((c : Thread nD τ).loc main_arg4) := by
  show Idealize.ShloMosaic.StableHlo.after hostOps0 (V₀ m ρ c) main_v0 = _
  simp only [hostOps0]
  after_results_simp
  rfl
theorem V_up (c : Dev nD) : (V m ρ c main_v1 : S2x8x1024x3584.Idx → EReal) = m ((c : Thread nD τ).loc main_arg5) := by
  show Idealize.ShloMosaic.StableHlo.after hostOps0 (V₀ m ρ c) main_v1 = _
  simp only [hostOps0]
  after_results_simp
  rfl
theorem V_down (c : Dev nD) : (V m ρ c main_v2 : S2x8x3584x1024.Idx → EReal) = m ((c : Thread nD τ).loc main_arg6) := by
  show Idealize.ShloMosaic.StableHlo.after hostOps0 (V₀ m ρ c) main_v2 = _
  simp only [hostOps0]
  after_results_simp
  rfl

end Cert.Experts

end
-- ==== Proof.RefValue.lean ====
/- The reference's result at an entry, over the extended reals. -/
module

public import proofs.«01_k».proof.Proof.Spec
public import proofs.«01_k».proof.Proof.Decode
public import proofs.«01_k».proof.Proof.RefRun

@[expose] public section

set_option maxRecDepth 100000

noncomputable section

namespace Cert.Experts.Ref

open Idealize.SL.Sem Idealize.ShloMosaic.StableHlo
open Idealize.ShloMosaic hiding ix1 ix2 ix3 ix4
open Idealize.ShloMosaic.ValueIdx Idealize.ShloMosaic.Routing
open Cert.ReferenceIdeal Cert.ReferenceIdeal.Facts₀ Cert.ReferenceIdeal.Facts

section Any

variable {F : FTy → Type} [FloatOps F]

/-- The rows' feed-forward by expert `e`. -/
def rowsBy (e : ℕ) (hw : S2x8x1024x3584.Slices ![0, e, 0, 0] S1x1x1024x3584) (ht : S2x8x3584x1024.Slices ![0, e, 0, 0] S1x1x3584x1024)
    (x : FVec F S135168x1024 .f32) (g u : FVec F S2x8x1024x3584 .f32) (d : FVec F S2x8x3584x1024 .f32) : FVec F S135168x1024 .f32 :=
  rowsOf x (extractStridedSlice S1x1x1024x3584 ![0, e, 0, 0] g hw) (extractStridedSlice S1x1x1024x3584 ![0, e, 0, 0] u hw)
    (extractStridedSlice S1x1x3584x1024 ![0, e, 0, 0] d ht)

/-- Each row's expert. -/
def teRows (te : IVec S264 32) : IVec S135168x1 32 :=
  shapeCast S135168x1 (broadcastInDim S264x512 ![0, 1] bcast_S264x1_S264x512_0_1 (broadcastInDim S264x1 ![0] bcast_S264_S264x1_0 te)) shapeCasts_S264x512_S135168x1

/-- The rows no expert has written. -/
def noRows : FVec F S135168x1024 .f32 := broadcastInDim S135168x1024 ![] bcast_S_S135168x1024 (constant S_ .f32 0x00000000#32 : FVec F S_ .f32)

/-- Each row by its expert: the experts in turn. -/
def byExpert (te : IVec S135168x1 32) (x : FVec F S135168x1024 .f32) (g u : FVec F S2x8x1024x3584 .f32) (d : FVec F S2x8x3584x1024 .f32) : FVec F S135168x1024 .f32 :=
  pick te 7#32 (rowsBy 7 slices_S2x8x1024x3584_S1x1x1024x3584_0_7_0_0 slices_S2x8x3584x1024_S1x1x3584x1024_0_7_0_0 x g u d)
    (pick te 6#32 (rowsBy 6 slices_S2x8x1024x3584_S1x1x1024x3584_0_6_0_0 slices_S2x8x3584x1024_S1x1x3584x1024_0_6_0_0 x g u d)
      (pick te 5#32 (rowsBy 5 slices_S2x8x1024x3584_S1x1x1024x3584_0_5_0_0 slices_S2x8x3584x1024_S1x1x3584x1024_0_5_0_0 x g u d)
        (pick te 4#32 (rowsBy 4 slices_S2x8x1024x3584_S1x1x1024x3584_0_4_0_0 slices_S2x8x3584x1024_S1x1x3584x1024_0_4_0_0 x g u d)
          (pick te 3#32 (rowsBy 3 slices_S2x8x1024x3584_S1x1x1024x3584_0_3_0_0 slices_S2x8x3584x1024_S1x1x3584x1024_0_3_0_0 x g u d)
            (pick te 2#32 (rowsBy 2 slices_S2x8x1024x3584_S1x1x1024x3584_0_2_0_0 slices_S2x8x3584x1024_S1x1x3584x1024_0_2_0_0 x g u d)
              (pick te 1#32 (rowsBy 1 slices_S2x8x1024x3584_S1x1x1024x3584_0_1_0_0 slices_S2x8x3584x1024_S1x1x3584x1024_0_1_0_0 x g u d)
                (pick te 0#32 (rowsBy 0 slices_S2x8x1024x3584_S1x1x1024x3584_0_0_0_0 slices_S2x8x3584x1024_S1x1x3584x1024_0_0_0_0 x g u d)
                  noRows)))))))

set_option maxHeartbeats 4000000 in
/-- The result, from the arguments. -/
theorem out_eq (V : Valuation τ sig (Elt F)) : after ops V (Proc.devRef .tc main_v133)
    = placed (V (Proc.devRef .tc main_arg2)) (byExpert (teRows (V (Proc.devRef .tc main_arg3)))
        (Host.gather gather_S65536x1024_S135168x1_S135168x1024_1_0_n_n_0_1_11024 (V (Proc.devRef .tc main_arg0)) (srcIdx (V (Proc.devRef .tc main_arg1))))
        (V (Proc.devRef .tc main_arg4)) (V (Proc.devRef .tc main_arg5)) (V (Proc.devRef .tc main_arg6))) := by
  simp only [ops, after_app]
  rw [opsOut_out]
  have k7v10 := fun W => ops7_kept (F := F) W main_v10 (by decide)
  have k7v7 := fun W => ops7_kept (F := F) W main_v7 (by decide)
  have k7arg2 := fun W => ops7_kept (F := F) W main_arg2 (by decide)
  have k7arg4 := fun W => ops7_kept (F := F) W main_arg4 (by decide)
  have k7arg5 := fun W => ops7_kept (F := F) W main_arg5 (by decide)
  have k7arg6 := fun W => ops7_kept (F := F) W main_arg6 (by decide)
  have k6v10 := fun W => ops6_kept (F := F) W main_v10 (by decide)
  have k6v7 := fun W => ops6_kept (F := F) W main_v7 (by decide)
  have k6arg2 := fun W => ops6_kept (F := F) W main_arg2 (by decide)
  have k6arg4 := fun W => ops6_kept (F := F) W main_arg4 (by decide)
  have k6arg5 := fun W => ops6_kept (F := F) W main_arg5 (by decide)
  have k6arg6 := fun W => ops6_kept (F := F) W main_arg6 (by decide)
  have k5v10 := fun W => ops5_kept (F := F) W main_v10 (by decide)
  have k5v7 := fun W => ops5_kept (F := F) W main_v7 (by decide)
  have k5arg2 := fun W => ops5_kept (F := F) W main_arg2 (by decide)
  have k5arg4 := fun W => ops5_kept (F := F) W main_arg4 (by decide)
  have k5arg5 := fun W => ops5_kept (F := F) W main_arg5 (by decide)
  have k5arg6 := fun W => ops5_kept (F := F) W main_arg6 (by decide)
  have k4v10 := fun W => ops4_kept (F := F) W main_v10 (by decide)
  have k4v7 := fun W => ops4_kept (F := F) W main_v7 (by decide)
  have k4arg2 := fun W => ops4_kept (F := F) W main_arg2 (by decide)
  have k4arg4 := fun W => ops4_kept (F := F) W main_arg4 (by decide)
  have k4arg5 := fun W => ops4_kept (F := F) W main_arg5 (by decide)
  have k4arg6 := fun W => ops4_kept (F := F) W main_arg6 (by decide)
  have k3v10 := fun W => ops3_kept (F := F) W main_v10 (by decide)
  have k3v7 := fun W => ops3_kept (F := F) W main_v7 (by decide)
  have k3arg2 := fun W => ops3_kept (F := F) W main_arg2 (by decide)
  have k3arg4 := fun W => ops3_kept (F := F) W main_arg4 (by decide)
  have k3arg5 := fun W => ops3_kept (F := F) W main_arg5 (by decide)
  have k3arg6 := fun W => ops3_kept (F := F) W main_arg6 (by decide)
  have k2v10 := fun W => ops2_kept (F := F) W main_v10 (by decide)
  have k2v7 := fun W => ops2_kept (F := F) W main_v7 (by decide)
  have k2arg2 := fun W => ops2_kept (F := F) W main_arg2 (by decide)
  have k2arg4 := fun W => ops2_kept (F := F) W main_arg4 (by decide)
  have k2arg5 := fun W => ops2_kept (F := F) W main_arg5 (by decide)
  have k2arg6 := fun W => ops2_kept (F := F) W main_arg6 (by decide)
  have k1v10 := fun W => ops1_kept (F := F) W main_v10 (by decide)
  have k1v7 := fun W => ops1_kept (F := F) W main_v7 (by decide)
  have k1arg2 := fun W => ops1_kept (F := F) W main_arg2 (by decide)
  have k1arg4 := fun W => ops1_kept (F := F) W main_arg4 (by decide)
  have k1arg5 := fun W => ops1_kept (F := F) W main_arg5 (by decide)
  have k1arg6 := fun W => ops1_kept (F := F) W main_arg6 (by decide)
  have k0v10 := fun W => ops0_kept (F := F) W main_v10 (by decide)
  have k0v7 := fun W => ops0_kept (F := F) W main_v7 (by decide)
  have k0arg2 := fun W => ops0_kept (F := F) W main_arg2 (by decide)
  have k0arg4 := fun W => ops0_kept (F := F) W main_arg4 (by decide)
  have k0arg5 := fun W => ops0_kept (F := F) W main_arg5 (by decide)
  have k0arg6 := fun W => ops0_kept (F := F) W main_arg6 (by decide)
  have iarg2 := fun W => opsIn_kept (F := F) W main_arg2 (by decide)
  have iarg4 := fun W => opsIn_kept (F := F) W main_arg4 (by decide)
  have iarg5 := fun W => opsIn_kept (F := F) W main_arg5 (by decide)
  have iarg6 := fun W => opsIn_kept (F := F) W main_arg6 (by decide)
  rw [k7arg2, k6arg2, k5arg2, k4arg2, k3arg2, k2arg2, k1arg2, k0arg2, iarg2, ops7_out]
  simp only [k6v10, k6v7, k6arg4, k6arg5, k6arg6, ops6_out]
  simp only [k5v10, k5v7, k5arg4, k5arg5, k5arg6, ops5_out]
  simp only [k4v10, k4v7, k4arg4, k4arg5, k4arg6, ops4_out]
  simp only [k3v10, k3v7, k3arg4, k3arg5, k3arg6, ops3_out]
  simp only [k2v10, k2v7, k2arg4, k2arg5, k2arg6, ops2_out]
  simp only [k1v10, k1v7, k1arg4, k1arg5, k1arg6, ops1_out]
  simp only [k0v10, k0v7, k0arg4, k0arg5, k0arg6, ops0_out]
  simp only [iarg4, iarg5, iarg6, opsIn_x, opsIn_te, opsIn_zero]
  rfl

end Any

/-- The rows of one expert where they are its own. -/
theorem pick_apply (te : IVec S135168x1 32) (k : BitVec 32) (x y : FVec Ideal S135168x1024 .f32) (r : Fin 135168) (l : Fin 1024) :
    pick te k x y (ix2 r l) = if te (ix2 r (0 : Fin 1)) = k then x (ix2 r l) else y (ix2 r l) := by
  have hb : broadcastInDim S135168x1024 ![0, 1] bcast_S135168x1_S135168x1024_0_1 (cmpi .eq te (broadcastInDim S135168x1 ![] bcast_S_S135168x1 (constantI S_ 32 k)))
      (ix2 r l) = IntOp.cmpi .eq (te (ix2 r (0 : Fin 1))) k := by
    refine (broadcastInDim_apply ![0, 1] bcast_S135168x1_S135168x1024_0_1 _ (ix2 r l) (ix2 r (0 : Fin 1)) (fun a => ?_)).trans rfl
    match a with
    | ⟨0, _⟩ => rfl
    | ⟨1, _⟩ => rfl
  refine (congrArg (fun b => Scalar.select b (x (ix2 r l)) (y (ix2 r l))) hb).trans ?_
  by_cases h : te (ix2 r (0 : Fin 1)) = k
  · rw [if_pos h, h]; simp [IntOp.cmpi, Scalar.select]
  · have hf := beq_eq_false_iff_ne.2 h
    rw [if_neg h]; simp [IntOp.cmpi, Scalar.select, hf]

theorem pick_hit (te : IVec S135168x1 32) (k : BitVec 32) (x y : FVec Ideal S135168x1024 .f32) (r : Fin 135168) (l : Fin 1024) (h : te (ix2 r (0 : Fin 1)) = k) :
    pick te k x y (ix2 r l) = x (ix2 r l) := (pick_apply te k x y r l).trans (if_pos h)
theorem pick_miss (te : IVec S135168x1 32) (k : BitVec 32) (x y : FVec Ideal S135168x1024 .f32) (r : Fin 135168) (l : Fin 1024) (h : te (ix2 r (0 : Fin 1)) ≠ k) :
    pick te k x y (ix2 r l) = y (ix2 r l) := (pick_apply te k x y r l).trans (if_neg h)

theorem slice_wide (e : Fin 8) (w : S2x8x1024x3584.Idx → EReal) (h : S2x8x1024x3584.Slices ![0, e.val, 0, 0] S1x1x1024x3584) (i : Fin 1024) (k : Fin 3584) :
    shapeCast S1024x3584 (extractStridedSlice S1x1x1024x3584 ![0, e.val, 0, 0] w h) shapeCasts_S1x1x1024x3584_S1024x3584 (ix2 i k) = w (ix4 (0 : Fin 2) e i k) := by
  refine (cast_block _ _ i k).trans (extractStridedSlice_apply _ w h _ _ fun a => ?_)
  match a with
  | ⟨0, _⟩ => rfl
  | ⟨1, _⟩ => rfl
  | ⟨2, _⟩ => exact (Nat.zero_add _).symm
  | ⟨3, _⟩ => exact (Nat.zero_add _).symm

theorem slice_tall (e : Fin 8) (w : S2x8x3584x1024.Idx → EReal) (h : S2x8x3584x1024.Slices ![0, e.val, 0, 0] S1x1x3584x1024) (k : Fin 3584) (l : Fin 1024) :
    shapeCast S3584x1024 (extractStridedSlice S1x1x3584x1024 ![0, e.val, 0, 0] w h) shapeCasts_S1x1x3584x1024_S3584x1024 (ix2 k l) = w (ix4 (0 : Fin 2) e k l) := by
  refine (cast_block _ _ k l).trans (extractStridedSlice_apply _ w h _ _ fun a => ?_)
  match a with
  | ⟨0, _⟩ => rfl
  | ⟨1, _⟩ => rfl
  | ⟨2, _⟩ => exact (Nat.zero_add _).symm
  | ⟨3, _⟩ => exact (Nat.zero_add _).symm

/-- A row by an expert is its feed-forward. -/
theorem rowsBy_apply (e : Fin 8) (hw : S2x8x1024x3584.Slices ![0, e.val, 0, 0] S1x1x1024x3584) (ht : S2x8x3584x1024.Slices ![0, e.val, 0, 0] S1x1x3584x1024)
    (x : S135168x1024.Idx → EReal) (g u : S2x8x1024x3584.Idx → EReal) (d : S2x8x3584x1024.Idx → EReal) (r : Fin 135168) (l : Fin 1024) :
    rowsBy (F := Ideal) e.val hw ht x g u d (ix2 r l) = rowFF (fun i => x (ix2 r i)) (fun i k => g (ix4 (0 : Fin 2) e i k)) (fun i k => u (ix4 (0 : Fin 2) e i k))
      (fun k l => d (ix4 (0 : Fin 2) e k l)) l := by
  unfold rowsBy rowsOf rowFF
  refine (dotGeneral_plain (φ₁ := .f32) (φ₂ := .f32) _ _ none _ r l).trans (Finset.sum_congr rfl fun k _ => ?_)
  refine congrArg₂ (· * ·) ?_ (slice_tall e d ht k l)
  have hg : ∀ w : S2x8x1024x3584.Idx → EReal, Host.dotGeneral (F := Ideal) (φ₁ := .f32) (φ₂ := .f32) dot_S135168x1024_S1024x3584_S135168x3584_1_0_0_1_n_n none x
      (shapeCast S1024x3584 (extractStridedSlice S1x1x1024x3584 ![0, e.val, 0, 0] w hw) shapeCasts_S1x1x1024x3584_S1024x3584) (ix2 r k)
        = ∑ i : Fin 1024, x (ix2 r i) * w (ix4 (0 : Fin 2) e i k) := fun w =>
    (dotGeneral_plain (φ₁ := .f32) (φ₂ := .f32) _ _ none _ r k).trans (Finset.sum_congr rfl fun i _ => congrArg _ (slice_wide e w hw i k))
  exact congrArg₂ (fun p q => act p * q) (hg g) (hg u)

/-- A row by its expert. -/
theorem byExpert_apply (te : IVec S135168x1 32) (x : S135168x1024.Idx → EReal) (g u : S2x8x1024x3584.Idx → EReal) (d : S2x8x3584x1024.Idx → EReal)
    (e : Fin 8) (r : Fin 135168) (h : te (ix2 r (0 : Fin 1)) = BitVec.ofNat 32 e.val) (l : Fin 1024) :
    byExpert (F := Ideal) te x g u d (ix2 r l) = rowFF (fun i => x (ix2 r i)) (fun i k => g (ix4 (0 : Fin 2) e i k)) (fun i k => u (ix4 (0 : Fin 2) e i k))
      (fun k l => d (ix4 (0 : Fin 2) e k l)) l := by
  unfold byExpert
  match e, h with
  | ⟨0, _⟩, h => exact (pick_miss te 7#32 _ _ r l (ne_of_eq_of_ne h (show BitVec.ofNat 32 0 ≠ 7#32 by decide))).trans <| (pick_miss te 6#32 _ _ r l (ne_of_eq_of_ne h (show BitVec.ofNat 32 0 ≠ 6#32 by decide))).trans <| (pick_miss te 5#32 _ _ r l (ne_of_eq_of_ne h (show BitVec.ofNat 32 0 ≠ 5#32 by decide))).trans <| (pick_miss te 4#32 _ _ r l (ne_of_eq_of_ne h (show BitVec.ofNat 32 0 ≠ 4#32 by decide))).trans <| (pick_miss te 3#32 _ _ r l (ne_of_eq_of_ne h (show BitVec.ofNat 32 0 ≠ 3#32 by decide))).trans <| (pick_miss te 2#32 _ _ r l (ne_of_eq_of_ne h (show BitVec.ofNat 32 0 ≠ 2#32 by decide))).trans <| (pick_miss te 1#32 _ _ r l (ne_of_eq_of_ne h (show BitVec.ofNat 32 0 ≠ 1#32 by decide))).trans <| (pick_hit te 0#32 _ _ r l h).trans <| rowsBy_apply 0 _ _ x g u d r l
  | ⟨1, _⟩, h => exact (pick_miss te 7#32 _ _ r l (ne_of_eq_of_ne h (show BitVec.ofNat 32 1 ≠ 7#32 by decide))).trans <| (pick_miss te 6#32 _ _ r l (ne_of_eq_of_ne h (show BitVec.ofNat 32 1 ≠ 6#32 by decide))).trans <| (pick_miss te 5#32 _ _ r l (ne_of_eq_of_ne h (show BitVec.ofNat 32 1 ≠ 5#32 by decide))).trans <| (pick_miss te 4#32 _ _ r l (ne_of_eq_of_ne h (show BitVec.ofNat 32 1 ≠ 4#32 by decide))).trans <| (pick_miss te 3#32 _ _ r l (ne_of_eq_of_ne h (show BitVec.ofNat 32 1 ≠ 3#32 by decide))).trans <| (pick_miss te 2#32 _ _ r l (ne_of_eq_of_ne h (show BitVec.ofNat 32 1 ≠ 2#32 by decide))).trans <| (pick_hit te 1#32 _ _ r l h).trans <| rowsBy_apply 1 _ _ x g u d r l
  | ⟨2, _⟩, h => exact (pick_miss te 7#32 _ _ r l (ne_of_eq_of_ne h (show BitVec.ofNat 32 2 ≠ 7#32 by decide))).trans <| (pick_miss te 6#32 _ _ r l (ne_of_eq_of_ne h (show BitVec.ofNat 32 2 ≠ 6#32 by decide))).trans <| (pick_miss te 5#32 _ _ r l (ne_of_eq_of_ne h (show BitVec.ofNat 32 2 ≠ 5#32 by decide))).trans <| (pick_miss te 4#32 _ _ r l (ne_of_eq_of_ne h (show BitVec.ofNat 32 2 ≠ 4#32 by decide))).trans <| (pick_miss te 3#32 _ _ r l (ne_of_eq_of_ne h (show BitVec.ofNat 32 2 ≠ 3#32 by decide))).trans <| (pick_hit te 2#32 _ _ r l h).trans <| rowsBy_apply 2 _ _ x g u d r l
  | ⟨3, _⟩, h => exact (pick_miss te 7#32 _ _ r l (ne_of_eq_of_ne h (show BitVec.ofNat 32 3 ≠ 7#32 by decide))).trans <| (pick_miss te 6#32 _ _ r l (ne_of_eq_of_ne h (show BitVec.ofNat 32 3 ≠ 6#32 by decide))).trans <| (pick_miss te 5#32 _ _ r l (ne_of_eq_of_ne h (show BitVec.ofNat 32 3 ≠ 5#32 by decide))).trans <| (pick_miss te 4#32 _ _ r l (ne_of_eq_of_ne h (show BitVec.ofNat 32 3 ≠ 4#32 by decide))).trans <| (pick_hit te 3#32 _ _ r l h).trans <| rowsBy_apply 3 _ _ x g u d r l
  | ⟨4, _⟩, h => exact (pick_miss te 7#32 _ _ r l (ne_of_eq_of_ne h (show BitVec.ofNat 32 4 ≠ 7#32 by decide))).trans <| (pick_miss te 6#32 _ _ r l (ne_of_eq_of_ne h (show BitVec.ofNat 32 4 ≠ 6#32 by decide))).trans <| (pick_miss te 5#32 _ _ r l (ne_of_eq_of_ne h (show BitVec.ofNat 32 4 ≠ 5#32 by decide))).trans <| (pick_hit te 4#32 _ _ r l h).trans <| rowsBy_apply 4 _ _ x g u d r l
  | ⟨5, _⟩, h => exact (pick_miss te 7#32 _ _ r l (ne_of_eq_of_ne h (show BitVec.ofNat 32 5 ≠ 7#32 by decide))).trans <| (pick_miss te 6#32 _ _ r l (ne_of_eq_of_ne h (show BitVec.ofNat 32 5 ≠ 6#32 by decide))).trans <| (pick_hit te 5#32 _ _ r l h).trans <| rowsBy_apply 5 _ _ x g u d r l
  | ⟨6, _⟩, h => exact (pick_miss te 7#32 _ _ r l (ne_of_eq_of_ne h (show BitVec.ofNat 32 6 ≠ 7#32 by decide))).trans <| (pick_hit te 6#32 _ _ r l h).trans <| rowsBy_apply 6 _ _ x g u d r l
  | ⟨7, _⟩, h => exact (pick_hit te 7#32 _ _ r l h).trans <| rowsBy_apply 7 _ _ x g u d r l

/-- A row's expert is its tile's. -/
theorem teRows_apply (te : IVec S264 32) (n : Fin 264) (j : Fin 512) (r : Fin 135168) (hr : r.val = n.val * 512 + j.val) :
    teRows te (ix2 r (0 : Fin 1)) = te (ix1 n) := by
  unfold teRows
  refine (shapeCast_apply _ _ _ (ix2 n j) ?_).trans ?_
  · rw [Shape.rowMajor_val_two, Shape.rowMajor_val_two]
    show n.val * 512 + j.val = r.val * 1 + 0
    omega
  · refine (broadcastInDim_apply ![0, 1] bcast_S264x1_S264x512_0_1 _ (ix2 n j) (ix2 n (0 : Fin 1)) (fun a => ?_)).trans (column te _ n)
    match a with
    | ⟨0, _⟩ => rfl
    | ⟨1, _⟩ => rfl

/-- The word that names a row's token. -/
theorem srcIdx_apply (src : IVec S135680 32) (h : ∀ x, (src x).toNat < 65536) (r : Fin 135168) :
    srcIdx src (ix2 r (0 : Fin 1)) = src (ix1 ⟨r.val, by have := r.isLt; omega⟩) := by
  have hs : ∀ r : Fin 135168, extractStridedSlice S135168 ![0] src slices_S135680_S135168_0 (ix1 r) = src (ix1 ⟨r.val, by have := r.isLt; omega⟩) := fun r =>
    extractStridedSlice_apply _ src _ _ _ fun a => by
      match a with
      | ⟨0, _⟩ => exact (Nat.zero_add _).symm
  unfold srcIdx
  refine (column _ _ r).trans ?_
  refine (congrFun (wrapped _ bcast_S_S135168 _ fun i => ?_) (ix1 r)).trans (hs r)
  obtain ⟨p, rfl⟩ : ∃ p : Fin 135168, i = ix1 p := ⟨i 0, ValueIdx.eq_ix1 i⟩
  rw [hs]
  exact lt_trans (h _) (by norm_num)

/-- A gathered row is its token's. -/
theorem gathered_apply (h0 : S65536x1024.Idx → EReal) (src : IVec S135680 32) (h : ∀ x, (src x).toNat < 65536) (r : Fin 135168) (i : Fin 1024) :
    Host.gather gather_S65536x1024_S135168x1_S135168x1024_1_0_n_n_0_1_11024 h0 (srcIdx src) (ix2 r i)
      = h0 (ix2 ⟨(src (ix1 ⟨r.val, by have := r.isLt; omega⟩)).toNat, h _⟩ i) :=
  gather_row gather_S65536x1024_S135168x1_S135168x1024_1_0_n_n_0_1_11024 rfl rfl rfl rfl rfl h0 (srcIdx src) r i
    ⟨(src (ix1 ⟨r.val, by have := r.isLt; omega⟩)).toNat, h _⟩ (by rw [srcIdx_apply src h]; simp) (by norm_num)

end Cert.Experts.Ref

end
-- ==== Proof.Place.lean ====
/- The reference's last step at an entry: the rows put where the table says. -/
module

public import proofs.«01_k».proof.Proof.RefValue

@[expose] public section

noncomputable section

namespace Cert.Experts.Ref

open Idealize.ShloMosaic.StableHlo
open Idealize.ShloMosaic hiding ix1 ix2 ix3 ix4
open Idealize.ShloMosaic.ValueIdx Idealize.ShloMosaic.Routing
open Cert.ReferenceIdeal Cert.ReferenceIdeal.Facts₀ Cert.ReferenceIdeal.Facts

/-- The scatter's word for an update's row. -/
theorem row_start (i : Fin 135680) (c : Fin 1024) (idx : IVec S135680x1 32) :
    scatter_S135680x1024_S135680x1_S135680x1024_1_0_0_1.start (ix2 i c) idx 0 = (idx (ix2 i (0 : Fin 1))).toInt := by
  have hs : scatter_S135680x1024_S135680x1_S135680x1024_1_0_0_1.siIdx (ix2 i c) (0 : Fin 1) = ix2 i (0 : Fin 1) := by
    funext b
    match b with
    | ⟨0, _⟩ => rfl
    | ⟨1, _⟩ => rfl
  exact congrArg (fun y => (idx y).toInt) hs

/-- Where an update's entry lands. -/
theorem row_lands (i : Fin 135680) (c : Fin 1024) (idx : IVec S135680x1 32) (x : Fin 135680) (l : Fin 1024) :
    Iff (scatter_S135680x1024_S135680x1_S135680x1024_1_0_0_1.resultIdx? (ix2 i c) idx = some (ix2 x l))
      (And ((idx (ix2 i (0 : Fin 1))).toInt = (x.val : Int)) (c = l)) := by
  refine (resultIdx?_ix2 _ (ix2 i c) idx x l).trans ?_
  have h1 : scatter_S135680x1024_S135680x1_S135680x1024_1_0_0_1.start (ix2 i c) idx 1 = 0 := rfl
  have h2 : scatter_S135680x1024_S135680x1_S135680x1024_1_0_0_1.window (ix2 i c) 0 = 0 := rfl
  have h3 : scatter_S135680x1024_S135680x1_S135680x1024_1_0_0_1.window (ix2 i c) 1 = c.val := rfl
  rw [row_start, h1, h2, h3]
  constructor
  · rintro ⟨p, q⟩
    exact ⟨by simpa using p, Fin.ext (by omega)⟩
  · rintro ⟨p, q⟩
    subst q
    exact ⟨by simpa using p, by omega⟩

/-- The placed rows at a row the table names: the zeros' tile first, then the rows. -/
theorem placed_apply (dst : IVec S135680 32) (hlt : ∀ x, (dst x).toNat < 135680) (hinj : ∀ x y, dst x = dst y → x = y)
    (y : FVec Ideal S135168x1024 .f32) (i : Fin 135680) (l : Fin 1024) :
    placed dst y (ix2 ⟨(dst (ix1 i)).toNat, hlt _⟩ l)
      = concatenate S135680x1024 0 [⟨S512x1024, broadcastInDim S512x1024 ![] bcast_S_S512x1024 (constant S_ .f32 0x00000000#32 : FVec Ideal S_ .f32)⟩,
          ⟨S135168x1024, y⟩] concatenates_S512x1024_S135168x1024_S135680x1024_d0 (ix2 i l) := by
  have hw : ∀ k : Fin 135680, broadcastInDim S135680x1 ![0] bcast_S135680_S135680x1_0
      (select (cmpi .slt dst (broadcastInDim S135680 ![] bcast_S_S135680 (constantI S_ 32 0#32)))
        (addi dst (broadcastInDim S135680 ![] bcast_S_S135680 (constantI S_ 32 135680#32))) dst) (ix2 k (0 : Fin 1)) = dst (ix1 k) := fun k =>
    (column _ _ k).trans (congrFun (wrapped dst bcast_S_S135680 _ fun x => lt_trans (hlt x) (by norm_num)) (ix1 k))
  have hi : ∀ k : Fin 135680, (dst (ix1 k)).toInt = ((dst (ix1 k)).toNat : Int) := fun k => BitVec.toInt_eq_toNat_of_lt (by have := hlt (ix1 k); omega)
  unfold placed
  refine scatter_set_hit _ _ _ _ _ _ (fun k hk => ?_) (ix2 i l) ?_
  · obtain ⟨a, b, rfl⟩ : ∃ (a : Fin 135680) (b : Fin 1024), k = ix2 a b := ⟨k 0, k 1, ValueIdx.eq_ix2 k⟩
    obtain ⟨p, q⟩ := (row_lands a b _ _ l).1 hk
    rw [hw, hi] at p
    have : (ix1 a : S135680.Idx) = ix1 i := hinj _ _ (BitVec.eq_of_toNat_eq (by exact_mod_cast p))
    have ha : a = i := congrFun this 0
    rw [ha, q]
  · refine (row_lands i l _ _ l).2 ⟨?_, rfl⟩
    rw [hw, hi]

/-- A row of the first tile is zero. -/
theorem placed_zero (dst : IVec S135680 32) (hlt : ∀ x, (dst x).toNat < 135680) (hinj : ∀ x y, dst x = dst y → x = y)
    (y : FVec Ideal S135168x1024 .f32) (i : Fin 135680) (h : i.val < 512) (l : Fin 1024) :
    placed dst y (ix2 ⟨(dst (ix1 i)).toNat, hlt _⟩ l) = (0 : EReal) := by
  rw [placed_apply dst hlt hinj]
  refine (concatenate_pair_apply_left (t := S135680x1024) (s₁ := S512x1024) (s₂ := S135168x1024) 0 _ y
    concatenates_S512x1024_S135168x1024_S135680x1024_d0 (ix2 i l) rfl (ix2 (⟨i.val, h⟩ : Fin 512) l) (fun b => ?_)).trans Ideal.ofBits_zero_f32
  match b with
  | ⟨0, _⟩ => rfl
  | ⟨1, _⟩ => rfl

/-- A row past the first tile is its row. -/
theorem placed_row (dst : IVec S135680 32) (hlt : ∀ x, (dst x).toNat < 135680) (hinj : ∀ x y, dst x = dst y → x = y)
    (y : FVec Ideal S135168x1024 .f32) (i : Fin 135680) (r : Fin 135168) (h : i.val = r.val + 512) (l : Fin 1024) :
    placed dst y (ix2 ⟨(dst (ix1 i)).toNat, hlt _⟩ l) = y (ix2 r l) := by
  rw [placed_apply dst hlt hinj]
  refine concatenate_pair_apply_right (t := S135680x1024) (s₁ := S512x1024) (s₂ := S135168x1024) 0 _ y
    concatenates_S512x1024_S135168x1024_S135680x1024_d0 (ix2 i l) rfl rfl (ix2 r l) (fun b hb => ?_) h.symm
  match b with
  | ⟨0, _⟩ => exact absurd rfl hb
  | ⟨1, _⟩ => rfl

end Cert.Experts.Ref

end
-- ==== Proof.Value.lean ====
/- The two programs' results are equal over the extended reals. -/
module

public import proofs.«01_k».proof.Proof.KerValue
public import proofs.«01_k».proof.Proof.Place
public import proofs.«01_k».proof.Proof.Frames

@[expose] public section

noncomputable section

namespace Cert.Experts

open Idealize.SL.Sem
open Idealize.ShloMosaic hiding ix1 ix2 ix3 ix4
open Idealize.ShloMosaic.ValueIdx Idealize.ShloMosaic.Routing

section Rows

variable (h0 : Cert.KernelIdeal.S65536x1024.Idx → EReal) (src dst : Cert.KernelIdeal.S135680.Idx → BitVec 32) (te : Cert.KernelIdeal.S264.Idx → BitVec 32)
  (wg wu : Cert.KernelIdeal.S2x8x1024x3584.Idx → EReal) (wd : Cert.KernelIdeal.S2x8x3584x1024.Idx → EReal) (hT : Tables src dst te)
  (y0 : Cert.KernelIdeal.S135680x1024.Idx → EReal)

include hT in
/-- A table of as many rows as the result has, each named once, names every one. -/
theorem row_named (p : Fin 135680) : ∃ i : Fin 135680, (dst (ix1 i)).toNat = p.val := by
  have hf : Function.Injective fun i : Fin 135680 => (⟨(dst (ix1 i)).toNat, hT.dst_lt _⟩ : Fin 135680) := fun i j h =>
    congrFun (hT.dst_inj _ _ (BitVec.eq_of_toNat_eq (show (dst (ix1 i)).toNat = (dst (ix1 j)).toNat from Fin.mk.inj h))) 0
  obtain ⟨i, hi⟩ := (Finite.injective_iff_surjective.1 hf) p
  exact ⟨i, congrArg Fin.val hi⟩

/-- The reference's rows at a row of a tile. -/
theorem ref_row (n : Fin 264) (j : Fin 512) (r : Fin 135168) (hr : r.val = n.val * 512 + j.val) (l : Fin 1024) :
    Ref.byExpert (F := Ideal) (Ref.teRows te) (Host.gather Cert.ReferenceIdeal.gather_S65536x1024_S135168x1_S135168x1024_1_0_n_n_0_1_11024 h0 (Ref.srcIdx src)) wg wu wd (ix2 r l)
      = rowFF (fun i => h0 (ix2 ⟨rowAt src (n.val * 512 + j.val), rowAt_lt src (by norm_num) hT.src_lt _⟩ i))
          (fun i k => wg (ix4 (0 : Fin 2) ⟨expert te n.val, expert_lt te hT.te_lt _⟩ i k)) (fun i k => wu (ix4 (0 : Fin 2) ⟨expert te n.val, expert_lt te hT.te_lt _⟩ i k))
          (fun k l => wd (ix4 (0 : Fin 2) ⟨expert te n.val, expert_lt te hT.te_lt _⟩ k l)) l := by
  have hn := n.isLt
  have hj := j.isLt
  refine (Ref.byExpert_apply _ _ wg wu wd ⟨expert te n.val, expert_lt te hT.te_lt _⟩ r ?_ l).trans ?_
  · rw [Ref.teRows_apply te n j r hr]
    show te (ix1 n) = BitVec.ofNat 32 (expert te n.val)
    rw [expert_eq te hn]; simp
  · refine congrArg (fun x => rowFF x _ _ _ l) (funext fun i => ?_)
    refine (Ref.gathered_apply h0 src hT.src_lt r i).trans (congrArg (fun q => h0 (ix2 q i)) (Fin.ext ?_))
    show (src (ix1 ⟨r.val, _⟩)).toNat = rowAt src (n.val * 512 + j.val)
    rw [rowAt_eq src (show n.val * 512 + j.val < 135680 by omega)]
    exact congrArg (fun q => (src (ix1 q)).toNat) (Fin.ext hr)

/-- The kernel's blocks at a row of a tile. -/
theorem ker_row (n : ℕ) (s : Fin 2) (j : Fin 512) (l : Fin 1024) :
    blkOf (F := Ideal) h0 src dst te wg wu wd hT (n + 1) (ix3 s j l)
      = rowFF (fun i => h0 (ix2 ⟨rowAt src (n * 512 + j.val), rowAt_lt src (by norm_num) hT.src_lt _⟩ i))
          (fun i k => wg (ix4 (0 : Fin 2) ⟨expert te n, expert_lt te hT.te_lt _⟩ i k)) (fun i k => wu (ix4 (0 : Fin 2) ⟨expert te n, expert_lt te hT.te_lt _⟩ i k))
          (fun k l => wd (ix4 (0 : Fin 2) ⟨expert te n, expert_lt te hT.te_lt _⟩ k l)) l :=
  tileOut_apply _ _ _ _ j l

/-- The two results. -/
theorem results_eq : Ref.placed (F := Ideal) dst (Ref.byExpert (F := Ideal) (Ref.teRows te)
      (Host.gather Cert.ReferenceIdeal.gather_S65536x1024_S135168x1_S135168x1024_1_0_n_n_0_1_11024 h0 (Ref.srcIdx src)) wg wu wd)
    = result (F := Ideal) h0 src dst te wg wu wd hT y0 := by
  funext y
  obtain ⟨p, l, rfl⟩ : ∃ (p : Fin 135680) (l : Fin 1024), y = ix2 p l := ⟨y 0, y 1, ValueIdx.eq_ix2 y⟩
  obtain ⟨i, hi⟩ := row_named src dst te hT p
  have hil := i.isLt
  have e1 : p = ⟨(dst (ix1 i)).toNat, hT.dst_lt _⟩ := Fin.ext hi.symm
  have hq : i.val / 512 * 512 + i.val % 512 = i.val := by omega
  have e2 : p = ⟨rowAt dst (i.val / 512 * 512 + (⟨i.val % 512, Nat.mod_lt _ (by norm_num)⟩ : Fin 512).val), rowAt_lt dst (by norm_num) hT.dst_lt _⟩ :=
    Fin.ext (hi.symm.trans (by
      show _ = rowAt dst (i.val / 512 * 512 + i.val % 512)
      rw [hq, rowAt_eq dst hil]))
  refine Eq.trans ?_ ((congrArg (fun q => result (F := Ideal) h0 src dst te wg wu wd hT y0 (ix2 q l)) e2).trans
    (result_row (F := Ideal) h0 src dst te wg wu wd hT y0 (i.val / 512) (by omega) 0 ⟨i.val % 512, Nat.mod_lt _ (by norm_num)⟩ l)).symm
  rw [e1]
  rcases Nat.eq_zero_or_pos (i.val / 512) with h | h
  · rw [Ref.placed_zero dst hT.dst_lt hT.dst_inj _ i (by omega) l, h]
    exact Ideal.ofBits_zero_f32.symm
  · obtain ⟨n, hn⟩ : ∃ n, i.val / 512 = n + 1 := ⟨i.val / 512 - 1, by omega⟩
    rw [Ref.placed_row dst hT.dst_lt hT.dst_inj _ i ⟨i.val - 512, by omega⟩ (by show i.val = i.val - 512 + 512; omega) l, hn]
    exact (ref_row h0 src dst te wg wu wd hT ⟨n, by omega⟩ ⟨i.val % 512, Nat.mod_lt _ (by norm_num)⟩ ⟨i.val - 512, by omega⟩
      (by show i.val - 512 = n * 512 + i.val % 512; omega) l).trans (ker_row h0 src dst te wg wu wd hT n 0 ⟨i.val % 512, Nat.mod_lt _ (by norm_num)⟩ l).symm

/-- The same, of equal inputs. -/
theorem results_eq_of {h0' : Cert.KernelIdeal.S65536x1024.Idx → EReal} {src' dst' : Cert.KernelIdeal.S135680.Idx → BitVec 32} {te' : Cert.KernelIdeal.S264.Idx → BitVec 32}
    {wg' wu' : Cert.KernelIdeal.S2x8x1024x3584.Idx → EReal} {wd' : Cert.KernelIdeal.S2x8x3584x1024.Idx → EReal}
    (e0 : h0' = h0) (e1 : src' = src) (e2 : dst' = dst) (e3 : te' = te) (e4 : wg' = wg) (e5 : wu' = wu) (e6 : wd' = wd) :
    Ref.placed (F := Ideal) dst' (Ref.byExpert (F := Ideal) (Ref.teRows te')
      (Host.gather Cert.ReferenceIdeal.gather_S65536x1024_S135168x1_S135168x1024_1_0_n_n_0_1_11024 h0' (Ref.srcIdx src')) wg' wu' wd')
    = result (F := Ideal) h0 src dst te wg wu wd hT y0 := by
  subst e0 e1 e2 e3 e4 e5 e6
  exact results_eq h0' src' dst' te' wg' wu' wd' hT y0

end Rows

/-- Over the extended reals the kernel's result is the reference's. -/
theorem algebraic : Cert.algebraic_KernelIdeal_ReferenceIdeal := fun m g m' g' hp ha => by
  have hT := tablesAt m hp
  refine ⟨fun c => (work m g hT c).Y, ?_, ?_⟩
  · refine (θ_run Cert.KernelIdeal.defs _ _).mono (fun r h c => ?_) (run_main m g hT)
    have hk := args_kept m g hT r h.1 c
    exact ⟨(h.1 c _ (by decide)).trans (Vend_v3 m g hT c), hk⟩
  · refine (θ_run Cert.ReferenceIdeal.defs _ _).mono (fun r h c => ?_) (Ref.run m' g')
    refine ⟨?_, (h.1 c _).trans (Ref.ops_args _ _ (by decide)), (h.1 c _).trans (Ref.ops_args _ _ (by decide)), (h.1 c _).trans (Ref.ops_args _ _ (by decide)),
      (h.1 c _).trans (Ref.ops_args _ _ (by decide)), (h.1 c _).trans (Ref.ops_args _ _ (by decide)), (h.1 c _).trans (Ref.ops_args _ _ (by decide)),
      (h.1 c _).trans (Ref.ops_args _ _ (by decide))⟩
    obtain ⟨a0, a1, a2, a3, a4, a5, a6⟩ := ha c
    refine (h.1 c _).trans ((Ref.out_eq _).trans ?_)
    exact results_eq_of _ _ _ _ _ _ _ (hT c) _ (a0.trans (V_kept m g c _ (by decide)).symm) a1 a2 a3 (a4.trans (V_gate m g c).symm) (a5.trans (V_up m g c).symm)
      (a6.trans (V_down m g c).symm)

end Cert.Experts

end
-- ==== Proof.Norm.lean ====
/- The root mean square of a row over the extended reals, as the kernels write it and as the references do. -/
module

public import proofs.«01_k».proof.Proof.Spec

@[expose] public section

noncomputable section

namespace Cert.Experts

open Idealize.ShloMosaic hiding ix1 ix2 ix3 ix4
open Idealize.ShloMosaic.Routing Idealize.ShloMosaic.ValueIdx

/-- The reciprocal root of a row's mean square, the small constant added. -/
def scale (x : Fin 1024 → EReal) : EReal :=
  Ideal.rsqrt (Ideal.div (∑ i, x i * x i) (Ideal.ofBits .f32 0x44800000#32) + Ideal.ofBits .f32 0x358637BD#32)

/-- A column broadcast along the rows, at an entry, -/
theorem col_apply {α : Type} {A B : ℕ} (x : (shape2 A 1).Idx → α) (h : (shape2 A 1).Broadcasts (shape2 A B)) (i : Fin A) (j : Fin B) :
    broadcastTo (shape2 A B) x h (ix2 i j) = x (ix2 i (0 : Fin 1)) := by
  refine broadcastTo_apply _ _ _ _ fun a => ?_
  match a with
  | 0 => show i.val = if A = 1 then 0 else i.val
         have := i.isLt
         split <;> omega
  | 1 => rfl

/-- and a row down the columns. -/
theorem row_apply {α : Type} {A B : ℕ} (x : (shape2 1 B).Idx → α) (h : (shape2 1 B).Broadcasts (shape2 A B)) (i : Fin A) (j : Fin B) :
    broadcastTo (shape2 A B) x h (ix2 i j) = x (ix2 (0 : Fin 1) j) := by
  refine broadcastTo_apply _ _ _ _ fun a => ?_
  match a with
  | 0 => rfl
  | 1 => show j.val = if B = 1 then 0 else j.val
         have := j.isLt
         split <;> omega

/-- A vector as a column, at an entry. -/
theorem cast_col {α : Type} {A : ℕ} (x : (⟨1, ![A]⟩ : Shape).Idx → α) (h : (⟨1, ![A]⟩ : Shape).ShapeCasts (shape2 A 1)) (i : Fin A) :
    shapeCast (shape2 A 1) x h (ix2 i (0 : Fin 1)) = x (ix1 i) := by
  refine shapeCast_apply _ _ _ _ ?_
  rw [Shape.rowMajor_val_one, Shape.rowMajor_val_two]
  show i.val = i.val * 1 + 0
  omega

/-- A row's sum of squares as a kernel adds it up, -/
theorem ker_squares (A : FVec Ideal (shape2 512 1024) .f32) (h : (shape2 512 1024).Reduces [1] ⟨1, ![512]⟩) (hφ : FKind.Formats .f32)
    (ha : (0x00000000#32 : BitVec FTy.f32.bits) = FKind.add.neutral .f32 hφ) (j : Fin 512) :
    multiReduction .add [1] ⟨1, ![512]⟩ (mulf A A) 0x00000000#32 h hφ ha (ix1 j) = ∑ i : Fin 1024, A (ix2 j i) * A (ix2 j i) := by
  have e0 := Ideal.multiReduction_add_single (mulf A A) _ h hφ ha (ix1 j)
  refine e0.trans ?_
  show ∑ k : Fin 1024, A (h.lift (ix1 j) k) * A (h.lift (ix1 j) k) = _
  refine Finset.sum_congr rfl fun k _ => ?_
  have e : h.lift (ix1 j) k = ix2 j k := by
    funext a
    refine Fin.ext ((h.lift_val _ _ _).trans ?_)
    unfold Shape.Reduces.liftVal
    match a with
    | 0 => simp
    | 1 => simp
  exact congrArg (fun q => A q * A q) e

/-- its scale there, -/
theorem ker_scale (A : FVec Ideal (shape2 512 1024) .f32) (h : (shape2 512 1024).Reduces [1] ⟨1, ![512]⟩) (hφ : FKind.Formats .f32)
    (ha : (0x00000000#32 : BitVec FTy.f32.bits) = FKind.add.neutral .f32 hφ) (hc : (⟨1, ![512]⟩ : Shape).ShapeCasts (shape2 512 1)) (j : Fin 512) :
    rsqrt (addf (divf (shapeCast (shape2 512 1) (multiReduction .add [1] ⟨1, ![512]⟩ (mulf A A) 0x00000000#32 h hφ ha) hc)
        (broadcast (shape2 512 1) (Scalar.ofBits (F := Ideal) .f32 0x44800000#32))) (broadcast (shape2 512 1) (Scalar.ofBits (F := Ideal) .f32 0x358637BD#32))) (ix2 j (0 : Fin 1))
      = scale fun i => A (ix2 j i) := by
  show Ideal.rsqrt (Ideal.div (shapeCast (shape2 512 1) _ hc (ix2 j (0 : Fin 1))) (Ideal.ofBits .f32 0x44800000#32) + Ideal.ofBits .f32 0x358637BD#32) = _
  rw [cast_col, ker_squares]
  rfl

/-- A tile over the roots of its rows. -/
theorem ker_unit (A : FVec Ideal (shape2 512 1024) .f32) (h : (shape2 512 1024).Reduces [1] ⟨1, ![512]⟩) (hφ : FKind.Formats .f32)
    (ha : (0x00000000#32 : BitVec FTy.f32.bits) = FKind.add.neutral .f32 hφ) (hc : (⟨1, ![512]⟩ : Shape).ShapeCasts (shape2 512 1))
    (hb : (shape2 512 1).Broadcasts (shape2 512 1024)) (j : Fin 512) (l : Fin 1024) :
    mulf A (broadcastTo (shape2 512 1024) (rsqrt (addf (divf (shapeCast (shape2 512 1) (multiReduction .add [1] ⟨1, ![512]⟩ (mulf A A) 0x00000000#32 h hφ ha) hc)
        (broadcast (shape2 512 1) (Scalar.ofBits (F := Ideal) .f32 0x44800000#32))) (broadcast (shape2 512 1) (Scalar.ofBits (F := Ideal) .f32 0x358637BD#32)))) hb) (ix2 j l)
      = A (ix2 j l) * scale fun i => A (ix2 j i) :=
  congrArg (A (ix2 j l) * ·) ((col_apply _ hb j l).trans (ker_scale A h hφ ha hc j))

/-- and as the references do. -/
theorem host_squares (X : FVec Ideal ⟨3, ![16, 4096, 1024]⟩ .f32) (h : (⟨3, ![16, 4096, 1024]⟩ : Shape).ReducesTo [2] (shape2 16 4096))
    (hu : 0 < (⟨0, ![]⟩ : Shape).numel) (b : Fin 16) (s : Fin 4096) :
    Host.reduceAdd (mulf X X) (constant (F := Ideal) ⟨0, ![]⟩ .f32 0x00000000#32) h hu (ix2 b s) = ∑ i : Fin 1024, X (ix3 b s i) * X (ix3 b s i) := by
  have hr : (⟨3, ![16, 4096, 1024]⟩ : Shape).Reduces [2] (shape2 16 4096) := by decide
  have e0 := Ideal.hostReduceAdd_single h hr (mulf X X) (Ideal.ofBits .f32 0x00000000#32) (ix2 b s)
  refine Eq.trans (b := Ideal.hostReduceAdd h (mulf X X) (Ideal.ofBits .f32 0x00000000#32) (ix2 b s)) rfl (e0.trans ?_)
  rw [Ideal.ofBits_zero_f32, zero_add]
  show ∑ k : Fin 1024, X (hr.lift (ix2 b s) k) * X (hr.lift (ix2 b s) k) = _
  refine Finset.sum_congr rfl fun k _ => ?_
  have e : hr.lift (ix2 b s) k = ix3 b s k := by
    funext a
    refine Fin.ext ((Shape.Reduces.lift_val _ _ _ _).trans ?_)
    unfold Shape.Reduces.liftVal
    match a with
    | 0 => simp
    | 1 => simp
    | 2 => simp
  exact congrArg (fun q => X q * X q) e

theorem host_scale (X : FVec Ideal ⟨3, ![16, 4096, 1024]⟩ .f32) (h : (⟨3, ![16, 4096, 1024]⟩ : Shape).ReducesTo [2] (shape2 16 4096))
    (hu : 0 < (⟨0, ![]⟩ : Shape).numel) (hb : (shape2 16 4096).BroadcastsInDim ⟨3, ![16, 4096, 1]⟩ ![0, 1])
    (hs : (⟨0, ![]⟩ : Shape).BroadcastsInDim ⟨3, ![16, 4096, 1]⟩ ![]) (b : Fin 16) (s : Fin 4096) :
    Host.rsqrt (addf (Host.divf (broadcastInDim ⟨3, ![16, 4096, 1]⟩ ![0, 1] hb
        (Host.reduceAdd (mulf X X) (constant (F := Ideal) ⟨0, ![]⟩ .f32 0x00000000#32) h hu))
        (broadcastInDim ⟨3, ![16, 4096, 1]⟩ ![] hs (constant (F := Ideal) ⟨0, ![]⟩ .f32 0x44800000#32)))
        (broadcastInDim ⟨3, ![16, 4096, 1]⟩ ![] hs (constant (F := Ideal) ⟨0, ![]⟩ .f32 0x358637BD#32))) (ix3 b s (0 : Fin 1))
      = scale fun i => X (ix3 b s i) := by
  show Ideal.rsqrt (Ideal.div (broadcastInDim (s := shape2 16 4096) ⟨3, ![16, 4096, 1]⟩ ![0, 1] hb _ (ix3 b s (0 : Fin 1))) (Ideal.ofBits .f32 0x44800000#32) + Ideal.ofBits .f32 0x358637BD#32) = _
  rw [broadcastInDim_apply (s := shape2 16 4096) (t := ⟨3, ![16, 4096, 1]⟩) ![0, 1] hb _ (ix3 b s (0 : Fin 1)) (ix2 b s) (fun a => by match a with | 0 => rfl | 1 => rfl), host_squares]
  rfl

/-- What the references broadcast to every row, at an entry: a row's scale, -/
theorem scales_apply {α : Type} (x : (⟨3, ![16, 4096, 1]⟩ : Shape).Idx → α) (h : (⟨3, ![16, 4096, 1]⟩ : Shape).BroadcastsInDim ⟨3, ![16, 4096, 1024]⟩ ![0, 1, 2])
    (b : Fin 16) (s : Fin 4096) (l : Fin 1024) : broadcastInDim ⟨3, ![16, 4096, 1024]⟩ ![0, 1, 2] h x (ix3 b s l) = x (ix3 b s (0 : Fin 1)) :=
  broadcastInDim_apply _ h _ _ _ fun a => by match a with | 0 => rfl | 1 => rfl | 2 => rfl

/-- so an array over the roots of its rows, -/
theorem host_unit (X : FVec Ideal ⟨3, ![16, 4096, 1024]⟩ .f32) (h : (⟨3, ![16, 4096, 1024]⟩ : Shape).ReducesTo [2] (shape2 16 4096))
    (hu : 0 < (⟨0, ![]⟩ : Shape).numel) (hb : (shape2 16 4096).BroadcastsInDim ⟨3, ![16, 4096, 1]⟩ ![0, 1])
    (hs : (⟨0, ![]⟩ : Shape).BroadcastsInDim ⟨3, ![16, 4096, 1]⟩ ![])
    (hr : (⟨3, ![16, 4096, 1]⟩ : Shape).BroadcastsInDim ⟨3, ![16, 4096, 1024]⟩ ![0, 1, 2]) (b : Fin 16) (s : Fin 4096) (l : Fin 1024) :
    mulf X (broadcastInDim ⟨3, ![16, 4096, 1024]⟩ ![0, 1, 2] hr (Host.rsqrt (addf (Host.divf (broadcastInDim ⟨3, ![16, 4096, 1]⟩ ![0, 1] hb
        (Host.reduceAdd (mulf X X) (constant (F := Ideal) ⟨0, ![]⟩ .f32 0x00000000#32) h hu))
        (broadcastInDim ⟨3, ![16, 4096, 1]⟩ ![] hs (constant (F := Ideal) ⟨0, ![]⟩ .f32 0x44800000#32)))
        (broadcastInDim ⟨3, ![16, 4096, 1]⟩ ![] hs (constant (F := Ideal) ⟨0, ![]⟩ .f32 0x358637BD#32))))) (ix3 b s l)
      = X (ix3 b s l) * scale fun i => X (ix3 b s i) :=
  congrArg (X (ix3 b s l) * ·) ((scales_apply _ hr b s l).trans (host_scale X h hu hb hs b s))

/-- a sequence's row of weights, -/
theorem perSeq_apply {α : Type} (x : (⟨3, ![16, 1, 1024]⟩ : Shape).Idx → α) (h : (⟨3, ![16, 1, 1024]⟩ : Shape).BroadcastsInDim ⟨3, ![16, 4096, 1024]⟩ ![0, 1, 2])
    (b : Fin 16) (s : Fin 4096) (l : Fin 1024) : broadcastInDim ⟨3, ![16, 4096, 1024]⟩ ![0, 1, 2] h x (ix3 b s l) = x (ix3 b (0 : Fin 1) l) :=
  broadcastInDim_apply _ h _ _ _ fun a => by match a with | 0 => rfl | 1 => rfl | 2 => rfl

theorem seqRow_apply {α : Type} (x : (shape2 16 1024).Idx → α) (h : (shape2 16 1024).BroadcastsInDim ⟨3, ![16, 1, 1024]⟩ ![0, 2])
    (b : Fin 16) (l : Fin 1024) : broadcastInDim ⟨3, ![16, 1, 1024]⟩ ![0, 2] h x (ix3 b (0 : Fin 1) l) = x (ix2 b l) :=
  broadcastInDim_apply _ h _ _ _ fun a => by match a with | 0 => rfl | 1 => rfl

/-- and one row of weights for all. -/
theorem forAll_apply {α : Type} (x : (⟨1, ![1024]⟩ : Shape).Idx → α) (h₁ : (⟨1, ![1024]⟩ : Shape).BroadcastsInDim ⟨3, ![1, 1, 1024]⟩ ![2])
    (h : (⟨3, ![1, 1, 1024]⟩ : Shape).BroadcastsInDim ⟨3, ![16, 4096, 1024]⟩ ![0, 1, 2]) (b : Fin 16) (s : Fin 4096) (l : Fin 1024) :
    broadcastInDim ⟨3, ![16, 4096, 1024]⟩ ![0, 1, 2] h (broadcastInDim ⟨3, ![1, 1, 1024]⟩ ![2] h₁ x) (ix3 b s l) = x (ix1 l) :=
  (broadcastInDim_apply _ h _ _ (ix3 (0 : Fin 1) (0 : Fin 1) l) fun a => by match a with | 0 => rfl | 1 => rfl | 2 => rfl).trans
    (broadcastInDim_apply _ h₁ _ _ (ix1 l) fun a => by match a with | 0 => rfl)

/-- A sequence's row with its unit axis, as the kernels take it, at an entry, -/
theorem seqCast_apply {α : Type} (x : (shape2 16 1024).Idx → α) (h : (shape2 16 1024).ShapeCasts ⟨3, ![16, 1, 1024]⟩) (b : Fin 16) (l : Fin 1024) :
    shapeCast ⟨3, ![16, 1, 1024]⟩ x h (ix3 b (0 : Fin 1) l) = x (ix2 b l) := by
  refine shapeCast_apply _ _ _ _ ?_
  rw [Shape.rowMajor_val_three, Shape.rowMajor_val_two]
  show b.val * 1024 + l.val = (b.val * 1 + 0) * 1024 + l.val
  omega

/-- and a row with its. -/
theorem rowCast_apply {α : Type} (x : (⟨1, ![1024]⟩ : Shape).Idx → α) (h : (⟨1, ![1024]⟩ : Shape).ShapeCasts (shape2 1 1024)) (l : Fin 1024) :
    shapeCast (shape2 1 1024) x h (ix2 (0 : Fin 1) l) = x (ix1 l) := by
  refine shapeCast_apply _ _ _ _ ?_
  rw [Shape.rowMajor_val_one, Shape.rowMajor_val_two]
  show l.val = 0 * 1024 + l.val
  omega

/-- Two unit axes off a row of weights. -/
theorem dropUnits_apply {α : Type} (x : (⟨3, ![1, 1, 1024]⟩ : Shape).Idx → α) (h : (⟨3, ![1, 1, 1024]⟩ : Shape).ShapeCasts (shape2 1 1024)) (l : Fin 1024) :
    shapeCast (shape2 1 1024) x h (ix2 (0 : Fin 1) l) = x (ix3 (0 : Fin 1) (0 : Fin 1) l) := cast_tile x h 0 l

end Cert.Experts

end
-- ==== Proof.Dense.lean ====
/- The dense feed-forward: what its kernel leaves, at an entry, over the extended reals. -/
module

public import proofs.«01_k».proof.Proof.Norm
public import proofs.«01_k».proof.Proof.Gen.Kernel2Ideal.Value

@[expose] public section

noncomputable section

namespace Cert.Dense

open Cert.Kernel2Ideal Cert.Kernel2Ideal.Gen Cert.Experts
open Idealize.SL.Sem
open Idealize.ShloMosaic hiding ix1 ix2 ix3 ix4
open Idealize.ShloMosaic.TcCoe Idealize.ShloMosaic.ValueIdx Idealize.ShloMosaic.Routing

section Spec

variable (h x : S16x4096x1024.Idx → EReal) (wg wu : S2x1024x2816.Idx → EReal) (wd : S2x2816x1024.Idx → EReal) (gf : S16x1024.Idx → EReal)
  (nw : S1024.Idx → EReal) (sh sc : S16x1024.Idx → EReal)

/-- A token's residual with its gated feed-forward added. -/
def fed (b : Fin 16) (s : Fin 4096) (l : Fin 1024) : EReal :=
  x (ix3 b s l) + gf (ix2 b l) * ∑ k : Fin 2816, unitOf (fun i => h (ix3 b s i)) (fun i => wg (ix3 (0 : Fin 2) i k)) (fun i => wu (ix3 (0 : Fin 2) i k)) * wd (ix3 (0 : Fin 2) k l)

/-- The same, normed and modulated. -/
def modulated (b : Fin 16) (s : Fin 4096) (l : Fin 1024) : EReal :=
  fed h x wg wu wd gf b s l * scale (fed h x wg wu wd gf b s) * nw (ix1 l) * (Ideal.ofBits .f32 0x3F800000#32 + sc (ix2 b l)) + sh (ix2 b l)

end Spec

section Body

variable (H : Vec Ideal S1x512x1024 .bf16) (G U : Vec Ideal S1x1024x2816 .bf16) (X : Vec Ideal S1x512x1024 .f32) (A : Vec Ideal S1x1x1024 .f32) (D : Vec Ideal S1x2816x1024 .bf16)
  (W : Vec Ideal S1x1024 .f32) (S R : Vec Ideal S1x1x1024 .f32)

/-- The product of a tile's rows with the gate or up weights, as it is printed. -/
def into (w : Vec Ideal S1x1024x2816 .bf16) : S512x2816.Idx → EReal :=
  FloatOps.matmul (F := Ideal) (φ₁ := .bf16) (φ₂ := .bf16) (DotDims.plain 512 1024 2816) none (shapeCast S512x1024 H shapeCasts_S1x512x1024_S512x1024)
    (shapeCast S1024x2816 w shapeCasts_S1x1024x2816_S1024x2816) (constant S512x2816 .f32 0x00000000#32)

theorem into_apply (w : Vec Ideal S1x1024x2816 .bf16) (j : Fin 512) (k : Fin 2816) :
    into H w (ix2 j k) = ∑ i : Fin 1024, H (ix3 (0 : Fin 1) j i) * w (ix3 (0 : Fin 1) i k) := by
  refine (matmul_plain (φ₁ := .bf16) (φ₂ := .bf16) (shapeCast S512x1024 H shapeCasts_S1x512x1024_S512x1024)
    (shapeCast S1024x2816 w shapeCasts_S1x1024x2816_S1024x2816) (constant S512x2816 .f32 0x00000000#32) none j k).trans ?_
  have h0 : (constant (F := Ideal) S512x2816 .f32 0x00000000#32) (ix2 j k) = (0 : EReal) := Ideal.ofBits_zero_f32
  rw [h0, zero_add]
  exact Finset.sum_congr rfl fun i _ => congrArg₂ (· * ·) (cast_tile H _ j i) (cast_tile w _ i k)

/-- The hidden units of a tile, as they are printed. -/
def hidden : S512x2816.Idx → EReal := fun y =>
  (into H G y * Ideal.div (Ideal.ofBits .f32 0x3F800000#32)
    (Ideal.ofBits .f32 0x3F800000#32 + Ideal.exp (Ideal.ofBits .f32 0x00000000#32 - into H G y))) * into H U y

theorem hidden_apply (j : Fin 512) (k : Fin 2816) : hidden H G U (ix2 j k)
    = unitOf (fun i => H (ix3 (0 : Fin 1) j i)) (fun i => G (ix3 (0 : Fin 1) i k)) (fun i => U (ix3 (0 : Fin 1) i k)) := by
  unfold hidden unitOf act
  rw [into_apply, into_apply, Ideal.ofBits_zero_f32, zero_sub]

/-- Their product with the down weights. -/
def back : S512x1024.Idx → EReal :=
  FloatOps.matmul (F := Ideal) (φ₁ := .bf16) (φ₂ := .bf16) (DotDims.plain 512 2816 1024) none (hidden H G U)
    (shapeCast S2816x1024 D shapeCasts_S1x2816x1024_S2816x1024) (constant S512x1024 .f32 0x00000000#32)

theorem back_apply (j : Fin 512) (l : Fin 1024) : back H G U D (ix2 j l)
    = ∑ k : Fin 2816, unitOf (fun i => H (ix3 (0 : Fin 1) j i)) (fun i => G (ix3 (0 : Fin 1) i k)) (fun i => U (ix3 (0 : Fin 1) i k)) * D (ix3 (0 : Fin 1) k l) := by
  refine (matmul_plain (φ₁ := .bf16) (φ₂ := .bf16) (hidden H G U)
    (shapeCast S2816x1024 D shapeCasts_S1x2816x1024_S2816x1024) (constant S512x1024 .f32 0x00000000#32) none j l).trans ?_
  have h0 : (constant (F := Ideal) S512x1024 .f32 0x00000000#32) (ix2 j l) = (0 : EReal) := Ideal.ofBits_zero_f32
  rw [h0, zero_add]
  exact Finset.sum_congr rfl fun k _ => congrArg₂ (· * ·) (hidden_apply H G U j k) (cast_tile D _ k l)

theorem pay2_eq : k0_pay2 H G U X A D = fun y => shapeCast S512x1024 X shapeCasts_S1x512x1024_S512x1024 y
    + broadcastTo S512x1024 (shapeCast S1x1024 A shapeCasts_S1x1x1024_S1x1024) broadcasts_S1x1024_S512x1024 y * back H G U D y := rfl

theorem pay2_apply (j : Fin 512) (l : Fin 1024) : k0_pay2 H G U X A D (ix2 j l) = X (ix3 (0 : Fin 1) j l) + A (ix3 (0 : Fin 1) (0 : Fin 1) l)
    * ∑ k : Fin 2816, unitOf (fun i => H (ix3 (0 : Fin 1) j i)) (fun i => G (ix3 (0 : Fin 1) i k)) (fun i => U (ix3 (0 : Fin 1) i k)) * D (ix3 (0 : Fin 1) k l) :=
  (congrFun (pay2_eq H G U X A D) _).trans (congrArg₂ (· + ·) (cast_tile X _ j l)
    (congrArg₂ (· * ·) ((row_apply _ broadcasts_S1x1024_S512x1024 j l).trans (dropUnits_apply A _ l)) (back_apply H G U D j l)))

/-- The second payload, over any first. -/
theorem pay1_apply (K : FVec Ideal S512x1024 .f32) (j : Fin 512) (l : Fin 1024) : k0_pay1 K W S R (ix3 (0 : Fin 1) j l)
    = K (ix2 j l) * scale (fun i => K (ix2 j i)) * W (ix2 (0 : Fin 1) l) * (Ideal.ofBits .f32 0x3F800000#32 + R (ix3 (0 : Fin 1) (0 : Fin 1) l))
      + S (ix3 (0 : Fin 1) (0 : Fin 1) l) := by
  unfold k0_pay1
  refine (tile_cast _ shapeCasts_S512x1024_S1x512x1024 j l).trans ?_
  refine congrArg₂ (· + ·) (congrArg₂ (· * ·) (congrArg₂ (· * ·)
      (ker_unit K reduces_S512x1024_S512 (.inl rfl) rfl shapeCasts_S512_S512x1 broadcasts_S512x1_S512x1024 j l)
      ((row_apply _ broadcasts_S1x1024_S512x1024 j l).trans (congrFun (shapeCast_self _ _) _)))
      ((row_apply (addf (broadcast S1x1024 (Scalar.ofBits (F := Ideal) .f32 0x3F800000#32)) (shapeCast S1x1024 R shapeCasts_S1x1x1024_S1x1024)) broadcasts_S1x1024_S512x1024 j l).trans
        (congrArg (Ideal.ofBits .f32 0x3F800000#32 + ·) (dropUnits_apply R _ l))))
    ((row_apply _ broadcasts_S1x1024_S512x1024 j l).trans (dropUnits_apply S _ l))

end Body

section Blocks

variable (m : (ℓ : Loc nD τ sig) → Buf (Elt Ideal) ℓ) (ρ : Dev nD → PrngReg)

/-- Which block of its array each window is at. -/
theorem at0 : ∀ t : Fin cfg0.N, win0_0.index t (0 : Fin 3) = t.val / 8 ∧ win0_0.index t (1 : Fin 3) = t.val % 8 ∧ win0_0.index t (2 : Fin 3) = 0 := (by decide +kernel : ∀ t : Fin grid0.N, _)
theorem at1 : ∀ t : Fin cfg0.N, win0_1.index t (0 : Fin 3) = t.val / 8 ∧ win0_1.index t (1 : Fin 3) = t.val % 8 ∧ win0_1.index t (2 : Fin 3) = 0 := (by decide +kernel : ∀ t : Fin grid0.N, _)
theorem at2 : ∀ t : Fin cfg0.N, win0_2.index t (0 : Fin 3) = 0 ∧ win0_2.index t (1 : Fin 3) = 0 ∧ win0_2.index t (2 : Fin 3) = 0 := (by decide +kernel : ∀ t : Fin grid0.N, _)
theorem at3 : ∀ t : Fin cfg0.N, win0_3.index t (0 : Fin 3) = 0 ∧ win0_3.index t (1 : Fin 3) = 0 ∧ win0_3.index t (2 : Fin 3) = 0 := (by decide +kernel : ∀ t : Fin grid0.N, _)
theorem at4 : ∀ t : Fin cfg0.N, win0_4.index t (0 : Fin 3) = 0 ∧ win0_4.index t (1 : Fin 3) = 0 ∧ win0_4.index t (2 : Fin 3) = 0 := (by decide +kernel : ∀ t : Fin grid0.N, _)
theorem at5 : ∀ t : Fin cfg0.N, win0_5.index t (0 : Fin 3) = t.val / 8 ∧ win0_5.index t (1 : Fin 3) = 0 ∧ win0_5.index t (2 : Fin 3) = 0 := (by decide +kernel : ∀ t : Fin grid0.N, _)
theorem at6 : ∀ t : Fin cfg0.N, win0_6.index t (0 : Fin 2) = 0 ∧ win0_6.index t (1 : Fin 2) = 0 := (by decide +kernel : ∀ t : Fin grid0.N, _)
theorem at7 : ∀ t : Fin cfg0.N, win0_7.index t (0 : Fin 3) = t.val / 8 ∧ win0_7.index t (1 : Fin 3) = 0 ∧ win0_7.index t (2 : Fin 3) = 0 := (by decide +kernel : ∀ t : Fin grid0.N, _)
theorem at8 : ∀ t : Fin cfg0.N, win0_8.index t (0 : Fin 3) = t.val / 8 ∧ win0_8.index t (1 : Fin 3) = 0 ∧ win0_8.index t (2 : Fin 3) = 0 := (by decide +kernel : ∀ t : Fin grid0.N, _)
theorem at9 : ∀ t : Fin cfg0.N, win0_9.index t (0 : Fin 3) = t.val / 8 ∧ win0_9.index t (1 : Fin 3) = t.val % 8 ∧ win0_9.index t (2 : Fin 3) = 0 := (by decide +kernel : ∀ t : Fin grid0.N, _)
theorem at10 : ∀ t : Fin cfg0.N, win0_10.index t (0 : Fin 3) = t.val / 8 ∧ win0_10.index t (1 : Fin 3) = t.val % 8 ∧ win0_10.index t (2 : Fin 3) = 0 := (by decide +kernel : ∀ t : Fin grid0.N, _)

theorem lt128 (t : Fin cfg0.N) : t.val < 128 := t.isLt

/-- The sequence a tile is of, and the place in it of a tile's row. -/
def seqAt (t : Fin cfg0.N) : Fin 16 := ⟨t.val / 8, by have := lt128 t; omega⟩
def posAt (t : Fin cfg0.N) (j : Fin 512) : Fin 4096 := ⟨t.val % 8 * 512 + j.val, by have := lt128 t; omega⟩

theorem V_gate (c : Dev nD) : (V m c main_v0 : S2x1024x2816.Idx → EReal) = m ((c : Thread nD τ).loc main_arg2) := by
  show Idealize.ShloMosaic.StableHlo.after hostOps0 _ main_v0 = _
  simp only [hostOps0]
  after_results_simp
  rfl
theorem V_up (c : Dev nD) : (V m c main_v1 : S2x1024x2816.Idx → EReal) = m ((c : Thread nD τ).loc main_arg3) := by
  show Idealize.ShloMosaic.StableHlo.after hostOps0 _ main_v1 = _
  simp only [hostOps0]
  after_results_simp
  rfl
theorem V_down (c : Dev nD) : (V m c main_v2 : S2x2816x1024.Idx → EReal) = m ((c : Thread nD τ).loc main_arg4) := by
  show Idealize.ShloMosaic.StableHlo.after hostOps0 _ main_v2 = _
  simp only [hostOps0]
  after_results_simp
  rfl
theorem V_mix (c : Dev nD) : (V m c main_v3 : S16x1x1024.Idx → EReal) = shapeCast S16x1x1024 (m ((c : Thread nD τ).loc main_arg5)) shapeCasts_S16x1024_S16x1x1024 := by
  show Idealize.ShloMosaic.StableHlo.after hostOps0 _ main_v3 = _
  simp only [hostOps0]
  after_results_simp
  rfl
theorem V_norm (c : Dev nD) : (V m c main_v4 : S1x1024.Idx → EReal) = shapeCast S1x1024 (m ((c : Thread nD τ).loc main_arg6)) shapeCasts_S1024_S1x1024 := by
  show Idealize.ShloMosaic.StableHlo.after hostOps0 _ main_v4 = _
  simp only [hostOps0]
  after_results_simp
  rfl
theorem V_shift (c : Dev nD) : (V m c main_v5 : S16x1x1024.Idx → EReal) = shapeCast S16x1x1024 (m ((c : Thread nD τ).loc main_arg7)) shapeCasts_S16x1024_S16x1x1024 := by
  show Idealize.ShloMosaic.StableHlo.after hostOps0 _ main_v5 = _
  simp only [hostOps0]
  after_results_simp
  rfl
theorem V_scale (c : Dev nD) : (V m c main_v6 : S16x1x1024.Idx → EReal) = shapeCast S16x1x1024 (m ((c : Thread nD τ).loc main_arg8)) shapeCasts_S16x1024_S16x1x1024 := by
  show Idealize.ShloMosaic.StableHlo.after hostOps0 _ main_v6 = _
  simp only [hostOps0]
  after_results_simp
  rfl

theorem block0 (c : Dev nD) (t : Fin cfg0.N) (j : Fin 512) (l : Fin 1024) :
    iblk m c 0 t (ix3 (0 : Fin 1) j l) = m ((c : Thread nD τ).loc main_arg0) (ix3 (seqAt t) (posAt t j) l) := by
  obtain ⟨e0, e1, e2⟩ := at0 t
  refine (show iblk m c 0 t (ix3 (0 : Fin 1) j l) = V m c main_arg0 (((cfg0.win 0).blk t).view.emb (ix3 (0 : Fin 1) j l)) from rfl).trans ?_
  rw [V_main_arg0]
  refine congrArg _ (funext fun a => Fin.ext ?_)
  match a with
  | ⟨0, _⟩ => show win0_0.index t (0 : Fin 3) * 1 + 1 * 0 = t.val / 8; omega
  | ⟨1, _⟩ => show win0_0.index t (1 : Fin 3) * 512 + 1 * j.val = t.val % 8 * 512 + j.val; omega
  | ⟨2, _⟩ => show win0_0.index t (2 : Fin 3) * 1024 + 1 * l.val = l.val; omega

theorem block1 (c : Dev nD) (t : Fin cfg0.N) (j : Fin 512) (l : Fin 1024) :
    iblk m c 1 t (ix3 (0 : Fin 1) j l) = m ((c : Thread nD τ).loc main_arg1) (ix3 (seqAt t) (posAt t j) l) := by
  obtain ⟨e0, e1, e2⟩ := at1 t
  refine (show iblk m c 1 t (ix3 (0 : Fin 1) j l) = V m c main_arg1 (((cfg0.win 1).blk t).view.emb (ix3 (0 : Fin 1) j l)) from rfl).trans ?_
  rw [V_main_arg1]
  refine congrArg _ (funext fun a => Fin.ext ?_)
  match a with
  | ⟨0, _⟩ => show win0_1.index t (0 : Fin 3) * 1 + 1 * 0 = t.val / 8; omega
  | ⟨1, _⟩ => show win0_1.index t (1 : Fin 3) * 512 + 1 * j.val = t.val % 8 * 512 + j.val; omega
  | ⟨2, _⟩ => show win0_1.index t (2 : Fin 3) * 1024 + 1 * l.val = l.val; omega

theorem block2 (c : Dev nD) (t : Fin cfg0.N) (i : Fin 1024) (k : Fin 2816) :
    iblk m c 2 t (ix3 (0 : Fin 1) i k) = m ((c : Thread nD τ).loc main_arg2) (ix3 (0 : Fin 2) i k) := by
  obtain ⟨e0, e1, e2⟩ := at2 t
  refine (show iblk m c 2 t (ix3 (0 : Fin 1) i k) = V m c main_v0 (((cfg0.win 2).blk t).view.emb (ix3 (0 : Fin 1) i k)) from rfl).trans ?_
  refine (congrFun (V_gate m c) _).trans (congrArg _ (funext fun a => Fin.ext ?_))
  match a with
  | ⟨0, _⟩ => show win0_2.index t (0 : Fin 3) * 1 + 1 * 0 = 0; omega
  | ⟨1, _⟩ => show win0_2.index t (1 : Fin 3) * 1024 + 1 * i.val = i.val; omega
  | ⟨2, _⟩ => show win0_2.index t (2 : Fin 3) * 2816 + 1 * k.val = k.val; omega

theorem block3 (c : Dev nD) (t : Fin cfg0.N) (i : Fin 1024) (k : Fin 2816) :
    iblk m c 3 t (ix3 (0 : Fin 1) i k) = m ((c : Thread nD τ).loc main_arg3) (ix3 (0 : Fin 2) i k) := by
  obtain ⟨e0, e1, e2⟩ := at3 t
  refine (show iblk m c 3 t (ix3 (0 : Fin 1) i k) = V m c main_v1 (((cfg0.win 3).blk t).view.emb (ix3 (0 : Fin 1) i k)) from rfl).trans ?_
  refine (congrFun (V_up m c) _).trans (congrArg _ (funext fun a => Fin.ext ?_))
  match a with
  | ⟨0, _⟩ => show win0_3.index t (0 : Fin 3) * 1 + 1 * 0 = 0; omega
  | ⟨1, _⟩ => show win0_3.index t (1 : Fin 3) * 1024 + 1 * i.val = i.val; omega
  | ⟨2, _⟩ => show win0_3.index t (2 : Fin 3) * 2816 + 1 * k.val = k.val; omega

theorem block4 (c : Dev nD) (t : Fin cfg0.N) (k : Fin 2816) (l : Fin 1024) :
    iblk m c 4 t (ix3 (0 : Fin 1) k l) = m ((c : Thread nD τ).loc main_arg4) (ix3 (0 : Fin 2) k l) := by
  obtain ⟨e0, e1, e2⟩ := at4 t
  refine (show iblk m c 4 t (ix3 (0 : Fin 1) k l) = V m c main_v2 (((cfg0.win 4).blk t).view.emb (ix3 (0 : Fin 1) k l)) from rfl).trans ?_
  refine (congrFun (V_down m c) _).trans (congrArg _ (funext fun a => Fin.ext ?_))
  match a with
  | ⟨0, _⟩ => show win0_4.index t (0 : Fin 3) * 1 + 1 * 0 = 0; omega
  | ⟨1, _⟩ => show win0_4.index t (1 : Fin 3) * 2816 + 1 * k.val = k.val; omega
  | ⟨2, _⟩ => show win0_4.index t (2 : Fin 3) * 1024 + 1 * l.val = l.val; omega

theorem block5 (c : Dev nD) (t : Fin cfg0.N) (l : Fin 1024) :
    iblk m c 5 t (ix3 (0 : Fin 1) (0 : Fin 1) l) = m ((c : Thread nD τ).loc main_arg5) (ix2 (seqAt t) l) := by
  obtain ⟨e0, e1, e2⟩ := at5 t
  have e : ((cfg0.win 5).blk t).view.emb (ix3 (0 : Fin 1) (0 : Fin 1) l) = ix3 (seqAt t) (0 : Fin 1) l := by
    funext a; apply Fin.ext
    match a with
    | ⟨0, _⟩ => show win0_5.index t (0 : Fin 3) * 1 + 1 * 0 = t.val / 8; omega
    | ⟨1, _⟩ => show win0_5.index t (1 : Fin 3) * 1 + 1 * 0 = 0; omega
    | ⟨2, _⟩ => show win0_5.index t (2 : Fin 3) * 1024 + 1 * l.val = l.val; omega
  refine (show iblk m c 5 t (ix3 (0 : Fin 1) (0 : Fin 1) l) = V m c main_v3 (((cfg0.win 5).blk t).view.emb (ix3 (0 : Fin 1) (0 : Fin 1) l)) from rfl).trans ?_
  rw [e]
  exact (congrFun (V_mix m c) _).trans (seqCast_apply _ _ _ _)

theorem block6 (c : Dev nD) (t : Fin cfg0.N) (l : Fin 1024) :
    iblk m c 6 t (ix2 (0 : Fin 1) l) = m ((c : Thread nD τ).loc main_arg6) (ix1 l) := by
  obtain ⟨e0, e1⟩ := at6 t
  have e : ((cfg0.win 6).blk t).view.emb (ix2 (0 : Fin 1) l) = ix2 (0 : Fin 1) l := by
    funext a; apply Fin.ext
    match a with
    | ⟨0, _⟩ => show win0_6.index t (0 : Fin 2) * 1 + 1 * 0 = 0; omega
    | ⟨1, _⟩ => show win0_6.index t (1 : Fin 2) * 1024 + 1 * l.val = l.val; omega
  refine (show iblk m c 6 t (ix2 (0 : Fin 1) l) = V m c main_v4 (((cfg0.win 6).blk t).view.emb (ix2 (0 : Fin 1) l)) from rfl).trans ?_
  rw [e]
  exact (congrFun (V_norm m c) _).trans (rowCast_apply _ _ _)

theorem block7 (c : Dev nD) (t : Fin cfg0.N) (l : Fin 1024) :
    iblk m c 7 t (ix3 (0 : Fin 1) (0 : Fin 1) l) = m ((c : Thread nD τ).loc main_arg7) (ix2 (seqAt t) l) := by
  obtain ⟨e0, e1, e2⟩ := at7 t
  have e : ((cfg0.win 7).blk t).view.emb (ix3 (0 : Fin 1) (0 : Fin 1) l) = ix3 (seqAt t) (0 : Fin 1) l := by
    funext a; apply Fin.ext
    match a with
    | ⟨0, _⟩ => show win0_7.index t (0 : Fin 3) * 1 + 1 * 0 = t.val / 8; omega
    | ⟨1, _⟩ => show win0_7.index t (1 : Fin 3) * 1 + 1 * 0 = 0; omega
    | ⟨2, _⟩ => show win0_7.index t (2 : Fin 3) * 1024 + 1 * l.val = l.val; omega
  refine (show iblk m c 7 t (ix3 (0 : Fin 1) (0 : Fin 1) l) = V m c main_v5 (((cfg0.win 7).blk t).view.emb (ix3 (0 : Fin 1) (0 : Fin 1) l)) from rfl).trans ?_
  rw [e]
  exact (congrFun (V_shift m c) _).trans (seqCast_apply _ _ _ _)

theorem block8 (c : Dev nD) (t : Fin cfg0.N) (l : Fin 1024) :
    iblk m c 8 t (ix3 (0 : Fin 1) (0 : Fin 1) l) = m ((c : Thread nD τ).loc main_arg8) (ix2 (seqAt t) l) := by
  obtain ⟨e0, e1, e2⟩ := at8 t
  have e : ((cfg0.win 8).blk t).view.emb (ix3 (0 : Fin 1) (0 : Fin 1) l) = ix3 (seqAt t) (0 : Fin 1) l := by
    funext a; apply Fin.ext
    match a with
    | ⟨0, _⟩ => show win0_8.index t (0 : Fin 3) * 1 + 1 * 0 = t.val / 8; omega
    | ⟨1, _⟩ => show win0_8.index t (1 : Fin 3) * 1 + 1 * 0 = 0; omega
    | ⟨2, _⟩ => show win0_8.index t (2 : Fin 3) * 1024 + 1 * l.val = l.val; omega
  refine (show iblk m c 8 t (ix3 (0 : Fin 1) (0 : Fin 1) l) = V m c main_v6 (((cfg0.win 8).blk t).view.emb (ix3 (0 : Fin 1) (0 : Fin 1) l)) from rfl).trans ?_
  rw [e]
  exact (congrFun (V_scale m c) _).trans (seqCast_apply _ _ _ _)

/-- The results as functions of the arguments. -/
def first (c : Dev nD) : S16x4096x1024.Idx → EReal := fun y =>
  fed (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (y 0) (y 1) (y 2)
def second (c : Dev nD) : S16x4096x1024.Idx → EReal := fun y =>
  modulated (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (y 0) (y 1) (y 2)

theorem hz2 : (![0, 0] : Fin 2 → ℕ) = fun _ => 0 := by funext a; match a with | 0 => rfl | 1 => rfl
theorem hz3 : (![0, 0, 0] : Fin 3 → ℕ) = fun _ => 0 := by funext a; match a with | 0 => rfl | 1 => rfl | 2 => rfl

/-- What a point leaves is the payloads of the blocks. -/
theorem out9_eq (x0 : Vec Ideal S1x512x1024 .bf16) (x1 : Vec Ideal S1x512x1024 .f32) (x2 x3 : Vec Ideal S1x1024x2816 .bf16) (x4 : Vec Ideal S1x2816x1024 .bf16)
    (x5 : Vec Ideal S1x1x1024 .f32) (x6 : Vec Ideal S1x1024 .f32) (x7 x8 : Vec Ideal S1x1x1024 .f32) :
    out0_9 x0 x1 x2 x3 x4 x5 x6 x7 x8 = k0_pay3 x0 x2 x3 x1 x5 x4 := by
  unfold out0_9
  rw [View.canon_unit_zero hz3, View.ld_unit_zero hz3, View.ld_unit_zero hz3, View.ld_unit_zero hz3, View.ld_unit_zero hz3, View.ld_unit_zero hz3, View.ld_unit_zero hz3]

theorem out10_eq (x0 : Vec Ideal S1x512x1024 .bf16) (x1 : Vec Ideal S1x512x1024 .f32) (x2 x3 : Vec Ideal S1x1024x2816 .bf16) (x4 : Vec Ideal S1x2816x1024 .bf16)
    (x5 : Vec Ideal S1x1x1024 .f32) (x6 : Vec Ideal S1x1024 .f32) (x7 x8 : Vec Ideal S1x1x1024 .f32) :
    out0_10 x0 x1 x2 x3 x4 x5 x6 x7 x8 = k0_pay1 (k0_pay2 x0 x2 x3 x1 x5 x4) x6 x7 x8 := by
  unfold out0_10
  rw [View.canon_unit_zero hz3, View.ld_unit_zero hz3, View.ld_unit_zero hz3, View.ld_unit_zero hz3, View.ld_unit_zero hz3, View.ld_unit_zero hz3, View.ld_unit_zero hz3,
    View.ld_unit_zero hz2, View.ld_unit_zero hz3, View.ld_unit_zero hz3]

theorem pay2_block (c : Dev nD) (t : Fin cfg0.N) (j : Fin 512) (l : Fin 1024) :
    k0_pay2 (iblk m c 0 t) (iblk m c 2 t) (iblk m c 3 t) (iblk m c 1 t) (iblk m c 5 t) (iblk m c 4 t) (ix2 j l)
      = fed (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (seqAt t) (posAt t j) l := by
  rw [pay2_apply, block1, block5]
  simp only [block0, block2, block3, block4]
  rfl

theorem emb9 (t : Fin cfg0.N) (j : Fin 512) (l : Fin 1024) : ((cfg0.win 9).blk t).view.emb (ix3 (0 : Fin 1) j l) = ix3 (seqAt t) (posAt t j) l := by
  obtain ⟨e0, e1, e2⟩ := at9 t
  funext a; apply Fin.ext
  match a with
  | ⟨0, _⟩ => show win0_9.index t (0 : Fin 3) * 1 + 1 * 0 = t.val / 8; omega
  | ⟨1, _⟩ => show win0_9.index t (1 : Fin 3) * 512 + 1 * j.val = t.val % 8 * 512 + j.val; omega
  | ⟨2, _⟩ => show win0_9.index t (2 : Fin 3) * 1024 + 1 * l.val = l.val; omega

theorem emb10 (t : Fin cfg0.N) (j : Fin 512) (l : Fin 1024) : ((cfg0.win 10).blk t).view.emb (ix3 (0 : Fin 1) j l) = ix3 (seqAt t) (posAt t j) l := by
  obtain ⟨e0, e1, e2⟩ := at10 t
  funext a; apply Fin.ext
  match a with
  | ⟨0, _⟩ => show win0_10.index t (0 : Fin 3) * 1 + 1 * 0 = t.val / 8; omega
  | ⟨1, _⟩ => show win0_10.index t (1 : Fin 3) * 512 + 1 * j.val = t.val % 8 * 512 + j.val; omega
  | ⟨2, _⟩ => show win0_10.index t (2 : Fin 3) * 1024 + 1 * l.val = l.val; omega

/-- An index of a tile. -/
theorem tile_ix (y : S1x512x1024.Idx) : ∃ (j : Fin 512) (l : Fin 1024), y = ix3 (0 : Fin 1) j l := by
  refine ⟨y 1, y 2, funext fun a => ?_⟩
  match a with
  | ⟨0, _⟩ => exact Fin.ext (by have h : (y 0).val < 1 := (y 0).isLt; show (y 0).val = 0; omega)
  | ⟨1, _⟩ => rfl
  | ⟨2, _⟩ => rfl

theorem flushed9_eq (c : Dev nD) (t : Fin cfg0.N) : (dats m 0 c).flushed 9 t = ((cfg0.win 9).blk t).view.read (Elt Ideal) (first m c) := by
  rw [Value.flushed9, out9_eq]
  funext y
  obtain ⟨j, l, rfl⟩ := tile_ix y
  show k0_pay3 (iblk m c 0 t) (iblk m c 2 t) (iblk m c 3 t) (iblk m c 1 t) (iblk m c 5 t) (iblk m c 4 t) (ix3 (0 : Fin 1) j l)
    = first m c (((cfg0.win 9).blk t).view.emb (ix3 (0 : Fin 1) j l))
  rw [emb9]
  exact (tile_cast (k0_pay2 (iblk m c 0 t) (iblk m c 2 t) (iblk m c 3 t) (iblk m c 1 t) (iblk m c 5 t) (iblk m c 4 t)) shapeCasts_S512x1024_S1x512x1024 j l).trans
    (pay2_block m c t j l)

theorem flushed10_eq (c : Dev nD) (t : Fin cfg0.N) : (dats m 0 c).flushed 10 t = ((cfg0.win 10).blk t).view.read (Elt Ideal) (second m c) := by
  rw [Value.flushed10, out10_eq]
  funext y
  obtain ⟨j, l, rfl⟩ := tile_ix y
  show k0_pay1 (k0_pay2 (iblk m c 0 t) (iblk m c 2 t) (iblk m c 3 t) (iblk m c 1 t) (iblk m c 5 t) (iblk m c 4 t)) (iblk m c 6 t) (iblk m c 7 t) (iblk m c 8 t) (ix3 (0 : Fin 1) j l)
    = second m c (((cfg0.win 10).blk t).view.emb (ix3 (0 : Fin 1) j l))
  rw [emb10, pay1_apply, block6, block7, block8]
  simp only [pay2_block]
  rfl

/-- Every entry is some point's. -/
theorem reached (b : Fin 16) (s : Fin 4096) : ∃ (t : Fin cfg0.N) (j : Fin 512), seqAt t = b ∧ posAt t j = s := by
  have hb := b.isLt
  have hs := s.isLt
  refine ⟨(⟨b.val * 8 + s.val / 512, by show _ < 128; omega⟩ : Fin cfg0.N), ⟨s.val % 512, by omega⟩, Fin.ext ?_, Fin.ext ?_⟩
  · show (b.val * 8 + s.val / 512) / 8 = b.val
    omega
  · show (b.val * 8 + s.val / 512) % 8 * 512 + s.val % 512 = s.val
    omega

theorem covered9 (i : S16x4096x1024.Idx) : ∃ t : Fin cfg0.N, (cfg0.win 9).flush t = true ∧ i ∈ ((cfg0.win 9).blk t).view.set := by
  obtain ⟨b, s, l, rfl⟩ : ∃ (b : Fin 16) (s : Fin 4096) (l : Fin 1024), i = ix3 b s l := ⟨i 0, i 1, i 2, ValueIdx.eq_ix3 i⟩
  obtain ⟨t, j, rfl, rfl⟩ := reached b s
  have h := ((cfg0.win 9).blk t).view.emb_mem_set (ix3 (0 : Fin 1) j l)
  rw [emb9] at h
  exact ⟨t, flush0_9 t, h⟩

theorem covered10 (i : S16x4096x1024.Idx) : ∃ t : Fin cfg0.N, (cfg0.win 10).flush t = true ∧ i ∈ ((cfg0.win 10).blk t).view.set := by
  obtain ⟨b, s, l, rfl⟩ : ∃ (b : Fin 16) (s : Fin 4096) (l : Fin 1024), i = ix3 b s l := ⟨i 0, i 1, i 2, ValueIdx.eq_ix3 i⟩
  obtain ⟨t, j, rfl, rfl⟩ := reached b s
  have h := ((cfg0.win 10).blk t).view.emb_mem_set (ix3 (0 : Fin 1) j l)
  rw [emb10] at h
  exact ⟨t, flush0_10 t, h⟩

theorem final9 (c : Dev nD) : (dats m 0 c).arrAt 9 cfg0.N = first m c :=
  (dats m 0 c).arrAt_eq_of_cover 9 (first m c) (fun t _ => flushed9_eq m c t) covered9
theorem final10 (c : Dev nD) : (dats m 0 c).arrAt 10 cfg0.N = second m c :=
  (dats m 0 c).arrAt_eq_of_cover 10 (second m c) (fun t _ => flushed10_eq m c t) covered10

end Blocks

end Cert.Dense

end
-- ==== Proof.DenseValue.lean ====
/- The dense feed-forward: its kernel's results are its reference's, over the extended reals. -/
module

public import proofs.«01_k».proof.Defs
public import proofs.«01_k».proof.Proof.Dense
public import proofs.«01_k».proof.Proof.Gen.Reference2Ideal.Run

@[expose] public section

noncomputable section

namespace Cert.Dense

open Cert.Experts
open Idealize.SL.Sem
open Idealize.ShloMosaic hiding ix1 ix2 ix3 ix4
open Idealize.ShloMosaic.TcCoe Idealize.ShloMosaic.ValueIdx Idealize.ShloMosaic.Routing

namespace Ref

open Cert.Reference2Ideal Cert.Reference2Ideal.Gen

/-- The reference's products at an entry. -/
theorem in_apply (x : FVec Ideal S16x4096x1024 .f32) (w : FVec Ideal S1024x2816 .f32) (b : Fin 16) (s : Fin 4096) (k : Fin 2816) :
    Host.dotGeneral dot_S16x4096x1024_S1024x2816_S16x4096x2816_2_0_01_1_n_n none x w (ix3 b s k) = ∑ i : Fin 1024, x (ix3 b s i) * w (ix2 i k) := by
  refine (Ideal.dotGeneral_apply dot_S16x4096x1024_S1024x2816_S16x4096x2816_2_0_01_1_n_n none _ x w (ix3 b s k)).trans (((dot_S16x4096x1024_S1024x2816_S16x4096x2816_2_0_01_1_n_n).sum_contr₁ (a := (2 : Fin 3)) rfl (K := 1024) rfl _).trans
    (Finset.sum_congr rfl fun i _ => congrArg₂ (· * ·) (congrArg x ?_) (congrArg w ?_)))
  · funext a; fin_cases a <;> rfl
  · funext a; fin_cases a <;> rfl

theorem out_apply (x : FVec Ideal S16x4096x2816 .f32) (w : FVec Ideal S2816x1024 .f32) (b : Fin 16) (s : Fin 4096) (l : Fin 1024) :
    Host.dotGeneral dot_S16x4096x2816_S2816x1024_S16x4096x1024_2_0_01_1_n_n none x w (ix3 b s l) = ∑ k : Fin 2816, x (ix3 b s k) * w (ix2 k l) := by
  refine (Ideal.dotGeneral_apply dot_S16x4096x2816_S2816x1024_S16x4096x1024_2_0_01_1_n_n none _ x w (ix3 b s l)).trans (((dot_S16x4096x2816_S2816x1024_S16x4096x1024_2_0_01_1_n_n).sum_contr₁ (a := (2 : Fin 3)) rfl (K := 2816) rfl _).trans
    (Finset.sum_congr rfl fun i _ => congrArg₂ (· * ·) (congrArg x ?_) (congrArg w ?_)))
  · funext a; fin_cases a <;> rfl
  · funext a; fin_cases a <;> rfl

variable (h : FVec Ideal S16x4096x1024 .bf16) (x : FVec Ideal S16x4096x1024 .f32) (wg wu : FVec Ideal S2x1024x2816 .f32) (wd : FVec Ideal S2x2816x1024 .f32)
  (gf : FVec Ideal S16x1024 .f32) (nw : FVec Ideal S1024 .f32) (sh sc : FVec Ideal S16x1024 .f32)

/-- The layer's gate or up weights, and its down weights. -/
def wide (w : FVec Ideal S2x1024x2816 .f32) : FVec Ideal S1024x2816 .f32 :=
  shapeCast S1024x2816 (extractStridedSlice S1x1024x2816 ![0, 0, 0] w slices_S2x1024x2816_S1x1024x2816_0_0_0) shapeCasts_S1x1024x2816_S1024x2816
def tall (w : FVec Ideal S2x2816x1024 .f32) : FVec Ideal S2816x1024 .f32 :=
  shapeCast S2816x1024 (extractStridedSlice S1x2816x1024 ![0, 0, 0] w slices_S2x2816x1024_S1x2816x1024_0_0_0) shapeCasts_S1x2816x1024_S2816x1024

theorem wide_apply (w : FVec Ideal S2x1024x2816 .f32) (i : Fin 1024) (k : Fin 2816) : wide w (ix2 i k) = w (ix3 (0 : Fin 2) i k) :=
  (cast_tile _ _ i k).trans (extractStridedSlice_apply _ _ _ _ _ fun a => by
    match a with
    | ⟨0, _⟩ => rfl
    | ⟨1, _⟩ => exact (Nat.zero_add _).symm
    | ⟨2, _⟩ => exact (Nat.zero_add _).symm)
theorem tall_apply (w : FVec Ideal S2x2816x1024 .f32) (k : Fin 2816) (l : Fin 1024) : tall w (ix2 k l) = w (ix3 (0 : Fin 2) k l) :=
  (cast_tile _ _ k l).trans (extractStridedSlice_apply _ _ _ _ _ fun a => by
    match a with
    | ⟨0, _⟩ => rfl
    | ⟨1, _⟩ => exact (Nat.zero_add _).symm
    | ⟨2, _⟩ => exact (Nat.zero_add _).symm)

/-- The rows by the gate or up weights. -/
def into (w : FVec Ideal S2x1024x2816 .f32) : FVec Ideal S16x4096x2816 .f32 := Host.dotGeneral dot_S16x4096x1024_S1024x2816_S16x4096x2816_2_0_01_1_n_n none (extf .f32 h bitsLt_bf16_f32) (wide w)

theorem into_apply (w : FVec Ideal S2x1024x2816 .f32) (b : Fin 16) (s : Fin 4096) (k : Fin 2816) :
    into h w (ix3 b s k) = ∑ i : Fin 1024, h (ix3 b s i) * w (ix3 (0 : Fin 2) i k) :=
  (in_apply _ _ b s k).trans (Finset.sum_congr rfl fun i _ => congrArg (h (ix3 b s i) * ·) (wide_apply w i k))

/-- The hidden units. -/
def hidden : FVec Ideal S16x4096x2816 .f32 :=
  mulf (mulf (into h wg) (Host.divf (broadcastInDim S16x4096x2816 ![] bcast_S_S16x4096x2816 (constant S_ .f32 0x3F800000#32))
    (addf (broadcastInDim S16x4096x2816 ![] bcast_S_S16x4096x2816 (constant S_ .f32 0x3F800000#32)) (Host.exp (Host.negf (into h wg)))))) (into h wu)

theorem hidden_apply (b : Fin 16) (s : Fin 4096) (k : Fin 2816) : hidden h wg wu (ix3 b s k)
    = unitOf (fun i => h (ix3 b s i)) (fun i => wg (ix3 (0 : Fin 2) i k)) (fun i => wu (ix3 (0 : Fin 2) i k)) :=
  congrArg₂ (fun p q => act p * q) (into_apply h wg b s k) (into_apply h wu b s k)

/-- The first result, as the reference writes it. -/
def first : FVec Ideal S16x4096x1024 .f32 :=
  addf x (mulf (broadcastInDim S16x4096x1024 ![0, 1, 2] bcast_S16x1x1024_S16x4096x1024_0_1_2 (broadcastInDim S16x1x1024 ![0, 2] bcast_S16x1024_S16x1x1024_0_2 gf))
    (Host.dotGeneral dot_S16x4096x2816_S2816x1024_S16x4096x1024_2_0_01_1_n_n none (hidden h wg wu) (tall wd)))

theorem first_apply (b : Fin 16) (s : Fin 4096) (l : Fin 1024) : first h x wg wu wd gf (ix3 b s l) = fed h x wg wu wd gf b s l :=
  congrArg (x (ix3 b s l) + ·) (congrArg₂ (· * ·) ((perSeq_apply _ _ b s l).trans (seqRow_apply gf _ b l))
    ((out_apply _ _ b s l).trans (Finset.sum_congr rfl fun k _ => congrArg₂ (· * ·) (hidden_apply h wg wu b s k) (tall_apply wd k l))))

/-- The second, over any first. -/
def second (X : FVec Ideal S16x4096x1024 .f32) : FVec Ideal S16x4096x1024 .bf16 :=
  truncf .bf16 (addf (mulf (mulf (mulf X (broadcastInDim S16x4096x1024 ![0, 1, 2] bcast_S16x4096x1_S16x4096x1024_0_1_2
      (Host.rsqrt (addf (Host.divf (broadcastInDim S16x4096x1 ![0, 1] bcast_S16x4096_S16x4096x1_0_1
          (Host.reduceAdd (mulf X X) (constant S_ .f32 0x00000000#32) reducesTo_S16x4096x1024_S16x4096_d2 h_S_))
        (broadcastInDim S16x4096x1 ![] bcast_S_S16x4096x1 (constant S_ .f32 0x44800000#32))) (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 nw)))
      (broadcastInDim S16x4096x1024 ![0, 1, 2] bcast_S16x1x1024_S16x4096x1024_0_1_2
        (addf (broadcastInDim S16x1x1024 ![] bcast_S_S16x1x1024 (constant S_ .f32 0x3F800000#32)) (broadcastInDim S16x1x1024 ![0, 2] bcast_S16x1024_S16x1x1024_0_2 sc))))
    (broadcastInDim S16x4096x1024 ![0, 1, 2] bcast_S16x1x1024_S16x4096x1024_0_1_2 (broadcastInDim S16x1x1024 ![0, 2] bcast_S16x1024_S16x1x1024_0_2 sh))) bitsLt_bf16_f32

theorem second_apply (X : FVec Ideal S16x4096x1024 .f32) (b : Fin 16) (s : Fin 4096) (l : Fin 1024) : second nw sh sc X (ix3 b s l)
    = X (ix3 b s l) * scale (fun i => X (ix3 b s i)) * nw (ix1 l) * (Ideal.ofBits .f32 0x3F800000#32 + sc (ix2 b l)) + sh (ix2 b l) :=
  congrArg₂ (· + ·) (congrArg₂ (· * ·) (congrArg₂ (· * ·) (host_unit X _ _ _ _ _ b s l) (forAll_apply nw _ _ b s l))
      ((perSeq_apply (addf (broadcastInDim S16x1x1024 ![] bcast_S_S16x1x1024 (constant (F := Ideal) S_ .f32 0x3F800000#32)) (broadcastInDim S16x1x1024 ![0, 2] bcast_S16x1024_S16x1x1024_0_2 sc)) _ b s l).trans
        (congrArg (Ideal.ofBits .f32 0x3F800000#32 + ·) (seqRow_apply sc _ b l))))
    ((perSeq_apply _ _ b s l).trans (seqRow_apply sh _ b l))

/-- What a run of the reference leaves. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = first (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v37) = second (m ((c.tc : Thread nD τ).loc main_arg6)) (m ((c.tc : Thread nD τ).loc main_arg7)) (m ((c.tc : Thread nD τ).loc main_arg8))
        (first (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := Value.run m ρ

end Ref

theorem entries (y : Cert.Kernel2Ideal.S16x4096x1024.Idx) : ∃ (b : Fin 16) (s : Fin 4096) (l : Fin 1024), y = ix3 b s l := ⟨y 0, y 1, y 2, ValueIdx.eq_ix3 y⟩

/-- Over the extended reals the dense call's results are its reference's. -/
theorem algebraic : Cert.algebraic_Kernel2Ideal_Reference2Ideal := fun m g m' g' _ ha => by
  refine ⟨fun c => first m c, fun c => second m c, ?_, ?_⟩
  · exact (θ_run Cert.Kernel2Ideal.defs _ _).mono (fun r h c => ⟨(h c).1.trans (final9 m c), (h c).2.1.trans (final10 m c), (h c).2.2⟩) (Cert.Kernel2Ideal.Value.run_blocks m g)
  · refine (θ_run Cert.Reference2Ideal.defs _ _).mono (fun r h c => ⟨(h c).1.trans ?_, (h c).2.1.trans ?_, (h c).2.2⟩) (Ref.run_out m' g')
    · obtain ⟨a0, a1, a2, a3, a4, a5, a6, a7, a8⟩ := ha c
      rw [a0, a1, a2, a3, a4, a5]
      funext y
      obtain ⟨b, s, l, rfl⟩ := entries y
      exact Ref.first_apply _ _ _ _ _ _ b s l
    · obtain ⟨a0, a1, a2, a3, a4, a5, a6, a7, a8⟩ := ha c
      rw [a0, a1, a2, a3, a4, a5, a6, a7, a8]
      funext y
      obtain ⟨b, s, l, rfl⟩ := entries y
      refine (Ref.second_apply _ _ _ _ b s l).trans ?_
      simp only [Ref.first_apply]
      rfl

/-- The reference keeps its arguments. -/
theorem frame_reference : Cert.quiescent_Reference2Ideal := fun m ρ _ =>
  (θ_run Cert.Reference2Ideal.defs _ _).mono (fun r h => ⟨fun c => (h c).2.2, sem_eq_zero_of_no_sems (by decide) r.2⟩) (Cert.Reference2Ideal.Value.run m ρ)

end Cert.Dense

end
-- ==== Proof.Combine.lean ====
/- The combine: what its kernel leaves, at an entry, over the extended reals. -/
module

public import proofs.«01_k».proof.Proof.Norm
public import proofs.«01_k».proof.Proof.Gen.Kernel3Ideal.Value

@[expose] public section

noncomputable section

namespace Cert.Combine

open Cert.Kernel3Ideal Cert.Kernel3Ideal.Gen Cert.Experts
open Idealize.SL.Sem
open Idealize.ShloMosaic hiding ix1 ix2 ix3 ix4
open Idealize.ShloMosaic.TcCoe Idealize.ShloMosaic.ValueIdx Idealize.ShloMosaic.Routing

/-- A token's sequence and place in it. -/
def seqOf (p : Fin 65536) : Fin 16 := ⟨p.val / 4096, by omega⟩
def posOf (p : Fin 65536) : Fin 4096 := ⟨p.val % 4096, by omega⟩

section Spec

variable (y : S135680x1024.Idx → EReal) (rt : S65536x128.Idx → EReal) (x : S16x4096x1024.Idx → EReal) (g : S16x1024.Idx → EReal) (f : S1024.Idx → EReal)

/-- A token's residual with its two experts' rows, weighed and gated, added. -/
def mixed (p : Fin 65536) (l : Fin 1024) : EReal :=
  x (ix3 (seqOf p) (posOf p) l) + g (ix2 (seqOf p) l)
    * (rt (ix2 p (⟨2, by omega⟩ : Fin 128)) * y (ix2 (⟨p.val, by omega⟩ : Fin 135680) l)
      + rt (ix2 p (⟨3, by omega⟩ : Fin 128)) * y (ix2 (⟨65536 + p.val, by omega⟩ : Fin 135680) l))

/-- The same, normed. -/
def combined (p : Fin 65536) (l : Fin 1024) : EReal := mixed y rt x g p l * scale (mixed y rt x g p) * f (ix1 l)

end Spec

section Body

variable (P0 : Vec Ideal S512x1024 .f32) (P1 : Vec Ideal S1x1x1024 .f32) (P2 : Vec Ideal S512x128 .f32) (P3 P4 : Vec Ideal S512x1024 .f32) (P5 : Vec Ideal S1x1024 .f32)

/-- A tile's residuals with the experts' rows added, as it is printed. -/
def mix : FVec Ideal S512x1024 .f32 :=
  addf (shapeCast S512x1024 P0 shapeCasts_S512x1024_S512x1024) (mulf (broadcastTo S512x1024 (shapeCast S1x1024 P1 shapeCasts_S1x1x1024_S1x1024) broadcasts_S1x1024_S512x1024)
    (addf (mulf (broadcastTo S512x1024 (extractStridedSlice S512x1 ![0, 2] P2 slices_S512x128_o0_2_S512x1) broadcasts_S512x1_S512x1024) P3)
      (mulf (broadcastTo S512x1024 (extractStridedSlice S512x1 ![0, 3] P2 slices_S512x128_o0_3_S512x1) broadcasts_S512x1_S512x1024) P4)))

theorem weight2 (j : Fin 512) : extractStridedSlice S512x1 ![0, 2] P2 slices_S512x128_o0_2_S512x1 (ix2 j (0 : Fin 1)) = P2 (ix2 j (⟨2, by omega⟩ : Fin 128)) :=
  extractStridedSlice_apply _ _ _ _ _ fun a => by
    match a with
    | 0 => show j.val = 0 + j.val; omega
    | 1 => rfl
theorem weight3 (j : Fin 512) : extractStridedSlice S512x1 ![0, 3] P2 slices_S512x128_o0_3_S512x1 (ix2 j (0 : Fin 1)) = P2 (ix2 j (⟨3, by omega⟩ : Fin 128)) :=
  extractStridedSlice_apply _ _ _ _ _ fun a => by
    match a with
    | 0 => show j.val = 0 + j.val; omega
    | 1 => rfl

theorem mix_apply (j : Fin 512) (l : Fin 1024) : mix P0 P1 P2 P3 P4 (ix2 j l) = P0 (ix2 j l) + P1 (ix3 (0 : Fin 1) (0 : Fin 1) l)
    * (P2 (ix2 j (⟨2, by omega⟩ : Fin 128)) * P3 (ix2 j l) + P2 (ix2 j (⟨3, by omega⟩ : Fin 128)) * P4 (ix2 j l)) := by
  show shapeCast S512x1024 P0 _ (ix2 j l) + broadcastTo S512x1024 (shapeCast S1x1024 P1 _) _ (ix2 j l)
    * (broadcastTo S512x1024 (extractStridedSlice S512x1 ![0, 2] P2 _) _ (ix2 j l) * P3 (ix2 j l) + broadcastTo S512x1024 (extractStridedSlice S512x1 ![0, 3] P2 _) _ (ix2 j l) * P4 (ix2 j l)) = _
  rw [shapeCast_self, row_apply, col_apply, col_apply, dropUnits_apply, weight2, weight3]

theorem pay_apply (j : Fin 512) (l : Fin 1024) : k0_pay1 P2 P3 P4 P0 P1 P5 (ix2 j l)
    = mix P0 P1 P2 P3 P4 (ix2 j l) * scale (fun i => mix P0 P1 P2 P3 P4 (ix2 j i)) * P5 (ix2 (0 : Fin 1) l) := by
  rw [Value.lay6_0_eq]
  exact congrArg₂ (· * ·) (ker_unit (mix P0 P1 P2 P3 P4) reduces_S512x1024_S512 (.inl rfl) rfl shapeCasts_S512_S512x1 broadcasts_S512x1_S512x1024 j l)
    ((row_apply _ broadcasts_S1x1024_S512x1024 j l).trans (congrFun (shapeCast_self _ _) _))

end Body

section Blocks

variable (m : (ℓ : Loc nD τ sig) → Buf (Elt Ideal) ℓ) (ρ : Dev nD → PrngReg)

/-- Which block of its array each window is at. -/
theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = 128 + t.val ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)
theorem at4 : ∀ t : Fin cfg0.N, win0_4.index t (0 : Fin 3) = t.val / 8 ∧ win0_4.index t (1 : Fin 3) = 0 ∧ win0_4.index t (2 : Fin 3) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)

theorem lt128 (t : Fin cfg0.N) : t.val < 128 := t.isLt

/-- The token a tile's row is. -/
def tok (t : Fin cfg0.N) (j : Fin 512) : Fin 65536 := ⟨t.val * 512 + j.val, by have := lt128 t; omega⟩

theorem V_res (c : Dev nD) : (V m c main_v0 : S65536x1024.Idx → EReal) = shapeCast S65536x1024 (m ((c : Thread nD τ).loc main_arg2)) shapeCasts_S16x4096x1024_S65536x1024 := by
  show Idealize.ShloMosaic.StableHlo.after hostOps0 _ main_v0 = _
  simp only [hostOps0]
  after_results_simp
  rfl
theorem V_gate (c : Dev nD) : (V m c main_v1 : S16x1x1024.Idx → EReal) = shapeCast S16x1x1024 (m ((c : Thread nD τ).loc main_arg3)) shapeCasts_S16x1024_S16x1x1024 := by
  show Idealize.ShloMosaic.StableHlo.after hostOps0 _ main_v1 = _
  simp only [hostOps0]
  after_results_simp
  rfl
theorem V_final (c : Dev nD) : (V m c main_v2 : S1x1024.Idx → EReal) = shapeCast S1x1024 (m ((c : Thread nD τ).loc main_arg4)) shapeCasts_S1024_S1x1024 := by
  show Idealize.ShloMosaic.StableHlo.after hostOps0 _ main_v2 = _
  simp only [hostOps0]
  after_results_simp
  rfl

theorem block0 (c : Dev nD) (t : Fin cfg0.N) (j : Fin 512) (l : Fin 1024) :
    iblk m c 0 t (ix2 j l) = m ((c : Thread nD τ).loc main_arg0) (ix2 (⟨(tok t j).val, by have := (tok t j).isLt; omega⟩ : Fin 135680) l) := by
  obtain ⟨e0, e1⟩ := at0 t
  refine (show iblk m c 0 t (ix2 j l) = V m c main_arg0 (((cfg0.win 0).blk t).view.emb (ix2 j l)) from rfl).trans ?_
  rw [V_main_arg0]
  refine congrArg _ (funext fun a => Fin.ext ?_)
  match a with
  | ⟨0, _⟩ => show win0_0.index t (0 : Fin 2) * 512 + 1 * j.val = t.val * 512 + j.val; omega
  | ⟨1, _⟩ => show win0_0.index t (1 : Fin 2) * 1024 + 1 * l.val = l.val; omega

theorem block1 (c : Dev nD) (t : Fin cfg0.N) (j : Fin 512) (l : Fin 1024) :
    iblk m c 1 t (ix2 j l) = m ((c : Thread nD τ).loc main_arg0) (ix2 (⟨65536 + (tok t j).val, by have := (tok t j).isLt; omega⟩ : Fin 135680) l) := by
  obtain ⟨e0, e1⟩ := at1 t
  refine (show iblk m c 1 t (ix2 j l) = V m c main_arg0 (((cfg0.win 1).blk t).view.emb (ix2 j l)) from rfl).trans ?_
  rw [V_main_arg0]
  refine congrArg _ (funext fun a => Fin.ext ?_)
  match a with
  | ⟨0, _⟩ => show win0_1.index t (0 : Fin 2) * 512 + 1 * j.val = 65536 + (t.val * 512 + j.val); omega
  | ⟨1, _⟩ => show win0_1.index t (1 : Fin 2) * 1024 + 1 * l.val = l.val; omega

theorem block2 (c : Dev nD) (t : Fin cfg0.N) (j : Fin 512) (k : Fin 128) :
    iblk m c 2 t (ix2 j k) = m ((c : Thread nD τ).loc main_arg1) (ix2 (tok t j) k) := by
  obtain ⟨e0, e1⟩ := at2 t
  refine (show iblk m c 2 t (ix2 j k) = V m c main_arg1 (((cfg0.win 2).blk t).view.emb (ix2 j k)) from rfl).trans ?_
  rw [V_main_arg1]
  refine congrArg _ (funext fun a => Fin.ext ?_)
  match a with
  | ⟨0, _⟩ => show win0_2.index t (0 : Fin 2) * 512 + 1 * j.val = t.val * 512 + j.val; omega
  | ⟨1, _⟩ => show win0_2.index t (1 : Fin 2) * 128 + 1 * k.val = k.val; omega

theorem block3 (c : Dev nD) (t : Fin cfg0.N) (j : Fin 512) (l : Fin 1024) :
    iblk m c 3 t (ix2 j l) = m ((c : Thread nD τ).loc main_arg2) (ix3 (seqOf (tok t j)) (posOf (tok t j)) l) := by
  obtain ⟨e0, e1⟩ := at3 t
  refine (show iblk m c 3 t (ix2 j l) = V m c main_v0 (((cfg0.win 3).blk t).view.emb (ix2 j l)) from rfl).trans ?_
  refine (congrFun (V_res m c) _).trans (shapeCast_apply _ _ _ _ ?_)
  show (S16x4096x1024.rowMajor (ix3 (seqOf (tok t j)) (posOf (tok t j)) l)).val = (S65536x1024.rowMajor (((cfg0.win 3).blk t).view.emb (ix2 j l))).val
  rw [Shape.rowMajor_val_three, Shape.rowMajor_val_two]
  show ((t.val * 512 + j.val) / 4096 * 4096 + (t.val * 512 + j.val) % 4096) * 1024 + l.val
    = (win0_3.index t (0 : Fin 2) * 512 + 1 * j.val) * 1024 + (win0_3.index t (1 : Fin 2) * 1024 + 1 * l.val)
  rw [e0, e1]
  omega

theorem block4 (c : Dev nD) (t : Fin cfg0.N) (j : Fin 512) (l : Fin 1024) :
    iblk m c 4 t (ix3 (0 : Fin 1) (0 : Fin 1) l) = m ((c : Thread nD τ).loc main_arg3) (ix2 (seqOf (tok t j)) l) := by
  obtain ⟨e0, e1, e2⟩ := at4 t
  have hj := j.isLt
  refine (show iblk m c 4 t (ix3 (0 : Fin 1) (0 : Fin 1) l) = V m c main_v1 (((cfg0.win 4).blk t).view.emb (ix3 (0 : Fin 1) (0 : Fin 1) l)) from rfl).trans ?_
  refine (congrFun (V_gate m c) _).trans (shapeCast_apply _ _ _ _ ?_)
  show (S16x1024.rowMajor (ix2 (seqOf (tok t j)) l)).val = (S16x1x1024.rowMajor (((cfg0.win 4).blk t).view.emb (ix3 (0 : Fin 1) (0 : Fin 1) l))).val
  rw [Shape.rowMajor_val_three, Shape.rowMajor_val_two]
  show (t.val * 512 + j.val) / 4096 * 1024 + l.val
    = ((win0_4.index t (0 : Fin 3) * 1 + 1 * 0) * 1 + (win0_4.index t (1 : Fin 3) * 1 + 1 * 0)) * 1024 + (win0_4.index t (2 : Fin 3) * 1024 + 1 * l.val)
  rw [e0, e1, e2]
  omega

theorem block5 (c : Dev nD) (t : Fin cfg0.N) (l : Fin 1024) :
    iblk m c 5 t (ix2 (0 : Fin 1) l) = m ((c : Thread nD τ).loc main_arg4) (ix1 l) := by
  obtain ⟨e0, e1⟩ := at5 t
  refine (show iblk m c 5 t (ix2 (0 : Fin 1) l) = V m c main_v2 (((cfg0.win 5).blk t).view.emb (ix2 (0 : Fin 1) l)) from rfl).trans ?_
  refine (congrFun (V_final m c) _).trans (shapeCast_apply _ _ _ _ ?_)
  show (S1024.rowMajor (ix1 l)).val = (S1x1024.rowMajor (((cfg0.win 5).blk t).view.emb (ix2 (0 : Fin 1) l))).val
  rw [Shape.rowMajor_val_one, Shape.rowMajor_val_two]
  show l.val = (win0_5.index t (0 : Fin 2) * 1 + 1 * 0) * 1024 + (win0_5.index t (1 : Fin 2) * 1024 + 1 * l.val)
  rw [e0, e1]
  omega

/-- The result as a function of the arguments. -/
def result (c : Dev nD) : S65536x1024.Idx → EReal := fun y =>
  combined (m ((c : Thread nD τ).loc main_arg0)) (m ((c : Thread nD τ).loc main_arg1)) (m ((c : Thread nD τ).loc main_arg2)) (m ((c : Thread nD τ).loc main_arg3))
    (m ((c : Thread nD τ).loc main_arg4)) (y 0) (y 1)

theorem hz2 : (![0, 0] : Fin 2 → ℕ) = fun _ => 0 := by funext a; match a with | 0 => rfl | 1 => rfl
theorem hz3 : (![0, 0, 0] : Fin 3 → ℕ) = fun _ => 0 := by funext a; match a with | 0 => rfl | 1 => rfl | 2 => rfl

/-- What a point leaves is the payload of the blocks. -/
theorem out_eq (x0 x1 : Vec Ideal S512x1024 .f32) (x2 : Vec Ideal S512x128 .f32) (x3 : Vec Ideal S512x1024 .f32) (x4 : Vec Ideal S1x1x1024 .f32) (x5 : Vec Ideal S1x1024 .f32) :
    out0_6 x0 x1 x2 x3 x4 x5 = k0_pay1 x2 x0 x1 x3 x4 x5 := by
  unfold out0_6
  rw [View.canon_unit_zero hz2, View.ld_unit_zero hz2, View.ld_unit_zero hz2, View.ld_unit_zero hz2, View.ld_unit_zero hz2, View.ld_unit_zero hz3, View.ld_unit_zero hz2]

theorem mix_block (c : Dev nD) (t : Fin cfg0.N) (j : Fin 512) (l : Fin 1024) :
    mix (iblk m c 3 t) (iblk m c 4 t) (iblk m c 2 t) (iblk m c 0 t) (iblk m c 1 t) (ix2 j l)
      = mixed (m ((c : Thread nD τ).loc main_arg0)) (m ((c : Thread nD τ).loc main_arg1)) (m ((c : Thread nD τ).loc main_arg2)) (m ((c : Thread nD τ).loc main_arg3)) (tok t j) l := by
  rw [mix_apply, block0, block1, block2, block2, block3, block4 m c t j l]
  rfl

theorem flushed_eq (c : Dev nD) (t : Fin cfg0.N) : (dats m 0 c).flushed 6 t = ((cfg0.win 6).blk t).view.read (Elt Ideal) (result m c) := by
  rw [Value.flushed6, out_eq]
  funext y
  obtain ⟨j, l, rfl⟩ : ∃ (j : Fin 512) (l : Fin 1024), y = ix2 j l := ⟨y 0, y 1, ValueIdx.eq_ix2 y⟩
  obtain ⟨e0, e1⟩ := at6 t
  show k0_pay1 (iblk m c 2 t) (iblk m c 0 t) (iblk m c 1 t) (iblk m c 3 t) (iblk m c 4 t) (iblk m c 5 t) (ix2 j l) = result m c (((cfg0.win 6).blk t).view.emb (ix2 j l))
  have e : ((cfg0.win 6).blk t).view.emb (ix2 j l) = ix2 (tok t j) l := by
    funext a; apply Fin.ext
    match a with
    | ⟨0, _⟩ => show win0_6.index t (0 : Fin 2) * 512 + 1 * j.val = t.val * 512 + j.val; omega
    | ⟨1, _⟩ => show win0_6.index t (1 : Fin 2) * 1024 + 1 * l.val = l.val; omega
  rw [e, pay_apply, mix_block, block5]
  simp only [mix_block]
  rfl

/-- Every entry is some point's. -/
theorem covered6 (i : S65536x1024.Idx) : ∃ t : Fin cfg0.N, (cfg0.win 6).flush t = true ∧ i ∈ ((cfg0.win 6).blk t).view.set := by
  obtain ⟨p, l, rfl⟩ : ∃ (p : Fin 65536) (l : Fin 1024), i = ix2 p l := ⟨i 0, i 1, ValueIdx.eq_ix2 i⟩
  have hp := p.isLt
  refine ⟨(⟨p.val / 512, by show p.val / 512 < 128; omega⟩ : Fin cfg0.N), flush0_6 _, ?_⟩
  obtain ⟨e0, e1⟩ := at6 (⟨p.val / 512, by show p.val / 512 < 128; omega⟩ : Fin cfg0.N)
  have h := ((cfg0.win 6).blk (⟨p.val / 512, by show p.val / 512 < 128; omega⟩ : Fin cfg0.N)).view.emb_mem_set
    (ix2 (⟨p.val % 512, by omega⟩ : Fin 512) l)
  refine Eq.mp (congrArg (· ∈ _) ?_) h
  funext a; apply Fin.ext
  match a with
  | ⟨0, _⟩ =>
    show win0_6.index _ (0 : Fin 2) * 512 + 1 * (p.val % 512) = p.val
    rw [e0]
    show p.val / 512 * 512 + 1 * (p.val % 512) = p.val
    omega
  | ⟨1, _⟩ =>
    show win0_6.index _ (1 : Fin 2) * 1024 + 1 * l.val = l.val
    rw [e1]; omega

theorem final_eq (c : Dev nD) : (dats m 0 c).arrAt 6 cfg0.N = result m c :=
  (dats m 0 c).arrAt_eq_of_cover 6 (result m c) (fun t _ => flushed_eq m c t) covered6

end Blocks

end Cert.Combine

end
-- ==== Proof.CombineValue.lean ====
/- The combine: its kernel's result is its reference's, over the extended reals. -/
module

public import proofs.«01_k».proof.Defs
public import proofs.«01_k».proof.Proof.Combine
public import proofs.«01_k».proof.Proof.Gen.Reference3Ideal.Run

@[expose] public section

noncomputable section

namespace Cert.Combine

open Cert.Experts
open Idealize.SL.Sem
open Idealize.ShloMosaic hiding ix1 ix2 ix3 ix4
open Idealize.ShloMosaic.TcCoe Idealize.ShloMosaic.ValueIdx Idealize.ShloMosaic.Routing

namespace Ref

open Cert.Reference3Ideal Cert.Reference3Ideal.Gen

variable (y : FVec Ideal S135680x1024 .f32) (rt : FVec Ideal S65536x128 .f32) (x : FVec Ideal S16x4096x1024 .f32) (g : FVec Ideal S16x1024 .f32) (f : FVec Ideal S1024 .f32)

/-- The experts' rows weighed and added, as the reference writes it. -/
def pair : FVec Ideal S65536x1024 .f32 :=
  addf (mulf (broadcastInDim S65536x1024 ![0, 1] bcast_S65536x1_S65536x1024_0_1 (extractStridedSlice S65536x1 ![0, 2] rt slices_S65536x128_S65536x1_0_2))
      (extractStridedSlice S65536x1024 ![0, 0] y slices_S135680x1024_S65536x1024_0_0))
    (mulf (broadcastInDim S65536x1024 ![0, 1] bcast_S65536x1_S65536x1024_0_1 (extractStridedSlice S65536x1 ![0, 3] rt slices_S65536x128_S65536x1_0_3))
      (extractStridedSlice S65536x1024 ![65536, 0] y slices_S135680x1024_S65536x1024_65536_0))

/-- The residual with them added. -/
def sum : FVec Ideal S16x4096x1024 .f32 :=
  addf x (mulf (broadcastInDim S16x4096x1024 ![0, 1, 2] bcast_S16x1x1024_S16x4096x1024_0_1_2 (broadcastInDim S16x1x1024 ![0, 2] bcast_S16x1024_S16x1x1024_0_2 g))
    (shapeCast S16x4096x1024 (pair y rt) shapeCasts_S65536x1024_S16x4096x1024))

/-- The reference's result. -/
def out : FVec Ideal S65536x1024 .f32 :=
  shapeCast S65536x1024 (mulf (mulf (sum y rt x g) (broadcastInDim S16x4096x1024 ![0, 1, 2] bcast_S16x4096x1_S16x4096x1024_0_1_2
      (Host.rsqrt (addf (Host.divf (broadcastInDim S16x4096x1 ![0, 1] bcast_S16x4096_S16x4096x1_0_1
          (Host.reduceAdd (mulf (sum y rt x g) (sum y rt x g)) (constant S_ .f32 0x00000000#32) reducesTo_S16x4096x1024_S16x4096_d2 h_S_))
        (broadcastInDim S16x4096x1 ![] bcast_S_S16x4096x1 (constant S_ .f32 0x44800000#32))) (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 f)))
    shapeCasts_S16x4096x1024_S65536x1024

theorem weigh_apply {k : ℕ} (hk : k < 128) (h : S65536x128.Slices ![0, k] S65536x1) (p : Fin 65536) (l : Fin 1024) :
    broadcastInDim S65536x1024 ![0, 1] bcast_S65536x1_S65536x1024_0_1 (extractStridedSlice S65536x1 ![0, k] rt h) (ix2 p l) = rt (ix2 p (⟨k, hk⟩ : Fin 128)) :=
  (broadcastInDim_apply _ _ _ _ (ix2 p (0 : Fin 1)) fun a => by match a with | 0 => rfl | 1 => rfl).trans
    (extractStridedSlice_apply _ _ _ _ _ fun a => by
      match a with
      | 0 => show p.val = 0 + p.val; omega
      | 1 => show k = k + 0; omega)

theorem rows_apply {o : ℕ} (h : S135680x1024.Slices ![o, 0] S65536x1024) (p : Fin 65536) (l : Fin 1024) (q : Fin 135680) (hq : q.val = o + p.val) :
    extractStridedSlice S65536x1024 ![o, 0] y h (ix2 p l) = y (ix2 q l) :=
  extractStridedSlice_apply _ _ _ _ _ fun a => by
    match a with
    | 0 => exact hq
    | 1 => show l.val = 0 + l.val; omega

theorem pair_apply (p : Fin 65536) (l : Fin 1024) : pair y rt (ix2 p l)
    = rt (ix2 p (⟨2, by omega⟩ : Fin 128)) * y (ix2 (⟨p.val, by omega⟩ : Fin 135680) l)
      + rt (ix2 p (⟨3, by omega⟩ : Fin 128)) * y (ix2 (⟨65536 + p.val, by omega⟩ : Fin 135680) l) :=
  congrArg₂ (· + ·) (congrArg₂ (· * ·) (weigh_apply rt (by omega) _ p l) (rows_apply y _ p l _ (by show p.val = 0 + p.val; omega)))
    (congrArg₂ (· * ·) (weigh_apply rt (by omega) _ p l) (rows_apply y _ p l _ rfl))

theorem sum_apply (p : Fin 65536) (l : Fin 1024) : sum y rt x g (ix3 (seqOf p) (posOf p) l) = mixed y rt x g p l := by
  refine congrArg (x (ix3 (seqOf p) (posOf p) l) + ·) (congrArg₂ (· * ·) ((perSeq_apply _ _ _ _ _).trans (seqRow_apply _ _ _ _)) ?_)
  refine (shapeCast_apply _ _ _ (ix2 p l) ?_).trans (pair_apply y rt p l)
  rw [Shape.rowMajor_val_three, Shape.rowMajor_val_two]
  show p.val * 1024 + l.val = (p.val / 4096 * 4096 + p.val % 4096) * 1024 + l.val
  omega

theorem out_apply (p : Fin 65536) (l : Fin 1024) : out y rt x g f (ix2 p l) = combined y rt x g f p l := by
  refine (shapeCast_apply _ _ _ (ix3 (seqOf p) (posOf p) l) ?_).trans ?_
  · rw [Shape.rowMajor_val_three, Shape.rowMajor_val_two]
    show (p.val / 4096 * 4096 + p.val % 4096) * 1024 + l.val = p.val * 1024 + l.val
    omega
  · refine (congrArg₂ (· * ·) (host_unit (sum y rt x g) _ _ _ _ _ (seqOf p) (posOf p) l) (forAll_apply f _ _ (seqOf p) (posOf p) l)).trans ?_
    simp only [sum_apply]
    rfl

/-- What a run of the reference leaves. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

end Ref

/-- Over the extended reals the combine's result is its reference's. -/
theorem algebraic : Cert.algebraic_Kernel3Ideal_Reference3Ideal := fun m g m' g' _ ha => by
  refine ⟨fun c => result m c, ?_, ?_⟩
  · exact (θ_run Cert.Kernel3Ideal.defs _ _).mono (fun r h c => ⟨(h c).1.trans (final_eq m c), (h c).2⟩) (Cert.Kernel3Ideal.Value.run_blocks m g)
  · refine (θ_run Cert.Reference3Ideal.defs _ _).mono (fun r h c => ⟨(h c).1.trans ?_, (h c).2⟩) (Ref.run_out m' g')
    obtain ⟨a0, a1, a2, a3, a4⟩ := ha c
    rw [a0, a1, a2, a3, a4]
    funext y
    obtain ⟨p, l, rfl⟩ : ∃ (p : Fin 65536) (l : Fin 1024), y = ix2 p l := ⟨y 0, y 1, ValueIdx.eq_ix2 y⟩
    exact Ref.out_apply _ _ _ _ _ p l

/-- The reference keeps its arguments. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

end Cert.Combine

end
-- ==== Proof.Glu.lean ====
/- The state-space layer's output projection and its norm: what their kernel leaves, at an entry, over the extended reals. -/
module

public import proofs.«01_k».proof.Proof.Norm
public import proofs.«01_k».proof.Proof.Gen.Kernel4Ideal.Value

@[expose] public section

noncomputable section

namespace Cert.Glu

open Cert.Kernel4Ideal Cert.Kernel4Ideal.Gen Cert.Experts
open Idealize.SL.Sem
open Idealize.ShloMosaic hiding ix1 ix2 ix3 ix4
open Idealize.ShloMosaic.TcCoe Idealize.ShloMosaic.ValueIdx Idealize.ShloMosaic.Routing

section Spec

/-- The smooth rectifier in its tanh form, -/
def gelu (x : EReal) : EReal :=
  Ideal.ofBits .f32 0x3F000000#32 * x * (Ideal.ofBits .f32 0x3F800000#32
    + Ideal.tanh (Ideal.ofBits .f32 0x3F4C422A#32 * (x + Ideal.ofBits .f32 0x3D372713#32 * (x * x * x))))

/-- and the gate of a gated unit. -/
def gate (g : EReal) : EReal := Ideal.div (Ideal.ofBits .f32 0x3F800000#32) (Ideal.ofBits .f32 0x3F800000#32 + Ideal.exp (-g))

/-- A column of the values, and the column of its gates. -/
def lo (l : Fin 1024) : Fin 2048 := ⟨l.val, by omega⟩
def hi (l : Fin 1024) : Fin 2048 := ⟨1024 + l.val, by omega⟩

variable (y h x : S16x4096x1024.Idx → EReal) (ds : S1024.Idx → EReal) (w : S2x1024x2048.Idx → EReal) (bi : S2048.Idx → EReal) (gm : S16x1024.Idx → EReal)
  (nw : S1024.Idx → EReal) (sh sc : S16x1024.Idx → EReal)

/-- A token's row by the projection's weights, -/
def proj (b : Fin 16) (s : Fin 4096) (k : Fin 2048) : EReal :=
  ∑ i : Fin 1024, gelu (y (ix3 b s i) + ds (ix1 i) * h (ix3 b s i)) * w (ix3 (0 : Fin 2) i k) + bi (ix1 k)

/-- its residual with the gated unit added, -/
def fed (b : Fin 16) (s : Fin 4096) (l : Fin 1024) : EReal :=
  x (ix3 b s l) + gm (ix2 b l) * (proj y h ds w bi b s (lo l) * gate (proj y h ds w bi b s (hi l)))

/-- and the same, normed and modulated. -/
def modulated (b : Fin 16) (s : Fin 4096) (l : Fin 1024) : EReal :=
  fed y h x ds w bi gm b s l * scale (fed y h x ds w bi gm b s) * nw (ix1 l) * (Ideal.ofBits .f32 0x3F800000#32 + sc (ix2 b l)) + sh (ix2 b l)

end Spec

section Body

variable (Y H : Vec Ideal S1x512x1024 .bf16) (X : Vec Ideal S1x512x1024 .f32) (D : Vec Ideal S1x1024 .f32) (W : Vec Ideal S1x1024x2048 .bf16)
  (B : Vec Ideal S1x2048 .f32) (A : Vec Ideal S1x1x1024 .f32) (N : Vec Ideal S1x1024 .f32) (S R : Vec Ideal S1x1x1024 .f32)

/-- A tile's rows with the skipped ones added, as they are printed. -/
def skipped : S512x1024.Idx → EReal := fun y => shapeCast S512x1024 Y shapeCasts_S1x512x1024_S512x1024 y
  + broadcastTo S512x1024 (shapeCast S1x1024 D shapeCasts_S1x1024_S1x1024) broadcasts_S1x1024_S512x1024 y * shapeCast S512x1024 H shapeCasts_S1x512x1024_S512x1024 y

theorem skipped_apply (j : Fin 512) (i : Fin 1024) : skipped Y H D (ix2 j i) = Y (ix3 (0 : Fin 1) j i) + D (ix2 (0 : Fin 1) i) * H (ix3 (0 : Fin 1) j i) :=
  congrArg₂ (· + ·) (cast_tile Y _ j i) (congrArg₂ (· * ·) ((row_apply _ broadcasts_S1x1024_S512x1024 j i).trans (congrFun (shapeCast_self _ _) _)) (cast_tile H _ j i))

def bent : S512x1024.Idx → EReal := fun y => gelu (skipped Y H D y)

/-- Their product with the weights. -/
def into : S512x2048.Idx → EReal :=
  FloatOps.matmul (F := Ideal) (φ₁ := .bf16) (φ₂ := .bf16) (DotDims.plain 512 1024 2048) none (bent Y H D)
    (shapeCast S1024x2048 W shapeCasts_S1x1024x2048_S1024x2048) (constant S512x2048 .f32 0x00000000#32)

theorem into_apply (j : Fin 512) (k : Fin 2048) : into Y H D W (ix2 j k)
    = ∑ i : Fin 1024, gelu (Y (ix3 (0 : Fin 1) j i) + D (ix2 (0 : Fin 1) i) * H (ix3 (0 : Fin 1) j i)) * W (ix3 (0 : Fin 1) i k) := by
  refine (matmul_plain (φ₁ := .bf16) (φ₂ := .bf16) (bent Y H D)
    (shapeCast S1024x2048 W shapeCasts_S1x1024x2048_S1024x2048) (constant S512x2048 .f32 0x00000000#32) none j k).trans ?_
  have h0 : (constant (F := Ideal) S512x2048 .f32 0x00000000#32) (ix2 j k) = (0 : EReal) := Ideal.ofBits_zero_f32
  rw [h0, zero_add]
  exact Finset.sum_congr rfl fun i _ => congrArg₂ (· * ·) (congrArg gelu (skipped_apply Y H D j i)) (cast_tile W _ i k)

theorem pay2_eq : k0_pay2 Y D H W B = fun y => into Y H D W y + broadcastTo S512x2048 (shapeCast S1x2048 B shapeCasts_S1x2048_S1x2048) broadcasts_S1x2048_S512x2048 y := rfl

/-- A row of a tile by the weights, with its addend. -/
def tileProj (j : Fin 512) (k : Fin 2048) : EReal :=
  ∑ i : Fin 1024, gelu (Y (ix3 (0 : Fin 1) j i) + D (ix2 (0 : Fin 1) i) * H (ix3 (0 : Fin 1) j i)) * W (ix3 (0 : Fin 1) i k) + B (ix2 (0 : Fin 1) k)

theorem pay2_apply (j : Fin 512) (k : Fin 2048) : k0_pay2 Y D H W B (ix2 j k) = tileProj Y H D W B j k :=
  (congrFun (pay2_eq Y H D W B) _).trans (congrArg₂ (· + ·) (into_apply Y H D W j k)
    ((row_apply _ broadcasts_S1x2048_S512x2048 j k).trans (congrFun (shapeCast_self _ _) _)))

theorem pay3_apply (j : Fin 512) (l : Fin 1024) : k0_pay3 Y D H W B (ix2 j l) = tileProj Y H D W B j (lo l) :=
  (extractStridedSlice_apply _ (k0_pay2 Y D H W B) slices_S512x2048_o0_0_S512x1024 (ix2 j l) (ix2 j (lo l)) fun a => by
    match a with
    | ⟨0, _⟩ => exact (Nat.zero_add _).symm
    | ⟨1, _⟩ => exact (Nat.zero_add _).symm).trans (pay2_apply Y H D W B j (lo l))

/-- The second half of the columns. -/
def gates : S512x1024.Idx → EReal := extractStridedSlice S512x1024 ![0, 1024] (k0_pay2 Y D H W B) slices_S512x2048_o0_1024_S512x1024

theorem gates_apply (j : Fin 512) (l : Fin 1024) : gates Y H D W B (ix2 j l) = tileProj Y H D W B j (hi l) :=
  (extractStridedSlice_apply _ (k0_pay2 Y D H W B) slices_S512x2048_o0_1024_S512x1024 (ix2 j l) (ix2 j (hi l)) fun a => by
    match a with
    | ⟨0, _⟩ => exact (Nat.zero_add _).symm
    | ⟨1, _⟩ => rfl).trans (pay2_apply Y H D W B j (hi l))

theorem pay4_apply (j : Fin 512) (l : Fin 1024) : k0_pay4 Y D H W B (ix2 j l) = Ideal.exp (-tileProj Y H D W B j (hi l)) := by
  show Ideal.exp (Ideal.ofBits .f32 0x00000000#32 - gates Y H D W B (ix2 j l)) = _
  rw [gates_apply, Ideal.ofBits_zero_f32, zero_sub]

/-- The first payload, over any values and gates. -/
theorem pay6_apply (V E : FVec Ideal S512x1024 .f32) (j : Fin 512) (l : Fin 1024) : k0_pay6 V E k0_pay5 X A (ix2 j l)
    = X (ix3 (0 : Fin 1) j l) + A (ix3 (0 : Fin 1) (0 : Fin 1) l)
      * (V (ix2 j l) * Ideal.div (Ideal.ofBits .f32 0x3F800000#32) (Ideal.ofBits .f32 0x3F800000#32 + E (ix2 j l))) := by
  unfold k0_pay6
  exact congrArg₂ (· + ·) (cast_tile X _ j l) (congrArg₂ (· * ·) ((row_apply _ broadcasts_S1x1024_S512x1024 j l).trans (dropUnits_apply A _ l)) rfl)

/-- The second, over any first. -/
theorem pay11_apply (V E U : FVec Ideal S512x1024 .f32) (j : Fin 512) (l : Fin 1024) : k0_pay11 (k0_pay8 V E U X A N R) (k0_pay9 S) (ix3 (0 : Fin 1) j l)
    = k0_pay6 V E U X A (ix2 j l) * scale (fun i => k0_pay6 V E U X A (ix2 j i)) * N (ix2 (0 : Fin 1) l) * (Ideal.ofBits .f32 0x3F800000#32 + R (ix3 (0 : Fin 1) (0 : Fin 1) l))
      + S (ix3 (0 : Fin 1) (0 : Fin 1) l) := by
  unfold k0_pay11 k0_pay10 k0_pay8 k0_pay9
  refine (tile_cast _ shapeCasts_S512x1024_S1x512x1024 j l).trans ?_
  refine congrArg₂ (· + ·) (congrArg₂ (· * ·) (congrArg₂ (· * ·)
      (ker_unit (k0_pay6 V E U X A) reduces_S512x1024_S512 (.inl rfl) rfl shapeCasts_S512_S512x1 broadcasts_S512x1_S512x1024 j l)
      ((row_apply _ broadcasts_S1x1024_S512x1024 j l).trans (congrFun (shapeCast_self _ _) _)))
      ((row_apply (addf (broadcast S1x1024 (Scalar.ofBits (F := Ideal) .f32 0x3F800000#32)) (shapeCast S1x1024 R shapeCasts_S1x1x1024_S1x1024)) broadcasts_S1x1024_S512x1024 j l).trans
        (congrArg (Ideal.ofBits .f32 0x3F800000#32 + ·) (dropUnits_apply R _ l))))
    ((row_apply _ broadcasts_S1x1024_S512x1024 j l).trans (dropUnits_apply S _ l))

end Body

section Blocks

variable (m : (ℓ : Loc nD τ sig) → Buf (Elt Ideal) ℓ) (ρ : Dev nD → PrngReg)

/-- Which block of its array each window is at. -/
theorem at0 : ∀ t : Fin cfg0.N, win0_0.index t (0 : Fin 3) = t.val / 8 ∧ win0_0.index t (1 : Fin 3) = t.val % 8 ∧ win0_0.index t (2 : Fin 3) = 0 := (by decide +kernel : ∀ t : Fin grid0.N, _)
theorem at1 : ∀ t : Fin cfg0.N, win0_1.index t (0 : Fin 3) = t.val / 8 ∧ win0_1.index t (1 : Fin 3) = t.val % 8 ∧ win0_1.index t (2 : Fin 3) = 0 := (by decide +kernel : ∀ t : Fin grid0.N, _)
theorem at2 : ∀ t : Fin cfg0.N, win0_2.index t (0 : Fin 3) = t.val / 8 ∧ win0_2.index t (1 : Fin 3) = t.val % 8 ∧ win0_2.index t (2 : Fin 3) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 3) = 0 ∧ win0_4.index t (1 : Fin 3) = 0 ∧ win0_4.index t (2 : Fin 3) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 3) = t.val / 8 ∧ win0_6.index t (1 : Fin 3) = 0 ∧ win0_6.index t (2 : Fin 3) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)
theorem at8 : ∀ t : Fin cfg0.N, win0_8.index t (0 : Fin 3) = t.val / 8 ∧ win0_8.index t (1 : Fin 3) = 0 ∧ win0_8.index t (2 : Fin 3) = 0 := (by decide +kernel : ∀ t : Fin grid0.N, _)
theorem at9 : ∀ t : Fin cfg0.N, win0_9.index t (0 : Fin 3) = t.val / 8 ∧ win0_9.index t (1 : Fin 3) = 0 ∧ win0_9.index t (2 : Fin 3) = 0 := (by decide +kernel : ∀ t : Fin grid0.N, _)
theorem at12 : ∀ t : Fin cfg0.N, win0_12.index t (0 : Fin 3) = t.val / 8 ∧ win0_12.index t (1 : Fin 3) = t.val % 8 ∧ win0_12.index t (2 : Fin 3) = 0 := (by decide +kernel : ∀ t : Fin grid0.N, _)
theorem at13 : ∀ t : Fin cfg0.N, win0_13.index t (0 : Fin 3) = t.val / 8 ∧ win0_13.index t (1 : Fin 3) = t.val % 8 ∧ win0_13.index t (2 : Fin 3) = 0 := (by decide +kernel : ∀ t : Fin grid0.N, _)

theorem lt128 (t : Fin cfg0.N) : t.val < 128 := t.isLt

/-- The sequence a tile is of, and the place in it of a tile's row. -/
def seqAt (t : Fin cfg0.N) : Fin 16 := ⟨t.val / 8, by have := lt128 t; omega⟩
def posAt (t : Fin cfg0.N) (j : Fin 512) : Fin 4096 := ⟨t.val % 8 * 512 + j.val, by have := lt128 t; omega⟩

/-- A row of addends with its unit axis. -/
theorem biasCast_apply {α : Type} (x : S2048.Idx → α) (h : S2048.ShapeCasts S1x2048) (k : Fin 2048) : shapeCast S1x2048 x h (ix2 (0 : Fin 1) k) = x (ix1 k) := by
  refine shapeCast_apply _ _ _ _ ?_
  rw [Shape.rowMajor_val_one, Shape.rowMajor_val_two]
  show k.val = 0 * 2048 + k.val
  omega

theorem V_weights (c : Dev nD) : (V m c main_v0 : S2x1024x2048.Idx → EReal) = m ((c : Thread nD τ).loc main_arg4) := by
  show Idealize.ShloMosaic.StableHlo.after hostOps0 _ main_v0 = _
  simp only [hostOps0]
  after_results_simp
  rfl
theorem V_skip (c : Dev nD) : (V m c main_v14 : S1x1024.Idx → EReal) = shapeCast S1x1024 (m ((c : Thread nD τ).loc main_arg3)) shapeCasts_S1024_S1x1024 := by
  show Idealize.ShloMosaic.StableHlo.after hostOps0 _ main_v14 = _
  simp only [hostOps0]
  after_results_simp
  rfl
theorem V_bias (c : Dev nD) : (V m c main_v15 : S1x2048.Idx → EReal) = shapeCast S1x2048 (m ((c : Thread nD τ).loc main_arg5)) shapeCasts_S2048_S1x2048 := by
  show Idealize.ShloMosaic.StableHlo.after hostOps0 _ main_v15 = _
  simp only [hostOps0]
  after_results_simp
  rfl
theorem V_mix (c : Dev nD) : (V m c main_v16 : S16x1x1024.Idx → EReal) = shapeCast S16x1x1024 (m ((c : Thread nD τ).loc main_arg6)) shapeCasts_S16x1024_S16x1x1024 := by
  show Idealize.ShloMosaic.StableHlo.after hostOps0 _ main_v16 = _
  simp only [hostOps0]
  after_results_simp
  rfl
theorem V_norm (c : Dev nD) : (V m c main_v17 : S1x1024.Idx → EReal) = shapeCast S1x1024 (m ((c : Thread nD τ).loc main_arg7)) shapeCasts_S1024_S1x1024 := by
  show Idealize.ShloMosaic.StableHlo.after hostOps0 _ main_v17 = _
  simp only [hostOps0]
  after_results_simp
  rfl
theorem V_shift (c : Dev nD) : (V m c main_v18 : S16x1x1024.Idx → EReal) = shapeCast S16x1x1024 (m ((c : Thread nD τ).loc main_arg8)) shapeCasts_S16x1024_S16x1x1024 := by
  show Idealize.ShloMosaic.StableHlo.after hostOps0 _ main_v18 = _
  simp only [hostOps0]
  after_results_simp
  rfl
theorem V_scale (c : Dev nD) : (V m c main_v19 : S16x1x1024.Idx → EReal) = shapeCast S16x1x1024 (m ((c : Thread nD τ).loc main_arg9)) shapeCasts_S16x1024_S16x1x1024 := by
  show Idealize.ShloMosaic.StableHlo.after hostOps0 _ main_v19 = _
  simp only [hostOps0]
  after_results_simp
  rfl

theorem block0 (c : Dev nD) (t : Fin cfg0.N) (j : Fin 512) (l : Fin 1024) :
    iblk m c 0 t (ix3 (0 : Fin 1) j l) = m ((c : Thread nD τ).loc main_arg0) (ix3 (seqAt t) (posAt t j) l) := by
  obtain ⟨e0, e1, e2⟩ := at0 t
  refine (show iblk m c 0 t (ix3 (0 : Fin 1) j l) = V m c main_arg0 (((cfg0.win 0).blk t).view.emb (ix3 (0 : Fin 1) j l)) from rfl).trans ?_
  rw [V_main_arg0]
  refine congrArg _ (funext fun a => Fin.ext ?_)
  match a with
  | ⟨0, _⟩ => show win0_0.index t (0 : Fin 3) * 1 + 1 * 0 = t.val / 8; omega
  | ⟨1, _⟩ => show win0_0.index t (1 : Fin 3) * 512 + 1 * j.val = t.val % 8 * 512 + j.val; omega
  | ⟨2, _⟩ => show win0_0.index t (2 : Fin 3) * 1024 + 1 * l.val = l.val; omega

theorem block1 (c : Dev nD) (t : Fin cfg0.N) (j : Fin 512) (l : Fin 1024) :
    iblk m c 1 t (ix3 (0 : Fin 1) j l) = m ((c : Thread nD τ).loc main_arg1) (ix3 (seqAt t) (posAt t j) l) := by
  obtain ⟨e0, e1, e2⟩ := at1 t
  refine (show iblk m c 1 t (ix3 (0 : Fin 1) j l) = V m c main_arg1 (((cfg0.win 1).blk t).view.emb (ix3 (0 : Fin 1) j l)) from rfl).trans ?_
  rw [V_main_arg1]
  refine congrArg _ (funext fun a => Fin.ext ?_)
  match a with
  | ⟨0, _⟩ => show win0_1.index t (0 : Fin 3) * 1 + 1 * 0 = t.val / 8; omega
  | ⟨1, _⟩ => show win0_1.index t (1 : Fin 3) * 512 + 1 * j.val = t.val % 8 * 512 + j.val; omega
  | ⟨2, _⟩ => show win0_1.index t (2 : Fin 3) * 1024 + 1 * l.val = l.val; omega

theorem block2 (c : Dev nD) (t : Fin cfg0.N) (j : Fin 512) (l : Fin 1024) :
    iblk m c 2 t (ix3 (0 : Fin 1) j l) = m ((c : Thread nD τ).loc main_arg2) (ix3 (seqAt t) (posAt t j) l) := by
  obtain ⟨e0, e1, e2⟩ := at2 t
  refine (show iblk m c 2 t (ix3 (0 : Fin 1) j l) = V m c main_arg2 (((cfg0.win 2).blk t).view.emb (ix3 (0 : Fin 1) j l)) from rfl).trans ?_
  rw [V_main_arg2]
  refine congrArg _ (funext fun a => Fin.ext ?_)
  match a with
  | ⟨0, _⟩ => show win0_2.index t (0 : Fin 3) * 1 + 1 * 0 = t.val / 8; omega
  | ⟨1, _⟩ => show win0_2.index t (1 : Fin 3) * 512 + 1 * j.val = t.val % 8 * 512 + j.val; omega
  | ⟨2, _⟩ => show win0_2.index t (2 : Fin 3) * 1024 + 1 * l.val = l.val; omega

theorem block4 (c : Dev nD) (t : Fin cfg0.N) (i : Fin 1024) (k : Fin 2048) :
    iblk m c 4 t (ix3 (0 : Fin 1) i k) = m ((c : Thread nD τ).loc main_arg4) (ix3 (0 : Fin 2) i k) := by
  obtain ⟨e0, e1, e2⟩ := at4 t
  refine (show iblk m c 4 t (ix3 (0 : Fin 1) i k) = V m c main_v0 (((cfg0.win 4).blk t).view.emb (ix3 (0 : Fin 1) i k)) from rfl).trans ?_
  refine (congrFun (V_weights m c) _).trans (congrArg _ (funext fun a => Fin.ext ?_))
  match a with
  | ⟨0, _⟩ => show win0_4.index t (0 : Fin 3) * 1 + 1 * 0 = 0; omega
  | ⟨1, _⟩ => show win0_4.index t (1 : Fin 3) * 1024 + 1 * i.val = i.val; omega
  | ⟨2, _⟩ => show win0_4.index t (2 : Fin 3) * 2048 + 1 * k.val = k.val; omega

theorem block3 (c : Dev nD) (t : Fin cfg0.N) (l : Fin 1024) :
    iblk m c 3 t (ix2 (0 : Fin 1) l) = m ((c : Thread nD τ).loc main_arg3) (ix1 l) := by
  obtain ⟨e0, e1⟩ := at3 t
  have e : ((cfg0.win 3).blk t).view.emb (ix2 (0 : Fin 1) l) = ix2 (0 : Fin 1) l := by
    funext a; apply Fin.ext
    match a with
    | ⟨0, _⟩ => show win0_3.index t (0 : Fin 2) * 1 + 1 * 0 = 0; omega
    | ⟨1, _⟩ => show win0_3.index t (1 : Fin 2) * 1024 + 1 * l.val = l.val; omega
  refine (show iblk m c 3 t (ix2 (0 : Fin 1) l) = V m c main_v14 (((cfg0.win 3).blk t).view.emb (ix2 (0 : Fin 1) l)) from rfl).trans ?_
  rw [e]
  exact (congrFun (V_skip m c) _).trans (rowCast_apply _ _ _)

theorem block5 (c : Dev nD) (t : Fin cfg0.N) (l : Fin 2048) :
    iblk m c 5 t (ix2 (0 : Fin 1) l) = m ((c : Thread nD τ).loc main_arg5) (ix1 l) := by
  obtain ⟨e0, e1⟩ := at5 t
  have e : ((cfg0.win 5).blk t).view.emb (ix2 (0 : Fin 1) l) = ix2 (0 : Fin 1) l := by
    funext a; apply Fin.ext
    match a with
    | ⟨0, _⟩ => show win0_5.index t (0 : Fin 2) * 1 + 1 * 0 = 0; omega
    | ⟨1, _⟩ => show win0_5.index t (1 : Fin 2) * 2048 + 1 * l.val = l.val; omega
  refine (show iblk m c 5 t (ix2 (0 : Fin 1) l) = V m c main_v15 (((cfg0.win 5).blk t).view.emb (ix2 (0 : Fin 1) l)) from rfl).trans ?_
  rw [e]
  exact (congrFun (V_bias m c) _).trans (biasCast_apply _ _ _)

theorem block7 (c : Dev nD) (t : Fin cfg0.N) (l : Fin 1024) :
    iblk m c 7 t (ix2 (0 : Fin 1) l) = m ((c : Thread nD τ).loc main_arg7) (ix1 l) := by
  obtain ⟨e0, e1⟩ := at7 t
  have e : ((cfg0.win 7).blk t).view.emb (ix2 (0 : Fin 1) l) = ix2 (0 : Fin 1) l := by
    funext a; apply Fin.ext
    match a with
    | ⟨0, _⟩ => show win0_7.index t (0 : Fin 2) * 1 + 1 * 0 = 0; omega
    | ⟨1, _⟩ => show win0_7.index t (1 : Fin 2) * 1024 + 1 * l.val = l.val; omega
  refine (show iblk m c 7 t (ix2 (0 : Fin 1) l) = V m c main_v17 (((cfg0.win 7).blk t).view.emb (ix2 (0 : Fin 1) l)) from rfl).trans ?_
  rw [e]
  exact (congrFun (V_norm m c) _).trans (rowCast_apply _ _ _)

theorem block6 (c : Dev nD) (t : Fin cfg0.N) (l : Fin 1024) :
    iblk m c 6 t (ix3 (0 : Fin 1) (0 : Fin 1) l) = m ((c : Thread nD τ).loc main_arg6) (ix2 (seqAt t) l) := by
  obtain ⟨e0, e1, e2⟩ := at6 t
  have e : ((cfg0.win 6).blk t).view.emb (ix3 (0 : Fin 1) (0 : Fin 1) l) = ix3 (seqAt t) (0 : Fin 1) l := by
    funext a; apply Fin.ext
    match a with
    | ⟨0, _⟩ => show win0_6.index t (0 : Fin 3) * 1 + 1 * 0 = t.val / 8; omega
    | ⟨1, _⟩ => show win0_6.index t (1 : Fin 3) * 1 + 1 * 0 = 0; omega
    | ⟨2, _⟩ => show win0_6.index t (2 : Fin 3) * 1024 + 1 * l.val = l.val; omega
  refine (show iblk m c 6 t (ix3 (0 : Fin 1) (0 : Fin 1) l) = V m c main_v16 (((cfg0.win 6).blk t).view.emb (ix3 (0 : Fin 1) (0 : Fin 1) l)) from rfl).trans ?_
  rw [e]
  exact (congrFun (V_mix m c) _).trans (seqCast_apply _ _ _ _)

theorem block8 (c : Dev nD) (t : Fin cfg0.N) (l : Fin 1024) :
    iblk m c 8 t (ix3 (0 : Fin 1) (0 : Fin 1) l) = m ((c : Thread nD τ).loc main_arg8) (ix2 (seqAt t) l) := by
  obtain ⟨e0, e1, e2⟩ := at8 t
  have e : ((cfg0.win 8).blk t).view.emb (ix3 (0 : Fin 1) (0 : Fin 1) l) = ix3 (seqAt t) (0 : Fin 1) l := by
    funext a; apply Fin.ext
    match a with
    | ⟨0, _⟩ => show win0_8.index t (0 : Fin 3) * 1 + 1 * 0 = t.val / 8; omega
    | ⟨1, _⟩ => show win0_8.index t (1 : Fin 3) * 1 + 1 * 0 = 0; omega
    | ⟨2, _⟩ => show win0_8.index t (2 : Fin 3) * 1024 + 1 * l.val = l.val; omega
  refine (show iblk m c 8 t (ix3 (0 : Fin 1) (0 : Fin 1) l) = V m c main_v18 (((cfg0.win 8).blk t).view.emb (ix3 (0 : Fin 1) (0 : Fin 1) l)) from rfl).trans ?_
  rw [e]
  exact (congrFun (V_shift m c) _).trans (seqCast_apply _ _ _ _)

theorem block9 (c : Dev nD) (t : Fin cfg0.N) (l : Fin 1024) :
    iblk m c 9 t (ix3 (0 : Fin 1) (0 : Fin 1) l) = m ((c : Thread nD τ).loc main_arg9) (ix2 (seqAt t) l) := by
  obtain ⟨e0, e1, e2⟩ := at9 t
  have e : ((cfg0.win 9).blk t).view.emb (ix3 (0 : Fin 1) (0 : Fin 1) l) = ix3 (seqAt t) (0 : Fin 1) l := by
    funext a; apply Fin.ext
    match a with
    | ⟨0, _⟩ => show win0_9.index t (0 : Fin 3) * 1 + 1 * 0 = t.val / 8; omega
    | ⟨1, _⟩ => show win0_9.index t (1 : Fin 3) * 1 + 1 * 0 = 0; omega
    | ⟨2, _⟩ => show win0_9.index t (2 : Fin 3) * 1024 + 1 * l.val = l.val; omega
  refine (show iblk m c 9 t (ix3 (0 : Fin 1) (0 : Fin 1) l) = V m c main_v19 (((cfg0.win 9).blk t).view.emb (ix3 (0 : Fin 1) (0 : Fin 1) l)) from rfl).trans ?_
  rw [e]
  exact (congrFun (V_scale m c) _).trans (seqCast_apply _ _ _ _)

/-- The results as functions of the arguments. -/
def first (c : Dev nD) : S16x4096x1024.Idx → EReal := fun y =>
  fed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) (y 2)
def second (c : Dev nD) : S16x4096x1024.Idx → EReal := fun y =>
  modulated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (y 0) (y 1) (y 2)

theorem hz2 : (![0, 0] : Fin 2 → ℕ) = fun _ => 0 := by funext a; match a with | 0 => rfl | 1 => rfl
theorem hz3 : (![0, 0, 0] : Fin 3 → ℕ) = fun _ => 0 := by funext a; match a with | 0 => rfl | 1 => rfl | 2 => rfl

/-- A load of a whole block is the block. -/
theorem ld_tile {φ : EltTy} (x : Vec Ideal S1x512x1024 φ) : View.ld x r0_0 = x := View.ld_unit_zero hz3 _ x
theorem ld_row (x : Vec Ideal S1x1024 .f32) : View.ld x r0_1 = x := View.ld_unit_zero hz2 _ x
theorem ld_weights (x : Vec Ideal S1x1024x2048 .bf16) : View.ld x r0_2 = x := View.ld_unit_zero hz3 _ x
theorem ld_bias (x : Vec Ideal S1x2048 .f32) : View.ld x r0_3 = x := View.ld_unit_zero hz2 _ x
theorem ld_unit (x : Vec Ideal S1x1x1024 .f32) : View.ld x r0_4 = x := View.ld_unit_zero hz3 _ x

/-- What a point leaves is the payloads of the blocks. -/
theorem out12_eq (x0 x1 : Vec Ideal S1x512x1024 .bf16) (x2 : Vec Ideal S1x512x1024 .f32) (x3 : Vec Ideal S1x1024 .f32) (x4 : Vec Ideal S1x1024x2048 .bf16) (x5 : Vec Ideal S1x2048 .f32)
    (x6 : Vec Ideal S1x1x1024 .f32) (x7 : Vec Ideal S1x1024 .f32) (x8 x9 : Vec Ideal S1x1x1024 .f32) (x10 : Vec Ideal S1024x256 .bf16) (x11 : Vec Ideal S1x128 .f32) :
    out0_12 x0 x1 x2 x3 x4 x5 x6 x7 x8 x9 x10 x11 = k0_pay7 (k0_pay3 x0 x3 x1 x4 x5) (k0_pay4 x0 x3 x1 x4 x5) k0_pay5 x2 x6 := by
  unfold out0_12 k0_pay18 k0_pay19 k0_pay20
  rw [View.canon_unit_zero hz3]
  rw [ld_tile x0, ld_row x3, ld_tile x1, ld_weights x4, ld_bias x5, ld_tile x2, ld_unit x6]

theorem out13_eq (x0 x1 : Vec Ideal S1x512x1024 .bf16) (x2 : Vec Ideal S1x512x1024 .f32) (x3 : Vec Ideal S1x1024 .f32) (x4 : Vec Ideal S1x1024x2048 .bf16) (x5 : Vec Ideal S1x2048 .f32)
    (x6 : Vec Ideal S1x1x1024 .f32) (x7 : Vec Ideal S1x1024 .f32) (x8 x9 : Vec Ideal S1x1x1024 .f32) (x10 : Vec Ideal S1024x256 .bf16) (x11 : Vec Ideal S1x128 .f32) :
    out0_13 x0 x1 x2 x3 x4 x5 x6 x7 x8 x9 x10 x11 = k0_pay11 (k0_pay8 (k0_pay3 x0 x3 x1 x4 x5) (k0_pay4 x0 x3 x1 x4 x5) k0_pay5 x2 x6 x7 x9) (k0_pay9 x8) := by
  unfold out0_13 k0_pay21 k0_pay22 k0_pay18 k0_pay19 k0_pay20
  rw [View.canon_unit_zero hz3]
  rw [ld_tile x0, ld_row x3, ld_tile x1, ld_weights x4, ld_bias x5, ld_tile x2, ld_unit x6, ld_row x7, ld_unit x9, ld_unit x8]

theorem proj_block (c : Dev nD) (t : Fin cfg0.N) (j : Fin 512) (k : Fin 2048) :
    tileProj (iblk m c 0 t) (iblk m c 1 t) (iblk m c 3 t) (iblk m c 4 t) (iblk m c 5 t) j k
      = proj (m ((c : Thread nD τ).loc main_arg0)) (m ((c : Thread nD τ).loc main_arg1)) (m ((c : Thread nD τ).loc main_arg3)) (m ((c : Thread nD τ).loc main_arg4)) (m ((c : Thread nD τ).loc main_arg5)) (seqAt t) (posAt t j) k := by
  unfold tileProj proj
  rw [block5]
  simp only [block0, block1, block3, block4]

theorem pay6_block (c : Dev nD) (t : Fin cfg0.N) (j : Fin 512) (l : Fin 1024) :
    k0_pay6 (k0_pay3 (iblk m c 0 t) (iblk m c 3 t) (iblk m c 1 t) (iblk m c 4 t) (iblk m c 5 t)) (k0_pay4 (iblk m c 0 t) (iblk m c 3 t) (iblk m c 1 t) (iblk m c 4 t) (iblk m c 5 t)) k0_pay5 (iblk m c 2 t) (iblk m c 6 t) (ix2 j l)
      = fed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (seqAt t) (posAt t j) l := by
  rw [pay6_apply, pay3_apply, pay4_apply, proj_block, proj_block, block2, block6]
  rfl

theorem emb12 (t : Fin cfg0.N) (j : Fin 512) (l : Fin 1024) : ((cfg0.win 12).blk t).view.emb (ix3 (0 : Fin 1) j l) = ix3 (seqAt t) (posAt t j) l := by
  obtain ⟨e0, e1, e2⟩ := at12 t
  funext a; apply Fin.ext
  match a with
  | ⟨0, _⟩ => show win0_12.index t (0 : Fin 3) * 1 + 1 * 0 = t.val / 8; omega
  | ⟨1, _⟩ => show win0_12.index t (1 : Fin 3) * 512 + 1 * j.val = t.val % 8 * 512 + j.val; omega
  | ⟨2, _⟩ => show win0_12.index t (2 : Fin 3) * 1024 + 1 * l.val = l.val; omega

theorem emb13 (t : Fin cfg0.N) (j : Fin 512) (l : Fin 1024) : ((cfg0.win 13).blk t).view.emb (ix3 (0 : Fin 1) j l) = ix3 (seqAt t) (posAt t j) l := by
  obtain ⟨e0, e1, e2⟩ := at13 t
  funext a; apply Fin.ext
  match a with
  | ⟨0, _⟩ => show win0_13.index t (0 : Fin 3) * 1 + 1 * 0 = t.val / 8; omega
  | ⟨1, _⟩ => show win0_13.index t (1 : Fin 3) * 512 + 1 * j.val = t.val % 8 * 512 + j.val; omega
  | ⟨2, _⟩ => show win0_13.index t (2 : Fin 3) * 1024 + 1 * l.val = l.val; omega

/-- An index of a tile. -/
theorem tile_ix (y : S1x512x1024.Idx) : ∃ (j : Fin 512) (l : Fin 1024), y = ix3 (0 : Fin 1) j l := by
  refine ⟨y 1, y 2, funext fun a => ?_⟩
  match a with
  | ⟨0, _⟩ => exact Fin.ext (by have h : (y 0).val < 1 := (y 0).isLt; show (y 0).val = 0; omega)
  | ⟨1, _⟩ => rfl
  | ⟨2, _⟩ => rfl

theorem flushed12_eq (c : Dev nD) (t : Fin cfg0.N) : (dats m 0 c).flushed 12 t = ((cfg0.win 12).blk t).view.read (Elt Ideal) (first m c) := by
  rw [Value.flushed12, out12_eq]
  funext y
  obtain ⟨j, l, rfl⟩ := tile_ix y
  show k0_pay7 (k0_pay3 (iblk m c 0 t) (iblk m c 3 t) (iblk m c 1 t) (iblk m c 4 t) (iblk m c 5 t)) (k0_pay4 (iblk m c 0 t) (iblk m c 3 t) (iblk m c 1 t) (iblk m c 4 t) (iblk m c 5 t)) k0_pay5 (iblk m c 2 t) (iblk m c 6 t) (ix3 (0 : Fin 1) j l)
    = first m c (((cfg0.win 12).blk t).view.emb (ix3 (0 : Fin 1) j l))
  rw [emb12]
  exact (tile_cast (k0_pay6 (k0_pay3 (iblk m c 0 t) (iblk m c 3 t) (iblk m c 1 t) (iblk m c 4 t) (iblk m c 5 t)) (k0_pay4 (iblk m c 0 t) (iblk m c 3 t) (iblk m c 1 t) (iblk m c 4 t) (iblk m c 5 t)) k0_pay5 (iblk m c 2 t) (iblk m c 6 t)) shapeCasts_S512x1024_S1x512x1024 j l).trans
    (pay6_block m c t j l)

theorem flushed13_eq (c : Dev nD) (t : Fin cfg0.N) : (dats m 0 c).flushed 13 t = ((cfg0.win 13).blk t).view.read (Elt Ideal) (second m c) := by
  rw [Value.flushed13, out13_eq]
  funext y
  obtain ⟨j, l, rfl⟩ := tile_ix y
  show k0_pay11 (k0_pay8 (k0_pay3 (iblk m c 0 t) (iblk m c 3 t) (iblk m c 1 t) (iblk m c 4 t) (iblk m c 5 t)) (k0_pay4 (iblk m c 0 t) (iblk m c 3 t) (iblk m c 1 t) (iblk m c 4 t) (iblk m c 5 t)) k0_pay5 (iblk m c 2 t) (iblk m c 6 t) (iblk m c 7 t) (iblk m c 9 t)) (k0_pay9 (iblk m c 8 t)) (ix3 (0 : Fin 1) j l)
    = second m c (((cfg0.win 13).blk t).view.emb (ix3 (0 : Fin 1) j l))
  rw [emb13, pay11_apply, block7, block8, block9]
  simp only [pay6_block]
  rfl

/-- Every entry is some point's. -/
theorem reached (b : Fin 16) (s : Fin 4096) : ∃ (t : Fin cfg0.N) (j : Fin 512), seqAt t = b ∧ posAt t j = s := by
  have hb := b.isLt
  have hs := s.isLt
  refine ⟨(⟨b.val * 8 + s.val / 512, by show _ < 128; omega⟩ : Fin cfg0.N), ⟨s.val % 512, by omega⟩, Fin.ext ?_, Fin.ext ?_⟩
  · show (b.val * 8 + s.val / 512) / 8 = b.val
    omega
  · show (b.val * 8 + s.val / 512) % 8 * 512 + s.val % 512 = s.val
    omega

theorem covered12 (i : S16x4096x1024.Idx) : ∃ t : Fin cfg0.N, (cfg0.win 12).flush t = true ∧ i ∈ ((cfg0.win 12).blk t).view.set := by
  obtain ⟨b, s, l, rfl⟩ : ∃ (b : Fin 16) (s : Fin 4096) (l : Fin 1024), i = ix3 b s l := ⟨i 0, i 1, i 2, ValueIdx.eq_ix3 i⟩
  obtain ⟨t, j, rfl, rfl⟩ := reached b s
  have h := ((cfg0.win 12).blk t).view.emb_mem_set (ix3 (0 : Fin 1) j l)
  rw [emb12] at h
  exact ⟨t, flush0_12 t, h⟩

theorem covered13 (i : S16x4096x1024.Idx) : ∃ t : Fin cfg0.N, (cfg0.win 13).flush t = true ∧ i ∈ ((cfg0.win 13).blk t).view.set := by
  obtain ⟨b, s, l, rfl⟩ : ∃ (b : Fin 16) (s : Fin 4096) (l : Fin 1024), i = ix3 b s l := ⟨i 0, i 1, i 2, ValueIdx.eq_ix3 i⟩
  obtain ⟨t, j, rfl, rfl⟩ := reached b s
  have h := ((cfg0.win 13).blk t).view.emb_mem_set (ix3 (0 : Fin 1) j l)
  rw [emb13] at h
  exact ⟨t, flush0_13 t, h⟩

theorem final12 (c : Dev nD) : (dats m 0 c).arrAt 12 cfg0.N = first m c :=
  (dats m 0 c).arrAt_eq_of_cover 12 (first m c) (fun t _ => flushed12_eq m c t) covered12
theorem final13 (c : Dev nD) : (dats m 0 c).arrAt 13 cfg0.N = second m c :=
  (dats m 0 c).arrAt_eq_of_cover 13 (second m c) (fun t _ => flushed13_eq m c t) covered13

end Blocks

end Cert.Glu

end
-- ==== Proof.GluValue.lean ====
/- The state-space layer's output projection: its kernel's results are its reference's, over the extended reals. -/
module

public import proofs.«01_k».proof.Defs
public import proofs.«01_k».proof.Proof.Glu
public import proofs.«01_k».proof.Proof.Gen.Reference4Ideal.Run

@[expose] public section

noncomputable section

namespace Cert.Glu

open Cert.Experts
open Idealize.SL.Sem
open Idealize.ShloMosaic hiding ix1 ix2 ix3 ix4
open Idealize.ShloMosaic.TcCoe Idealize.ShloMosaic.ValueIdx Idealize.ShloMosaic.Routing

/-- The two ways of placing the half in the rectifier agree. -/
theorem gelu_comm (x : EReal) : x * (Ideal.ofBits .f32 0x3F000000#32 * (Ideal.ofBits .f32 0x3F800000#32
    + Ideal.tanh (Ideal.ofBits .f32 0x3F4C422A#32 * (x + Ideal.ofBits .f32 0x3D372713#32 * (x * x * x))))) = gelu x := by
  unfold gelu
  rw [← mul_assoc, mul_comm x]

namespace Ref

open Cert.Reference4Ideal Cert.Reference4Ideal.Gen

/-- The reference's product at an entry. -/
theorem in_apply (x : FVec Ideal S16x4096x1024 .f32) (w : FVec Ideal S1024x2048 .f32) (b : Fin 16) (s : Fin 4096) (k : Fin 2048) :
    Host.dotGeneral dot_S16x4096x1024_S1024x2048_S16x4096x2048_2_0_01_1_n_n none x w (ix3 b s k) = ∑ i : Fin 1024, x (ix3 b s i) * w (ix2 i k) := by
  refine (Ideal.dotGeneral_apply dot_S16x4096x1024_S1024x2048_S16x4096x2048_2_0_01_1_n_n none _ x w (ix3 b s k)).trans (((dot_S16x4096x1024_S1024x2048_S16x4096x2048_2_0_01_1_n_n).sum_contr₁ (a := (2 : Fin 3)) rfl (K := 1024) rfl _).trans
    (Finset.sum_congr rfl fun i _ => congrArg₂ (· * ·) (congrArg x ?_) (congrArg w ?_)))
  · funext a; fin_cases a <;> rfl
  · funext a; fin_cases a <;> rfl

/-- The row of addends, for every row. -/
theorem addends_apply (x : FVec Ideal S2048 .f32) (b : Fin 16) (s : Fin 4096) (k : Fin 2048) :
    broadcastInDim S16x4096x2048 ![0, 1, 2] bcast_S1x1x2048_S16x4096x2048_0_1_2 (broadcastInDim S1x1x2048 ![2] bcast_S2048_S1x1x2048_2 x) (ix3 b s k) = x (ix1 k) :=
  (broadcastInDim_apply _ bcast_S1x1x2048_S16x4096x2048_0_1_2 _ _ (ix3 (0 : Fin 1) (0 : Fin 1) k) fun a => by match a with | 0 => rfl | 1 => rfl | 2 => rfl).trans
    (broadcastInDim_apply _ bcast_S2048_S1x1x2048_2 _ _ (ix1 k) fun a => by match a with | 0 => rfl)

variable (y h : FVec Ideal S16x4096x1024 .bf16) (x : FVec Ideal S16x4096x1024 .f32) (ds : FVec Ideal S1024 .f32) (w : FVec Ideal S2x1024x2048 .f32)
  (bi : FVec Ideal S2048 .f32) (gm : FVec Ideal S16x1024 .f32) (nw : FVec Ideal S1024 .f32) (sh sc : FVec Ideal S16x1024 .f32)

/-- The layer's weights. -/
def wide : FVec Ideal S1024x2048 .f32 :=
  shapeCast S1024x2048 (extractStridedSlice S1x1024x2048 ![0, 0, 0] w slices_S2x1024x2048_S1x1024x2048_0_0_0) shapeCasts_S1x1024x2048_S1024x2048

theorem wide_apply (i : Fin 1024) (k : Fin 2048) : wide w (ix2 i k) = w (ix3 (0 : Fin 2) i k) :=
  (cast_tile _ _ i k).trans (extractStridedSlice_apply _ _ _ _ _ fun a => by
    match a with
    | ⟨0, _⟩ => rfl
    | ⟨1, _⟩ => exact (Nat.zero_add _).symm
    | ⟨2, _⟩ => exact (Nat.zero_add _).symm)

/-- The rows with the skipped ones added, -/
def skipped : FVec Ideal S16x4096x1024 .f32 :=
  addf (extf .f32 y bitsLt_bf16_f32) (mulf (broadcastInDim S16x4096x1024 ![0, 1, 2] bcast_S1x1x1024_S16x4096x1024_0_1_2 (broadcastInDim S1x1x1024 ![2] bcast_S1024_S1x1x1024_2 ds))
    (extf .f32 h bitsLt_bf16_f32))

theorem skipped_apply (b : Fin 16) (s : Fin 4096) (i : Fin 1024) : skipped y h ds (ix3 b s i) = y (ix3 b s i) + ds (ix1 i) * h (ix3 b s i) :=
  congrArg (fun p : EReal => (y (ix3 b s i) : EReal) + p * (h (ix3 b s i) : EReal)) (forAll_apply ds _ _ b s i)

/-- rectified, over any rows, -/
def bent (U : FVec Ideal S16x4096x1024 .f32) : FVec Ideal S16x4096x1024 .f32 :=
  mulf U (mulf (broadcastInDim S16x4096x1024 ![] bcast_S_S16x4096x1024 (constant S_ .f32 0x3F000000#32))
    (addf (broadcastInDim S16x4096x1024 ![] bcast_S_S16x4096x1024 (constant S_ .f32 0x3F800000#32))
      (Host.tanh (mulf (broadcastInDim S16x4096x1024 ![] bcast_S_S16x4096x1024 (constant S_ .f32 0x3F4C422A#32))
        (addf U (mulf (broadcastInDim S16x4096x1024 ![] bcast_S_S16x4096x1024 (constant S_ .f32 0x3D372713#32)) (mulf (mulf U U) U)))))))

theorem bent_apply (U : FVec Ideal S16x4096x1024 .f32) (i : S16x4096x1024.Idx) : bent U i = gelu (U i) := gelu_comm (U i)

/-- by the weights, with the addends. -/
def into : FVec Ideal S16x4096x2048 .f32 :=
  addf (Host.dotGeneral dot_S16x4096x1024_S1024x2048_S16x4096x2048_2_0_01_1_n_n none (bent (skipped y h ds)) (wide w))
    (broadcastInDim S16x4096x2048 ![0, 1, 2] bcast_S1x1x2048_S16x4096x2048_0_1_2 (broadcastInDim S1x1x2048 ![2] bcast_S2048_S1x1x2048_2 bi))

theorem into_apply (b : Fin 16) (s : Fin 4096) (k : Fin 2048) : into y h ds w bi (ix3 b s k) = proj y h ds w bi b s k :=
  congrArg₂ (· + ·) ((in_apply _ _ b s k).trans (Finset.sum_congr rfl fun i _ => congrArg₂ (· * ·)
    ((bent_apply _ _).trans (congrArg gelu (skipped_apply y h ds b s i))) (wide_apply w i k))) (addends_apply bi b s k)

/-- The gated unit, over any such product. -/
def mixed (Z : FVec Ideal S16x4096x2048 .f32) : FVec Ideal S16x4096x1024 .f32 :=
  mulf (extractStridedSlice S16x4096x1024 ![0, 0, 0] Z slices_S16x4096x2048_S16x4096x1024_0_0_0)
    (Host.divf (broadcastInDim S16x4096x1024 ![] bcast_S_S16x4096x1024 (constant S_ .f32 0x3F800000#32))
      (addf (broadcastInDim S16x4096x1024 ![] bcast_S_S16x4096x1024 (constant S_ .f32 0x3F800000#32))
        (Host.exp (Host.negf (extractStridedSlice S16x4096x1024 ![0, 0, 1024] Z slices_S16x4096x2048_S16x4096x1024_0_0_1024)))))

theorem mixed_apply (Z : FVec Ideal S16x4096x2048 .f32) (b : Fin 16) (s : Fin 4096) (l : Fin 1024) :
    mixed Z (ix3 b s l) = Z (ix3 b s (lo l)) * gate (Z (ix3 b s (hi l))) :=
  congrArg₂ (fun p q => p * gate q)
    (extractStridedSlice_apply _ Z slices_S16x4096x2048_S16x4096x1024_0_0_0 (ix3 b s l) (ix3 b s (lo l)) fun a => by
      match a with
      | ⟨0, _⟩ => exact (Nat.zero_add _).symm
      | ⟨1, _⟩ => exact (Nat.zero_add _).symm
      | ⟨2, _⟩ => exact (Nat.zero_add _).symm)
    (extractStridedSlice_apply _ Z slices_S16x4096x2048_S16x4096x1024_0_0_1024 (ix3 b s l) (ix3 b s (hi l)) fun a => by
      match a with
      | ⟨0, _⟩ => exact (Nat.zero_add _).symm
      | ⟨1, _⟩ => exact (Nat.zero_add _).symm
      | ⟨2, _⟩ => rfl)

/-- The first result, as the reference writes it. -/
def first : FVec Ideal S16x4096x1024 .f32 :=
  addf x (mulf (broadcastInDim S16x4096x1024 ![0, 1, 2] bcast_S16x1x1024_S16x4096x1024_0_1_2 (broadcastInDim S16x1x1024 ![0, 2] bcast_S16x1024_S16x1x1024_0_2 gm))
    (mixed (into y h ds w bi)))

theorem first_apply (b : Fin 16) (s : Fin 4096) (l : Fin 1024) : first y h x ds w bi gm (ix3 b s l) = fed y h x ds w bi gm b s l :=
  congrArg (x (ix3 b s l) + ·) (congrArg₂ (· * ·) ((perSeq_apply _ _ b s l).trans (seqRow_apply gm _ b l))
    ((mixed_apply _ b s l).trans (congrArg₂ (fun p q => p * gate q) (into_apply y h ds w bi b s (lo l)) (into_apply y h ds w bi b s (hi l)))))

/-- The second, over any first. -/
def second (X : FVec Ideal S16x4096x1024 .f32) : FVec Ideal S16x4096x1024 .f32 :=
  addf (mulf (mulf (mulf X (broadcastInDim S16x4096x1024 ![0, 1, 2] bcast_S16x4096x1_S16x4096x1024_0_1_2
      (Host.rsqrt (addf (Host.divf (broadcastInDim S16x4096x1 ![0, 1] bcast_S16x4096_S16x4096x1_0_1
          (Host.reduceAdd (mulf X X) (constant S_ .f32 0x00000000#32) reducesTo_S16x4096x1024_S16x4096_d2 h_S_))
        (broadcastInDim S16x4096x1 ![] bcast_S_S16x4096x1 (constant S_ .f32 0x44800000#32))) (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 nw)))
      (broadcastInDim S16x4096x1024 ![0, 1, 2] bcast_S16x1x1024_S16x4096x1024_0_1_2
        (addf (broadcastInDim S16x1x1024 ![] bcast_S_S16x1x1024 (constant S_ .f32 0x3F800000#32)) (broadcastInDim S16x1x1024 ![0, 2] bcast_S16x1024_S16x1x1024_0_2 sc))))
    (broadcastInDim S16x4096x1024 ![0, 1, 2] bcast_S16x1x1024_S16x4096x1024_0_1_2 (broadcastInDim S16x1x1024 ![0, 2] bcast_S16x1024_S16x1x1024_0_2 sh))

theorem second_apply (X : FVec Ideal S16x4096x1024 .f32) (b : Fin 16) (s : Fin 4096) (l : Fin 1024) : second nw sh sc X (ix3 b s l)
    = X (ix3 b s l) * scale (fun i => X (ix3 b s i)) * nw (ix1 l) * (Ideal.ofBits .f32 0x3F800000#32 + sc (ix2 b l)) + sh (ix2 b l) :=
  congrArg₂ (· + ·) (congrArg₂ (· * ·) (congrArg₂ (· * ·) (host_unit X _ _ _ _ _ b s l) (forAll_apply nw _ _ b s l))
      ((perSeq_apply (addf (broadcastInDim S16x1x1024 ![] bcast_S_S16x1x1024 (constant (F := Ideal) S_ .f32 0x3F800000#32)) (broadcastInDim S16x1x1024 ![0, 2] bcast_S16x1024_S16x1x1024_0_2 sc)) _ b s l).trans
        (congrArg (Ideal.ofBits .f32 0x3F800000#32 + ·) (seqRow_apply sc _ b l))))
    ((perSeq_apply _ _ b s l).trans (seqRow_apply sh _ b l))

theorem res0 (m : (ℓ : Loc nD τ sig) → Buf (Elt Ideal) ℓ) (c : Dev nD) : Value.res_main_v37 m c
    = first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

theorem res1 (m : (ℓ : Loc nD τ sig) → Buf (Elt Ideal) ℓ) (c : Dev nD) : Value.res_main_v58 m c
    = second (m ((c.tc : Thread nD τ).loc main_arg7)) (m ((c.tc : Thread nD τ).loc main_arg8)) (m ((c.tc : Thread nD τ).loc main_arg9))
      (first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := rfl

/-- What a run of the reference leaves. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v58) = second (m ((c.tc : Thread nD τ).loc main_arg7)) (m ((c.tc : Thread nD τ).loc main_arg8)) (m ((c.tc : Thread nD τ).loc main_arg9))
        (first (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (res0 m c), (h c).2.1.trans (res1 m c), (h c).2.2⟩) (Value.run m ρ)

end Ref

theorem entries (y : Cert.Kernel4Ideal.S16x4096x1024.Idx) : ∃ (b : Fin 16) (s : Fin 4096) (l : Fin 1024), y = ix3 b s l := ⟨y 0, y 1, y 2, ValueIdx.eq_ix3 y⟩

/-- Over the extended reals the call's two results are its reference's. -/
theorem algebraic : Cert.algebraic_Kernel4Ideal_Reference4Ideal := fun m g m' g' _ ha => by
  refine ⟨fun c => first m c, fun c => second m c, ?_, ?_⟩
  · exact (θ_run Cert.Kernel4Ideal.defs _ _).mono (fun r h c => ⟨(h c).1.trans (final12 m c), (h c).2.1.trans (final13 m c), (h c).2.2.2⟩) (Cert.Kernel4Ideal.Value.run_blocks m g)
  · refine (θ_run Cert.Reference4Ideal.defs _ _).mono (fun r h c => ⟨(h c).1.trans ?_, (h c).2.1.trans ?_, (h c).2.2⟩) (Ref.run_out m' g')
    · obtain ⟨a0, a1, a2, a3, a4, a5, a6, a7, a8, a9, a10, a11⟩ := ha c
      rw [a0, a1, a2, a3, a4, a5, a6]
      funext y
      obtain ⟨b, s, l, rfl⟩ := entries y
      exact Ref.first_apply _ _ _ _ _ _ _ b s l
    · obtain ⟨a0, a1, a2, a3, a4, a5, a6, a7, a8, a9, a10, a11⟩ := ha c
      rw [a0, a1, a2, a3, a4, a5, a6, a7, a8, a9]
      funext y
      obtain ⟨b, s, l, rfl⟩ := entries y
      refine (Ref.second_apply _ _ _ _ b s l).trans ?_
      simp only [Ref.first_apply]
      rfl

/-- The reference keeps its arguments. -/
theorem frame_reference : Cert.quiescent_Reference4Ideal := fun m ρ _ =>
  (θ_run Cert.Reference4Ideal.defs _ _).mono (fun r h => ⟨fun c => (h c).2.2, sem_eq_zero_of_no_sems (by decide) r.2⟩) (Cert.Reference4Ideal.Value.run m ρ)

end Cert.Glu

end
-- ==== Proof.Inproj.lean ====
/- The even layer's input projection: what its kernel leaves, at an entry, over the extended reals. -/
module

public import proofs.«01_k».proof.Proof.Norm
public import proofs.«01_k».proof.Proof.Gen.Kernel5Ideal.Value
public import Idealize.ShloMosaic.Lib.VecWindow
public import Idealize.ShloMosaic.Lib.WritesUnit

@[expose] public section

set_option maxRecDepth 16384

noncomputable section

namespace Cert.Inproj

open Cert.Kernel5Ideal Cert.Kernel5Ideal.Gen Cert.Experts
open Idealize.SL.Sem
open Idealize.ShloMosaic hiding ix1 ix2 ix3 ix4
open Idealize.ShloMosaic.TcCoe Idealize.ShloMosaic.ValueIdx Idealize.ShloMosaic.Routing

section Spec

variable (x : S16x4096x1024.Idx → EReal) (g : S1024.Idx → EReal) (sh sc : S16x1024.Idx → EReal) (w : S2x1024x3072.Idx → EReal) (cw : S3x512.Idx → EReal)

/-- A token's row, normed and modulated, by the projection's weights. -/
def proj (b : Fin 16) (s : Fin 4096) (k : Fin 3072) : EReal :=
  ∑ i : Fin 1024, (x (ix3 b s i) * scale (fun i => x (ix3 b s i)) * g (ix1 i) * (Ideal.ofBits .f32 0x3F800000#32 + sc (ix2 b i)) + sh (ix2 b i)) * w (ix3 (0 : Fin 2) i k)

/-- A column of the values of the attention, of the gate, and of the two factors of the convolved rows. -/
def colV (l : Fin 512) : Fin 3072 := ⟨1024 + l.val, by omega⟩
def colB (l : Fin 512) : Fin 3072 := ⟨1536 + l.val, by omega⟩
def colC (l : Fin 512) : Fin 3072 := ⟨2048 + l.val, by omega⟩
def colX (l : Fin 512) : Fin 3072 := ⟨2560 + l.val, by omega⟩

/-- The convolved rows, -/
def rows (b : Fin 16) (s : Fin 4096) (l : Fin 512) : EReal := proj x g sh sc w b s (colC l) * proj x g sh sc w b s (colX l)

/-- the row some places before, zero before the sequence's first, -/
def before (d : ℕ) (b : Fin 16) (s : Fin 4096) (l : Fin 512) : EReal :=
  if h : d ≤ s.val then rows x g sh sc w b ⟨s.val - d, by omega⟩ l else Ideal.ofBits .f32 0x00000000#32

/-- and the gated convolution. -/
def gated (b : Fin 16) (s : Fin 4096) (l : Fin 512) : EReal :=
  proj x g sh sc w b s (colB l) * (cw (ix2 (0 : Fin 3) l) * before x g sh sc w 2 b s l + cw (ix2 (1 : Fin 3) l) * before x g sh sc w 1 b s l
    + cw (ix2 (2 : Fin 3) l) * rows x g sh sc w b s l)

end Spec

section Body

variable (X : Vec Ideal S1x512x1024 .f32) (G : Vec Ideal S1x1024 .f32) (S R : Vec Ideal S1x1x1024 .f32) (W : Vec Ideal S1x1024x3072 .bf16)

/-- A tile's rows, normed and modulated, as they are printed. -/
def normed : S512x1024.Idx → EReal :=
  addf (mulf (mulf (mulf (shapeCast S512x1024 X shapeCasts_S1x512x1024_S512x1024)
      (broadcastTo S512x1024 (rsqrt (addf (divf (shapeCast S512x1 (multiReduction .add [1] S512 (mulf (shapeCast S512x1024 X shapeCasts_S1x512x1024_S512x1024) (shapeCast S512x1024 X shapeCasts_S1x512x1024_S512x1024)) 0x00000000#32 reduces_S512x1024_S512 (.inl rfl) rfl) shapeCasts_S512_S512x1)
        (broadcast S512x1 (Scalar.ofBits (F := Ideal) .f32 0x44800000#32))) (broadcast S512x1 (Scalar.ofBits (F := Ideal) .f32 0x358637BD#32)))) broadcasts_S512x1_S512x1024))
      (broadcastTo S512x1024 (shapeCast S1x1024 G shapeCasts_S1x1024_S1x1024) broadcasts_S1x1024_S512x1024))
      (broadcastTo S512x1024 (addf (broadcast S1x1024 (Scalar.ofBits (F := Ideal) .f32 0x3F800000#32)) (shapeCast S1x1024 R shapeCasts_S1x1x1024_S1x1024)) broadcasts_S1x1024_S512x1024))
    (broadcastTo S512x1024 (shapeCast S1x1024 S shapeCasts_S1x1x1024_S1x1024) broadcasts_S1x1024_S512x1024)

/-- An entry of them. -/
def normedAt (j : Fin 512) (l : Fin 1024) : EReal :=
  X (ix3 (0 : Fin 1) j l) * scale (fun i => X (ix3 (0 : Fin 1) j i)) * G (ix2 (0 : Fin 1) l) * (Ideal.ofBits .f32 0x3F800000#32 + R (ix3 (0 : Fin 1) (0 : Fin 1) l)) + S (ix3 (0 : Fin 1) (0 : Fin 1) l)

theorem normed_apply (j : Fin 512) (l : Fin 1024) : normed X G S R (ix2 j l) = normedAt X G S R j l := by
  unfold normed normedAt
  refine congrArg₂ (· + ·) (congrArg₂ (· * ·) (congrArg₂ (· * ·)
      ((ker_unit (shapeCast S512x1024 X shapeCasts_S1x512x1024_S512x1024) reduces_S512x1024_S512 (.inl rfl) rfl shapeCasts_S512_S512x1 broadcasts_S512x1_S512x1024 j l).trans ?_)
      ((row_apply _ broadcasts_S1x1024_S512x1024 j l).trans (congrFun (shapeCast_self _ _) _)))
      ((row_apply (addf (broadcast S1x1024 (Scalar.ofBits (F := Ideal) .f32 0x3F800000#32)) (shapeCast S1x1024 R shapeCasts_S1x1x1024_S1x1024)) broadcasts_S1x1024_S512x1024 j l).trans
        (congrArg (Ideal.ofBits .f32 0x3F800000#32 + ·) (dropUnits_apply R _ l))))
    ((row_apply _ broadcasts_S1x1024_S512x1024 j l).trans (dropUnits_apply S _ l))
  exact congrArg₂ (· * ·) (cast_tile X _ j l) (congrArg scale (funext fun i => cast_tile X _ j i))

/-- Their product with the weights, at an entry. -/
def tileProj (j : Fin 512) (k : Fin 3072) : EReal := ∑ i : Fin 1024, normedAt X G S R j i * W (ix3 (0 : Fin 1) i k)

theorem pay3_apply (j : Fin 512) (k : Fin 3072) : k0_pay3 X G S R W (ix2 j k) = tileProj X G S R W j k := by
  refine (show k0_pay3 X G S R W (ix2 j k) = FloatOps.matmul (F := Ideal) (φ₁ := .bf16) (φ₂ := .bf16) (DotDims.plain 512 1024 3072) none (normed X G S R)
    (shapeCast S1024x3072 W shapeCasts_S1x1024x3072_S1024x3072) (constant S512x3072 .f32 0x00000000#32) (ix2 j k) from rfl).trans ?_
  refine (matmul_plain (φ₁ := .bf16) (φ₂ := .bf16) (normed X G S R)
    (shapeCast S1024x3072 W shapeCasts_S1x1024x3072_S1024x3072) (constant S512x3072 .f32 0x00000000#32) none j k).trans ?_
  have h0 : (constant (F := Ideal) S512x3072 .f32 0x00000000#32) (ix2 j k) = (0 : EReal) := Ideal.ofBits_zero_f32
  rw [h0, zero_add]
  exact Finset.sum_congr rfl fun i _ => congrArg₂ (· * ·) (normed_apply X G S R j i) (cast_tile W _ i k)

variable (P : FVec Ideal S512x3072 .f32)

theorem pay309_apply (j l : Fin 512) : k0_pay309 P (ix2 j l) = P (ix2 j (colB l)) :=
  extractStridedSlice_apply _ P slices_S512x3072_o0_1536_S512x512 (ix2 j l) (ix2 j (colB l)) fun a => by
    match a with
    | ⟨0, _⟩ => exact (Nat.zero_add _).symm
    | ⟨1, _⟩ => rfl

theorem pay310_apply (j l : Fin 512) : k0_pay310 P (ix2 j l) = P (ix2 j (colC l)) * P (ix2 j (colX l)) :=
  congrArg₂ (· * ·)
    (extractStridedSlice_apply _ P slices_S512x3072_o0_2048_S512x512 (ix2 j l) (ix2 j (colC l)) fun a => by
      match a with
      | ⟨0, _⟩ => exact (Nat.zero_add _).symm
      | ⟨1, _⟩ => rfl)
    (extractStridedSlice_apply _ P slices_S512x3072_o0_2560_S512x512 (ix2 j l) (ix2 j (colX l)) fun a => by
      match a with
      | ⟨0, _⟩ => exact (Nat.zero_add _).symm
      | ⟨1, _⟩ => rfl)

theorem pay312_apply (j l : Fin 512) : k0_pay312 P (ix2 j l) = k0_pay310 P (ix2 j l) := by
  unfold k0_pay312
  exact congrFun (shapeCast_self (k0_pay310 P) _) _

theorem pay1_apply (B U U6 U7 : FVec Ideal S512x512 .f32) (C0 C1 C2 : Vec Ideal S1x512 .f32) (j l : Fin 512) :
    k0_pay1 B U C0 U6 C1 U7 C2 (ix3 (0 : Fin 1) j l)
      = B (ix2 j l) * (C0 (ix2 (0 : Fin 1) l) * U6 (ix2 j l) + C1 (ix2 (0 : Fin 1) l) * U7 (ix2 j l) + C2 (ix2 (0 : Fin 1) l) * U (ix2 j l)) := by
  unfold k0_pay1
  refine (tile_cast _ shapeCasts_S512x512_S1x512x512 j l).trans ?_
  exact congrArg (B (ix2 j l) * ·) (congrArg₂ (· + ·) (congrArg₂ (· + ·) (congrArg (· * U6 (ix2 j l)) (row_apply C0 _ j l)) (congrArg (· * U7 (ix2 j l)) (row_apply C1 _ j l)))
    (congrArg (· * U (ix2 j l)) (row_apply C2 _ j l)))

end Body

theorem hz2 : (![0, 0] : Fin 2 → ℕ) = fun _ => 0 := by funext a; match a with | 0 => rfl | 1 => rfl
theorem hz3 : (![0, 0, 0] : Fin 3 → ℕ) = fun _ => 0 := by funext a; match a with | 0 => rfl | 1 => rfl | 2 => rfl

section Stores

/-- A load of a whole argument is the argument. -/
theorem load_all {s : Shape} {e : EltTy} {a : Memref sig .tc .vmem s e} (h : a.IsWhole) {off : Fin s.rank → ℕ} (inb : ∀ i, off i + s.size i ≤ s.size i) (y : s.Idx → Elt Ideal e) :
    a.view.readAt (Elt Ideal) (Rect.unit off s.size inb).toLoadRect (h.unread y) = y := (View.readAt_full _ _ inb).trans (h.read_unread y)

variable (c : Dev nD) (arg2 : Memref sig .tc .vmem S1x512x1024 .f32) (harg2 : arg2.IsWhole) (arg3 : Memref sig .tc .vmem S1x1024 .f32) (harg3 : arg3.IsWhole)
  (arg4 : Memref sig .tc .vmem S1x1x1024 .f32) (harg4 : arg4.IsWhole) (arg5 : Memref sig .tc .vmem S1x1x1024 .f32) (harg5 : arg5.IsWhole)
  (arg6 : Memref sig .tc .vmem S1x1024x3072 .bf16) (harg6 : arg6.IsWhole) (arg20 : Memref sig .tc .vmem S520x512 .f32) (harg20 : arg20.IsWhole)
  (X : Vec Ideal S1x512x1024 .f32) (G : Vec Ideal S1x1024 .f32) (S R : Vec Ideal S1x1x1024 .f32) (W : Vec Ideal S1x1024x3072 .bf16) (Q : Vec Ideal S520x512 .f32)

theorem rA : kernelRun0_A.sl.r c arg2 harg2 arg3 harg3 arg4 harg4 arg5 harg5 arg6 harg6 X G S R W = k0_pay3 X G S R W := by
  unfold kernelRun0_A.sl.r
  exact congr (congr (congr (congr (congrArg k0_pay3 (load_all harg2 _ X)) (load_all harg3 _ G)) (load_all harg4 _ S)) (load_all harg5 _ R)) (load_all harg6 _ W)

theorem rB : kernelRun0_B.sl.r c arg2 harg2 arg3 harg3 arg4 harg4 arg5 harg5 arg6 harg6 X G S R W = k0_pay3 X G S R W := by
  unfold kernelRun0_B.sl.r
  exact congr (congr (congr (congr (congrArg k0_pay3 (load_all harg2 _ X)) (load_all harg3 _ G)) (load_all harg4 _ S)) (load_all harg5 _ R)) (load_all harg6 _ W)

/-- What the convolved rows' buffer holds when it is read: from its eighth row the tile's rows, -/
theorem readA_tail (f : arg20.view.ty.Contents (Elt Ideal)) (y : Fin 520) (l : Fin 512) (h : 8 ≤ y.val) :
    arg20.view.read (Elt Ideal) (arg20.view.writes (Elt Ideal) f (kernelRun0_A.sl.HS0_2 c arg2 harg2 arg3 harg3 arg4 harg4 arg5 harg5 arg6 harg6 X G S R W)) (ix2 y l)
      = k0_pay310 (k0_pay3 X G S R W) (ix2 ⟨y.val - 8, by omega⟩ l) := by
  unfold kernelRun0_A.sl.HS0_2
  refine (View.read_writes_cons_unit_of_mem arg20.view f _ _ _ (ix2 y l) (ix2 (⟨y.val - 8, by omega⟩ : Fin 512) l) rfl fun a => ?_).trans ?_
  · match a with
    | ⟨0, _⟩ => show y.val = 8 + (y.val - 8); omega
    | ⟨1, _⟩ => exact (Nat.zero_add _).symm
  · rw [pay312_apply, rA]

theorem readB_tail (f : arg20.view.ty.Contents (Elt Ideal)) (y : Fin 520) (l : Fin 512) (h : 8 ≤ y.val) :
    arg20.view.read (Elt Ideal) (arg20.view.writes (Elt Ideal) f (kernelRun0_B.sl.HS0_1 c arg2 harg2 arg3 harg3 arg4 harg4 arg5 harg5 arg6 harg6 X G S R W)) (ix2 y l)
      = k0_pay310 (k0_pay3 X G S R W) (ix2 ⟨y.val - 8, by omega⟩ l) := by
  unfold kernelRun0_B.sl.HS0_1
  refine (View.read_writes_cons_unit_of_mem arg20.view f _ _ _ (ix2 y l) (ix2 (⟨y.val - 8, by omega⟩ : Fin 512) l) rfl fun a => ?_).trans ?_
  · match a with
    | ⟨0, _⟩ => show y.val = 8 + (y.val - 8); omega
    | ⟨1, _⟩ => exact (Nat.zero_add _).symm
  · rw [pay312_apply, rB]

/-- and before it zeros at a sequence's first tile, else what the tile before left. -/
theorem readA_head (f : arg20.view.ty.Contents (Elt Ideal)) (y : Fin 520) (l : Fin 512) (h : y.val < 8) :
    arg20.view.read (Elt Ideal) (arg20.view.writes (Elt Ideal) f (kernelRun0_A.sl.HS0_2 c arg2 harg2 arg3 harg3 arg4 harg4 arg5 harg5 arg6 harg6 X G S R W)) (ix2 y l)
      = Ideal.ofBits .f32 0x00000000#32 := by
  unfold kernelRun0_A.sl.HS0_2
  refine (View.read_writes_cons_unit_of_not_mem arg20.view f _ _ _ (ix2 y l) rfl (0 : Fin 2) (Or.inl h)).trans ?_
  refine (View.read_writes_cons_unit_of_mem arg20.view f _ _ _ (ix2 y l) (ix2 (⟨y.val, h⟩ : Fin 8) l) rfl fun a => ?_).trans ?_
  · match a with
    | ⟨0, _⟩ => exact (Nat.zero_add _).symm
    | ⟨1, _⟩ => exact (Nat.zero_add _).symm
  · exact congrFun (shapeCast_self (broadcast (α := EReal) S8x512 (Ideal.ofBits .f32 0x00000000#32)) _) _

theorem readB_head (y : Fin 520) (l : Fin 512) (h : y.val < 8) :
    arg20.view.read (Elt Ideal) (arg20.view.writes (Elt Ideal) (harg20.unread Q) (kernelRun0_B.sl.HS0_1 c arg2 harg2 arg3 harg3 arg4 harg4 arg5 harg5 arg6 harg6 X G S R W)) (ix2 y l)
      = Q (ix2 y l) := by
  unfold kernelRun0_B.sl.HS0_1
  refine (View.read_writes_cons_unit_of_not_mem arg20.view _ _ _ _ (ix2 y l) rfl (0 : Fin 2) (Or.inl h)).trans ?_
  exact congrFun (harg20.read_unread Q) _

/-- The convolved rows of a tile. -/
def u (j l : Fin 512) : EReal := k0_pay310 (k0_pay3 X G S R W) (ix2 j l)

/-- The row some places before in a tile, over what stands before its first. -/
def back (H : Fin 520 → Fin 512 → EReal) (d : ℕ) (j l : Fin 512) : EReal :=
  if h : d ≤ j.val then u X G S R W ⟨j.val - d, by omega⟩ l else H ⟨(8 + j.val - d) % 520, Nat.mod_lt _ (by decide)⟩ l

theorem v1696A (j l : Fin 512) : kernelRun0_A.sl.v1696 c arg2 harg2 arg3 harg3 arg4 harg4 arg5 harg5 arg6 harg6 arg20 X G S R W (ix2 j l) = back X G S R W (fun _ _ => Ideal.ofBits .f32 0x00000000#32) 2 j l := by
  refine (show kernelRun0_A.sl.v1696 c arg2 harg2 arg3 harg3 arg4 harg4 arg5 harg5 arg6 harg6 arg20 X G S R W (ix2 j l) = arg20.view.read (Elt Ideal) (arg20.view.writes (Elt Ideal) arg20.view.junk (kernelRun0_A.sl.HS0_2 c arg2 harg2 arg3 harg3 arg4 harg4 arg5 harg5 arg6 harg6 X G S R W)) (ix2 (⟨6 + j.val, by omega⟩ : Fin 520) l) from
    congrArg (arg20.view.read (Elt Ideal) (arg20.view.writes (Elt Ideal) arg20.view.junk (kernelRun0_A.sl.HS0_2 c arg2 harg2 arg3 harg3 arg4 harg4 arg5 harg5 arg6 harg6 X G S R W))) (funext fun a => Fin.ext (by
      match a with
      | ⟨0, _⟩ => show 6 + 1 * j.val = 6 + j.val; omega
      | ⟨1, _⟩ => show 0 + 1 * l.val = l.val; omega))).trans ?_
  unfold back
  by_cases h : 2 ≤ j.val
  · rw [dif_pos h]
    refine (readA_tail c arg2 harg2 arg3 harg3 arg4 harg4 arg5 harg5 arg6 harg6 arg20 X G S R W _ _ l (by show 8 ≤ 6 + j.val; omega)).trans ?_
    exact congrArg (fun z => k0_pay310 (k0_pay3 X G S R W) (ix2 z l)) (Fin.ext (by show 6 + j.val - 8 = j.val - 2; omega))
  · rw [dif_neg h]
    refine (readA_head c arg2 harg2 arg3 harg3 arg4 harg4 arg5 harg5 arg6 harg6 arg20 X G S R W _ _ l (by show 6 + j.val < 8; omega)).trans ?_
    rfl

theorem v1700A (j l : Fin 512) : kernelRun0_A.sl.v1700 c arg2 harg2 arg3 harg3 arg4 harg4 arg5 harg5 arg6 harg6 arg20 X G S R W (ix2 j l) = back X G S R W (fun _ _ => Ideal.ofBits .f32 0x00000000#32) 1 j l := by
  refine (show kernelRun0_A.sl.v1700 c arg2 harg2 arg3 harg3 arg4 harg4 arg5 harg5 arg6 harg6 arg20 X G S R W (ix2 j l) = arg20.view.read (Elt Ideal) (arg20.view.writes (Elt Ideal) arg20.view.junk (kernelRun0_A.sl.HS0_2 c arg2 harg2 arg3 harg3 arg4 harg4 arg5 harg5 arg6 harg6 X G S R W)) (ix2 (⟨7 + j.val, by omega⟩ : Fin 520) l) from
    congrArg (arg20.view.read (Elt Ideal) (arg20.view.writes (Elt Ideal) arg20.view.junk (kernelRun0_A.sl.HS0_2 c arg2 harg2 arg3 harg3 arg4 harg4 arg5 harg5 arg6 harg6 X G S R W))) (funext fun a => Fin.ext (by
      match a with
      | ⟨0, _⟩ => show 7 + 1 * j.val = 7 + j.val; omega
      | ⟨1, _⟩ => show 0 + 1 * l.val = l.val; omega))).trans ?_
  unfold back
  by_cases h : 1 ≤ j.val
  · rw [dif_pos h]
    refine (readA_tail c arg2 harg2 arg3 harg3 arg4 harg4 arg5 harg5 arg6 harg6 arg20 X G S R W _ _ l (by show 8 ≤ 7 + j.val; omega)).trans ?_
    exact congrArg (fun z => k0_pay310 (k0_pay3 X G S R W) (ix2 z l)) (Fin.ext (by show 7 + j.val - 8 = j.val - 1; omega))
  · rw [dif_neg h]
    refine (readA_head c arg2 harg2 arg3 harg3 arg4 harg4 arg5 harg5 arg6 harg6 arg20 X G S R W _ _ l (by show 7 + j.val < 8; omega)).trans ?_
    rfl

theorem v1713A (y : Fin 8) (l : Fin 512) : kernelRun0_A.sl.v1713 c arg2 harg2 arg3 harg3 arg4 harg4 arg5 harg5 arg6 harg6 arg20 X G S R W (ix2 y l) = u X G S R W ⟨504 + y.val, by omega⟩ l := by
  refine (show kernelRun0_A.sl.v1713 c arg2 harg2 arg3 harg3 arg4 harg4 arg5 harg5 arg6 harg6 arg20 X G S R W (ix2 y l) = arg20.view.read (Elt Ideal) (arg20.view.writes (Elt Ideal) arg20.view.junk (kernelRun0_A.sl.HS0_2 c arg2 harg2 arg3 harg3 arg4 harg4 arg5 harg5 arg6 harg6 X G S R W)) (ix2 (⟨512 + y.val, by omega⟩ : Fin 520) l) from
    congrArg (arg20.view.read (Elt Ideal) (arg20.view.writes (Elt Ideal) arg20.view.junk (kernelRun0_A.sl.HS0_2 c arg2 harg2 arg3 harg3 arg4 harg4 arg5 harg5 arg6 harg6 X G S R W))) (funext fun a => Fin.ext (by
      match a with
      | ⟨0, _⟩ => show 512 + 1 * y.val = 512 + y.val; omega
      | ⟨1, _⟩ => show 0 + 1 * l.val = l.val; omega))).trans ?_
  refine (readA_tail c arg2 harg2 arg3 harg3 arg4 harg4 arg5 harg5 arg6 harg6 arg20 X G S R W _ _ l (by show 8 ≤ 512 + y.val; omega)).trans ?_
  exact congrArg (fun z => k0_pay310 (k0_pay3 X G S R W) (ix2 z l)) (Fin.ext (by show 512 + y.val - 8 = 504 + y.val; omega))

theorem v1696B (j l : Fin 512) : kernelRun0_B.sl.v1696 c arg2 harg2 arg3 harg3 arg4 harg4 arg5 harg5 arg6 harg6 arg20 harg20 X G S R W Q (ix2 j l) = back X G S R W (fun y l => Q (ix2 y l)) 2 j l := by
  refine (show kernelRun0_B.sl.v1696 c arg2 harg2 arg3 harg3 arg4 harg4 arg5 harg5 arg6 harg6 arg20 harg20 X G S R W Q (ix2 j l) = arg20.view.read (Elt Ideal) (arg20.view.writes (Elt Ideal) (harg20.unread Q) (kernelRun0_B.sl.HS0_1 c arg2 harg2 arg3 harg3 arg4 harg4 arg5 harg5 arg6 harg6 X G S R W)) (ix2 (⟨6 + j.val, by omega⟩ : Fin 520) l) from
    congrArg (arg20.view.read (Elt Ideal) (arg20.view.writes (Elt Ideal) (harg20.unread Q) (kernelRun0_B.sl.HS0_1 c arg2 harg2 arg3 harg3 arg4 harg4 arg5 harg5 arg6 harg6 X G S R W))) (funext fun a => Fin.ext (by
      match a with
      | ⟨0, _⟩ => show 6 + 1 * j.val = 6 + j.val; omega
      | ⟨1, _⟩ => show 0 + 1 * l.val = l.val; omega))).trans ?_
  unfold back
  by_cases h : 2 ≤ j.val
  · rw [dif_pos h]
    refine (readB_tail c arg2 harg2 arg3 harg3 arg4 harg4 arg5 harg5 arg6 harg6 arg20 X G S R W _ _ l (by show 8 ≤ 6 + j.val; omega)).trans ?_
    exact congrArg (fun z => k0_pay310 (k0_pay3 X G S R W) (ix2 z l)) (Fin.ext (by show 6 + j.val - 8 = j.val - 2; omega))
  · rw [dif_neg h]
    refine (readB_head c arg2 harg2 arg3 harg3 arg4 harg4 arg5 harg5 arg6 harg6 arg20 harg20 X G S R W Q _ l (by show 6 + j.val < 8; omega)).trans ?_
    exact congrArg (fun z => Q (ix2 z l)) (Fin.ext (by show 6 + j.val = (8 + j.val - 2) % 520; omega))

theorem v1700B (j l : Fin 512) : kernelRun0_B.sl.v1700 c arg2 harg2 arg3 harg3 arg4 harg4 arg5 harg5 arg6 harg6 arg20 harg20 X G S R W Q (ix2 j l) = back X G S R W (fun y l => Q (ix2 y l)) 1 j l := by
  refine (show kernelRun0_B.sl.v1700 c arg2 harg2 arg3 harg3 arg4 harg4 arg5 harg5 arg6 harg6 arg20 harg20 X G S R W Q (ix2 j l) = arg20.view.read (Elt Ideal) (arg20.view.writes (Elt Ideal) (harg20.unread Q) (kernelRun0_B.sl.HS0_1 c arg2 harg2 arg3 harg3 arg4 harg4 arg5 harg5 arg6 harg6 X G S R W)) (ix2 (⟨7 + j.val, by omega⟩ : Fin 520) l) from
    congrArg (arg20.view.read (Elt Ideal) (arg20.view.writes (Elt Ideal) (harg20.unread Q) (kernelRun0_B.sl.HS0_1 c arg2 harg2 arg3 harg3 arg4 harg4 arg5 harg5 arg6 harg6 X G S R W))) (funext fun a => Fin.ext (by
      match a with
      | ⟨0, _⟩ => show 7 + 1 * j.val = 7 + j.val; omega
      | ⟨1, _⟩ => show 0 + 1 * l.val = l.val; omega))).trans ?_
  unfold back
  by_cases h : 1 ≤ j.val
  · rw [dif_pos h]
    refine (readB_tail c arg2 harg2 arg3 harg3 arg4 harg4 arg5 harg5 arg6 harg6 arg20 X G S R W _ _ l (by show 8 ≤ 7 + j.val; omega)).trans ?_
    exact congrArg (fun z => k0_pay310 (k0_pay3 X G S R W) (ix2 z l)) (Fin.ext (by show 7 + j.val - 8 = j.val - 1; omega))
  · rw [dif_neg h]
    refine (readB_head c arg2 harg2 arg3 harg3 arg4 harg4 arg5 harg5 arg6 harg6 arg20 harg20 X G S R W Q _ l (by show 7 + j.val < 8; omega)).trans ?_
    exact congrArg (fun z => Q (ix2 z l)) (Fin.ext (by show 7 + j.val = (8 + j.val - 1) % 520; omega))

theorem v1713B (y : Fin 8) (l : Fin 512) : kernelRun0_B.sl.v1713 c arg2 harg2 arg3 harg3 arg4 harg4 arg5 harg5 arg6 harg6 arg20 X G S R W (ix2 y l) = u X G S R W ⟨504 + y.val, by omega⟩ l := by
  refine (show kernelRun0_B.sl.v1713 c arg2 harg2 arg3 harg3 arg4 harg4 arg5 harg5 arg6 harg6 arg20 X G S R W (ix2 y l) = arg20.view.read (Elt Ideal) (arg20.view.writes (Elt Ideal) arg20.view.junk (kernelRun0_B.sl.HS0_1 c arg2 harg2 arg3 harg3 arg4 harg4 arg5 harg5 arg6 harg6 X G S R W)) (ix2 (⟨512 + y.val, by omega⟩ : Fin 520) l) from
    congrArg (arg20.view.read (Elt Ideal) (arg20.view.writes (Elt Ideal) arg20.view.junk (kernelRun0_B.sl.HS0_1 c arg2 harg2 arg3 harg3 arg4 harg4 arg5 harg5 arg6 harg6 X G S R W))) (funext fun a => Fin.ext (by
      match a with
      | ⟨0, _⟩ => show 512 + 1 * y.val = 512 + y.val; omega
      | ⟨1, _⟩ => show 0 + 1 * l.val = l.val; omega))).trans ?_
  refine (readB_tail c arg2 harg2 arg3 harg3 arg4 harg4 arg5 harg5 arg6 harg6 arg20 X G S R W _ _ l (by show 8 ≤ 512 + y.val; omega)).trans ?_
  exact congrArg (fun z => k0_pay310 (k0_pay3 X G S R W) (ix2 z l)) (Fin.ext (by show 512 + y.val - 8 = 504 + y.val; omega))

variable (i : grid0.Coords) (arg7 : Memref sig .tc .vmem S1x512x128 .f32) (harg7 : arg7.IsWhole) (arg8 : Memref sig .tc .vmem S1x512x128 .f32) (harg8 : arg8.IsWhole) (arg9 : Memref sig .tc .vmem S3x512 .f32) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x1x4x128x512 .bf16) (harg13 : arg13.IsWhole) (arg14 : Memref sig .tc .vmem S1x1x4x128x512 .bf16) (harg14 : arg14.IsWhole) (arg15 : Memref sig .tc .vmem S1x1x4x128x512 .bf16) (harg15 : arg15.IsWhole) (arg16 : Memref sig .tc .vmem S1x1x16x32x512 .bf16) (harg16 : arg16.IsWhole) (arg17 : Memref sig .tc .vmem S1x1x16x32x512 .bf16) (harg17 : arg17.IsWhole) (arg18 : Memref sig .tc .vmem S1x1x16x32x512 .bf16) (harg18 : arg18.IsWhole) (arg19 : Memref sig .tc .vmem S1x512x512 .bf16) (harg19 : arg19.IsWhole) (arg21 : Memref sig .tc .vmem S3x4x512x128 .f32) (harg21 : arg21.IsWhole)
  (V5 V6 : Vec Ideal S1x512x128 .f32) (K : Vec Ideal S3x512 .f32)

def tap0 : Vec Ideal S1x512 .f32 := arg9.view.readAt (Elt Ideal) (Rect.unit (s := S3x512) ![0, 0] ![1, 512] inb_S3x512_S1x512_0_0).toLoadRect (harg9.unread K)

theorem tap0_apply (l : Fin 512) : tap0 arg9 harg9 K (ix2 (0 : Fin 1) l) = K (ix2 (0 : Fin 3) l) :=
  (congrFun (harg9.read_unread K) _).trans (congrArg K (funext fun a => Fin.ext (by
    match a with
    | ⟨0, _⟩ => rfl
    | ⟨1, _⟩ => show 0 + 1 * l.val = l.val; omega)))

def tap1 : Vec Ideal S1x512 .f32 := arg9.view.readAt (Elt Ideal) (Rect.unit (s := S3x512) ![1, 0] ![1, 512] inb_S3x512_S1x512_1_0).toLoadRect (harg9.unread K)

theorem tap1_apply (l : Fin 512) : tap1 arg9 harg9 K (ix2 (0 : Fin 1) l) = K (ix2 (1 : Fin 3) l) :=
  (congrFun (harg9.read_unread K) _).trans (congrArg K (funext fun a => Fin.ext (by
    match a with
    | ⟨0, _⟩ => rfl
    | ⟨1, _⟩ => show 0 + 1 * l.val = l.val; omega)))

def tap2 : Vec Ideal S1x512 .f32 := arg9.view.readAt (Elt Ideal) (Rect.unit (s := S3x512) ![2, 0] ![1, 512] inb_S3x512_S1x512_2_0).toLoadRect (harg9.unread K)

theorem tap2_apply (l : Fin 512) : tap2 arg9 harg9 K (ix2 (0 : Fin 1) l) = K (ix2 (2 : Fin 3) l) :=
  (congrFun (harg9.read_unread K) _).trans (congrArg K (funext fun a => Fin.ext (by
    match a with
    | ⟨0, _⟩ => rfl
    | ⟨1, _⟩ => show 0 + 1 * l.val = l.val; omega)))

theorem out17A (hc0 : cond0_0 i) (j l : Fin 512) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K (ix3 (0 : Fin 1) j l)
    = k0_pay3 X G S R W (ix2 j (colB l)) * (K (ix2 (0 : Fin 3) l) * back X G S R W (fun _ _ => Ideal.ofBits .f32 0x00000000#32) 2 j l + K (ix2 (1 : Fin 3) l) * back X G S R W (fun _ _ => Ideal.ofBits .f32 0x00000000#32) 1 j l
      + K (ix2 (2 : Fin 3) l) * u X G S R W j l) := by
  have e : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K = k0_pay1 (k0_pay309 (kernelRun0_A.sl.r c arg2 harg2 arg3 harg3 arg4 harg4 arg5 harg5 arg6 harg6 X G S R W)) (k0_pay310 (kernelRun0_A.sl.r c arg2 harg2 arg3 harg3 arg4 harg4 arg5 harg5 arg6 harg6 X G S R W)) (tap0 arg9 harg9 K) (kernelRun0_A.sl.v1696 c arg2 harg2 arg3 harg3 arg4 harg4 arg5 harg5 arg6 harg6 arg20 X G S R W) (tap1 arg9 harg9 K) (kernelRun0_A.sl.v1700 c arg2 harg2 arg3 harg3 arg4 harg4 arg5 harg5 arg6 harg6 arg20 X G S R W) (tap2 arg9 harg9 K) := by
    unfold out0_A_17 kernelRun0_A
    dsimp only
    exact View.read_writes_full VO0_17 _ _ _ _
  rw [e, pay1_apply, v1696A, v1700A, tap0_apply, tap1_apply, tap2_apply, rA, pay309_apply]
  rfl

theorem carriedA (hc0 : cond0_0 i) (y : Fin 520) (h : y.val < 8) (l : Fin 512) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K (ix2 y l) = u X G S R W ⟨504 + y.val, by omega⟩ l := by
  have e : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K = VS0_0.read (Elt Ideal) (VS0_0.writes (Elt Ideal) VS0_0.junk (⟨Rect.unit ![0, 0] ![8, 512] inb_S520x512_S8x512_0_0,
      k0_pay2 (kernelRun0_A.sl.v1713 c arg2 harg2 arg3 harg3 arg4 harg4 arg5 harg5 arg6 harg6 arg20 X G S R W)⟩ :: kernelRun0_A.sl.HS0_2 c arg2 harg2 arg3 harg3 arg4 harg4 arg5 harg5 arg6 harg6 X G S R W)) := by
    unfold sout0_A_0 kernelRun0_A
    rfl
  rw [e]
  refine (View.read_writes_cons_unit_of_mem VS0_0 VS0_0.junk _ _ _ (ix2 y l) (ix2 (⟨y.val, h⟩ : Fin 8) l) rfl fun a => ?_).trans ?_
  · match a with
    | ⟨0, _⟩ => exact (Nat.zero_add _).symm
    | ⟨1, _⟩ => exact (Nat.zero_add _).symm
  · exact (congrFun (shapeCast_self (kernelRun0_A.sl.v1713 c arg2 harg2 arg3 harg3 arg4 harg4 arg5 harg5 arg6 harg6 arg20 X G S R W) _) _).trans (v1713A c arg2 harg2 arg3 harg3 arg4 harg4 arg5 harg5 arg6 harg6 arg20 X G S R W ⟨y.val, h⟩ l)

theorem out17B (hc0 : ¬cond0_0 i) (j l : Fin 512) : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K Q (ix3 (0 : Fin 1) j l)
    = k0_pay3 X G S R W (ix2 j (colB l)) * (K (ix2 (0 : Fin 3) l) * back X G S R W (fun y l => Q (ix2 y l)) 2 j l + K (ix2 (1 : Fin 3) l) * back X G S R W (fun y l => Q (ix2 y l)) 1 j l
      + K (ix2 (2 : Fin 3) l) * u X G S R W j l) := by
  have e : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K Q = k0_pay1 (k0_pay309 (kernelRun0_B.sl.r c arg2 harg2 arg3 harg3 arg4 harg4 arg5 harg5 arg6 harg6 X G S R W)) (k0_pay310 (kernelRun0_B.sl.r c arg2 harg2 arg3 harg3 arg4 harg4 arg5 harg5 arg6 harg6 X G S R W)) (tap0 arg9 harg9 K) (kernelRun0_B.sl.v1696 c arg2 harg2 arg3 harg3 arg4 harg4 arg5 harg5 arg6 harg6 arg20 harg20 X G S R W Q) (tap1 arg9 harg9 K) (kernelRun0_B.sl.v1700 c arg2 harg2 arg3 harg3 arg4 harg4 arg5 harg5 arg6 harg6 arg20 harg20 X G S R W Q) (tap2 arg9 harg9 K) := by
    unfold out0_B_17 kernelRun0_B
    dsimp only
    exact View.read_writes_full VO0_17 _ _ _ _
  rw [e, pay1_apply, v1696B, v1700B, tap0_apply, tap1_apply, tap2_apply, rB, pay309_apply]
  rfl

theorem carriedB (hc0 : ¬cond0_0 i) (y : Fin 520) (h : y.val < 8) (l : Fin 512) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K Q (ix2 y l) = u X G S R W ⟨504 + y.val, by omega⟩ l := by
  have e : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K Q = VS0_0.read (Elt Ideal) (VS0_0.writes (Elt Ideal) VS0_0.junk (⟨Rect.unit ![0, 0] ![8, 512] inb_S520x512_S8x512_0_0,
      k0_pay2 (kernelRun0_B.sl.v1713 c arg2 harg2 arg3 harg3 arg4 harg4 arg5 harg5 arg6 harg6 arg20 X G S R W)⟩ :: kernelRun0_B.sl.HS0_1 c arg2 harg2 arg3 harg3 arg4 harg4 arg5 harg5 arg6 harg6 X G S R W)) := by
    unfold sout0_B_0 kernelRun0_B
    rfl
  rw [e]
  refine (View.read_writes_cons_unit_of_mem VS0_0 VS0_0.junk _ _ _ (ix2 y l) (ix2 (⟨y.val, h⟩ : Fin 8) l) rfl fun a => ?_).trans ?_
  · match a with
    | ⟨0, _⟩ => exact (Nat.zero_add _).symm
    | ⟨1, _⟩ => exact (Nat.zero_add _).symm
  · exact (congrFun (shapeCast_self (kernelRun0_B.sl.v1713 c arg2 harg2 arg3 harg3 arg4 harg4 arg5 harg5 arg6 harg6 arg20 X G S R W) _) _).trans (v1713B c arg2 harg2 arg3 harg3 arg4 harg4 arg5 harg5 arg6 harg6 arg20 X G S R W ⟨y.val, h⟩ l)

end Stores

end Cert.Inproj

end
-- ==== Proof.InprojColumns.lean ====
/- The even layer's input projection: the attention's values, as its kernel stages and writes them. -/
module

public import proofs.«01_k».proof.Proof.Inproj

@[expose] public section

set_option maxRecDepth 16384

noncomputable section

namespace Cert.Inproj

open Cert.Kernel5Ideal Cert.Kernel5Ideal.Gen Cert.Experts
open Idealize.SL.Sem
open Idealize.ShloMosaic hiding ix1 ix2 ix3 ix4
open Idealize.ShloMosaic.TcCoe Idealize.ShloMosaic.ValueIdx Idealize.ShloMosaic.Routing

/-- A matrix under two unit axes. -/
theorem block_cast {α : Type} {A B : ℕ} (w : (shape2 A B).Idx → α) (h : (shape2 A B).ShapeCasts ⟨4, ![1, 1, A, B]⟩) (i : Fin A) (j : Fin B) :
    shapeCast ⟨4, ![1, 1, A, B]⟩ w h (ix4 (0 : Fin 1) (0 : Fin 1) i j) = w (ix2 i j) := by
  refine shapeCast_apply _ _ _ _ ?_
  rw [Shape.rowMajor_val_four, Shape.rowMajor_val_two]
  show i.val * B + j.val = (((0 * 1 + 0) * A + i.val) * B + j.val)
  simp

/-- A head's column. -/
def colH (h : Fin 4) (l : Fin 128) : Fin 512 := ⟨128 * h.val + l.val, by omega⟩

section Payloads

variable (P : FVec Ideal S512x3072 .f32)

theorem staged0 (j : Fin 512) (l : Fin 128) : k0_pay12 P (ix4 (0 : Fin 1) (0 : Fin 1) j l) = P (ix2 j (colV (colH 0 l))) := by
  unfold k0_pay12
  refine (block_cast _ shapeCasts_S512x128_S1x1x512x128 j l).trans ?_
  exact extractStridedSlice_apply _ P slices_S512x3072_o0_1024_S512x128 (ix2 j l) (ix2 j (colV (colH 0 l))) fun a => by
    match a with
    | ⟨0, _⟩ => exact (Nat.zero_add _).symm
    | ⟨1, _⟩ => show 1024 + (128 * 0 + l.val) = 1024 + l.val; omega

theorem staged1 (j : Fin 512) (l : Fin 128) : k0_pay16 P (ix4 (0 : Fin 1) (0 : Fin 1) j l) = P (ix2 j (colV (colH 1 l))) := by
  unfold k0_pay16
  refine (block_cast _ shapeCasts_S512x128_S1x1x512x128 j l).trans ?_
  exact extractStridedSlice_apply _ P slices_S512x3072_o0_1152_S512x128 (ix2 j l) (ix2 j (colV (colH 1 l))) fun a => by
    match a with
    | ⟨0, _⟩ => exact (Nat.zero_add _).symm
    | ⟨1, _⟩ => show 1024 + (128 * 1 + l.val) = 1152 + l.val; omega

theorem staged2 (j : Fin 512) (l : Fin 128) : k0_pay20 (k0_pay19 P) (ix4 (0 : Fin 1) (0 : Fin 1) j l) = P (ix2 j (colV (colH 2 l))) := by
  unfold k0_pay20 k0_pay19
  refine (block_cast _ shapeCasts_S512x128_S1x1x512x128 j l).trans ?_
  exact extractStridedSlice_apply _ P slices_S512x3072_o0_1280_S512x128 (ix2 j l) (ix2 j (colV (colH 2 l))) fun a => by
    match a with
    | ⟨0, _⟩ => exact (Nat.zero_add _).symm
    | ⟨1, _⟩ => show 1024 + (128 * 2 + l.val) = 1280 + l.val; omega

theorem staged3 (j : Fin 512) (l : Fin 128) : k0_pay23 P (ix4 (0 : Fin 1) (0 : Fin 1) j l) = P (ix2 j (colV (colH 3 l))) := by
  unfold k0_pay23
  refine (block_cast _ shapeCasts_S512x128_S1x1x512x128 j l).trans ?_
  exact extractStridedSlice_apply _ P slices_S512x3072_o0_1408_S512x128 (ix2 j l) (ix2 j (colV (colH 3 l))) fun a => by
    match a with
    | ⟨0, _⟩ => exact (Nat.zero_add _).symm
    | ⟨1, _⟩ => show 1024 + (128 * 3 + l.val) = 1408 + l.val; omega

theorem written0 (V : Vec Ideal S1x1x512x128 .f32) (j : Fin 512) (l : Fin 128) : k0_pay33 V (ix3 (0 : Fin 1) j l) = V (ix4 (0 : Fin 1) (0 : Fin 1) j l) := by
  unfold k0_pay33
  exact (tile_cast _ shapeCasts_S512x128_S1x512x128 j l).trans (cast_block V shapeCasts_S1x1x512x128_S512x128 j l)

theorem written1 (V : Vec Ideal S1x1x512x128 .f32) (j : Fin 512) (l : Fin 128) : k0_pay34 V (ix3 (0 : Fin 1) j l) = V (ix4 (0 : Fin 1) (0 : Fin 1) j l) := by
  unfold k0_pay34
  exact (tile_cast _ shapeCasts_S512x128_S1x512x128 j l).trans (cast_block V shapeCasts_S1x1x512x128_S512x128 j l)

theorem written2 (V : Vec Ideal S1x1x512x128 .f32) (j : Fin 512) (l : Fin 128) : k0_pay35 V (ix3 (0 : Fin 1) j l) = V (ix4 (0 : Fin 1) (0 : Fin 1) j l) := by
  unfold k0_pay35
  exact (tile_cast _ shapeCasts_S512x128_S1x512x128 j l).trans (cast_block V shapeCasts_S1x1x512x128_S512x128 j l)

theorem written3 (V : Vec Ideal S1x1x512x128 .f32) (j : Fin 512) (l : Fin 128) : k0_pay36 V (ix3 (0 : Fin 1) j l) = V (ix4 (0 : Fin 1) (0 : Fin 1) j l) := by
  unfold k0_pay36
  exact (tile_cast _ shapeCasts_S512x128_S1x512x128 j l).trans (cast_block V shapeCasts_S1x1x512x128_S512x128 j l)

end Payloads

section Stores

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x3072 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S3x512 .f32) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x1x4x128x512 .bf16) (harg13 : arg13.IsWhole) (arg14 : Memref sig .tc .vmem S1x1x4x128x512 .bf16) (harg14 : arg14.IsWhole) (arg15 : Memref sig .tc .vmem S1x1x4x128x512 .bf16) (harg15 : arg15.IsWhole) (arg16 : Memref sig .tc .vmem S1x1x16x32x512 .bf16) (harg16 : arg16.IsWhole) (arg17 : Memref sig .tc .vmem S1x1x16x32x512 .bf16) (harg17 : arg17.IsWhole) (arg18 : Memref sig .tc .vmem S1x1x16x32x512 .bf16) (harg18 : arg18.IsWhole) (arg19 : Memref sig .tc .vmem S1x512x512 .bf16) (harg19 : arg19.IsWhole) (arg20 : Memref sig .tc .vmem S520x512 .f32) (harg20 : arg20.IsWhole) (arg21 : Memref sig .tc .vmem S3x4x512x128 .f32) (harg21 : arg21.IsWhole)
  (X : Vec Ideal S1x512x1024 .f32) (G : Vec Ideal S1x1024 .f32) (S R : Vec Ideal S1x1x1024 .f32) (W : Vec Ideal S1x1024x3072 .bf16)
  (V5 V6 : Vec Ideal S1x512x128 .f32) (K : Vec Ideal S3x512 .f32) (Q : Vec Ideal S520x512 .f32)

theorem stageA0 (f : arg21.view.ty.Contents (Elt Ideal)) (j : Fin 512) (l : Fin 128) :
    arg21.view.read (Elt Ideal) (arg21.view.writes (Elt Ideal) f (kernelRun0_A.sl.HS1_12 c arg2 harg2 arg3 harg3 arg4 harg4 arg5 harg5 arg6 harg6 arg7 harg7 arg8 harg8 X G S R W V5 V6)) (ix4 (2 : Fin 3) (0 : Fin 4) j l) = k0_pay3 X G S R W (ix2 j (colV (colH 0 l))) := by
  unfold kernelRun0_A.sl.HS1_12
  refine (View.read_writes_cons_unit_of_not_mem arg21.view f _ _ _ (ix4 (2 : Fin 3) (0 : Fin 4) j l) rfl (1 : Fin 4) (Or.inl (show 0 < 3 by decide))).trans ?_
  refine (View.read_writes_cons_unit_of_not_mem arg21.view f _ _ _ (ix4 (2 : Fin 3) (0 : Fin 4) j l) rfl (1 : Fin 4) (Or.inl (show 0 < 3 by decide))).trans ?_
  refine (View.read_writes_cons_unit_of_not_mem arg21.view f _ _ _ (ix4 (2 : Fin 3) (0 : Fin 4) j l) rfl (1 : Fin 4) (Or.inl (show 0 < 3 by decide))).trans ?_
  refine (View.read_writes_cons_unit_of_not_mem arg21.view f _ _ _ (ix4 (2 : Fin 3) (0 : Fin 4) j l) rfl (1 : Fin 4) (Or.inl (show 0 < 2 by decide))).trans ?_
  refine (View.read_writes_cons_unit_of_not_mem arg21.view f _ _ _ (ix4 (2 : Fin 3) (0 : Fin 4) j l) rfl (1 : Fin 4) (Or.inl (show 0 < 2 by decide))).trans ?_
  refine (View.read_writes_cons_unit_of_not_mem arg21.view f _ _ _ (ix4 (2 : Fin 3) (0 : Fin 4) j l) rfl (1 : Fin 4) (Or.inl (show 0 < 2 by decide))).trans ?_
  refine (View.read_writes_cons_unit_of_not_mem arg21.view f _ _ _ (ix4 (2 : Fin 3) (0 : Fin 4) j l) rfl (1 : Fin 4) (Or.inl (show 0 < 1 by decide))).trans ?_
  refine (View.read_writes_cons_unit_of_not_mem arg21.view f _ _ _ (ix4 (2 : Fin 3) (0 : Fin 4) j l) rfl (1 : Fin 4) (Or.inl (show 0 < 1 by decide))).trans ?_
  refine (View.read_writes_cons_unit_of_not_mem arg21.view f _ _ _ (ix4 (2 : Fin 3) (0 : Fin 4) j l) rfl (1 : Fin 4) (Or.inl (show 0 < 1 by decide))).trans ?_
  refine (View.read_writes_cons_unit_of_mem arg21.view f _ _ _ (ix4 (2 : Fin 3) (0 : Fin 4) j l) (ix4 (0 : Fin 1) (0 : Fin 1) j l) rfl fun a => ?_).trans ?_
  · match a with
    | ⟨0, _⟩ => rfl
    | ⟨1, _⟩ => rfl
    | ⟨2, _⟩ => exact (Nat.zero_add _).symm
    | ⟨3, _⟩ => exact (Nat.zero_add _).symm
  · exact (staged0 (kernelRun0_A.sl.r c arg2 harg2 arg3 harg3 arg4 harg4 arg5 harg5 arg6 harg6 X G S R W) j l).trans (congrFun (rA c arg2 harg2 arg3 harg3 arg4 harg4 arg5 harg5 arg6 harg6 X G S R W) _)

theorem v221A (j : Fin 512) (l : Fin 128) : kernelRun0_A.sl.v221 c arg2 harg2 arg3 harg3 arg4 harg4 arg5 harg5 arg6 harg6 arg7 harg7 arg8 harg8 arg21 X G S R W V5 V6 (ix4 (0 : Fin 1) (0 : Fin 1) j l) = k0_pay3 X G S R W (ix2 j (colV (colH 0 l))) :=
  (show kernelRun0_A.sl.v221 c arg2 harg2 arg3 harg3 arg4 harg4 arg5 harg5 arg6 harg6 arg7 harg7 arg8 harg8 arg21 X G S R W V5 V6 (ix4 (0 : Fin 1) (0 : Fin 1) j l) = arg21.view.read (Elt Ideal) (arg21.view.writes (Elt Ideal) arg21.view.junk (kernelRun0_A.sl.HS1_12 c arg2 harg2 arg3 harg3 arg4 harg4 arg5 harg5 arg6 harg6 arg7 harg7 arg8 harg8 X G S R W V5 V6)) (ix4 (2 : Fin 3) (0 : Fin 4) j l) from
    congrArg (arg21.view.read (Elt Ideal) (arg21.view.writes (Elt Ideal) arg21.view.junk (kernelRun0_A.sl.HS1_12 c arg2 harg2 arg3 harg3 arg4 harg4 arg5 harg5 arg6 harg6 arg7 harg7 arg8 harg8 X G S R W V5 V6))) (funext fun a => Fin.ext (by
      match a with
      | ⟨0, _⟩ => rfl
      | ⟨1, _⟩ => rfl
      | ⟨2, _⟩ => show 0 + 1 * j.val = j.val; omega
      | ⟨3, _⟩ => show 0 + 1 * l.val = l.val; omega))).trans (stageA0 c arg2 harg2 arg3 harg3 arg4 harg4 arg5 harg5 arg6 harg6 arg7 harg7 arg8 harg8 arg21 X G S R W V5 V6 arg21.view.junk j l)

theorem stageA1 (f : arg21.view.ty.Contents (Elt Ideal)) (j : Fin 512) (l : Fin 128) :
    arg21.view.read (Elt Ideal) (arg21.view.writes (Elt Ideal) f (kernelRun0_A.sl.HS1_12 c arg2 harg2 arg3 harg3 arg4 harg4 arg5 harg5 arg6 harg6 arg7 harg7 arg8 harg8 X G S R W V5 V6)) (ix4 (2 : Fin 3) (1 : Fin 4) j l) = k0_pay3 X G S R W (ix2 j (colV (colH 1 l))) := by
  unfold kernelRun0_A.sl.HS1_12
  refine (View.read_writes_cons_unit_of_not_mem arg21.view f _ _ _ (ix4 (2 : Fin 3) (1 : Fin 4) j l) rfl (1 : Fin 4) (Or.inl (show 1 < 3 by decide))).trans ?_
  refine (View.read_writes_cons_unit_of_not_mem arg21.view f _ _ _ (ix4 (2 : Fin 3) (1 : Fin 4) j l) rfl (1 : Fin 4) (Or.inl (show 1 < 3 by decide))).trans ?_
  refine (View.read_writes_cons_unit_of_not_mem arg21.view f _ _ _ (ix4 (2 : Fin 3) (1 : Fin 4) j l) rfl (1 : Fin 4) (Or.inl (show 1 < 3 by decide))).trans ?_
  refine (View.read_writes_cons_unit_of_not_mem arg21.view f _ _ _ (ix4 (2 : Fin 3) (1 : Fin 4) j l) rfl (1 : Fin 4) (Or.inl (show 1 < 2 by decide))).trans ?_
  refine (View.read_writes_cons_unit_of_not_mem arg21.view f _ _ _ (ix4 (2 : Fin 3) (1 : Fin 4) j l) rfl (1 : Fin 4) (Or.inl (show 1 < 2 by decide))).trans ?_
  refine (View.read_writes_cons_unit_of_not_mem arg21.view f _ _ _ (ix4 (2 : Fin 3) (1 : Fin 4) j l) rfl (1 : Fin 4) (Or.inl (show 1 < 2 by decide))).trans ?_
  refine (View.read_writes_cons_unit_of_mem arg21.view f _ _ _ (ix4 (2 : Fin 3) (1 : Fin 4) j l) (ix4 (0 : Fin 1) (0 : Fin 1) j l) rfl fun a => ?_).trans ?_
  · match a with
    | ⟨0, _⟩ => rfl
    | ⟨1, _⟩ => rfl
    | ⟨2, _⟩ => exact (Nat.zero_add _).symm
    | ⟨3, _⟩ => exact (Nat.zero_add _).symm
  · exact (staged1 (kernelRun0_A.sl.r c arg2 harg2 arg3 harg3 arg4 harg4 arg5 harg5 arg6 harg6 X G S R W) j l).trans (congrFun (rA c arg2 harg2 arg3 harg3 arg4 harg4 arg5 harg5 arg6 harg6 X G S R W) _)

theorem v227A (j : Fin 512) (l : Fin 128) : kernelRun0_A.sl.v227 c arg2 harg2 arg3 harg3 arg4 harg4 arg5 harg5 arg6 harg6 arg7 harg7 arg8 harg8 arg21 X G S R W V5 V6 (ix4 (0 : Fin 1) (0 : Fin 1) j l) = k0_pay3 X G S R W (ix2 j (colV (colH 1 l))) :=
  (show kernelRun0_A.sl.v227 c arg2 harg2 arg3 harg3 arg4 harg4 arg5 harg5 arg6 harg6 arg7 harg7 arg8 harg8 arg21 X G S R W V5 V6 (ix4 (0 : Fin 1) (0 : Fin 1) j l) = arg21.view.read (Elt Ideal) (arg21.view.writes (Elt Ideal) arg21.view.junk (kernelRun0_A.sl.HS1_12 c arg2 harg2 arg3 harg3 arg4 harg4 arg5 harg5 arg6 harg6 arg7 harg7 arg8 harg8 X G S R W V5 V6)) (ix4 (2 : Fin 3) (1 : Fin 4) j l) from
    congrArg (arg21.view.read (Elt Ideal) (arg21.view.writes (Elt Ideal) arg21.view.junk (kernelRun0_A.sl.HS1_12 c arg2 harg2 arg3 harg3 arg4 harg4 arg5 harg5 arg6 harg6 arg7 harg7 arg8 harg8 X G S R W V5 V6))) (funext fun a => Fin.ext (by
      match a with
      | ⟨0, _⟩ => rfl
      | ⟨1, _⟩ => rfl
      | ⟨2, _⟩ => show 0 + 1 * j.val = j.val; omega
      | ⟨3, _⟩ => show 0 + 1 * l.val = l.val; omega))).trans (stageA1 c arg2 harg2 arg3 harg3 arg4 harg4 arg5 harg5 arg6 harg6 arg7 harg7 arg8 harg8 arg21 X G S R W V5 V6 arg21.view.junk j l)

theorem stageA2 (f : arg21.view.ty.Contents (Elt Ideal)) (j : Fin 512) (l : Fin 128) :
    arg21.view.read (Elt Ideal) (arg21.view.writes (Elt Ideal) f (kernelRun0_A.sl.HS1_12 c arg2 harg2 arg3 harg3 arg4 harg4 arg5 harg5 arg6 harg6 arg7 harg7 arg8 harg8 X G S R W V5 V6)) (ix4 (2 : Fin 3) (2 : Fin 4) j l) = k0_pay3 X G S R W (ix2 j (colV (colH 2 l))) := by
  unfold kernelRun0_A.sl.HS1_12
  refine (View.read_writes_cons_unit_of_not_mem arg21.view f _ _ _ (ix4 (2 : Fin 3) (2 : Fin 4) j l) rfl (1 : Fin 4) (Or.inl (show 2 < 3 by decide))).trans ?_
  refine (View.read_writes_cons_unit_of_not_mem arg21.view f _ _ _ (ix4 (2 : Fin 3) (2 : Fin 4) j l) rfl (1 : Fin 4) (Or.inl (show 2 < 3 by decide))).trans ?_
  refine (View.read_writes_cons_unit_of_not_mem arg21.view f _ _ _ (ix4 (2 : Fin 3) (2 : Fin 4) j l) rfl (1 : Fin 4) (Or.inl (show 2 < 3 by decide))).trans ?_
  refine (View.read_writes_cons_unit_of_mem arg21.view f _ _ _ (ix4 (2 : Fin 3) (2 : Fin 4) j l) (ix4 (0 : Fin 1) (0 : Fin 1) j l) rfl fun a => ?_).trans ?_
  · match a with
    | ⟨0, _⟩ => rfl
    | ⟨1, _⟩ => rfl
    | ⟨2, _⟩ => exact (Nat.zero_add _).symm
    | ⟨3, _⟩ => exact (Nat.zero_add _).symm
  · exact (staged2 (kernelRun0_A.sl.r c arg2 harg2 arg3 harg3 arg4 harg4 arg5 harg5 arg6 harg6 X G S R W) j l).trans (congrFun (rA c arg2 harg2 arg3 harg3 arg4 harg4 arg5 harg5 arg6 harg6 X G S R W) _)

theorem v233A (j : Fin 512) (l : Fin 128) : kernelRun0_A.sl.v233 c arg2 harg2 arg3 harg3 arg4 harg4 arg5 harg5 arg6 harg6 arg7 harg7 arg8 harg8 arg21 X G S R W V5 V6 (ix4 (0 : Fin 1) (0 : Fin 1) j l) = k0_pay3 X G S R W (ix2 j (colV (colH 2 l))) :=
  (show kernelRun0_A.sl.v233 c arg2 harg2 arg3 harg3 arg4 harg4 arg5 harg5 arg6 harg6 arg7 harg7 arg8 harg8 arg21 X G S R W V5 V6 (ix4 (0 : Fin 1) (0 : Fin 1) j l) = arg21.view.read (Elt Ideal) (arg21.view.writes (Elt Ideal) arg21.view.junk (kernelRun0_A.sl.HS1_12 c arg2 harg2 arg3 harg3 arg4 harg4 arg5 harg5 arg6 harg6 arg7 harg7 arg8 harg8 X G S R W V5 V6)) (ix4 (2 : Fin 3) (2 : Fin 4) j l) from
    congrArg (arg21.view.read (Elt Ideal) (arg21.view.writes (Elt Ideal) arg21.view.junk (kernelRun0_A.sl.HS1_12 c arg2 harg2 arg3 harg3 arg4 harg4 arg5 harg5 arg6 harg6 arg7 harg7 arg8 harg8 X G S R W V5 V6))) (funext fun a => Fin.ext (by
      match a with
      | ⟨0, _⟩ => rfl
      | ⟨1, _⟩ => rfl
      | ⟨2, _⟩ => show 0 + 1 * j.val = j.val; omega
      | ⟨3, _⟩ => show 0 + 1 * l.val = l.val; omega))).trans (stageA2 c arg2 harg2 arg3 harg3 arg4 harg4 arg5 harg5 arg6 harg6 arg7 harg7 arg8 harg8 arg21 X G S R W V5 V6 arg21.view.junk j l)

theorem stageA3 (f : arg21.view.ty.Contents (Elt Ideal)) (j : Fin 512) (l : Fin 128) :
    arg21.view.read (Elt Ideal) (arg21.view.writes (Elt Ideal) f (kernelRun0_A.sl.HS1_12 c arg2 harg2 arg3 harg3 arg4 harg4 arg5 harg5 arg6 harg6 arg7 harg7 arg8 harg8 X G S R W V5 V6)) (ix4 (2 : Fin 3) (3 : Fin 4) j l) = k0_pay3 X G S R W (ix2 j (colV (colH 3 l))) := by
  unfold kernelRun0_A.sl.HS1_12
  refine (View.read_writes_cons_unit_of_mem arg21.view f _ _ _ (ix4 (2 : Fin 3) (3 : Fin 4) j l) (ix4 (0 : Fin 1) (0 : Fin 1) j l) rfl fun a => ?_).trans ?_
  · match a with
    | ⟨0, _⟩ => rfl
    | ⟨1, _⟩ => rfl
    | ⟨2, _⟩ => exact (Nat.zero_add _).symm
    | ⟨3, _⟩ => exact (Nat.zero_add _).symm
  · exact (staged3 (kernelRun0_A.sl.r c arg2 harg2 arg3 harg3 arg4 harg4 arg5 harg5 arg6 harg6 X G S R W) j l).trans (congrFun (rA c arg2 harg2 arg3 harg3 arg4 harg4 arg5 harg5 arg6 harg6 X G S R W) _)

theorem v239A (j : Fin 512) (l : Fin 128) : kernelRun0_A.sl.v239 c arg2 harg2 arg3 harg3 arg4 harg4 arg5 harg5 arg6 harg6 arg7 harg7 arg8 harg8 arg21 X G S R W V5 V6 (ix4 (0 : Fin 1) (0 : Fin 1) j l) = k0_pay3 X G S R W (ix2 j (colV (colH 3 l))) :=
  (show kernelRun0_A.sl.v239 c arg2 harg2 arg3 harg3 arg4 harg4 arg5 harg5 arg6 harg6 arg7 harg7 arg8 harg8 arg21 X G S R W V5 V6 (ix4 (0 : Fin 1) (0 : Fin 1) j l) = arg21.view.read (Elt Ideal) (arg21.view.writes (Elt Ideal) arg21.view.junk (kernelRun0_A.sl.HS1_12 c arg2 harg2 arg3 harg3 arg4 harg4 arg5 harg5 arg6 harg6 arg7 harg7 arg8 harg8 X G S R W V5 V6)) (ix4 (2 : Fin 3) (3 : Fin 4) j l) from
    congrArg (arg21.view.read (Elt Ideal) (arg21.view.writes (Elt Ideal) arg21.view.junk (kernelRun0_A.sl.HS1_12 c arg2 harg2 arg3 harg3 arg4 harg4 arg5 harg5 arg6 harg6 arg7 harg7 arg8 harg8 X G S R W V5 V6))) (funext fun a => Fin.ext (by
      match a with
      | ⟨0, _⟩ => rfl
      | ⟨1, _⟩ => rfl
      | ⟨2, _⟩ => show 0 + 1 * j.val = j.val; omega
      | ⟨3, _⟩ => show 0 + 1 * l.val = l.val; omega))).trans (stageA3 c arg2 harg2 arg3 harg3 arg4 harg4 arg5 harg5 arg6 harg6 arg7 harg7 arg8 harg8 arg21 X G S R W V5 V6 arg21.view.junk j l)

theorem piecesA (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K = VO0_10.read (Elt Ideal) (VO0_10.writes (Elt Ideal) VO0_10.junk
    [⟨Rect.unit ![0, 0, 384] ![1, 512, 128] inb_S1x512x512_S1x512x128_0_0_384, (k0_pay36 (kernelRun0_A.sl.v239 c arg2 harg2 arg3 harg3 arg4 harg4 arg5 harg5 arg6 harg6 arg7 harg7 arg8 harg8 arg21 X G S R W V5 V6))⟩, ⟨Rect.unit ![0, 0, 256] ![1, 512, 128] inb_S1x512x512_S1x512x128_0_0_256, (k0_pay35 (kernelRun0_A.sl.v233 c arg2 harg2 arg3 harg3 arg4 harg4 arg5 harg5 arg6 harg6 arg7 harg7 arg8 harg8 arg21 X G S R W V5 V6))⟩, ⟨Rect.unit ![0, 0, 128] ![1, 512, 128] inb_S1x512x512_S1x512x128_0_0_128, (k0_pay34 (kernelRun0_A.sl.v227 c arg2 harg2 arg3 harg3 arg4 harg4 arg5 harg5 arg6 harg6 arg7 harg7 arg8 harg8 arg21 X G S R W V5 V6))⟩, ⟨Rect.unit ![0, 0, 0] ![1, 512, 128] inb_S1x512x512_S1x512x128_0_0_0, (k0_pay33 (kernelRun0_A.sl.v221 c arg2 harg2 arg3 harg3 arg4 harg4 arg5 harg5 arg6 harg6 arg7 harg7 arg8 harg8 arg21 X G S R W V5 V6))⟩]) := by
  unfold out0_A_10 kernelRun0_A
  rfl

theorem out10A0 (hc0 : cond0_0 i) (j : Fin 512) (l : Fin 128) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K (ix3 (0 : Fin 1) j (colH 0 l)) = k0_pay3 X G S R W (ix2 j (colV (colH 0 l))) := by
  rw [piecesA]
  refine (View.read_writes_cons_unit_of_not_mem VO0_10 VO0_10.junk _ _ _ (ix3 (0 : Fin 1) j (colH 0 l)) rfl (2 : Fin 3) (Or.inl (by show 128 * 0 + l.val < 384; omega))).trans ?_
  refine (View.read_writes_cons_unit_of_not_mem VO0_10 VO0_10.junk _ _ _ (ix3 (0 : Fin 1) j (colH 0 l)) rfl (2 : Fin 3) (Or.inl (by show 128 * 0 + l.val < 256; omega))).trans ?_
  refine (View.read_writes_cons_unit_of_not_mem VO0_10 VO0_10.junk _ _ _ (ix3 (0 : Fin 1) j (colH 0 l)) rfl (2 : Fin 3) (Or.inl (by show 128 * 0 + l.val < 128; omega))).trans ?_
  refine (View.read_writes_cons_unit_of_mem VO0_10 VO0_10.junk _ _ _ (ix3 (0 : Fin 1) j (colH 0 l)) (ix3 (0 : Fin 1) j l) rfl fun a => ?_).trans ?_
  · match a with
    | ⟨0, _⟩ => rfl
    | ⟨1, _⟩ => exact (Nat.zero_add _).symm
    | ⟨2, _⟩ => show 128 * 0 + l.val = 0 + l.val; omega
  · exact (written0 (kernelRun0_A.sl.v221 c arg2 harg2 arg3 harg3 arg4 harg4 arg5 harg5 arg6 harg6 arg7 harg7 arg8 harg8 arg21 X G S R W V5 V6) j l).trans (v221A c arg2 harg2 arg3 harg3 arg4 harg4 arg5 harg5 arg6 harg6 arg7 harg7 arg8 harg8 arg21 X G S R W V5 V6 j l)

theorem out10A1 (hc0 : cond0_0 i) (j : Fin 512) (l : Fin 128) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K (ix3 (0 : Fin 1) j (colH 1 l)) = k0_pay3 X G S R W (ix2 j (colV (colH 1 l))) := by
  rw [piecesA]
  refine (View.read_writes_cons_unit_of_not_mem VO0_10 VO0_10.junk _ _ _ (ix3 (0 : Fin 1) j (colH 1 l)) rfl (2 : Fin 3) (Or.inl (by show 128 * 1 + l.val < 384; omega))).trans ?_
  refine (View.read_writes_cons_unit_of_not_mem VO0_10 VO0_10.junk _ _ _ (ix3 (0 : Fin 1) j (colH 1 l)) rfl (2 : Fin 3) (Or.inl (by show 128 * 1 + l.val < 256; omega))).trans ?_
  refine (View.read_writes_cons_unit_of_mem VO0_10 VO0_10.junk _ _ _ (ix3 (0 : Fin 1) j (colH 1 l)) (ix3 (0 : Fin 1) j l) rfl fun a => ?_).trans ?_
  · match a with
    | ⟨0, _⟩ => rfl
    | ⟨1, _⟩ => exact (Nat.zero_add _).symm
    | ⟨2, _⟩ => show 128 * 1 + l.val = 128 + l.val; omega
  · exact (written1 (kernelRun0_A.sl.v227 c arg2 harg2 arg3 harg3 arg4 harg4 arg5 harg5 arg6 harg6 arg7 harg7 arg8 harg8 arg21 X G S R W V5 V6) j l).trans (v227A c arg2 harg2 arg3 harg3 arg4 harg4 arg5 harg5 arg6 harg6 arg7 harg7 arg8 harg8 arg21 X G S R W V5 V6 j l)

theorem out10A2 (hc0 : cond0_0 i) (j : Fin 512) (l : Fin 128) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K (ix3 (0 : Fin 1) j (colH 2 l)) = k0_pay3 X G S R W (ix2 j (colV (colH 2 l))) := by
  rw [piecesA]
  refine (View.read_writes_cons_unit_of_not_mem VO0_10 VO0_10.junk _ _ _ (ix3 (0 : Fin 1) j (colH 2 l)) rfl (2 : Fin 3) (Or.inl (by show 128 * 2 + l.val < 384; omega))).trans ?_
  refine (View.read_writes_cons_unit_of_mem VO0_10 VO0_10.junk _ _ _ (ix3 (0 : Fin 1) j (colH 2 l)) (ix3 (0 : Fin 1) j l) rfl fun a => ?_).trans ?_
  · match a with
    | ⟨0, _⟩ => rfl
    | ⟨1, _⟩ => exact (Nat.zero_add _).symm
    | ⟨2, _⟩ => show 128 * 2 + l.val = 256 + l.val; omega
  · exact (written2 (kernelRun0_A.sl.v233 c arg2 harg2 arg3 harg3 arg4 harg4 arg5 harg5 arg6 harg6 arg7 harg7 arg8 harg8 arg21 X G S R W V5 V6) j l).trans (v233A c arg2 harg2 arg3 harg3 arg4 harg4 arg5 harg5 arg6 harg6 arg7 harg7 arg8 harg8 arg21 X G S R W V5 V6 j l)

theorem out10A3 (hc0 : cond0_0 i) (j : Fin 512) (l : Fin 128) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K (ix3 (0 : Fin 1) j (colH 3 l)) = k0_pay3 X G S R W (ix2 j (colV (colH 3 l))) := by
  rw [piecesA]
  refine (View.read_writes_cons_unit_of_mem VO0_10 VO0_10.junk _ _ _ (ix3 (0 : Fin 1) j (colH 3 l)) (ix3 (0 : Fin 1) j l) rfl fun a => ?_).trans ?_
  · match a with
    | ⟨0, _⟩ => rfl
    | ⟨1, _⟩ => exact (Nat.zero_add _).symm
    | ⟨2, _⟩ => show 128 * 3 + l.val = 384 + l.val; omega
  · exact (written3 (kernelRun0_A.sl.v239 c arg2 harg2 arg3 harg3 arg4 harg4 arg5 harg5 arg6 harg6 arg7 harg7 arg8 harg8 arg21 X G S R W V5 V6) j l).trans (v239A c arg2 harg2 arg3 harg3 arg4 harg4 arg5 harg5 arg6 harg6 arg7 harg7 arg8 harg8 arg21 X G S R W V5 V6 j l)

theorem out10A (hc0 : cond0_0 i) (j l : Fin 512) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K (ix3 (0 : Fin 1) j l) = k0_pay3 X G S R W (ix2 j (colV l)) := by
  obtain ⟨h, l, rfl⟩ : ∃ (h : Fin 4) (k : Fin 128), l = colH h k := ⟨⟨l.val / 128, by omega⟩, ⟨l.val % 128, by omega⟩, Fin.ext (by show l.val = 128 * (l.val / 128) + l.val % 128; omega)⟩
  match h with
  | 0 => exact out10A0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X G S R W V5 V6 K hc0 j l
  | 1 => exact out10A1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X G S R W V5 V6 K hc0 j l
  | 2 => exact out10A2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X G S R W V5 V6 K hc0 j l
  | 3 => exact out10A3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X G S R W V5 V6 K hc0 j l

theorem stageB0 (f : arg21.view.ty.Contents (Elt Ideal)) (j : Fin 512) (l : Fin 128) :
    arg21.view.read (Elt Ideal) (arg21.view.writes (Elt Ideal) f (kernelRun0_B.sl.HS1_12 c arg2 harg2 arg3 harg3 arg4 harg4 arg5 harg5 arg6 harg6 arg7 harg7 arg8 harg8 X G S R W V5 V6)) (ix4 (2 : Fin 3) (0 : Fin 4) j l) = k0_pay3 X G S R W (ix2 j (colV (colH 0 l))) := by
  unfold kernelRun0_B.sl.HS1_12
  refine (View.read_writes_cons_unit_of_not_mem arg21.view f _ _ _ (ix4 (2 : Fin 3) (0 : Fin 4) j l) rfl (1 : Fin 4) (Or.inl (show 0 < 3 by decide))).trans ?_
  refine (View.read_writes_cons_unit_of_not_mem arg21.view f _ _ _ (ix4 (2 : Fin 3) (0 : Fin 4) j l) rfl (1 : Fin 4) (Or.inl (show 0 < 3 by decide))).trans ?_
  refine (View.read_writes_cons_unit_of_not_mem arg21.view f _ _ _ (ix4 (2 : Fin 3) (0 : Fin 4) j l) rfl (1 : Fin 4) (Or.inl (show 0 < 3 by decide))).trans ?_
  refine (View.read_writes_cons_unit_of_not_mem arg21.view f _ _ _ (ix4 (2 : Fin 3) (0 : Fin 4) j l) rfl (1 : Fin 4) (Or.inl (show 0 < 2 by decide))).trans ?_
  refine (View.read_writes_cons_unit_of_not_mem arg21.view f _ _ _ (ix4 (2 : Fin 3) (0 : Fin 4) j l) rfl (1 : Fin 4) (Or.inl (show 0 < 2 by decide))).trans ?_
  refine (View.read_writes_cons_unit_of_not_mem arg21.view f _ _ _ (ix4 (2 : Fin 3) (0 : Fin 4) j l) rfl (1 : Fin 4) (Or.inl (show 0 < 2 by decide))).trans ?_
  refine (View.read_writes_cons_unit_of_not_mem arg21.view f _ _ _ (ix4 (2 : Fin 3) (0 : Fin 4) j l) rfl (1 : Fin 4) (Or.inl (show 0 < 1 by decide))).trans ?_
  refine (View.read_writes_cons_unit_of_not_mem arg21.view f _ _ _ (ix4 (2 : Fin 3) (0 : Fin 4) j l) rfl (1 : Fin 4) (Or.inl (show 0 < 1 by decide))).trans ?_
  refine (View.read_writes_cons_unit_of_not_mem arg21.view f _ _ _ (ix4 (2 : Fin 3) (0 : Fin 4) j l) rfl (1 : Fin 4) (Or.inl (show 0 < 1 by decide))).trans ?_
  refine (View.read_writes_cons_unit_of_mem arg21.view f _ _ _ (ix4 (2 : Fin 3) (0 : Fin 4) j l) (ix4 (0 : Fin 1) (0 : Fin 1) j l) rfl fun a => ?_).trans ?_
  · match a with
    | ⟨0, _⟩ => rfl
    | ⟨1, _⟩ => rfl
    | ⟨2, _⟩ => exact (Nat.zero_add _).symm
    | ⟨3, _⟩ => exact (Nat.zero_add _).symm
  · exact (staged0 (kernelRun0_B.sl.r c arg2 harg2 arg3 harg3 arg4 harg4 arg5 harg5 arg6 harg6 X G S R W) j l).trans (congrFun (rB c arg2 harg2 arg3 harg3 arg4 harg4 arg5 harg5 arg6 harg6 X G S R W) _)

theorem v221B (j : Fin 512) (l : Fin 128) : kernelRun0_B.sl.v221 c arg2 harg2 arg3 harg3 arg4 harg4 arg5 harg5 arg6 harg6 arg7 harg7 arg8 harg8 arg21 X G S R W V5 V6 (ix4 (0 : Fin 1) (0 : Fin 1) j l) = k0_pay3 X G S R W (ix2 j (colV (colH 0 l))) :=
  (show kernelRun0_B.sl.v221 c arg2 harg2 arg3 harg3 arg4 harg4 arg5 harg5 arg6 harg6 arg7 harg7 arg8 harg8 arg21 X G S R W V5 V6 (ix4 (0 : Fin 1) (0 : Fin 1) j l) = arg21.view.read (Elt Ideal) (arg21.view.writes (Elt Ideal) arg21.view.junk (kernelRun0_B.sl.HS1_12 c arg2 harg2 arg3 harg3 arg4 harg4 arg5 harg5 arg6 harg6 arg7 harg7 arg8 harg8 X G S R W V5 V6)) (ix4 (2 : Fin 3) (0 : Fin 4) j l) from
    congrArg (arg21.view.read (Elt Ideal) (arg21.view.writes (Elt Ideal) arg21.view.junk (kernelRun0_B.sl.HS1_12 c arg2 harg2 arg3 harg3 arg4 harg4 arg5 harg5 arg6 harg6 arg7 harg7 arg8 harg8 X G S R W V5 V6))) (funext fun a => Fin.ext (by
      match a with
      | ⟨0, _⟩ => rfl
      | ⟨1, _⟩ => rfl
      | ⟨2, _⟩ => show 0 + 1 * j.val = j.val; omega
      | ⟨3, _⟩ => show 0 + 1 * l.val = l.val; omega))).trans (stageB0 c arg2 harg2 arg3 harg3 arg4 harg4 arg5 harg5 arg6 harg6 arg7 harg7 arg8 harg8 arg21 X G S R W V5 V6 arg21.view.junk j l)

theorem stageB1 (f : arg21.view.ty.Contents (Elt Ideal)) (j : Fin 512) (l : Fin 128) :
    arg21.view.read (Elt Ideal) (arg21.view.writes (Elt Ideal) f (kernelRun0_B.sl.HS1_12 c arg2 harg2 arg3 harg3 arg4 harg4 arg5 harg5 arg6 harg6 arg7 harg7 arg8 harg8 X G S R W V5 V6)) (ix4 (2 : Fin 3) (1 : Fin 4) j l) = k0_pay3 X G S R W (ix2 j (colV (colH 1 l))) := by
  unfold kernelRun0_B.sl.HS1_12
  refine (View.read_writes_cons_unit_of_not_mem arg21.view f _ _ _ (ix4 (2 : Fin 3) (1 : Fin 4) j l) rfl (1 : Fin 4) (Or.inl (show 1 < 3 by decide))).trans ?_
  refine (View.read_writes_cons_unit_of_not_mem arg21.view f _ _ _ (ix4 (2 : Fin 3) (1 : Fin 4) j l) rfl (1 : Fin 4) (Or.inl (show 1 < 3 by decide))).trans ?_
  refine (View.read_writes_cons_unit_of_not_mem arg21.view f _ _ _ (ix4 (2 : Fin 3) (1 : Fin 4) j l) rfl (1 : Fin 4) (Or.inl (show 1 < 3 by decide))).trans ?_
  refine (View.read_writes_cons_unit_of_not_mem arg21.view f _ _ _ (ix4 (2 : Fin 3) (1 : Fin 4) j l) rfl (1 : Fin 4) (Or.inl (show 1 < 2 by decide))).trans ?_
  refine (View.read_writes_cons_unit_of_not_mem arg21.view f _ _ _ (ix4 (2 : Fin 3) (1 : Fin 4) j l) rfl (1 : Fin 4) (Or.inl (show 1 < 2 by decide))).trans ?_
  refine (View.read_writes_cons_unit_of_not_mem arg21.view f _ _ _ (ix4 (2 : Fin 3) (1 : Fin 4) j l) rfl (1 : Fin 4) (Or.inl (show 1 < 2 by decide))).trans ?_
  refine (View.read_writes_cons_unit_of_mem arg21.view f _ _ _ (ix4 (2 : Fin 3) (1 : Fin 4) j l) (ix4 (0 : Fin 1) (0 : Fin 1) j l) rfl fun a => ?_).trans ?_
  · match a with
    | ⟨0, _⟩ => rfl
    | ⟨1, _⟩ => rfl
    | ⟨2, _⟩ => exact (Nat.zero_add _).symm
    | ⟨3, _⟩ => exact (Nat.zero_add _).symm
  · exact (staged1 (kernelRun0_B.sl.r c arg2 harg2 arg3 harg3 arg4 harg4 arg5 harg5 arg6 harg6 X G S R W) j l).trans (congrFun (rB c arg2 harg2 arg3 harg3 arg4 harg4 arg5 harg5 arg6 harg6 X G S R W) _)

theorem v227B (j : Fin 512) (l : Fin 128) : kernelRun0_B.sl.v227 c arg2 harg2 arg3 harg3 arg4 harg4 arg5 harg5 arg6 harg6 arg7 harg7 arg8 harg8 arg21 X G S R W V5 V6 (ix4 (0 : Fin 1) (0 : Fin 1) j l) = k0_pay3 X G S R W (ix2 j (colV (colH 1 l))) :=
  (show kernelRun0_B.sl.v227 c arg2 harg2 arg3 harg3 arg4 harg4 arg5 harg5 arg6 harg6 arg7 harg7 arg8 harg8 arg21 X G S R W V5 V6 (ix4 (0 : Fin 1) (0 : Fin 1) j l) = arg21.view.read (Elt Ideal) (arg21.view.writes (Elt Ideal) arg21.view.junk (kernelRun0_B.sl.HS1_12 c arg2 harg2 arg3 harg3 arg4 harg4 arg5 harg5 arg6 harg6 arg7 harg7 arg8 harg8 X G S R W V5 V6)) (ix4 (2 : Fin 3) (1 : Fin 4) j l) from
    congrArg (arg21.view.read (Elt Ideal) (arg21.view.writes (Elt Ideal) arg21.view.junk (kernelRun0_B.sl.HS1_12 c arg2 harg2 arg3 harg3 arg4 harg4 arg5 harg5 arg6 harg6 arg7 harg7 arg8 harg8 X G S R W V5 V6))) (funext fun a => Fin.ext (by
      match a with
      | ⟨0, _⟩ => rfl
      | ⟨1, _⟩ => rfl
      | ⟨2, _⟩ => show 0 + 1 * j.val = j.val; omega
      | ⟨3, _⟩ => show 0 + 1 * l.val = l.val; omega))).trans (stageB1 c arg2 harg2 arg3 harg3 arg4 harg4 arg5 harg5 arg6 harg6 arg7 harg7 arg8 harg8 arg21 X G S R W V5 V6 arg21.view.junk j l)

theorem stageB2 (f : arg21.view.ty.Contents (Elt Ideal)) (j : Fin 512) (l : Fin 128) :
    arg21.view.read (Elt Ideal) (arg21.view.writes (Elt Ideal) f (kernelRun0_B.sl.HS1_12 c arg2 harg2 arg3 harg3 arg4 harg4 arg5 harg5 arg6 harg6 arg7 harg7 arg8 harg8 X G S R W V5 V6)) (ix4 (2 : Fin 3) (2 : Fin 4) j l) = k0_pay3 X G S R W (ix2 j (colV (colH 2 l))) := by
  unfold kernelRun0_B.sl.HS1_12
  refine (View.read_writes_cons_unit_of_not_mem arg21.view f _ _ _ (ix4 (2 : Fin 3) (2 : Fin 4) j l) rfl (1 : Fin 4) (Or.inl (show 2 < 3 by decide))).trans ?_
  refine (View.read_writes_cons_unit_of_not_mem arg21.view f _ _ _ (ix4 (2 : Fin 3) (2 : Fin 4) j l) rfl (1 : Fin 4) (Or.inl (show 2 < 3 by decide))).trans ?_
  refine (View.read_writes_cons_unit_of_not_mem arg21.view f _ _ _ (ix4 (2 : Fin 3) (2 : Fin 4) j l) rfl (1 : Fin 4) (Or.inl (show 2 < 3 by decide))).trans ?_
  refine (View.read_writes_cons_unit_of_mem arg21.view f _ _ _ (ix4 (2 : Fin 3) (2 : Fin 4) j l) (ix4 (0 : Fin 1) (0 : Fin 1) j l) rfl fun a => ?_).trans ?_
  · match a with
    | ⟨0, _⟩ => rfl
    | ⟨1, _⟩ => rfl
    | ⟨2, _⟩ => exact (Nat.zero_add _).symm
    | ⟨3, _⟩ => exact (Nat.zero_add _).symm
  · exact (staged2 (kernelRun0_B.sl.r c arg2 harg2 arg3 harg3 arg4 harg4 arg5 harg5 arg6 harg6 X G S R W) j l).trans (congrFun (rB c arg2 harg2 arg3 harg3 arg4 harg4 arg5 harg5 arg6 harg6 X G S R W) _)

theorem v233B (j : Fin 512) (l : Fin 128) : kernelRun0_B.sl.v233 c arg2 harg2 arg3 harg3 arg4 harg4 arg5 harg5 arg6 harg6 arg7 harg7 arg8 harg8 arg21 X G S R W V5 V6 (ix4 (0 : Fin 1) (0 : Fin 1) j l) = k0_pay3 X G S R W (ix2 j (colV (colH 2 l))) :=
  (show kernelRun0_B.sl.v233 c arg2 harg2 arg3 harg3 arg4 harg4 arg5 harg5 arg6 harg6 arg7 harg7 arg8 harg8 arg21 X G S R W V5 V6 (ix4 (0 : Fin 1) (0 : Fin 1) j l) = arg21.view.read (Elt Ideal) (arg21.view.writes (Elt Ideal) arg21.view.junk (kernelRun0_B.sl.HS1_12 c arg2 harg2 arg3 harg3 arg4 harg4 arg5 harg5 arg6 harg6 arg7 harg7 arg8 harg8 X G S R W V5 V6)) (ix4 (2 : Fin 3) (2 : Fin 4) j l) from
    congrArg (arg21.view.read (Elt Ideal) (arg21.view.writes (Elt Ideal) arg21.view.junk (kernelRun0_B.sl.HS1_12 c arg2 harg2 arg3 harg3 arg4 harg4 arg5 harg5 arg6 harg6 arg7 harg7 arg8 harg8 X G S R W V5 V6))) (funext fun a => Fin.ext (by
      match a with
      | ⟨0, _⟩ => rfl
      | ⟨1, _⟩ => rfl
      | ⟨2, _⟩ => show 0 + 1 * j.val = j.val; omega
      | ⟨3, _⟩ => show 0 + 1 * l.val = l.val; omega))).trans (stageB2 c arg2 harg2 arg3 harg3 arg4 harg4 arg5 harg5 arg6 harg6 arg7 harg7 arg8 harg8 arg21 X G S R W V5 V6 arg21.view.junk j l)

theorem stageB3 (f : arg21.view.ty.Contents (Elt Ideal)) (j : Fin 512) (l : Fin 128) :
    arg21.view.read (Elt Ideal) (arg21.view.writes (Elt Ideal) f (kernelRun0_B.sl.HS1_12 c arg2 harg2 arg3 harg3 arg4 harg4 arg5 harg5 arg6 harg6 arg7 harg7 arg8 harg8 X G S R W V5 V6)) (ix4 (2 : Fin 3) (3 : Fin 4) j l) = k0_pay3 X G S R W (ix2 j (colV (colH 3 l))) := by
  unfold kernelRun0_B.sl.HS1_12
  refine (View.read_writes_cons_unit_of_mem arg21.view f _ _ _ (ix4 (2 : Fin 3) (3 : Fin 4) j l) (ix4 (0 : Fin 1) (0 : Fin 1) j l) rfl fun a => ?_).trans ?_
  · match a with
    | ⟨0, _⟩ => rfl
    | ⟨1, _⟩ => rfl
    | ⟨2, _⟩ => exact (Nat.zero_add _).symm
    | ⟨3, _⟩ => exact (Nat.zero_add _).symm
  · exact (staged3 (kernelRun0_B.sl.r c arg2 harg2 arg3 harg3 arg4 harg4 arg5 harg5 arg6 harg6 X G S R W) j l).trans (congrFun (rB c arg2 harg2 arg3 harg3 arg4 harg4 arg5 harg5 arg6 harg6 X G S R W) _)

theorem v239B (j : Fin 512) (l : Fin 128) : kernelRun0_B.sl.v239 c arg2 harg2 arg3 harg3 arg4 harg4 arg5 harg5 arg6 harg6 arg7 harg7 arg8 harg8 arg21 X G S R W V5 V6 (ix4 (0 : Fin 1) (0 : Fin 1) j l) = k0_pay3 X G S R W (ix2 j (colV (colH 3 l))) :=
  (show kernelRun0_B.sl.v239 c arg2 harg2 arg3 harg3 arg4 harg4 arg5 harg5 arg6 harg6 arg7 harg7 arg8 harg8 arg21 X G S R W V5 V6 (ix4 (0 : Fin 1) (0 : Fin 1) j l) = arg21.view.read (Elt Ideal) (arg21.view.writes (Elt Ideal) arg21.view.junk (kernelRun0_B.sl.HS1_12 c arg2 harg2 arg3 harg3 arg4 harg4 arg5 harg5 arg6 harg6 arg7 harg7 arg8 harg8 X G S R W V5 V6)) (ix4 (2 : Fin 3) (3 : Fin 4) j l) from
    congrArg (arg21.view.read (Elt Ideal) (arg21.view.writes (Elt Ideal) arg21.view.junk (kernelRun0_B.sl.HS1_12 c arg2 harg2 arg3 harg3 arg4 harg4 arg5 harg5 arg6 harg6 arg7 harg7 arg8 harg8 X G S R W V5 V6))) (funext fun a => Fin.ext (by
      match a with
      | ⟨0, _⟩ => rfl
      | ⟨1, _⟩ => rfl
      | ⟨2, _⟩ => show 0 + 1 * j.val = j.val; omega
      | ⟨3, _⟩ => show 0 + 1 * l.val = l.val; omega))).trans (stageB3 c arg2 harg2 arg3 harg3 arg4 harg4 arg5 harg5 arg6 harg6 arg7 harg7 arg8 harg8 arg21 X G S R W V5 V6 arg21.view.junk j l)

theorem piecesB (hc0 : ¬cond0_0 i) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K Q = VO0_10.read (Elt Ideal) (VO0_10.writes (Elt Ideal) VO0_10.junk
    [⟨Rect.unit ![0, 0, 384] ![1, 512, 128] inb_S1x512x512_S1x512x128_0_0_384, (k0_pay36 (kernelRun0_B.sl.v239 c arg2 harg2 arg3 harg3 arg4 harg4 arg5 harg5 arg6 harg6 arg7 harg7 arg8 harg8 arg21 X G S R W V5 V6))⟩, ⟨Rect.unit ![0, 0, 256] ![1, 512, 128] inb_S1x512x512_S1x512x128_0_0_256, (k0_pay35 (kernelRun0_B.sl.v233 c arg2 harg2 arg3 harg3 arg4 harg4 arg5 harg5 arg6 harg6 arg7 harg7 arg8 harg8 arg21 X G S R W V5 V6))⟩, ⟨Rect.unit ![0, 0, 128] ![1, 512, 128] inb_S1x512x512_S1x512x128_0_0_128, (k0_pay34 (kernelRun0_B.sl.v227 c arg2 harg2 arg3 harg3 arg4 harg4 arg5 harg5 arg6 harg6 arg7 harg7 arg8 harg8 arg21 X G S R W V5 V6))⟩, ⟨Rect.unit ![0, 0, 0] ![1, 512, 128] inb_S1x512x512_S1x512x128_0_0_0, (k0_pay33 (kernelRun0_B.sl.v221 c arg2 harg2 arg3 harg3 arg4 harg4 arg5 harg5 arg6 harg6 arg7 harg7 arg8 harg8 arg21 X G S R W V5 V6))⟩]) := by
  unfold out0_B_10 kernelRun0_B
  rfl

theorem out10B0 (hc0 : ¬cond0_0 i) (j : Fin 512) (l : Fin 128) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K Q (ix3 (0 : Fin 1) j (colH 0 l)) = k0_pay3 X G S R W (ix2 j (colV (colH 0 l))) := by
  rw [piecesB]
  refine (View.read_writes_cons_unit_of_not_mem VO0_10 VO0_10.junk _ _ _ (ix3 (0 : Fin 1) j (colH 0 l)) rfl (2 : Fin 3) (Or.inl (by show 128 * 0 + l.val < 384; omega))).trans ?_
  refine (View.read_writes_cons_unit_of_not_mem VO0_10 VO0_10.junk _ _ _ (ix3 (0 : Fin 1) j (colH 0 l)) rfl (2 : Fin 3) (Or.inl (by show 128 * 0 + l.val < 256; omega))).trans ?_
  refine (View.read_writes_cons_unit_of_not_mem VO0_10 VO0_10.junk _ _ _ (ix3 (0 : Fin 1) j (colH 0 l)) rfl (2 : Fin 3) (Or.inl (by show 128 * 0 + l.val < 128; omega))).trans ?_
  refine (View.read_writes_cons_unit_of_mem VO0_10 VO0_10.junk _ _ _ (ix3 (0 : Fin 1) j (colH 0 l)) (ix3 (0 : Fin 1) j l) rfl fun a => ?_).trans ?_
  · match a with
    | ⟨0, _⟩ => rfl
    | ⟨1, _⟩ => exact (Nat.zero_add _).symm
    | ⟨2, _⟩ => show 128 * 0 + l.val = 0 + l.val; omega
  · exact (written0 (kernelRun0_B.sl.v221 c arg2 harg2 arg3 harg3 arg4 harg4 arg5 harg5 arg6 harg6 arg7 harg7 arg8 harg8 arg21 X G S R W V5 V6) j l).trans (v221B c arg2 harg2 arg3 harg3 arg4 harg4 arg5 harg5 arg6 harg6 arg7 harg7 arg8 harg8 arg21 X G S R W V5 V6 j l)

theorem out10B1 (hc0 : ¬cond0_0 i) (j : Fin 512) (l : Fin 128) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K Q (ix3 (0 : Fin 1) j (colH 1 l)) = k0_pay3 X G S R W (ix2 j (colV (colH 1 l))) := by
  rw [piecesB]
  refine (View.read_writes_cons_unit_of_not_mem VO0_10 VO0_10.junk _ _ _ (ix3 (0 : Fin 1) j (colH 1 l)) rfl (2 : Fin 3) (Or.inl (by show 128 * 1 + l.val < 384; omega))).trans ?_
  refine (View.read_writes_cons_unit_of_not_mem VO0_10 VO0_10.junk _ _ _ (ix3 (0 : Fin 1) j (colH 1 l)) rfl (2 : Fin 3) (Or.inl (by show 128 * 1 + l.val < 256; omega))).trans ?_
  refine (View.read_writes_cons_unit_of_mem VO0_10 VO0_10.junk _ _ _ (ix3 (0 : Fin 1) j (colH 1 l)) (ix3 (0 : Fin 1) j l) rfl fun a => ?_).trans ?_
  · match a with
    | ⟨0, _⟩ => rfl
    | ⟨1, _⟩ => exact (Nat.zero_add _).symm
    | ⟨2, _⟩ => show 128 * 1 + l.val = 128 + l.val; omega
  · exact (written1 (kernelRun0_B.sl.v227 c arg2 harg2 arg3 harg3 arg4 harg4 arg5 harg5 arg6 harg6 arg7 harg7 arg8 harg8 arg21 X G S R W V5 V6) j l).trans (v227B c arg2 harg2 arg3 harg3 arg4 harg4 arg5 harg5 arg6 harg6 arg7 harg7 arg8 harg8 arg21 X G S R W V5 V6 j l)

theorem out10B2 (hc0 : ¬cond0_0 i) (j : Fin 512) (l : Fin 128) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K Q (ix3 (0 : Fin 1) j (colH 2 l)) = k0_pay3 X G S R W (ix2 j (colV (colH 2 l))) := by
  rw [piecesB]
  refine (View.read_writes_cons_unit_of_not_mem VO0_10 VO0_10.junk _ _ _ (ix3 (0 : Fin 1) j (colH 2 l)) rfl (2 : Fin 3) (Or.inl (by show 128 * 2 + l.val < 384; omega))).trans ?_
  refine (View.read_writes_cons_unit_of_mem VO0_10 VO0_10.junk _ _ _ (ix3 (0 : Fin 1) j (colH 2 l)) (ix3 (0 : Fin 1) j l) rfl fun a => ?_).trans ?_
  · match a with
    | ⟨0, _⟩ => rfl
    | ⟨1, _⟩ => exact (Nat.zero_add _).symm
    | ⟨2, _⟩ => show 128 * 2 + l.val = 256 + l.val; omega
  · exact (written2 (kernelRun0_B.sl.v233 c arg2 harg2 arg3 harg3 arg4 harg4 arg5 harg5 arg6 harg6 arg7 harg7 arg8 harg8 arg21 X G S R W V5 V6) j l).trans (v233B c arg2 harg2 arg3 harg3 arg4 harg4 arg5 harg5 arg6 harg6 arg7 harg7 arg8 harg8 arg21 X G S R W V5 V6 j l)

theorem out10B3 (hc0 : ¬cond0_0 i) (j : Fin 512) (l : Fin 128) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K Q (ix3 (0 : Fin 1) j (colH 3 l)) = k0_pay3 X G S R W (ix2 j (colV (colH 3 l))) := by
  rw [piecesB]
  refine (View.read_writes_cons_unit_of_mem VO0_10 VO0_10.junk _ _ _ (ix3 (0 : Fin 1) j (colH 3 l)) (ix3 (0 : Fin 1) j l) rfl fun a => ?_).trans ?_
  · match a with
    | ⟨0, _⟩ => rfl
    | ⟨1, _⟩ => exact (Nat.zero_add _).symm
    | ⟨2, _⟩ => show 128 * 3 + l.val = 384 + l.val; omega
  · exact (written3 (kernelRun0_B.sl.v239 c arg2 harg2 arg3 harg3 arg4 harg4 arg5 harg5 arg6 harg6 arg7 harg7 arg8 harg8 arg21 X G S R W V5 V6) j l).trans (v239B c arg2 harg2 arg3 harg3 arg4 harg4 arg5 harg5 arg6 harg6 arg7 harg7 arg8 harg8 arg21 X G S R W V5 V6 j l)

theorem out10B (hc0 : ¬cond0_0 i) (j l : Fin 512) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 X G S R W V5 V6 K Q (ix3 (0 : Fin 1) j l) = k0_pay3 X G S R W (ix2 j (colV l)) := by
  obtain ⟨h, l, rfl⟩ : ∃ (h : Fin 4) (k : Fin 128), l = colH h k := ⟨⟨l.val / 128, by omega⟩, ⟨l.val % 128, by omega⟩, Fin.ext (by show l.val = 128 * (l.val / 128) + l.val % 128; omega)⟩
  match h with
  | 0 => exact out10B0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X G S R W V5 V6 K Q hc0 j l
  | 1 => exact out10B1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X G S R W V5 V6 K Q hc0 j l
  | 2 => exact out10B2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X G S R W V5 V6 K Q hc0 j l
  | 3 => exact out10B3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X G S R W V5 V6 K Q hc0 j l

end Stores

end Cert.Inproj

end
-- ==== Proof.InprojBlocks.lean ====
/- The even layer's input projection: its kernel's results as functions of the arguments. -/
module

public import proofs.«01_k».proof.Proof.InprojColumns

@[expose] public section

set_option maxRecDepth 16384

noncomputable section

namespace Cert.Inproj

open Cert.Kernel5Ideal Cert.Kernel5Ideal.Gen Cert.Experts
open Idealize.SL.Sem
open Idealize.ShloMosaic hiding ix1 ix2 ix3 ix4
open Idealize.ShloMosaic.TcCoe Idealize.ShloMosaic.ValueIdx Idealize.ShloMosaic.Routing

variable (m : (ℓ : Loc nD τ sig) → Buf (Elt Ideal) ℓ) (ρ : Dev nD → PrngReg)

/-- Which block of its array each window is at. -/
theorem at0 : ∀ t : Fin cfg0.N, win0_0.index t (0 : Fin 3) = t.val / 8 ∧ win0_0.index t (1 : Fin 3) = t.val % 8 ∧ win0_0.index t (2 : Fin 3) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 3) = t.val / 8 ∧ win0_2.index t (1 : Fin 3) = 0 ∧ win0_2.index t (2 : Fin 3) = 0 := (by decide +kernel : ∀ t : Fin grid0.N, _)
theorem at3 : ∀ t : Fin cfg0.N, win0_3.index t (0 : Fin 3) = t.val / 8 ∧ win0_3.index t (1 : Fin 3) = 0 ∧ win0_3.index t (2 : Fin 3) = 0 := (by decide +kernel : ∀ t : Fin grid0.N, _)
theorem at4 : ∀ t : Fin cfg0.N, win0_4.index t (0 : Fin 3) = 0 ∧ win0_4.index t (1 : Fin 3) = 0 ∧ win0_4.index t (2 : Fin 3) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)
theorem at10 : ∀ t : Fin cfg0.N, win0_10.index t (0 : Fin 3) = t.val / 8 ∧ win0_10.index t (1 : Fin 3) = t.val % 8 ∧ win0_10.index t (2 : Fin 3) = 0 := (by decide +kernel : ∀ t : Fin grid0.N, _)
theorem at17 : ∀ t : Fin cfg0.N, win0_17.index t (0 : Fin 3) = t.val / 8 ∧ win0_17.index t (1 : Fin 3) = t.val % 8 ∧ win0_17.index t (2 : Fin 3) = 0 := (by decide +kernel : ∀ t : Fin grid0.N, _)

theorem lt128 (t : Fin cfg0.N) : t.val < 128 := t.isLt

/-- The sequence a tile is of, and the place in it of a tile's row. -/
def seqAt (t : Fin cfg0.N) : Fin 16 := ⟨t.val / 8, by have := lt128 t; omega⟩
def posAt (t : Fin cfg0.N) (j : Fin 512) : Fin 4096 := ⟨t.val % 8 * 512 + j.val, by have := lt128 t; omega⟩

theorem V_weights (c : Dev nD) : (V m c main_v0 : S2x1024x3072.Idx → EReal) = m ((c : Thread nD τ).loc main_arg4) := by
  show Idealize.ShloMosaic.StableHlo.after hostOps0 _ main_v0 = _
  simp only [hostOps0]
  after_results_simp
  rfl
theorem V_norm (c : Dev nD) : (V m c main_v1 : S1x1024.Idx → EReal) = shapeCast S1x1024 (m ((c : Thread nD τ).loc main_arg1)) shapeCasts_S1024_S1x1024 := by
  show Idealize.ShloMosaic.StableHlo.after hostOps0 _ main_v1 = _
  simp only [hostOps0]
  after_results_simp
  rfl
theorem V_shift (c : Dev nD) : (V m c main_v2 : S16x1x1024.Idx → EReal) = shapeCast S16x1x1024 (m ((c : Thread nD τ).loc main_arg2)) shapeCasts_S16x1024_S16x1x1024 := by
  show Idealize.ShloMosaic.StableHlo.after hostOps0 _ main_v2 = _
  simp only [hostOps0]
  after_results_simp
  rfl
theorem V_scale (c : Dev nD) : (V m c main_v3 : S16x1x1024.Idx → EReal) = shapeCast S16x1x1024 (m ((c : Thread nD τ).loc main_arg3)) shapeCasts_S16x1024_S16x1x1024 := by
  show Idealize.ShloMosaic.StableHlo.after hostOps0 _ main_v3 = _
  simp only [hostOps0]
  after_results_simp
  rfl

theorem block0 (c : Dev nD) (t : Fin cfg0.N) (j : Fin 512) (l : Fin 1024) :
    iblk m c 0 t (ix3 (0 : Fin 1) j l) = m ((c : Thread nD τ).loc main_arg0) (ix3 (seqAt t) (posAt t j) l) := by
  obtain ⟨e0, e1, e2⟩ := at0 t
  refine (show iblk m c 0 t (ix3 (0 : Fin 1) j l) = V m c main_arg0 (((cfg0.win 0).blk t).view.emb (ix3 (0 : Fin 1) j l)) from rfl).trans ?_
  rw [V_main_arg0]
  refine congrArg _ (funext fun a => Fin.ext ?_)
  match a with
  | ⟨0, _⟩ => show win0_0.index t (0 : Fin 3) * 1 + 1 * 0 = t.val / 8; omega
  | ⟨1, _⟩ => show win0_0.index t (1 : Fin 3) * 512 + 1 * j.val = t.val % 8 * 512 + j.val; omega
  | ⟨2, _⟩ => show win0_0.index t (2 : Fin 3) * 1024 + 1 * l.val = l.val; omega

theorem block7 (c : Dev nD) (t : Fin cfg0.N) (i : Fin 3) (l : Fin 512) :
    iblk m c 7 t (ix2 i l) = m ((c : Thread nD τ).loc main_arg7) (ix2 i l) := by
  obtain ⟨e0, e1⟩ := at7 t
  refine (show iblk m c 7 t (ix2 i l) = V m c main_arg7 (((cfg0.win 7).blk t).view.emb (ix2 i l)) from rfl).trans ?_
  rw [V_main_arg7]
  refine congrArg _ (funext fun a => Fin.ext ?_)
  match a with
  | ⟨0, _⟩ => show win0_7.index t (0 : Fin 2) * 3 + 1 * i.val = i.val; omega
  | ⟨1, _⟩ => show win0_7.index t (1 : Fin 2) * 512 + 1 * l.val = l.val; omega

theorem block4 (c : Dev nD) (t : Fin cfg0.N) (i : Fin 1024) (k : Fin 3072) :
    iblk m c 4 t (ix3 (0 : Fin 1) i k) = m ((c : Thread nD τ).loc main_arg4) (ix3 (0 : Fin 2) i k) := by
  obtain ⟨e0, e1, e2⟩ := at4 t
  refine (show iblk m c 4 t (ix3 (0 : Fin 1) i k) = V m c main_v0 (((cfg0.win 4).blk t).view.emb (ix3 (0 : Fin 1) i k)) from rfl).trans ?_
  refine (congrFun (V_weights m c) _).trans (congrArg _ (funext fun a => Fin.ext ?_))
  match a with
  | ⟨0, _⟩ => show win0_4.index t (0 : Fin 3) * 1 + 1 * 0 = 0; omega
  | ⟨1, _⟩ => show win0_4.index t (1 : Fin 3) * 1024 + 1 * i.val = i.val; omega
  | ⟨2, _⟩ => show win0_4.index t (2 : Fin 3) * 3072 + 1 * k.val = k.val; omega

theorem block1 (c : Dev nD) (t : Fin cfg0.N) (l : Fin 1024) :
    iblk m c 1 t (ix2 (0 : Fin 1) l) = m ((c : Thread nD τ).loc main_arg1) (ix1 l) := by
  obtain ⟨e0, e1⟩ := at1 t
  have e : ((cfg0.win 1).blk t).view.emb (ix2 (0 : Fin 1) l) = ix2 (0 : Fin 1) l := by
    funext a; apply Fin.ext
    match a with
    | ⟨0, _⟩ => show win0_1.index t (0 : Fin 2) * 1 + 1 * 0 = 0; omega
    | ⟨1, _⟩ => show win0_1.index t (1 : Fin 2) * 1024 + 1 * l.val = l.val; omega
  refine (show iblk m c 1 t (ix2 (0 : Fin 1) l) = V m c main_v1 (((cfg0.win 1).blk t).view.emb (ix2 (0 : Fin 1) l)) from rfl).trans ?_
  rw [e]
  exact (congrFun (V_norm m c) _).trans (rowCast_apply _ _ _)

theorem block2 (c : Dev nD) (t : Fin cfg0.N) (l : Fin 1024) :
    iblk m c 2 t (ix3 (0 : Fin 1) (0 : Fin 1) l) = m ((c : Thread nD τ).loc main_arg2) (ix2 (seqAt t) l) := by
  obtain ⟨e0, e1, e2⟩ := at2 t
  have e : ((cfg0.win 2).blk t).view.emb (ix3 (0 : Fin 1) (0 : Fin 1) l) = ix3 (seqAt t) (0 : Fin 1) l := by
    funext a; apply Fin.ext
    match a with
    | ⟨0, _⟩ => show win0_2.index t (0 : Fin 3) * 1 + 1 * 0 = t.val / 8; omega
    | ⟨1, _⟩ => show win0_2.index t (1 : Fin 3) * 1 + 1 * 0 = 0; omega
    | ⟨2, _⟩ => show win0_2.index t (2 : Fin 3) * 1024 + 1 * l.val = l.val; omega
  refine (show iblk m c 2 t (ix3 (0 : Fin 1) (0 : Fin 1) l) = V m c main_v2 (((cfg0.win 2).blk t).view.emb (ix3 (0 : Fin 1) (0 : Fin 1) l)) from rfl).trans ?_
  rw [e]
  exact (congrFun (V_shift m c) _).trans (seqCast_apply _ _ _ _)

theorem block3 (c : Dev nD) (t : Fin cfg0.N) (l : Fin 1024) :
    iblk m c 3 t (ix3 (0 : Fin 1) (0 : Fin 1) l) = m ((c : Thread nD τ).loc main_arg3) (ix2 (seqAt t) l) := by
  obtain ⟨e0, e1, e2⟩ := at3 t
  have e : ((cfg0.win 3).blk t).view.emb (ix3 (0 : Fin 1) (0 : Fin 1) l) = ix3 (seqAt t) (0 : Fin 1) l := by
    funext a; apply Fin.ext
    match a with
    | ⟨0, _⟩ => show win0_3.index t (0 : Fin 3) * 1 + 1 * 0 = t.val / 8; omega
    | ⟨1, _⟩ => show win0_3.index t (1 : Fin 3) * 1 + 1 * 0 = 0; omega
    | ⟨2, _⟩ => show win0_3.index t (2 : Fin 3) * 1024 + 1 * l.val = l.val; omega
  refine (show iblk m c 3 t (ix3 (0 : Fin 1) (0 : Fin 1) l) = V m c main_v3 (((cfg0.win 3).blk t).view.emb (ix3 (0 : Fin 1) (0 : Fin 1) l)) from rfl).trans ?_
  rw [e]
  exact (congrFun (V_scale m c) _).trans (seqCast_apply _ _ _ _)

/-- The results as functions of the arguments. -/
def values (c : Dev nD) : S16x4096x512.Idx → EReal := fun y => proj (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) (colV (y 2))
def convolved (c : Dev nD) : S16x4096x512.Idx → EReal := fun y => gated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (y 0) (y 1) (y 2)

theorem pay3_block (c : Dev nD) (t : Fin cfg0.N) (j : Fin 512) (k : Fin 3072) :
    k0_pay3 (iblk m c 0 t) (iblk m c 1 t) (iblk m c 2 t) (iblk m c 3 t) (iblk m c 4 t) (ix2 j k) = proj (m ((c : Thread nD τ).loc main_arg0)) (m ((c : Thread nD τ).loc main_arg1)) (m ((c : Thread nD τ).loc main_arg2)) (m ((c : Thread nD τ).loc main_arg3)) (m ((c : Thread nD τ).loc main_arg4)) (seqAt t) (posAt t j) k := by
  rw [pay3_apply]
  unfold tileProj proj normedAt
  simp only [block0, block1, block2, block3, block4]

theorem u_block (c : Dev nD) (t : Fin cfg0.N) (j l : Fin 512) :
    u (iblk m c 0 t) (iblk m c 1 t) (iblk m c 2 t) (iblk m c 3 t) (iblk m c 4 t) j l = rows (m ((c : Thread nD τ).loc main_arg0)) (m ((c : Thread nD τ).loc main_arg1)) (m ((c : Thread nD τ).loc main_arg2)) (m ((c : Thread nD τ).loc main_arg3)) (m ((c : Thread nD τ).loc main_arg4)) (seqAt t) (posAt t j) l := by
  unfold u rows
  rw [pay310_apply, pay3_block, pay3_block]

/-- What a point leaves for the next: its last rows. -/
theorem carried (c : Dev nD) (t : Fin cfg0.N) (y : Fin 520) (h : y.val < 8) (l : Fin 512) :
    (outsAt0 m c t.val t.isLt).2.2.2.2.2.2.2.2.2.2 (ix2 y l) = rows (m ((c : Thread nD τ).loc main_arg0)) (m ((c : Thread nD τ).loc main_arg1)) (m ((c : Thread nD τ).loc main_arg2)) (m ((c : Thread nD τ).loc main_arg3)) (m ((c : Thread nD τ).loc main_arg4)) (seqAt t) (posAt t ⟨504 + y.val, by omega⟩) l := by
  refine Eq.trans ?_ (u_block m c t ⟨504 + y.val, by omega⟩ l)
  by_cases h0 : t.val % 8 = 0
  · refine (congrFun (congrArg (fun p => p.2.2.2.2.2.2.2.2.2.2) (outsAt0_A m c t h0)) (ix2 y l)).trans ?_
    dsimp only
    exact carriedA (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := scM0_0) (harg20 := Memref.isWhole_whole _) (arg21 := scM0_1) (harg21 := Memref.isWhole_whole _) (X := iblk m c 0 t) (G := iblk m c 1 t) (S := iblk m c 2 t) (R := iblk m c 3 t) (W := iblk m c 4 t) (V5 := iblk m c 5 t) (V6 := iblk m c 6 t) (K := iblk m c 7 t) (hc0 := (hcond0_0 t).mpr h0) (y := y) (h := h) (l := l)
  · refine (congrFun (congrArg (fun p => p.2.2.2.2.2.2.2.2.2.2) (outsAt0_B m c t h0)) (ix2 y l)).trans ?_
    dsimp only
    exact carriedB (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := ms0_13 t) (harg15 := hs0_13 t) (arg16 := ms0_14 t) (harg16 := hs0_14 t) (arg17 := ms0_15 t) (harg17 := hs0_15 t) (arg18 := ms0_16 t) (harg18 := hs0_16 t) (arg19 := ms0_17 t) (harg19 := hs0_17 t) (arg20 := scM0_0) (harg20 := Memref.isWhole_whole _) (arg21 := scM0_1) (harg21 := Memref.isWhole_whole _) (X := iblk m c 0 t) (G := iblk m c 1 t) (S := iblk m c 2 t) (R := iblk m c 3 t) (W := iblk m c 4 t) (V5 := iblk m c 5 t) (V6 := iblk m c 6 t) (K := iblk m c 7 t) (Q := (outsAt0 m c (t.val - 1) (Nat.lt_of_le_of_lt (Nat.sub_le _ _) t.isLt)).2.2.2.2.2.2.2.2.2.2) (hc0 := fun h => h0 ((hcond0_0 t).mp h)) (y := y) (h := h) (l := l)

/-- The rows before a tile's, where it is a sequence's first, -/
theorem back_first (c : Dev nD) (t : Fin cfg0.N) (h0 : t.val % 8 = 0) (d : ℕ) (j l : Fin 512) :
    back (iblk m c 0 t) (iblk m c 1 t) (iblk m c 2 t) (iblk m c 3 t) (iblk m c 4 t) (fun _ _ => Ideal.ofBits .f32 0x00000000#32) d j l = before (m ((c : Thread nD τ).loc main_arg0)) (m ((c : Thread nD τ).loc main_arg1)) (m ((c : Thread nD τ).loc main_arg2)) (m ((c : Thread nD τ).loc main_arg3)) (m ((c : Thread nD τ).loc main_arg4)) d (seqAt t) (posAt t j) l := by
  unfold back before
  by_cases hd : d ≤ j.val
  · have hp : d ≤ (posAt t j).val := by show d ≤ t.val % 8 * 512 + j.val; omega
    rw [dif_pos hd, dif_pos hp, u_block]
    exact congrArg (fun s => rows (m ((c : Thread nD τ).loc main_arg0)) (m ((c : Thread nD τ).loc main_arg1)) (m ((c : Thread nD τ).loc main_arg2)) (m ((c : Thread nD τ).loc main_arg3)) (m ((c : Thread nD τ).loc main_arg4)) (seqAt t) s l) (Fin.ext (by show t.val % 8 * 512 + (j.val - d) = t.val % 8 * 512 + j.val - d; omega))
  · rw [dif_neg hd, dif_neg (by show ¬d ≤ t.val % 8 * 512 + j.val; omega)]

/-- and where it is not. -/
theorem back_later (c : Dev nD) (t : Fin cfg0.N) (h0 : ¬t.val % 8 = 0) (d : ℕ) (h1 : d ≤ 8) (j l : Fin 512) :
    back (iblk m c 0 t) (iblk m c 1 t) (iblk m c 2 t) (iblk m c 3 t) (iblk m c 4 t) (fun y l => (outsAt0 m c (t.val - 1) (Nat.lt_of_le_of_lt (Nat.sub_le _ _) t.isLt)).2.2.2.2.2.2.2.2.2.2 (ix2 y l)) d j l = before (m ((c : Thread nD τ).loc main_arg0)) (m ((c : Thread nD τ).loc main_arg1)) (m ((c : Thread nD τ).loc main_arg2)) (m ((c : Thread nD τ).loc main_arg3)) (m ((c : Thread nD τ).loc main_arg4)) d (seqAt t) (posAt t j) l := by
  unfold back before
  have hp : d ≤ (posAt t j).val := by show d ≤ t.val % 8 * 512 + j.val; omega
  rw [dif_pos hp]
  by_cases hd : d ≤ j.val
  · rw [dif_pos hd, u_block]
    exact congrArg (fun s => rows (m ((c : Thread nD τ).loc main_arg0)) (m ((c : Thread nD τ).loc main_arg1)) (m ((c : Thread nD τ).loc main_arg2)) (m ((c : Thread nD τ).loc main_arg3)) (m ((c : Thread nD τ).loc main_arg4)) (seqAt t) s l) (Fin.ext (by show t.val % 8 * 512 + (j.val - d) = t.val % 8 * 512 + j.val - d; omega))
  · rw [dif_neg hd]
    refine (carried m c ⟨t.val - 1, Nat.lt_of_le_of_lt (Nat.sub_le _ _) t.isLt⟩ ⟨(8 + j.val - d) % 520, Nat.mod_lt _ (by decide)⟩ (by show (8 + j.val - d) % 520 < 8; omega) l).trans ?_
    exact congrArg₂ (fun b s => rows (m ((c : Thread nD τ).loc main_arg0)) (m ((c : Thread nD τ).loc main_arg1)) (m ((c : Thread nD τ).loc main_arg2)) (m ((c : Thread nD τ).loc main_arg3)) (m ((c : Thread nD τ).loc main_arg4)) b s l) (Fin.ext (by show (t.val - 1) / 8 = t.val / 8; omega))
      (Fin.ext (by show (t.val - 1) % 8 * 512 + (504 + (8 + j.val - d) % 520) = t.val % 8 * 512 + j.val - d; omega))

/-- An index of a tile. -/
theorem tile_ix (y : S1x512x512.Idx) : ∃ j l : Fin 512, y = ix3 (0 : Fin 1) j l := by
  refine ⟨y 1, y 2, funext fun a => ?_⟩
  match a with
  | ⟨0, _⟩ => exact Fin.ext (by have h : (y 0).val < 1 := (y 0).isLt; show (y 0).val = 0; omega)
  | ⟨1, _⟩ => rfl
  | ⟨2, _⟩ => rfl

theorem emb10 (t : Fin cfg0.N) (j l : Fin 512) : ((cfg0.win 10).blk t).view.emb (ix3 (0 : Fin 1) j l) = ix3 (seqAt t) (posAt t j) l := by
  obtain ⟨e0, e1, e2⟩ := at10 t
  funext a; apply Fin.ext
  match a with
  | ⟨0, _⟩ => show win0_10.index t (0 : Fin 3) * 1 + 1 * 0 = t.val / 8; omega
  | ⟨1, _⟩ => show win0_10.index t (1 : Fin 3) * 512 + 1 * j.val = t.val % 8 * 512 + j.val; omega
  | ⟨2, _⟩ => show win0_10.index t (2 : Fin 3) * 512 + 1 * l.val = l.val; omega

theorem emb17 (t : Fin cfg0.N) (j l : Fin 512) : ((cfg0.win 17).blk t).view.emb (ix3 (0 : Fin 1) j l) = ix3 (seqAt t) (posAt t j) l := by
  obtain ⟨e0, e1, e2⟩ := at17 t
  funext a; apply Fin.ext
  match a with
  | ⟨0, _⟩ => show win0_17.index t (0 : Fin 3) * 1 + 1 * 0 = t.val / 8; omega
  | ⟨1, _⟩ => show win0_17.index t (1 : Fin 3) * 512 + 1 * j.val = t.val % 8 * 512 + j.val; omega
  | ⟨2, _⟩ => show win0_17.index t (2 : Fin 3) * 512 + 1 * l.val = l.val; omega

theorem flushed10_eq (c : Dev nD) (t : Fin cfg0.N) : (dats m 0 c).flushed 10 t = ((cfg0.win 10).blk t).view.read (Elt Ideal) (values m c) := by
  by_cases h0 : t.val % 8 = 0
  · rw [Value.flushed10_A m c t h0]
    funext y
    obtain ⟨j, l, rfl⟩ := tile_ix y
    refine (out10A ..).trans ((pay3_block m c t j (colV l)).trans ?_)
    show _ = values m c (((cfg0.win 10).blk t).view.emb (ix3 (0 : Fin 1) j l))
    rw [emb10]
    rfl
  · rw [Value.flushed10_B m c t h0]
    funext y
    obtain ⟨j, l, rfl⟩ := tile_ix y
    refine (out10B ..).trans ((pay3_block m c t j (colV l)).trans ?_)
    show _ = values m c (((cfg0.win 10).blk t).view.emb (ix3 (0 : Fin 1) j l))
    rw [emb10]
    rfl

theorem flushed17_eq (c : Dev nD) (t : Fin cfg0.N) : (dats m 0 c).flushed 17 t = ((cfg0.win 17).blk t).view.read (Elt Ideal) (convolved m c) := by
  by_cases h0 : t.val % 8 = 0
  · rw [Value.flushed17_A m c t h0]
    funext y
    obtain ⟨j, l, rfl⟩ := tile_ix y
    refine (out17A ..).trans ?_
    show _ = convolved m c (((cfg0.win 17).blk t).view.emb (ix3 (0 : Fin 1) j l))
    rw [emb17, pay3_block, u_block, block7, block7, block7, back_first m c t h0, back_first m c t h0]
    rfl
  · rw [Value.flushed17_B m c t h0]
    funext y
    obtain ⟨j, l, rfl⟩ := tile_ix y
    refine (out17B ..).trans ?_
    show _ = convolved m c (((cfg0.win 17).blk t).view.emb (ix3 (0 : Fin 1) j l))
    rw [emb17, pay3_block, u_block, block7, block7, block7, back_later m c t h0 2 (by decide), back_later m c t h0 1 (by decide)]
    rfl

theorem covered10 (i : S16x4096x512.Idx) : ∃ t : Fin cfg0.N, (cfg0.win 10).flush t = true ∧ i ∈ ((cfg0.win 10).blk t).view.set :=
  (Value.covered_iff10 i).2 (by
    have h0 : (i 0).val < 16 := (i 0).isLt
    have h1 : (i 1).val < 4096 := (i 1).isLt
    have h2 : (i 2).val < 512 := (i 2).isLt
    omega)
theorem covered17 (i : S16x4096x512.Idx) : ∃ t : Fin cfg0.N, (cfg0.win 17).flush t = true ∧ i ∈ ((cfg0.win 17).blk t).view.set :=
  (Value.covered_iff17 i).2 (by
    have h0 : (i 0).val < 16 := (i 0).isLt
    have h1 : (i 1).val < 4096 := (i 1).isLt
    have h2 : (i 2).val < 512 := (i 2).isLt
    omega)

theorem final10 (c : Dev nD) : (dats m 0 c).arrAt 10 cfg0.N = values m c :=
  (dats m 0 c).arrAt_eq_of_cover 10 (values m c) (fun t _ => flushed10_eq m c t) covered10
theorem final17 (c : Dev nD) : (dats m 0 c).arrAt 17 cfg0.N = convolved m c :=
  (dats m 0 c).arrAt_eq_of_cover 17 (convolved m c) (fun t _ => flushed17_eq m c t) covered17

end Cert.Inproj

end
-- ==== Proof.InprojValue.lean ====
/- The even layer's input projection: its kernel's results are its reference's, over the extended reals. -/
module

public import proofs.«01_k».proof.Defs
public import proofs.«01_k».proof.Proof.InprojBlocks
public import proofs.«01_k».proof.Proof.Gen.Kernel5.Frame
public import proofs.«01_k».proof.Proof.Gen.Reference5Ideal.Run
public import Idealize.ShloMosaic.Lib.KernelVsHost

@[expose] public section

noncomputable section

namespace Cert.Inproj

open Cert.Experts
open Idealize.SL.Sem
open Idealize.ShloMosaic hiding ix1 ix2 ix3 ix4
open Idealize.ShloMosaic.TcCoe Idealize.ShloMosaic.ValueIdx Idealize.ShloMosaic.Routing

namespace Ref

open Cert.Reference5Ideal Cert.Reference5Ideal.Gen

/-- The reference's product at an entry. -/
theorem in_apply (x : FVec Ideal S16x4096x1024 .f32) (w : FVec Ideal S1024x3072 .f32) (b : Fin 16) (s : Fin 4096) (k : Fin 3072) :
    Host.dotGeneral dot_S16x4096x1024_S1024x3072_S16x4096x3072_2_0_01_1_n_n none x w (ix3 b s k) = ∑ i : Fin 1024, x (ix3 b s i) * w (ix2 i k) := by
  refine (Ideal.dotGeneral_apply dot_S16x4096x1024_S1024x3072_S16x4096x3072_2_0_01_1_n_n none _ x w (ix3 b s k)).trans (((dot_S16x4096x1024_S1024x3072_S16x4096x3072_2_0_01_1_n_n).sum_contr₁ (a := (2 : Fin 3)) rfl (K := 1024) rfl _).trans
    (Finset.sum_congr rfl fun i _ => congrArg₂ (· * ·) (congrArg x ?_) (congrArg w ?_)))
  · funext a; fin_cases a <;> rfl
  · funext a; fin_cases a <;> rfl

variable (x : FVec Ideal S16x4096x1024 .f32) (g : FVec Ideal S1024 .f32) (sh sc : FVec Ideal S16x1024 .f32) (w : FVec Ideal S2x1024x3072 .f32) (cw : FVec Ideal S3x512 .f32)

/-- The layer's weights, -/
def wide : FVec Ideal S1024x3072 .f32 :=
  shapeCast S1024x3072 (extractStridedSlice S1x1024x3072 ![0, 0, 0] w slices_S2x1024x3072_S1x1024x3072_0_0_0) shapeCasts_S1x1024x3072_S1024x3072

theorem wide_apply (i : Fin 1024) (k : Fin 3072) : wide w (ix2 i k) = w (ix3 (0 : Fin 2) i k) :=
  (cast_tile _ _ i k).trans (extractStridedSlice_apply _ _ _ _ _ fun a => by
    match a with
    | ⟨0, _⟩ => rfl
    | ⟨1, _⟩ => exact (Nat.zero_add _).symm
    | ⟨2, _⟩ => exact (Nat.zero_add _).symm)

/-- the rows normed and modulated, -/
def modulated : FVec Ideal S16x4096x1024 .f32 :=
  addf (mulf (mulf (mulf x (broadcastInDim S16x4096x1024 ![0, 1, 2] bcast_S16x4096x1_S16x4096x1024_0_1_2
      (Host.rsqrt (addf (Host.divf (broadcastInDim S16x4096x1 ![0, 1] bcast_S16x4096_S16x4096x1_0_1
          (Host.reduceAdd (mulf x x) (constant S_ .f32 0x00000000#32) reducesTo_S16x4096x1024_S16x4096_d2 h_S_))
        (broadcastInDim S16x4096x1 ![] bcast_S_S16x4096x1 (constant S_ .f32 0x44800000#32))) (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 g)))
      (broadcastInDim S16x4096x1024 ![0, 1, 2] bcast_S16x1x1024_S16x4096x1024_0_1_2
        (addf (broadcastInDim S16x1x1024 ![] bcast_S_S16x1x1024 (constant S_ .f32 0x3F800000#32)) (broadcastInDim S16x1x1024 ![0, 2] bcast_S16x1024_S16x1x1024_0_2 sc))))
    (broadcastInDim S16x4096x1024 ![0, 1, 2] bcast_S16x1x1024_S16x4096x1024_0_1_2 (broadcastInDim S16x1x1024 ![0, 2] bcast_S16x1024_S16x1x1024_0_2 sh))

theorem modulated_apply (b : Fin 16) (s : Fin 4096) (l : Fin 1024) : modulated x g sh sc (ix3 b s l)
    = x (ix3 b s l) * scale (fun i => x (ix3 b s i)) * g (ix1 l) * (Ideal.ofBits .f32 0x3F800000#32 + sc (ix2 b l)) + sh (ix2 b l) :=
  congrArg₂ (· + ·) (congrArg₂ (· * ·) (congrArg₂ (· * ·) (host_unit x _ _ _ _ _ b s l) (forAll_apply g _ _ b s l))
      ((perSeq_apply (addf (broadcastInDim S16x1x1024 ![] bcast_S_S16x1x1024 (constant (F := Ideal) S_ .f32 0x3F800000#32)) (broadcastInDim S16x1x1024 ![0, 2] bcast_S16x1024_S16x1x1024_0_2 sc)) _ b s l).trans
        (congrArg (Ideal.ofBits .f32 0x3F800000#32 + ·) (seqRow_apply sc _ b l))))
    ((perSeq_apply _ _ b s l).trans (seqRow_apply sh _ b l))

/-- and their product. -/
def full : FVec Ideal S16x4096x3072 .f32 :=
  Host.dotGeneral dot_S16x4096x1024_S1024x3072_S16x4096x3072_2_0_01_1_n_n none (modulated x g sh sc) (wide w)

theorem full_apply (b : Fin 16) (s : Fin 4096) (k : Fin 3072) : full x g sh sc w (ix3 b s k) = proj x g sh sc w b s k :=
  (in_apply _ _ b s k).trans (Finset.sum_congr rfl fun i _ => congrArg₂ (· * ·) (modulated_apply x g sh sc b s i) (wide_apply w i k))

/-- Its columns. -/
theorem partV (Z : FVec Ideal S16x4096x3072 .f32) (b : Fin 16) (s : Fin 4096) (l : Fin 512) :
    extractStridedSlice S16x4096x512 ![0, 0, 1024] Z slices_S16x4096x3072_S16x4096x512_0_0_1024 (ix3 b s l) = Z (ix3 b s (colV l)) :=
  extractStridedSlice_apply _ Z slices_S16x4096x3072_S16x4096x512_0_0_1024 (ix3 b s l) (ix3 b s (colV l)) fun a => by
    match a with
    | ⟨0, _⟩ => exact (Nat.zero_add _).symm
    | ⟨1, _⟩ => exact (Nat.zero_add _).symm
    | ⟨2, _⟩ => rfl
theorem partB (Z : FVec Ideal S16x4096x3072 .f32) (b : Fin 16) (s : Fin 4096) (l : Fin 512) :
    extractStridedSlice S16x4096x512 ![0, 0, 1536] Z slices_S16x4096x3072_S16x4096x512_0_0_1536 (ix3 b s l) = Z (ix3 b s (colB l)) :=
  extractStridedSlice_apply _ Z slices_S16x4096x3072_S16x4096x512_0_0_1536 (ix3 b s l) (ix3 b s (colB l)) fun a => by
    match a with
    | ⟨0, _⟩ => exact (Nat.zero_add _).symm
    | ⟨1, _⟩ => exact (Nat.zero_add _).symm
    | ⟨2, _⟩ => rfl
theorem partC (Z : FVec Ideal S16x4096x3072 .f32) (b : Fin 16) (s : Fin 4096) (l : Fin 512) :
    extractStridedSlice S16x4096x512 ![0, 0, 2048] Z slices_S16x4096x3072_S16x4096x512_0_0_2048 (ix3 b s l) = Z (ix3 b s (colC l)) :=
  extractStridedSlice_apply _ Z slices_S16x4096x3072_S16x4096x512_0_0_2048 (ix3 b s l) (ix3 b s (colC l)) fun a => by
    match a with
    | ⟨0, _⟩ => exact (Nat.zero_add _).symm
    | ⟨1, _⟩ => exact (Nat.zero_add _).symm
    | ⟨2, _⟩ => rfl
theorem partX (Z : FVec Ideal S16x4096x3072 .f32) (b : Fin 16) (s : Fin 4096) (l : Fin 512) :
    extractStridedSlice S16x4096x512 ![0, 0, 2560] Z slices_S16x4096x3072_S16x4096x512_0_0_2560 (ix3 b s l) = Z (ix3 b s (colX l)) :=
  extractStridedSlice_apply _ Z slices_S16x4096x3072_S16x4096x512_0_0_2560 (ix3 b s l) (ix3 b s (colX l)) fun a => by
    match a with
    | ⟨0, _⟩ => exact (Nat.zero_add _).symm
    | ⟨1, _⟩ => exact (Nat.zero_add _).symm
    | ⟨2, _⟩ => rfl

/-- The convolved rows. -/
def conved (Z : FVec Ideal S16x4096x3072 .f32) : FVec Ideal S16x4096x512 .f32 :=
  mulf (extractStridedSlice S16x4096x512 ![0, 0, 2048] Z slices_S16x4096x3072_S16x4096x512_0_0_2048) (extractStridedSlice S16x4096x512 ![0, 0, 2560] Z slices_S16x4096x3072_S16x4096x512_0_0_2560)

theorem conved_apply (b : Fin 16) (s : Fin 4096) (l : Fin 512) : conved (full x g sh sc w) (ix3 b s l) = rows x g sh sc w b s l :=
  congrArg₂ (· * ·) ((partC _ b s l).trans (full_apply x g sh sc w b s (colC l))) ((partX _ b s l).trans (full_apply x g sh sc w b s (colX l)))

/-- Two rows of zeros before them. -/
def late (U : FVec Ideal S16x4096x512 .f32) : FVec Ideal S16x4098x512 .f32 :=
  pad S16x4098x512 ![0, 2, 0] ![0, 0, 0] ![0, 0, 0] U (sitofp .f32 (constantI S_ 32 0#32)) pads_S16x4096x512_S16x4098x512_000_200_000 h_S_

theorem pad_zero : (sitofp (F := Ideal) .f32 (constantI S_ 32 0#32)) (Shape.Idx.first h_S_) = Ideal.ofBits .f32 0x00000000#32 := by
  refine Eq.trans ?_ Ideal.ofBits_zero_f32.symm
  show (((0#32 : BitVec 32).toInt : ℝ) : EReal) = 0
  simp

theorem late_apply (U : FVec Ideal S16x4096x512 .f32) (b : Fin 16) (s : Fin 4098) (l : Fin 512) :
    late U (ix3 b s l) = if h : 2 ≤ s.val then U (ix3 b ⟨s.val - 2, by omega⟩ l) else Ideal.ofBits .f32 0x00000000#32 := by
  unfold late
  by_cases h : 2 ≤ s.val
  · rw [dif_pos h]
    refine pad_apply_of_inside _ _ _ _ _ _ _ _ (ix3 b ⟨s.val - 2, by omega⟩ l) fun a => ?_
    match a with
    | ⟨0, _⟩ => show b.val = 0 + b.val * (0 + 1); omega
    | ⟨1, _⟩ => show s.val = 2 + (s.val - 2) * (0 + 1); omega
    | ⟨2, _⟩ => show l.val = 0 + l.val * (0 + 1); omega
  · rw [dif_neg h]
    refine (pad_apply_of_not_inside _ _ _ _ _ _ _ _ (1 : Fin 3) fun hh => ?_).trans pad_zero
    exact h hh.1

/-- Those rows, some places on. -/
theorem late0 (b : Fin 16) (s : Fin 4096) (l : Fin 512) :
    extractStridedSlice S16x4096x512 ![0, 0, 0] (late (conved (full x g sh sc w))) slices_S16x4098x512_S16x4096x512_0_0_0 (ix3 b s l) = before x g sh sc w 2 b s l := by
  refine (extractStridedSlice_apply _ (late (conved (full x g sh sc w))) slices_S16x4098x512_S16x4096x512_0_0_0 (ix3 b s l) (ix3 b ⟨0 + s.val, by omega⟩ l) fun a => ?_).trans ?_
  · match a with
    | ⟨0, _⟩ => exact (Nat.zero_add _).symm
    | ⟨1, _⟩ => rfl
    | ⟨2, _⟩ => exact (Nat.zero_add _).symm
  · rw [late_apply]
    unfold before
    by_cases h : 2 ≤ s.val
    · rw [dif_pos h, dif_pos (by show 2 ≤ 0 + s.val; omega), conved_apply]
      exact congrArg (fun s => rows x g sh sc w b s l) (Fin.ext (by show 0 + s.val - 2 = s.val - 2; omega))
    · rw [dif_neg h, dif_neg (by show ¬2 ≤ 0 + s.val; omega)]
theorem tapRow0 (b : Fin 16) (s : Fin 4096) (l : Fin 512) :
    broadcastInDim S16x4096x512 ![0, 1, 2] bcast_S1x1x512_S16x4096x512_0_1_2 (broadcastInDim S1x1x512 ![2] bcast_S512_S1x1x512_2
      (shapeCast S512 (extractStridedSlice S1x512 ![0, 0] cw slices_S3x512_S1x512_0_0) shapeCasts_S1x512_S512)) (ix3 b s l) = cw (ix2 (0 : Fin 3) l) := by
  refine (broadcastInDim_apply _ bcast_S1x1x512_S16x4096x512_0_1_2 _ _ (ix3 (0 : Fin 1) (0 : Fin 1) l) fun a => by match a with | 0 => rfl | 1 => rfl | 2 => rfl).trans ?_
  refine (broadcastInDim_apply _ bcast_S512_S1x1x512_2 _ _ (ix1 l) fun a => by match a with | 0 => rfl).trans ?_
  refine (shapeCast_apply _ _ (ix1 l) (ix2 (0 : Fin 1) l) ?_).trans ?_
  · rw [Shape.rowMajor_val_one, Shape.rowMajor_val_two]
    show 0 * 512 + l.val = l.val
    omega
  · exact extractStridedSlice_apply _ cw slices_S3x512_S1x512_0_0 _ (ix2 (0 : Fin 3) l) fun a => by
      match a with
      | ⟨0, _⟩ => rfl
      | ⟨1, _⟩ => exact (Nat.zero_add _).symm

theorem late1 (b : Fin 16) (s : Fin 4096) (l : Fin 512) :
    extractStridedSlice S16x4096x512 ![0, 1, 0] (late (conved (full x g sh sc w))) slices_S16x4098x512_S16x4096x512_0_1_0 (ix3 b s l) = before x g sh sc w 1 b s l := by
  refine (extractStridedSlice_apply _ (late (conved (full x g sh sc w))) slices_S16x4098x512_S16x4096x512_0_1_0 (ix3 b s l) (ix3 b ⟨1 + s.val, by omega⟩ l) fun a => ?_).trans ?_
  · match a with
    | ⟨0, _⟩ => exact (Nat.zero_add _).symm
    | ⟨1, _⟩ => rfl
    | ⟨2, _⟩ => exact (Nat.zero_add _).symm
  · rw [late_apply]
    unfold before
    by_cases h : 1 ≤ s.val
    · rw [dif_pos h, dif_pos (by show 2 ≤ 1 + s.val; omega), conved_apply]
      exact congrArg (fun s => rows x g sh sc w b s l) (Fin.ext (by show 1 + s.val - 2 = s.val - 1; omega))
    · rw [dif_neg h, dif_neg (by show ¬2 ≤ 1 + s.val; omega)]
theorem tapRow1 (b : Fin 16) (s : Fin 4096) (l : Fin 512) :
    broadcastInDim S16x4096x512 ![0, 1, 2] bcast_S1x1x512_S16x4096x512_0_1_2 (broadcastInDim S1x1x512 ![2] bcast_S512_S1x1x512_2
      (shapeCast S512 (extractStridedSlice S1x512 ![1, 0] cw slices_S3x512_S1x512_1_0) shapeCasts_S1x512_S512)) (ix3 b s l) = cw (ix2 (1 : Fin 3) l) := by
  refine (broadcastInDim_apply _ bcast_S1x1x512_S16x4096x512_0_1_2 _ _ (ix3 (0 : Fin 1) (0 : Fin 1) l) fun a => by match a with | 0 => rfl | 1 => rfl | 2 => rfl).trans ?_
  refine (broadcastInDim_apply _ bcast_S512_S1x1x512_2 _ _ (ix1 l) fun a => by match a with | 0 => rfl).trans ?_
  refine (shapeCast_apply _ _ (ix1 l) (ix2 (0 : Fin 1) l) ?_).trans ?_
  · rw [Shape.rowMajor_val_one, Shape.rowMajor_val_two]
    show 0 * 512 + l.val = l.val
    omega
  · exact extractStridedSlice_apply _ cw slices_S3x512_S1x512_1_0 _ (ix2 (1 : Fin 3) l) fun a => by
      match a with
      | ⟨0, _⟩ => rfl
      | ⟨1, _⟩ => exact (Nat.zero_add _).symm

theorem late2 (b : Fin 16) (s : Fin 4096) (l : Fin 512) :
    extractStridedSlice S16x4096x512 ![0, 2, 0] (late (conved (full x g sh sc w))) slices_S16x4098x512_S16x4096x512_0_2_0 (ix3 b s l) = rows x g sh sc w b s l := by
  refine (extractStridedSlice_apply _ (late (conved (full x g sh sc w))) slices_S16x4098x512_S16x4096x512_0_2_0 (ix3 b s l) (ix3 b ⟨2 + s.val, by omega⟩ l) fun a => ?_).trans ?_
  · match a with
    | ⟨0, _⟩ => exact (Nat.zero_add _).symm
    | ⟨1, _⟩ => rfl
    | ⟨2, _⟩ => exact (Nat.zero_add _).symm
  · rw [late_apply, dif_pos (by show 2 ≤ 2 + s.val; omega), conved_apply]
    exact congrArg (fun s => rows x g sh sc w b s l) (Fin.ext (by show 2 + s.val - 2 = s.val; omega))
theorem tapRow2 (b : Fin 16) (s : Fin 4096) (l : Fin 512) :
    broadcastInDim S16x4096x512 ![0, 1, 2] bcast_S1x1x512_S16x4096x512_0_1_2 (broadcastInDim S1x1x512 ![2] bcast_S512_S1x1x512_2
      (shapeCast S512 (extractStridedSlice S1x512 ![2, 0] cw slices_S3x512_S1x512_2_0) shapeCasts_S1x512_S512)) (ix3 b s l) = cw (ix2 (2 : Fin 3) l) := by
  refine (broadcastInDim_apply _ bcast_S1x1x512_S16x4096x512_0_1_2 _ _ (ix3 (0 : Fin 1) (0 : Fin 1) l) fun a => by match a with | 0 => rfl | 1 => rfl | 2 => rfl).trans ?_
  refine (broadcastInDim_apply _ bcast_S512_S1x1x512_2 _ _ (ix1 l) fun a => by match a with | 0 => rfl).trans ?_
  refine (shapeCast_apply _ _ (ix1 l) (ix2 (0 : Fin 1) l) ?_).trans ?_
  · rw [Shape.rowMajor_val_one, Shape.rowMajor_val_two]
    show 0 * 512 + l.val = l.val
    omega
  · exact extractStridedSlice_apply _ cw slices_S3x512_S1x512_2_0 _ (ix2 (2 : Fin 3) l) fun a => by
      match a with
      | ⟨0, _⟩ => rfl
      | ⟨1, _⟩ => exact (Nat.zero_add _).symm

/-- The two results, as the reference writes them, over any such product. -/
def valuesOf (Z : FVec Ideal S16x4096x3072 .f32) : FVec Ideal S16x4096x512 .bf16 :=
  truncf .bf16 (extractStridedSlice S16x4096x512 ![0, 0, 1024] Z slices_S16x4096x3072_S16x4096x512_0_0_1024) bitsLt_bf16_f32

def convolvedOf (Z : FVec Ideal S16x4096x3072 .f32) : FVec Ideal S16x4096x512 .bf16 :=
  truncf .bf16 (mulf (extractStridedSlice S16x4096x512 ![0, 0, 1536] Z slices_S16x4096x3072_S16x4096x512_0_0_1536)
    (addf (addf (mulf (broadcastInDim S16x4096x512 ![0, 1, 2] bcast_S1x1x512_S16x4096x512_0_1_2 (broadcastInDim S1x1x512 ![2] bcast_S512_S1x1x512_2
      (shapeCast S512 (extractStridedSlice S1x512 ![0, 0] cw slices_S3x512_S1x512_0_0) shapeCasts_S1x512_S512)))
      (extractStridedSlice S16x4096x512 ![0, 0, 0] (late (conved Z)) slices_S16x4098x512_S16x4096x512_0_0_0))
      (mulf (broadcastInDim S16x4096x512 ![0, 1, 2] bcast_S1x1x512_S16x4096x512_0_1_2 (broadcastInDim S1x1x512 ![2] bcast_S512_S1x1x512_2
      (shapeCast S512 (extractStridedSlice S1x512 ![1, 0] cw slices_S3x512_S1x512_1_0) shapeCasts_S1x512_S512)))
      (extractStridedSlice S16x4096x512 ![0, 1, 0] (late (conved Z)) slices_S16x4098x512_S16x4096x512_0_1_0)))
      (mulf (broadcastInDim S16x4096x512 ![0, 1, 2] bcast_S1x1x512_S16x4096x512_0_1_2 (broadcastInDim S1x1x512 ![2] bcast_S512_S1x1x512_2
      (shapeCast S512 (extractStridedSlice S1x512 ![2, 0] cw slices_S3x512_S1x512_2_0) shapeCasts_S1x512_S512)))
      (extractStridedSlice S16x4096x512 ![0, 2, 0] (late (conved Z)) slices_S16x4098x512_S16x4096x512_0_2_0)))) bitsLt_bf16_f32

theorem valuesOf_apply (b : Fin 16) (s : Fin 4096) (l : Fin 512) : valuesOf (full x g sh sc w) (ix3 b s l) = proj x g sh sc w b s (colV l) :=
  (partV _ b s l).trans (full_apply x g sh sc w b s (colV l))

theorem convolvedOf_apply (b : Fin 16) (s : Fin 4096) (l : Fin 512) : convolvedOf cw (full x g sh sc w) (ix3 b s l) = gated x g sh sc w cw b s l :=
  congrArg₂ (· * ·) ((partB _ b s l).trans (full_apply x g sh sc w b s (colB l)))
    (congrArg₂ (· + ·) (congrArg₂ (· + ·) (congrArg₂ (· * ·) (tapRow0 cw b s l) (late0 x g sh sc w b s l)) (congrArg₂ (· * ·) (tapRow1 cw b s l) (late1 x g sh sc w b s l)))
      (congrArg₂ (· * ·) (tapRow2 cw b s l) (late2 x g sh sc w b s l)))

theorem res1 (m : (ℓ : Loc nD τ sig) → Buf (Elt Ideal) ℓ) (c : Dev nD) : Value.res_main_v54 m c = convolvedOf (m ((c.tc : Thread nD τ).loc main_arg7)) (full (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl

/-- What a run of the reference leaves. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = valuesOf (full (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v54) = convolvedOf (m ((c.tc : Thread nD τ).loc main_arg7)) (full (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans rfl, (h c).2.1.trans (res1 m c), (h c).2.2⟩) (Value.run m ρ)

end Ref

theorem entries (y : Cert.Kernel5Ideal.S16x4096x512.Idx) : ∃ (b : Fin 16) (s : Fin 4096) (l : Fin 512), y = ix3 b s l := ⟨y 0, y 1, y 2, ValueIdx.eq_ix3 y⟩

/-- Over the extended reals the call's values and gated convolution are its reference's. -/
theorem algebraic : Cert.algebraic_Kernel5Ideal_Reference5Ideal := fun m g m' g' _ ha => by
  refine ⟨fun c => values m c, fun c => convolved m c, ?_, ?_⟩
  · exact (θ_run Cert.Kernel5Ideal.defs _ _).mono (fun r h c => ⟨(h c).2.2.1.trans (final10 m c), (h c).2.2.2.2.2.2.2.2.2.1.trans (final17 m c), (h c).2.2.2.2.2.2.2.2.2.2⟩) (Cert.Kernel5Ideal.Value.run_blocks m g)
  · refine (θ_run Cert.Reference5Ideal.defs _ _).mono (fun r h c => ⟨(h c).1.trans ?_, (h c).2.1.trans ?_, (h c).2.2⟩) (Ref.run_out m' g')
    · obtain ⟨a0, a1, a2, a3, a4, a5, a6, a7⟩ := ha c
      rw [a0, a1, a2, a3, a4]
      funext y
      obtain ⟨b, s, l, rfl⟩ := entries y
      exact Ref.valuesOf_apply _ _ _ _ _ b s l
    · obtain ⟨a0, a1, a2, a3, a4, a5, a6, a7⟩ := ha c
      rw [a0, a1, a2, a3, a4, a7]
      funext y
      obtain ⟨b, s, l, rfl⟩ := entries y
      exact Ref.convolvedOf_apply _ _ _ _ _ _ b s l

/-- The reference keeps its arguments. -/
theorem frame_reference : Cert.quiescent_Reference5Ideal := fun m ρ _ =>
  (θ_run Cert.Reference5Ideal.defs _ _).mono (fun r h => ⟨fun c => (h c).2.2, sem_eq_zero_of_no_sems (by decide) r.2⟩) (Cert.Reference5Ideal.Value.run m ρ)

end Cert.Inproj

end
-- ==== Proof.lean ====
/- The claims, put together. -/
module

public import proofs.«01_k».proof.Defs
public import proofs.«01_k».proof.Proof.Frames
public import proofs.«01_k».proof.Proof.RefFrame
public import proofs.«01_k».proof.Proof.Value
public import proofs.«01_k».proof.Proof.DenseValue
public import proofs.«01_k».proof.Proof.CombineValue
public import proofs.«01_k».proof.Proof.Gen.Kernel2.Frame
public import proofs.«01_k».proof.Proof.Gen.Kernel3.Frame
public import proofs.«01_k».proof.Proof.Gen.Kernel4.Frame
public import proofs.«01_k».proof.Proof.GluValue
public import proofs.«01_k».proof.Proof.InprojValue
public import proofs.«01_k».proof.Proof.Gen.Reference2Ideal
public import proofs.«01_k».proof.Proof.Gen.Reference3Ideal
public import proofs.«01_k».proof.Proof.Gen.Reference4Ideal
public import proofs.«01_k».proof.Proof.Gen.Reference5Ideal

@[expose] public section

namespace Cert.Proof

theorem claim : Cert.Claim :=
  ⟨Cert.Kernel.Gen.facts, Cert.KernelIdeal.Gen.facts, Cert.Experts.refFacts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Experts.tablesFacts,
    Cert.Experts.frame_kernel, Cert.Experts.frame_kernelIdeal, Cert.Experts.frame_reference, Cert.Experts.frame_reference_tables,
    fun m ρ _ => Cert.Kernel2.Gen.frame m ρ, fun m ρ _ => Cert.Kernel2Ideal.Gen.frame m ρ, Cert.Dense.frame_reference,
    fun m ρ _ => Cert.Kernel3.Gen.frame m ρ, fun m ρ _ => Cert.Kernel3Ideal.Gen.frame m ρ, Cert.Combine.frame_reference,
    fun m ρ _ => Cert.Kernel4.Gen.frame m ρ, fun m ρ _ => Cert.Kernel4Ideal.Gen.frame m ρ, Cert.Glu.frame_reference,
    fun m ρ _ => Cert.Kernel5.Gen.frame m ρ, fun m ρ _ => Cert.Kernel5Ideal.Gen.frame m ρ, Cert.Inproj.frame_reference,
    trivial, Cert.Experts.algebraic, trivial, Cert.Dense.algebraic, trivial, Cert.Combine.algebraic,
    trivial, Cert.Glu.algebraic, trivial, Cert.Inproj.algebraic⟩

end Cert.Proof
